-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_mix [hPre_finite_mix : Cert.Pre_finite_mix.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_mix.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_mix [hPre_finite_mix : Cert.Pre_finite_mix.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_mix.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_in [hPre_finite_in : Cert.Pre_finite_in.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_in [hPre_finite_in : Cert.Pre_finite_in.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_mix [hKernel3Ideal : Cert.Kernel3Ideal.Facts] [hPre_finite_mix : Cert.Pre_finite_mix.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_mix m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_mix [hReference3Ideal : Cert.Reference3Ideal.Facts] [hPre_finite_mix : Cert.Pre_finite_mix.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_mix m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite_in [hKernel4Ideal : Cert.Kernel4Ideal.Facts] [hPre_finite_in : Cert.Pre_finite_in.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_in m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_in [hReference4Ideal : Cert.Reference4Ideal.Facts] [hPre_finite_in : Cert.Pre_finite_in.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_in m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_mix [hKernel3Ideal : Cert.Kernel3Ideal.Facts] [hReference3Ideal : Cert.Reference3Ideal.Facts] [hPre_finite_mix : Cert.Pre_finite_mix.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_mix m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite_in [hKernel4Ideal : Cert.Kernel4Ideal.Facts] [hReference4Ideal : Cert.Reference4Ideal.Facts] [hPre_finite_in : Cert.Pre_finite_in.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_in m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v34_0)) (v1 : (c : Dev Cert.Kernel4Ideal.nD) → Buf (Elt Ideal) ((c.tc : Thread Cert.Kernel4Ideal.nD Cert.Kernel4Ideal.τ).loc Cert.Kernel4Ideal.main_v34_1)) (v2 : (c : Dev Cert.Kernel4Ideal.nD) → Buf (Elt Ideal) ((c.tc : Thread Cert.Kernel4Ideal.nD Cert.Kernel4Ideal.τ).loc Cert.Kernel4Ideal.main_v34_2)) (v3 : (c : Dev Cert.Kernel4Ideal.nD) → Buf (Elt Ideal) ((c.tc : Thread Cert.Kernel4Ideal.nD Cert.Kernel4Ideal.τ).loc Cert.Kernel4Ideal.main_v34_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v34_0) = v0 c
          ∧ r.2.mem ((c.tc : Thread Cert.Kernel4Ideal.nD Cert.Kernel4Ideal.τ).loc Cert.Kernel4Ideal.main_v34_1) = v1 c
          ∧ r.2.mem ((c.tc : Thread Cert.Kernel4Ideal.nD Cert.Kernel4Ideal.τ).loc Cert.Kernel4Ideal.main_v34_2) = v2 c
          ∧ r.2.mem ((c.tc : Thread Cert.Kernel4Ideal.nD Cert.Kernel4Ideal.τ).loc Cert.Kernel4Ideal.main_v34_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v106) = v0 c
          ∧ r.2.mem ((c.tc : Thread Cert.Reference4Ideal.nD Cert.Reference4Ideal.τ).loc Cert.Reference4Ideal.main_v108) = v1 c
          ∧ r.2.mem ((c.tc : Thread Cert.Reference4Ideal.nD Cert.Reference4Ideal.τ).loc Cert.Reference4Ideal.main_v110) = v2 c
          ∧ r.2.mem ((c.tc : Thread Cert.Reference4Ideal.nD Cert.Reference4Ideal.τ).loc Cert.Reference4Ideal.main_v111) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts) (hPre_finite_mix : Cert.Pre_finite_mix.Facts) (hPre_finite_in : Cert.Pre_finite_in.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_mix (hKernel3Ideal := hKernel3Ideal) (hPre_finite_mix := hPre_finite_mix)
    ∧ quiescent_Reference3Ideal (hReference3Ideal := hReference3Ideal)
    ∧ quiescent_Reference3Ideal_pre_finite_mix (hReference3Ideal := hReference3Ideal) (hPre_finite_mix := hPre_finite_mix)
    ∧ quiescent_Kernel4 (hKernel4 := hKernel4)
    ∧ quiescent_Kernel4Ideal (hKernel4Ideal := hKernel4Ideal)
    ∧ quiescent_Kernel4Ideal_pre_finite_in (hKernel4Ideal := hKernel4Ideal) (hPre_finite_in := hPre_finite_in)
    ∧ quiescent_Reference4Ideal (hReference4Ideal := hReference4Ideal)
    ∧ quiescent_Reference4Ideal_pre_finite_in (hReference4Ideal := hReference4Ideal) (hPre_finite_in := hPre_finite_in)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_mix (hKernel3Ideal := hKernel3Ideal) (hReference3Ideal := hReference3Ideal) (hPre_finite_mix := hPre_finite_mix)
    ∧ preserves_Kernel4_Kernel4Ideal
    ∧ algebraic_Kernel4Ideal_Reference4Ideal_pre_finite_in (hKernel4Ideal := hKernel4Ideal) (hReference4Ideal := hReference4Ideal) (hPre_finite_in := hPre_finite_in)
-- ==== Pre_finite_in.lean ====
abbrev S2x8192x1024 : Shape := ⟨3, ![2, 8192, 1024]⟩
abbrev S1x1024 : Shape := ⟨2, ![1, 1024]⟩
abbrev S2x1024 : Shape := ⟨2, ![2, 1024]⟩
abbrev S1x1024x2304 : Shape := ⟨3, ![1, 1024, 2304]⟩
abbrev S1x64 : Shape := ⟨2, ![1, 64]⟩
abbrev S8192x2x16 : Shape := ⟨3, ![8192, 2, 16]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S1x1024x2304 : S_.BroadcastsInDim S1x1024x2304 (![] : Fin 0 → Fin S1x1024x2304.rank)
  reducesTo_S1x1024x2304_S_d0_1_2 : S1x1024x2304.ReducesTo [0, 1, 2] S_

variable [Facts]

def fn_part1 {F : FTy → Type} [FloatOps F] (main_arg4 : FVec F S1x1024x2304 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S1x1024x2304 .f32 := Host.absf main_arg4
  let main_cst_6 : FVec F S_ .f32 := constant S_ .f32 0x7F800000#32
  let main_v20 : FVec F S1x1024x2304 .f32 := broadcastInDim S1x1024x2304 ![] bcast_S_S1x1024x2304 main_cst_6
  let main_v21 : IVec S1x1024x2304 1 := cmpf .olt main_v19 main_v20
  let main_c_7 : IVec S_ 1 := constantI S_ 1 1#1
  let main_v22 : IVec S_ 1 := (fun x v => Host.reduce IntOp.andi x v reducesTo_S1x1024x2304_S_d0_1_2 h_S_) main_v21 main_c_7
  let main_v23 : IVec S_ 1 := andi main_v18 main_v22
  main_v23

def fn {F : FTy → Type} [FloatOps F] (main_arg0 : FVec F S2x8192x1024 .f32) (main_arg1 : FVec F S1x1024 .f32) (main_arg2 : FVec F S2x1024 .f32) (main_arg3 : FVec F S2x1024 .f32) (main_arg4 : FVec F S1x1024x2304 .f32) (main_arg5 : FVec F S1x64 .f32) (main_arg6 : FVec F S1x64 .f32) (main_arg7 : FVec F S8192x2x16 .f32) (main_arg8 : FVec F S8192x2x16 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S2x1024 .f32 := Host.absf main_arg3
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg4 main_v13 main_v16
-- ==== Pre_finite_mix.lean ====
abbrev S2x8192x512 : Shape := ⟨3, ![2, 8192, 512]⟩
abbrev S2x8192x1024 : Shape := ⟨3, ![2, 8192, 1024]⟩
abbrev S1x1024x1024 : Shape := ⟨3, ![1, 1024, 1024]⟩
abbrev S2x1024 : Shape := ⟨2, ![2, 1024]⟩
abbrev S1x1024 : Shape := ⟨2, ![1, 1024]⟩
abbrev S1x1024x16 : Shape := ⟨3, ![1, 1024, 16]⟩
abbrev S_ : Shape := ⟨0, ![]⟩

class Facts : Prop where
  bitsLt_bf16_f32 : FTy.bits .bf16 < FTy.bits .f32
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S2x8192x1024 : S_.BroadcastsInDim S2x8192x1024 (![] : Fin 0 → Fin S2x8192x1024.rank)
  reducesTo_S2x8192x1024_S_d0_1_2 : S2x8192x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x16 : S_.BroadcastsInDim S1x1024x16 (![] : Fin 0 → Fin S1x1024x16.rank)
  reducesTo_S1x1024x16_S_d0_1_2 : S1x1024x16.ReducesTo [0, 1, 2] S_

variable [Facts]

def fn_part2 {F : FTy → Type} [FloatOps F] (main_arg7 : FVec F S2x1024 .f32) (main_arg8 : FVec F S1x1024x16 .f32) (main_v30 : IVec S_ 1) (main_v33 : IVec S2x1024 1) (main_c_11 : IVec S_ 1) : IVec S_ 1 :=
  let main_v34 : IVec S_ 1 := (fun x v => Host.reduce IntOp.andi x v reducesTo_S2x1024_S_d0_1 h_S_) main_v33 main_c_11
  let main_v35 : IVec S_ 1 := andi main_v30 main_v34
  let main_v36 : FVec F S2x1024 .f32 := Host.absf main_arg7
  let main_cst_12 : FVec F S_ .f32 := constant S_ .f32 0x7F800000#32
  let main_v37 : FVec F S2x1024 .f32 := broadcastInDim S2x1024 ![] bcast_S_S2x1024 main_cst_12
  let main_v38 : IVec S2x1024 1 := cmpf .olt main_v36 main_v37
  let main_c_13 : IVec S_ 1 := constantI S_ 1 1#1
  let main_v39 : IVec S_ 1 := (fun x v => Host.reduce IntOp.andi x v reducesTo_S2x1024_S_d0_1 h_S_) main_v38 main_c_13
  let main_v40 : IVec S_ 1 := andi main_v35 main_v39
  let main_v41 : FVec F S1x1024x16 .f32 := Host.absf main_arg8
  let main_cst_14 : FVec F S_ .f32 := constant S_ .f32 0x7F800000#32
  let main_v42 : FVec F S1x1024x16 .f32 := broadcastInDim S1x1024x16 ![] bcast_S_S1x1024x16 main_cst_14
  let main_v43 : IVec S1x1024x16 1 := cmpf .olt main_v41 main_v42
  let main_c_15 : IVec S_ 1 := constantI S_ 1 1#1
  let main_v44 : IVec S_ 1 := (fun x v => Host.reduce IntOp.andi x v reducesTo_S1x1024x16_S_d0_1_2 h_S_) main_v43 main_c_15
  let main_v45 : IVec S_ 1 := andi main_v40 main_v44
  main_v45

def fn_part1 {F : FTy → Type} [FloatOps F] (main_arg4 : FVec F S2x1024 .f32) (main_arg5 : FVec F S1x1024 .f32) (main_arg6 : FVec F S2x1024 .f32) (main_arg7 : FVec F S2x1024 .f32) (main_arg8 : FVec F S1x1024x16 .f32) (main_v15 : IVec S_ 1) (main_v16 : FVec F S1x1024x1024 .f32) (main_cst_4 : FVec F S_ .f32) : IVec S_ 1 :=
  let main_v17 : FVec F S1x1024x1024 .f32 := broadcastInDim S1x1024x1024 ![] bcast_S_S1x1024x1024 main_cst_4
  let main_v18 : IVec S1x1024x1024 1 := cmpf .olt main_v16 main_v17
  let main_c_5 : IVec S_ 1 := constantI S_ 1 1#1
  let main_v19 : IVec S_ 1 := (fun x v => Host.reduce IntOp.andi x v reducesTo_S1x1024x1024_S_d0_1_2 h_S_) main_v18 main_c_5
  let main_v20 : IVec S_ 1 := andi main_v15 main_v19
  let main_v21 : FVec F S2x1024 .f32 := Host.absf main_arg4
  let main_cst_6 : FVec F S_ .f32 := constant S_ .f32 0x7F800000#32
  let main_v22 : FVec F S2x1024 .f32 := broadcastInDim S2x1024 ![] bcast_S_S2x1024 main_cst_6
  let main_v23 : IVec S2x1024 1 := cmpf .olt main_v21 main_v22
  let main_c_7 : IVec S_ 1 := constantI S_ 1 1#1
  let main_v24 : IVec S_ 1 := (fun x v => Host.reduce IntOp.andi x v reducesTo_S2x1024_S_d0_1 h_S_) main_v23 main_c_7
  let main_v25 : IVec S_ 1 := andi main_v20 main_v24
  let main_v26 : FVec F S1x1024 .f32 := Host.absf main_arg5
  let main_cst_8 : FVec F S_ .f32 := constant S_ .f32 0x7F800000#32
  let main_v27 : FVec F S1x1024 .f32 := broadcastInDim S1x1024 ![] bcast_S_S1x1024 main_cst_8
  let main_v28 : IVec S1x1024 1 := cmpf .olt main_v26 main_v27
  let main_c_9 : IVec S_ 1 := constantI S_ 1 1#1
  let main_v29 : IVec S_ 1 := (fun x v => Host.reduce IntOp.andi x v reducesTo_S1x1024_S_d0_1 h_S_) main_v28 main_c_9
  let main_v30 : IVec S_ 1 := andi main_v25 main_v29
  let main_v31 : FVec F S2x1024 .f32 := Host.absf main_arg6
  let main_cst_10 : FVec F S_ .f32 := constant S_ .f32 0x7F800000#32
  let main_v32 : FVec F S2x1024 .f32 := broadcastInDim S2x1024 ![] bcast_S_S2x1024 main_cst_10
  let main_v33 : IVec S2x1024 1 := cmpf .olt main_v31 main_v32
  let main_c_11 : IVec S_ 1 := constantI S_ 1 1#1
  fn_part2 (F := F) main_arg7 main_arg8 main_v30 main_v33 main_c_11

def fn {F : FTy → Type} [FloatOps F] (main_arg0 : FVec F S2x8192x512 .bf16) (main_arg1 : FVec F S2x8192x512 .bf16) (main_arg2 : FVec F S2x8192x1024 .f32) (main_arg3 : FVec F S1x1024x1024 .f32) (main_arg4 : FVec F S2x1024 .f32) (main_arg5 : FVec F S1x1024 .f32) (main_arg6 : FVec F S2x1024 .f32) (main_arg7 : FVec F S2x1024 .f32) (main_arg8 : FVec F S1x1024x16 .f32) : IVec S_ 1 :=
  let main_v0 : FVec F S2x8192x512 .f32 := (extf .f32 · bitsLt_bf16_f32) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_c : IVec S_ 1 := constantI S_ 1 1#1
  let main_v4 : IVec S_ 1 := (fun x v => Host.reduce IntOp.andi x v reducesTo_S2x8192x512_S_d0_1_2 h_S_) main_v3 main_c
  let main_v5 : FVec F S2x8192x512 .f32 := (extf .f32 · bitsLt_bf16_f32) main_arg1
  let main_v6 : FVec F S2x8192x512 .f32 := Host.absf main_v5
  let main_cst_0 : FVec F S_ .f32 := constant S_ .f32 0x7F800000#32
  let main_v7 : FVec F S2x8192x512 .f32 := broadcastInDim S2x8192x512 ![] bcast_S_S2x8192x512 main_cst_0
  let main_v8 : IVec S2x8192x512 1 := cmpf .olt main_v6 main_v7
  let main_c_1 : IVec S_ 1 := constantI S_ 1 1#1
  let main_v9 : IVec S_ 1 := (fun x v => Host.reduce IntOp.andi x v reducesTo_S2x8192x512_S_d0_1_2 h_S_) main_v8 main_c_1
  let main_v10 : IVec S_ 1 := andi main_v4 main_v9
  let main_v11 : FVec F S2x8192x1024 .f32 := Host.absf main_arg2
  let main_cst_2 : FVec F S_ .f32 := constant S_ .f32 0x7F800000#32
  let main_v12 : FVec F S2x8192x1024 .f32 := broadcastInDim S2x8192x1024 ![] bcast_S_S2x8192x1024 main_cst_2
  let main_v13 : IVec S2x8192x1024 1 := cmpf .olt main_v11 main_v12
  let main_c_3 : IVec S_ 1 := constantI S_ 1 1#1
  let main_v14 : IVec S_ 1 := (fun x v => Host.reduce IntOp.andi x v reducesTo_S2x8192x1024_S_d0_1_2 h_S_) main_v13 main_c_3
  let main_v15 : IVec S_ 1 := andi main_v10 main_v14
  let main_v16 : FVec F S1x1024x1024 .f32 := Host.absf main_arg3
  let main_cst_4 : FVec F S_ .f32 := constant S_ .f32 0x7F800000#32
  fn_part1 (F := F) main_arg4 main_arg5 main_arg6 main_arg7 main_arg8 main_v15 main_v16 main_cst_4
-- ==== Pre_finite_qk.lean ====
abbrev S1x64 : Shape := ⟨2, ![1, 64]⟩
abbrev S2x8192x512 : Shape := ⟨3, ![2, 8192, 512]⟩
abbrev S2x2x8192x64 : Shape := ⟨4, ![2, 2, 8192, 64]⟩
abbrev S2x2x64x8192 : Shape := ⟨4, ![2, 2, 64, 8192]⟩
abbrev S2x2x256x64 : Shape := ⟨4, ![2, 2, 256, 64]⟩
abbrev S2x2x64x256 : Shape := ⟨4, ![2, 2, 64, 256]⟩
abbrev S_ : Shape := ⟨0, ![]⟩

class Facts : Prop where
  bitsLt_bf16_f32 : FTy.bits .bf16 < FTy.bits .f32
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S2x2x8192x64 : S_.BroadcastsInDim S2x2x8192x64 (![] : Fin 0 → Fin S2x2x8192x64.rank)
  reducesTo_S2x2x8192x64_S_d0_1_2_3 : S2x2x8192x64.ReducesTo [0, 1, 2, 3] S_
  bcast_S_S2x2x256x64 : S_.BroadcastsInDim S2x2x256x64 (![] : Fin 0 → Fin S2x2x256x64.rank)
  reducesTo_S2x2x256x64_S_d0_1_2_3 : S2x2x256x64.ReducesTo [0, 1, 2, 3] S_

variable [Facts]

def fn {F : FTy → Type} [FloatOps F] (main_arg0 : FVec F S1x64 .f32) (main_arg1 : FVec F S1x64 .f32) (main_arg2 : FVec F S2x8192x512 .bf16) (main_arg3 : FVec F S2x2x8192x64 .bf16) (main_arg4 : FVec F S2x2x64x8192 .bf16) (main_arg5 : FVec F S2x2x256x64 .bf16) (main_arg6 : FVec F S2x2x64x256 .bf16) : IVec S_ 1 :=
  let main_v0 : FVec F S2x8192x512 .f32 := (extf .f32 · bitsLt_bf16_f32) main_arg2
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_c : IVec S_ 1 := constantI S_ 1 1#1
  let main_v4 : IVec S_ 1 := (fun x v => Host.reduce IntOp.andi x v reducesTo_S2x8192x512_S_d0_1_2 h_S_) main_v3 main_c
  let main_v5 : FVec F S2x2x8192x64 .f32 := (extf .f32 · bitsLt_bf16_f32) main_arg3
  let main_v6 : FVec F S2x2x8192x64 .f32 := Host.absf main_v5
  let main_cst_0 : FVec F S_ .f32 := constant S_ .f32 0x7F800000#32
  let main_v7 : FVec F S2x2x8192x64 .f32 := broadcastInDim S2x2x8192x64 ![] bcast_S_S2x2x8192x64 main_cst_0
  let main_v8 : IVec S2x2x8192x64 1 := cmpf .olt main_v6 main_v7
  let main_c_1 : IVec S_ 1 := constantI S_ 1 1#1
  let main_v9 : IVec S_ 1 := (fun x v => Host.reduce IntOp.andi x v reducesTo_S2x2x8192x64_S_d0_1_2_3 h_S_) main_v8 main_c_1
  let main_v10 : IVec S_ 1 := andi main_v4 main_v9
  let main_v11 : FVec F S2x2x256x64 .f32 := (extf .f32 · bitsLt_bf16_f32) main_arg5
  let main_v12 : FVec F S2x2x256x64 .f32 := Host.absf main_v11
  let main_cst_2 : FVec F S_ .f32 := constant S_ .f32 0x7F800000#32
  let main_v13 : FVec F S2x2x256x64 .f32 := broadcastInDim S2x2x256x64 ![] bcast_S_S2x2x256x64 main_cst_2
  let main_v14 : IVec S2x2x256x64 1 := cmpf .olt main_v12 main_v13
  let main_c_3 : IVec S_ 1 := constantI S_ 1 1#1
  let main_v15 : IVec S_ 1 := (fun x v => Host.reduce IntOp.andi x v reducesTo_S2x2x256x64_S_d0_1_2_3 h_S_) main_v14 main_c_3
  let main_v16 : IVec S_ 1 := andi main_v10 main_v15
  main_v16
-- ==== Kernel.lean ====
abbrev S1x64 : Shape := ⟨2, ![1, 64]⟩
abbrev S2x8192x512 : Shape := ⟨3, ![2, 8192, 512]⟩
abbrev S2x2x8192x64 : Shape := ⟨4, ![2, 2, 8192, 64]⟩
abbrev S2x2x64x8192 : Shape := ⟨4, ![2, 2, 64, 8192]⟩
abbrev S2x2x256x64 : Shape := ⟨4, ![2, 2, 256, 64]⟩
abbrev S2x2x64x256 : Shape := ⟨4, ![2, 2, 64, 256]⟩
abbrev S2x2x8448x64 : Shape := ⟨4, ![2, 2, 8448, 64]⟩
abbrev S2x2x11x768x64 : Shape := ⟨5, ![2, 2, 11, 768, 64]⟩
abbrev S2x2x64x8448 : Shape := ⟨4, ![2, 2, 64, 8448]⟩
abbrev S2x2x64x11x768 : Shape := ⟨5, ![2, 2, 64, 11, 768]⟩
abbrev S_ : Shape := ⟨0, ![]⟩
abbrev S2x2x11x1x768 : Shape := ⟨5, ![2, 2, 11, 1, 768]⟩
abbrev S2x2x11x15x768 : Shape := ⟨5, ![2, 2, 11, 15, 768]⟩
abbrev S2x2x11x16x768 : Shape := ⟨5, ![2, 2, 11, 16, 768]⟩
abbrev S2x2x11x64x768 : Shape := ⟨5, ![2, 2, 11, 64, 768]⟩
abbrev S2x2x11x80x768 : Shape := ⟨5, ![2, 2, 11, 80, 768]⟩
abbrev S64 : Shape := ⟨1, ![64]⟩
abbrev S1 : Shape := ⟨1, ![1]⟩
abbrev S1x512x256 : Shape := ⟨3, ![1, 512, 256]⟩
abbrev S1x1x11x768x64 : Shape := ⟨5, ![1, 1, 11, 768, 64]⟩
abbrev S1x1x11x80x768 : Shape := ⟨5, ![1, 1, 11, 80, 768]⟩
abbrev S2x768x2048 : Shape := ⟨3, ![2, 768, 2048]⟩
abbrev S2x1x2048 : Shape := ⟨3, ![2, 1, 2048]⟩
abbrev S1x2048 : Shape := ⟨2, ![1, 2048]⟩
abbrev S80x2048 : Shape := ⟨2, ![80, 2048]⟩
abbrev S1x512x64 : Shape := ⟨3, ![1, 512, 64]⟩
abbrev S512x64 : Shape := ⟨2, ![512, 64]⟩
abbrev S2048x64 : Shape := ⟨2, ![2048, 64]⟩
abbrev S1x1x1x768x64 : Shape := ⟨5, ![1, 1, 1, 768, 64]⟩
abbrev S768x64 : Shape := ⟨2, ![768, 64]⟩
abbrev S768x2048 : Shape := ⟨2, ![768, 2048]⟩
abbrev S1x1x1x80x768 : Shape := ⟨5, ![1, 1, 1, 80, 768]⟩
abbrev S80x768 : Shape := ⟨2, ![80, 768]⟩
abbrev S64x2048 : Shape := ⟨2, ![64, 2048]⟩
abbrev S64x512 : Shape := ⟨2, ![64, 512]⟩
abbrev S1x768x2048 : Shape := ⟨3, ![1, 768, 2048]⟩
abbrev S2048 : Shape := ⟨1, ![2048]⟩
abbrev S1x1x2048 : Shape := ⟨3, ![1, 1, 2048]⟩

abbrev nBuf : Space → Nat
  | .hbm => 31
  | .vmem => 12
  | .smem => 1
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S2x8192x512, .bf16⟩
  | .hbm, ⟨3, _⟩ => ⟨S2x2x8192x64, .bf16⟩
  | .hbm, ⟨4, _⟩ => ⟨S2x2x64x8192, .bf16⟩
  | .hbm, ⟨5, _⟩ => ⟨S2x2x256x64, .bf16⟩
  | .hbm, ⟨6, _⟩ => ⟨S2x2x64x256, .bf16⟩
  | .hbm, ⟨7, _⟩ => ⟨S2x2x8448x64, .bf16⟩
  | .hbm, ⟨8, _⟩ => ⟨S2x2x11x768x64, .bf16⟩
  | .hbm, ⟨9, _⟩ => ⟨S2x2x64x8448, .bf16⟩
  | .hbm, ⟨10, _⟩ => ⟨S2x2x64x11x768, .bf16⟩
  | .hbm, ⟨11, _⟩ => ⟨S_, .bf16⟩
  | .hbm, ⟨12, _⟩ => ⟨S2x2x11x1x768, .bf16⟩
  | .hbm, ⟨13, _⟩ => ⟨S_, .bf16⟩
  | .hbm, ⟨14, _⟩ => ⟨S2x2x11x15x768, .bf16⟩
  | .hbm, ⟨15, _⟩ => ⟨S2x2x11x16x768, .bf16⟩
  | .hbm, ⟨16, _⟩ => ⟨S2x2x11x64x768, .bf16⟩
  | .hbm, ⟨17, _⟩ => ⟨S2x2x11x80x768, .bf16⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S2x8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x1x11x768x64, .bf16⟩
  | .local _ .vmem, ⟨3, _⟩ => ⟨S1x1x11x768x64, .bf16⟩
  | .local _ .vmem, ⟨4, _⟩ => ⟨S1x1x11x80x768, .bf16⟩
  | .local _ .vmem, ⟨5, _⟩ => ⟨S1x1x11x80x768, .bf16⟩
  | .local _ .vmem, ⟨6, _⟩ => ⟨S1x512x256, .bf16⟩
  | .local _ .vmem, ⟨7, _⟩ => ⟨S1x512x256, .bf16⟩
  | .local _ .vmem, ⟨8, _⟩ => ⟨S2x768x2048, .f32⟩
  | .local _ .vmem, ⟨9, _⟩ => ⟨S2x1x2048, .f32⟩
  | .local _ .vmem, ⟨10, _⟩ => ⟨S1x2048, .f32⟩
  | .local _ .vmem, ⟨11, _⟩ => ⟨S80x2048, .f32⟩
  | .local _ .smem, ⟨0, _⟩ => ⟨S1, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 16], ![false, false, false]⟩

@[reducible] def k0_t1_loop : Scf.Loop 32 :=
  let c0_i32_30 : BitVec 32 := 0#32
  let c5_i32 : BitVec 32 := 5#32
  let v36 : BitVec 32 := Scalar.addi c0_i32_30 c5_i32
  let c1_i32 : BitVec 32 := 1#32
  ⟨c0_i32_30, v36, c1_i32⟩
def k0_off1 (k0_t1 : Fin k0_t1_loop.trips) (c1_i32_68 : BitVec 32) : Fin 5 → Nat :=
  let c0_69 : Index := 0#32
  let c0_70 : Index := 0#32
  let c2_i32 : BitVec 32 := 2#32
  let c0_i32_30 : BitVec 32 := 0#32
  let c1_i32 : BitVec 32 := 1#32
  let arg12 : BitVec 32 := Scf.iv c0_i32_30 c1_i32 k0_t1
  let v92 : BitVec 32 := Scalar.muli c2_i32 arg12
  let v93 : BitVec 32 := Scalar.addi v92 c1_i32_68
  let v94 : Index := Scalar.indexCast v93
  let c0_71 : Index := 0#32
  let c0_72 : Index := 0#32
  ![0, 0, v94.toNat, 0, 0]
def k0_off2 (k0_t1 : Fin k0_t1_loop.trips) : Fin 5 → Nat :=
  let c0_90 : Index := 0#32
  let c0_91 : Index := 0#32
  let c2_i32 : BitVec 32 := 2#32
  let c0_i32_30 : BitVec 32 := 0#32
  let c1_i32 : BitVec 32 := 1#32
  let arg12 : BitVec 32 := Scf.iv c0_i32_30 c1_i32 k0_t1
  let v92 : BitVec 32 := Scalar.muli c2_i32 arg12
  let v121 : Index := Scalar.indexCast v92
  let c0_92 : Index := 0#32
  let c0_93 : Index := 0#32
  ![0, 0, v121.toNat, 0, 0]
def k0_off3 (k0_t1 : Fin k0_t1_loop.trips) : Fin 5 → Nat :=
  let c0_123 : Index := 0#32
  let c0_124 : Index := 0#32
  let c2_i32 : BitVec 32 := 2#32
  let c0_i32_30 : BitVec 32 := 0#32
  let c1_i32 : BitVec 32 := 1#32
  let arg12 : BitVec 32 := Scf.iv c0_i32_30 c1_i32 k0_t1
  let v92 : BitVec 32 := Scalar.muli c2_i32 arg12
  let c1_i32_112 : BitVec 32 := 1#32
  let v145 : BitVec 32 := Scalar.addi v92 c1_i32_112
  let v161 : Index := Scalar.indexCast v145
  let c0_125 : Index := 0#32
  let c0_126 : Index := 0#32
  ![0, 0, v161.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x11x768x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x11x80x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S1x64 : Shape := ⟨2, ![1, 64]⟩
abbrev S2x8192x512 : Shape := ⟨3, ![2, 8192, 512]⟩
abbrev S2x2x8192x64 : Shape := ⟨4, ![2, 2, 8192, 64]⟩
abbrev S2x2x64x8192 : Shape := ⟨4, ![2, 2, 64, 8192]⟩
abbrev S2x2x256x64 : Shape := ⟨4, ![2, 2, 256, 64]⟩
abbrev S2x2x64x256 : Shape := ⟨4, ![2, 2, 64, 256]⟩
abbrev S2x8192x2x4x64 : Shape := ⟨5, ![2, 8192, 2, 4, 64]⟩
abbrev S2x8192x2x64 : Shape := ⟨4, ![2, 8192, 2, 64]⟩
abbrev S2x256x2x64 : Shape := ⟨4, ![2, 256, 2, 64]⟩
abbrev S2x8448x2x64 : Shape := ⟨4, ![2, 8448, 2, 64]⟩
abbrev S2x2x8448x8192x4 : Shape := ⟨5, ![2, 2, 8448, 8192, 4]⟩
abbrev S2x2x4x8192x8448 : Shape := ⟨5, ![2, 2, 4, 8192, 8448]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩

abbrev nBuf : Space → Nat
  | .hbm => 42
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S2x8192x512, .bf16⟩
  | .hbm, ⟨3, _⟩ => ⟨S2x2x8192x64, .bf16⟩
  | .hbm, ⟨4, _⟩ => ⟨S2x2x64x8192, .bf16⟩
  | .hbm, ⟨5, _⟩ => ⟨S2x2x256x64, .bf16⟩
  | .hbm, ⟨6, _⟩ => ⟨S2x2x64x256, .bf16⟩
  | .hbm, ⟨7, _⟩ => ⟨S2x8192x512, .f32⟩
  | .hbm, ⟨8, _⟩ => ⟨S2x8192x2x4x64, .f32⟩
  | .hbm, ⟨9, _⟩ => ⟨S2x8192x2x64, .bf16⟩
  | .hbm, ⟨10, _⟩ => ⟨S2x256x2x64, .bf16⟩
  | .hbm, ⟨11, _⟩ => ⟨S2x8448x2x64, .bf16⟩
  | .hbm, ⟨12, _⟩ => ⟨S2x8448x2x64, .f32⟩
  | .hbm, ⟨13, _⟩ => ⟨S2x8192x2x64, .bf16⟩
  | .hbm, ⟨14, _⟩ => ⟨S2x256x2x64, .bf16⟩
  | .hbm, ⟨15, _⟩ => ⟨S2x8448x2x64, .bf16⟩
  | .hbm, ⟨16, _⟩ => ⟨S2x8448x2x64, .f32⟩
  | .hbm, ⟨17, _⟩ => ⟨S2x2x8448x8192x4, .f32⟩
  | .hbm, ⟨18, _⟩ => ⟨S2x2x4x8192x8448, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x2x4x8192x8448, .f32⟩
  | .hbm, ⟨23, _⟩ => ⟨S2x2x4x8192x8448, .f32⟩
  | .hbm, ⟨24, _⟩ => ⟨S_, .f32⟩
  | .hbm, ⟨25, _⟩ => ⟨S2x2x4x8192, .f32⟩
  | .hbm, ⟨26, _⟩ => ⟨S_, .f32⟩
  | .hbm, ⟨27, _⟩ => ⟨S2x2x4x8192, .f32⟩
  | .hbm, ⟨28, _⟩ => ⟨S2x2x4x8192, .f32⟩
  | .hbm, ⟨29, _⟩ => ⟨S2x2x4x8192x1, .f32⟩
  | .hbm, ⟨30, _⟩ => ⟨S2x2x4x8192x8448, .f32⟩
  | .hbm, ⟨31, _⟩ => ⟨S2x2x4x8192x8448, .f32⟩
  | .hbm, ⟨32, _⟩ => ⟨S2x2x4x8192x8448, .f32⟩
  | .hbm, ⟨33, _⟩ => ⟨S_, .f32⟩
  | .hbm, ⟨34, _⟩ => ⟨S2x2x4x8192, .f32⟩
  | .hbm, ⟨35, _⟩ => ⟨S2x2x4x8192x1, .f32⟩
  | .hbm, ⟨36, _⟩ => ⟨S2x2x4x8192x8448, .f32⟩
  | .hbm, ⟨37, _⟩ => ⟨S2x2x4x8192x8448, .f32⟩
  | .hbm, ⟨38, _⟩ => ⟨S2x2x64x4x8192, .f32⟩
  | .hbm, ⟨39, _⟩ => ⟨S2x8192x2x4x64, .f32⟩
  | .hbm, ⟨40, _⟩ => ⟨S2x8192x512, .f32⟩
  | .hbm, ⟨41, _⟩ => ⟨S2x8192x512, .bf16⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel2.lean ====
abbrev S2x16x1040x1024 : Shape := ⟨4, ![2, 16, 1040, 1024]⟩
abbrev S1x16x1024x2752 : Shape := ⟨4, ![1, 16, 1024, 2752]⟩
abbrev S1x16x2752x1024 : Shape := ⟨4, ![1, 16, 2752, 1024]⟩
abbrev S16x1024x2752 : Shape := ⟨3, ![16, 1024, 2752]⟩
abbrev S16x2752x1024 : Shape := ⟨3, ![16, 2752, 1024]⟩
abbrev S2x1x1024x1024 : Shape := ⟨4, ![2, 1, 1024, 1024]⟩
abbrev S1x688x1024 : Shape := ⟨3, ![1, 688, 1024]⟩
abbrev S2x1x1040x1024 : Shape := ⟨4, ![2, 1, 1040, 1024]⟩
abbrev S2x1024x1024 : Shape := ⟨3, ![2, 1024, 1024]⟩
abbrev S688x1024 : Shape := ⟨2, ![688, 1024]⟩
abbrev S1x1x512x1024 : Shape := ⟨4, ![1, 1, 512, 1024]⟩
abbrev S512x1024 : Shape := ⟨2, ![512, 1024]⟩
abbrev S512x688 : Shape := ⟨2, ![512, 688]⟩
abbrev S1x512x1024 : Shape := ⟨3, ![1, 512, 1024]⟩
abbrev S1x1024x1024 : Shape := ⟨3, ![1, 1024, 1024]⟩
abbrev S1024x1024 : Shape := ⟨2, ![1024, 1024]⟩
abbrev S1x1x1024x1024 : Shape := ⟨4, ![1, 1, 1024, 1024]⟩
abbrev S16x1024 : Shape := ⟨2, ![16, 1024]⟩
abbrev S1x1x16x1024 : Shape := ⟨4, ![1, 1, 16, 1024]⟩

abbrev nBuf : Space → Nat
  | .hbm => 10
  | .vmem => 11
  | .smem => 0
  | _ => 0

abbrev bufTy : (tb : Table) → Fin (tcTables nBuf tb) → BufTy
  | .hbm, ⟨0, _⟩ => ⟨S2x16x1040x1024, .bf16⟩
  | .hbm, ⟨1, _⟩ => ⟨S1x16x1024x2752, .f32⟩
  | .hbm, ⟨2, _⟩ => ⟨S1x16x1024x2752, .f32⟩
  | .hbm, ⟨3, _⟩ => ⟨S1x16x2752x1024, .f32⟩
  | .hbm, ⟨4, _⟩ => ⟨S16x1024x2752, .f32⟩
  | .hbm, ⟨5, _⟩ => ⟨S16x2752x1024, .f32⟩
  | .hbm, ⟨6, _⟩ => ⟨S16x1024x2752, .f32⟩
  | .hbm, ⟨7, _⟩ => ⟨S16x2752x1024, .f32⟩
  | .hbm, ⟨8, _⟩ => ⟨S16x2752x1024, .f32⟩
  | .hbm, ⟨9, _⟩ => ⟨S2x16x1040x1024, .bf16⟩
  | .local _ .vmem, ⟨0, _⟩ => ⟨S2x1x1024x1024, .bf16⟩
  | .local _ .vmem, ⟨1, _⟩ => ⟨S2x1x1024x1024, .bf16⟩
  | .local _ .vmem, ⟨2, _⟩ => ⟨S1x688x1024, .f32⟩
  | .local _ .vmem, ⟨3, _⟩ => ⟨S1x688x1024, .f32⟩
  | .local _ .vmem, ⟨4, _⟩ => ⟨S1x688x1024, .f32⟩
  | .local _ .vmem, ⟨5, _⟩ => ⟨S1x688x1024, .f32⟩
  | .local _ .vmem, ⟨6, _⟩ => ⟨S1x688x1024, .f32⟩
  | .local _ .vmem, ⟨7, _⟩ => ⟨S1x688x1024, .f32⟩
  | .local _ .vmem, ⟨8, _⟩ => ⟨S2x1x1040x1024, .bf16⟩
  | .local _ .vmem, ⟨9, _⟩ => ⟨S2x1x1040x1024, .bf16⟩
  | .local _ .vmem, ⟨10, _⟩ => ⟨S2x1024x1024, .f32⟩
  | _, _ => ⟨S2x16x1040x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v96 : BitVec 1 := Scalar.cmpi .eq arg1 c3_i32
  let v97 : BitVec 32 := Scalar.extui v96
  let c0_i32_70 : BitVec 32 := 0#32
  let v98 : BitVec 1 := Scalar.cmpi .ne v97 c0_i32_70
  v98

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1040x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S2x16x1040x1024 : Shape := ⟨4, ![2, 16, 1040, 1024]⟩
abbrev S1x16x1024x2752 : Shape := ⟨4, ![1, 16, 1024, 2752]⟩
abbrev S1x16x2752x1024 : Shape := ⟨4, ![1, 16, 2752, 1024]⟩
abbrev S2x16x1024x1024 : Shape := ⟨4, ![2, 16, 1024, 1024]⟩
abbrev S16x1024x2752 : Shape := ⟨3, ![16, 1024, 2752]⟩
abbrev S16x2752x2x1024 : Shape := ⟨4, ![16, 2752, 2, 1024]⟩
abbrev S2x16x1024x2752 : Shape := ⟨4, ![2, 16, 1024, 2752]⟩
abbrev S_ : Shape := ⟨0, ![]⟩
abbrev S16x2752x1024 : Shape := ⟨3, ![16, 2752, 1024]⟩
abbrev S16x1024x2x1024 : Shape := ⟨4, ![16, 1024, 2, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x16x1040x1024, .bf16⟩
  | .hbm, ⟨1, _⟩ => ⟨S1x16x1024x2752, .f32⟩
  | .hbm, ⟨2, _⟩ => ⟨S1x16x1024x2752, .f32⟩
  | .hbm, ⟨3, _⟩ => ⟨S1x16x2752x1024, .f32⟩
  | .hbm, ⟨4, _⟩ => ⟨S2x16x1024x1024, .bf16⟩
  | .hbm, ⟨5, _⟩ => ⟨S2x16x1024x1024, .f32⟩
  | .hbm, ⟨6, _⟩ => ⟨S16x1024x2752, .f32⟩
  | .hbm, ⟨7, _⟩ => ⟨S16x2752x2x1024, .f32⟩
  | .hbm, ⟨8, _⟩ => ⟨S2x16x1024x2752, .f32⟩
  | .hbm, ⟨9, _⟩ => ⟨S16x1024x2752, .f32⟩
  | .hbm, ⟨10, _⟩ => ⟨S16x2752x2x1024, .f32⟩
  | .hbm, ⟨11, _⟩ => ⟨S2x16x1024x2752, .f32⟩
  | .hbm, ⟨12, _⟩ => ⟨S2x16x1024x2752, .f32⟩
  | .hbm, ⟨13, _⟩ => ⟨S2x16x1024x2752, .f32⟩
  | .hbm, ⟨14, _⟩ => ⟨S_, .f32⟩
  | .hbm, ⟨15, _⟩ => ⟨S2x16x1024x2752, .f32⟩
  | .hbm, ⟨16, _⟩ => ⟨S2x16x1024x2752, .f32⟩
  | .hbm, ⟨17, _⟩ => ⟨S_, .f32⟩
  | .hbm, ⟨18, _⟩ => ⟨S2x16x1024x2752, .f32⟩
  | .hbm, ⟨19, _⟩ => ⟨S2x16x1024x2752, .f32⟩
  | .hbm, ⟨20, _⟩ => ⟨S2x16x1024x2752, .f32⟩
  | .hbm, ⟨21, _⟩ => ⟨S2x16x1024x2752, .f32⟩
  | .hbm, ⟨22, _⟩ => ⟨S16x2752x1024, .f32⟩
  | .hbm, ⟨23, _⟩ => ⟨S16x1024x2x1024, .f32⟩
  | .hbm, ⟨24, _⟩ => ⟨S2x16x1024x1024, .f32⟩
  | .hbm, ⟨25, _⟩ => ⟨S_, .i32⟩
  | .hbm, ⟨26, _⟩ => ⟨S_, .f32⟩
  | .hbm, ⟨27, _⟩ => ⟨S2x16x1040x1024, .f32⟩
  | .hbm, ⟨28, _⟩ => ⟨S2x16x1040x1024, .bf16⟩
  | _, _ => ⟨S2x16x1040x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]
-- ==== Kernel3.lean ====
abbrev S2x8192x512 : Shape := ⟨3, ![2, 8192, 512]⟩
abbrev S2x8192x1024 : Shape := ⟨3, ![2, 8192, 1024]⟩
abbrev S1x1024x1024 : Shape := ⟨3, ![1, 1024, 1024]⟩
abbrev S2x1024 : Shape := ⟨2, ![2, 1024]⟩
abbrev S1x1024 : Shape := ⟨2, ![1, 1024]⟩
abbrev S1x1024x16 : Shape := ⟨3, ![1, 1024, 16]⟩
abbrev S1024x16 : Shape := ⟨2, ![1024, 16]⟩
abbrev S16x1024 : Shape := ⟨2, ![16, 1024]⟩
abbrev S32x1024 : Shape := ⟨2, ![32, 1024]⟩
abbrev S1024x1024 : Shape := ⟨2, ![1024, 1024]⟩
abbrev S2x1x1024 : Shape := ⟨3, ![2, 1, 1024]⟩
abbrev S1024 : Shape := ⟨1, ![1024]⟩
abbrev S2x16x8192 : Shape := ⟨3, ![2, 16, 8192]⟩
abbrev S1x1024x512 : Shape := ⟨3, ![1, 1024, 512]⟩
abbrev S1x1x1024 : Shape := ⟨3, ![1, 1, 1024]⟩
abbrev S1x16x1024 : Shape := ⟨3, ![1, 16, 1024]⟩
abbrev S1024x512 : Shape := ⟨2, ![1024, 512]⟩
abbrev S1024x1 : Shape := ⟨2, ![1024, 1]⟩

abbrev nBuf : Space → Nat
  | .hbm => 26
  | .vmem => 21
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x1024, .f32⟩
  | .hbm, ⟨3, _⟩ => ⟨S1x1024x1024, .f32⟩
  | .hbm, ⟨4, _⟩ => ⟨S2x1024, .f32⟩
  | .hbm, ⟨5, _⟩ => ⟨S1x1024, .f32⟩
  | .hbm, ⟨6, _⟩ => ⟨S2x1024, .f32⟩
  | .hbm, ⟨7, _⟩ => ⟨S2x1024, .f32⟩
  | .hbm, ⟨8, _⟩ => ⟨S1x1024x16, .f32⟩
  | .hbm, ⟨9, _⟩ => ⟨S1024x16, .f32⟩
  | .hbm, ⟨10, _⟩ => ⟨S16x1024, .f32⟩
  | .hbm, ⟨11, _⟩ => ⟨S16x1024, .bf16⟩
  | .hbm, ⟨12, _⟩ => ⟨S16x1024, .f32⟩
  | .hbm, ⟨13, _⟩ => ⟨S16x1024, .f32⟩
  | .hbm, ⟨14, _⟩ => ⟨S16x1024, .bf16⟩
  | .hbm, ⟨15, _⟩ => ⟨S32x1024, .bf16⟩
  | .hbm, ⟨16, _⟩ => ⟨S1024x1024, .f32⟩
  | .hbm, ⟨17, _⟩ => ⟨S1024x1024, .bf16⟩
  | .hbm, ⟨18, _⟩ => ⟨S2x1x1024, .f32⟩
  | .hbm, ⟨19, _⟩ => ⟨S1024, .f32⟩
  | .hbm, ⟨20, _⟩ => ⟨S1x1024, .f32⟩
  | .hbm, ⟨21, _⟩ => ⟨S2x1x1024, .f32⟩
  | .hbm, ⟨22, _⟩ => ⟨S2x1x1024, .f32⟩
  | .hbm, ⟨23, _⟩ => ⟨S2x8192x1024, .f32⟩
  | .hbm, ⟨24, _⟩ => ⟨S2x8192x1024, .bf16⟩
  | .hbm, ⟨25, _⟩ => ⟨S2x16x8192, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S32x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1x1024x1024, .bf16⟩
  | .local _ .vmem, ⟨18, _⟩ => ⟨S1x1024x1024, .bf16⟩
  | .local _ .vmem, ⟨19, _⟩ => ⟨S1x16x1024, .f32⟩
  | .local _ .vmem, ⟨20, _⟩ => ⟨S1x16x1024, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S2x8192x512 : Shape := ⟨3, ![2, 8192, 512]⟩
abbrev S2x8192x1024 : Shape := ⟨3, ![2, 8192, 1024]⟩
abbrev S1x1024x1024 : Shape := ⟨3, ![1, 1024, 1024]⟩
abbrev S2x1024 : Shape := ⟨2, ![2, 1024]⟩
abbrev S1x1024 : Shape := ⟨2, ![1, 1024]⟩
abbrev S1x1024x16 : Shape := ⟨3, ![1, 1024, 16]⟩
abbrev S1024x1024 : Shape := ⟨2, ![1024, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S1024x16 : Shape := ⟨2, ![1024, 16]⟩
abbrev S16x2x8192 : Shape := ⟨3, ![16, 2, 8192]⟩
abbrev S2x16x8192 : Shape := ⟨3, ![2, 16, 8192]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x1024, .f32⟩
  | .hbm, ⟨3, _⟩ => ⟨S1x1024x1024, .f32⟩
  | .hbm, ⟨4, _⟩ => ⟨S2x1024, .f32⟩
  | .hbm, ⟨5, _⟩ => ⟨S1x1024, .f32⟩
  | .hbm, ⟨6, _⟩ => ⟨S2x1024, .f32⟩
  | .hbm, ⟨7, _⟩ => ⟨S2x1024, .f32⟩
  | .hbm, ⟨8, _⟩ => ⟨S1x1024x16, .f32⟩
  | .hbm, ⟨9, _⟩ => ⟨S2x8192x1024, .bf16⟩
  | .hbm, ⟨10, _⟩ => ⟨S2x8192x1024, .f32⟩
  | .hbm, ⟨11, _⟩ => ⟨S1024x1024, .f32⟩
  | .hbm, ⟨12, _⟩ => ⟨S2x8192x1024, .f32⟩
  | .hbm, ⟨13, _⟩ => ⟨S2x1x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x1024, .f32⟩
  | .hbm, ⟨29, _⟩ => ⟨S2x8192x1024, .f32⟩
  | .hbm, ⟨30, _⟩ => ⟨S1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S2x1x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S2x1x1024, .f32⟩
  | .hbm, ⟨41, _⟩ => ⟨S2x8192x1024, .f32⟩
  | .hbm, ⟨42, _⟩ => ⟨S2x8192x1024, .f32⟩
  | .hbm, ⟨43, _⟩ => ⟨S1024x16, .f32⟩
  | .hbm, ⟨44, _⟩ => ⟨S16x2x8192, .f32⟩
  | .hbm, ⟨45, _⟩ => ⟨S2x16x8192, .f32⟩
  | .hbm, ⟨46, _⟩ => ⟨S2x8192x1024, .bf16⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel4.lean ====
abbrev S2x8192x1024 : Shape := ⟨3, ![2, 8192, 1024]⟩
abbrev S1x1024 : Shape := ⟨2, ![1, 1024]⟩
abbrev S2x1024 : Shape := ⟨2, ![2, 1024]⟩
abbrev S1x1024x2304 : Shape := ⟨3, ![1, 1024, 2304]⟩
abbrev S1x64 : Shape := ⟨2, ![1, 64]⟩
abbrev S8192x2x16 : Shape := ⟨3, ![8192, 2, 16]⟩
abbrev S256x256 : Shape := ⟨2, ![256, 256]⟩
abbrev S1024x2304 : Shape := ⟨2, ![1024, 2304]⟩
abbrev S64 : Shape := ⟨1, ![64]⟩
abbrev S1x1x1x64 : Shape := ⟨4, ![1, 1, 1, 64]⟩
abbrev S1x1x2x64 : Shape := ⟨4, ![1, 1, 2, 64]⟩
abbrev S1x128 : Shape := ⟨2, ![1, 128]⟩
abbrev S8192x1x16 : Shape := ⟨3, ![8192, 1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1024 : Shape := ⟨1, ![1024]⟩
abbrev S2x1x1024 : Shape := ⟨3, ![2, 1, 1024]⟩
abbrev S2x8192x512 : Shape := ⟨3, ![2, 8192, 512]⟩
abbrev S2x2x8192x64 : Shape := ⟨4, ![2, 2, 8192, 64]⟩
abbrev S2x2x64x8192 : Shape := ⟨4, ![2, 2, 64, 8192]⟩
abbrev S2x8192x1536 : Shape := ⟨3, ![2, 8192, 1536]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x2x512x64 : Shape := ⟨4, ![1, 2, 512, 64]⟩
abbrev S1x2x64x512 : Shape := ⟨4, ![1, 2, 64, 512]⟩
abbrev S1x512x1536 : Shape := ⟨3, ![1, 512, 1536]⟩
abbrev S512x1024 : Shape := ⟨2, ![512, 1024]⟩
abbrev S512 : Shape := ⟨1, ![512]⟩
abbrev S512x1 : Shape := ⟨2, ![512, 1]⟩
abbrev S512x2304 : Shape := ⟨2, ![512, 2304]⟩
abbrev S512x256 : Shape := ⟨2, ![512, 256]⟩
abbrev S1x512x128 : Shape := ⟨3, ![1, 512, 128]⟩
abbrev S128x512 : Shape := ⟨2, ![128, 512]⟩
abbrev S512x64 : Shape := ⟨2, ![512, 64]⟩
abbrev S1x1x512x64 : Shape := ⟨4, ![1, 1, 512, 64]⟩
abbrev S64x512 : Shape := ⟨2, ![64, 512]⟩
abbrev S1x1x64x512 : Shape := ⟨4, ![1, 1, 64, 512]⟩
abbrev S512x1536 : Shape := ⟨2, ![512, 1536]⟩

abbrev nBuf : Space → Nat
  | .hbm => 48
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S2x1024, .f32⟩
  | .hbm, ⟨3, _⟩ => ⟨S2x1024, .f32⟩
  | .hbm, ⟨4, _⟩ => ⟨S1x1024x2304, .f32⟩
  | .hbm, ⟨5, _⟩ => ⟨S1x64, .f32⟩
  | .hbm, ⟨6, _⟩ => ⟨S1x64, .f32⟩
  | .hbm, ⟨7, _⟩ => ⟨S8192x2x16, .f32⟩
  | .hbm, ⟨8, _⟩ => ⟨S8192x2x16, .f32⟩
  | .hbm, ⟨9, _⟩ => ⟨S256x256, .bf16⟩
  | .hbm, ⟨10, _⟩ => ⟨S1024x2304, .f32⟩
  | .hbm, ⟨11, _⟩ => ⟨S1024x2304, .bf16⟩
  | .hbm, ⟨12, _⟩ => ⟨S64, .f32⟩
  | .hbm, ⟨13, _⟩ => ⟨S1x64, .f32⟩
  | .hbm, ⟨14, _⟩ => ⟨S1x1x1x64, .f32⟩
  | .hbm, ⟨15, _⟩ => ⟨S1x1x2x64, .f32⟩
  | .hbm, ⟨16, _⟩ => ⟨S1x128, .f32⟩
  | .hbm, ⟨17, _⟩ => ⟨S64, .f32⟩
  | .hbm, ⟨18, _⟩ => ⟨S1x64, .f32⟩
  | .hbm, ⟨19, _⟩ => ⟨S1x1x1x64, .f32⟩
  | .hbm, ⟨20, _⟩ => ⟨S1x1x2x64, .f32⟩
  | .hbm, ⟨21, _⟩ => ⟨S1x128, .f32⟩
  | .hbm, ⟨22, _⟩ => ⟨S8192x1x16, .f32⟩
  | .hbm, ⟨23, _⟩ => ⟨S8192x16, .f32⟩
  | .hbm, ⟨24, _⟩ => ⟨S8192x1x16, .f32⟩
  | .hbm, ⟨25, _⟩ => ⟨S8192x16, .f32⟩
  | .hbm, ⟨26, _⟩ => ⟨S8192x1x16, .f32⟩
  | .hbm, ⟨27, _⟩ => ⟨S8192x16, .f32⟩
  | .hbm, ⟨28, _⟩ => ⟨S8192x1x16, .f32⟩
  | .hbm, ⟨29, _⟩ => ⟨S8192x16, .f32⟩
  | .hbm, ⟨30, _⟩ => ⟨S8192x64, .f32⟩
  | .hbm, ⟨31, _⟩ => ⟨S1x8192x1x64, .f32⟩
  | .hbm, ⟨32, _⟩ => ⟨S1x8192x2x64, .f32⟩
  | .hbm, ⟨33, _⟩ => ⟨S8192x128, .f32⟩
  | .hbm, ⟨34, _⟩ => ⟨S8192x16, .f32⟩
  | .hbm, ⟨35, _⟩ => ⟨S8192x16, .f32⟩
  | .hbm, ⟨36, _⟩ => ⟨S8192x64, .f32⟩
  | .hbm, ⟨37, _⟩ => ⟨S1x8192x1x64, .f32⟩
  | .hbm, ⟨38, _⟩ => ⟨S1x8192x2x64, .f32⟩
  | .hbm, ⟨39, _⟩ => ⟨S8192x128, .f32⟩
  | .hbm, ⟨40, _⟩ => ⟨S1024, .f32⟩
  | .hbm, ⟨41, _⟩ => ⟨S1x1024, .f32⟩
  | .hbm, ⟨42, _⟩ => ⟨S2x1x1024, .f32⟩
  | .hbm, ⟨43, _⟩ => ⟨S2x1x1024, .f32⟩
  | .hbm, ⟨44, _⟩ => ⟨S2x8192x512, .bf16⟩
  | .hbm, ⟨45, _⟩ => ⟨S2x2x8192x64, .bf16⟩
  | .hbm, ⟨46, _⟩ => ⟨S2x2x64x8192, .bf16⟩
  | .hbm, ⟨47, _⟩ => ⟨S2x8192x1536, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2304, .bf16⟩
  | .local _ .vmem, ⟨8, _⟩ => ⟨S1x128, .f32⟩
  | .local _ .vmem, ⟨9, _⟩ => ⟨S1x128, .f32⟩
  | .local _ .vmem, ⟨10, _⟩ => ⟨S256x256, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x512x512, .bf16⟩
  | .local _ .vmem, ⟨16, _⟩ => ⟨S1x512x512, .bf16⟩
  | .local _ .vmem, ⟨17, _⟩ => ⟨S1x2x512x64, .bf16⟩
  | .local _ .vmem, ⟨18, _⟩ => ⟨S1x2x512x64, .bf16⟩
  | .local _ .vmem, ⟨19, _⟩ => ⟨S1x2x64x512, .bf16⟩
  | .local _ .vmem, ⟨20, _⟩ => ⟨S1x2x64x512, .bf16⟩
  | .local _ .vmem, ⟨21, _⟩ => ⟨S1x512x1536, .f32⟩
  | .local _ .vmem, ⟨22, _⟩ => ⟨S1x512x1536, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34_0 : Ref sig .tc := ⟨.hbm, 44, rfl⟩
abbrev main_v34_1 : Ref sig .tc := ⟨.hbm, 45, rfl⟩
abbrev main_v34_2 : Ref sig .tc := ⟨.hbm, 46, rfl⟩
abbrev main_v34_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S2x8192x1024 : Shape := ⟨3, ![2, 8192, 1024]⟩
abbrev S1x1024 : Shape := ⟨2, ![1, 1024]⟩
abbrev S2x1024 : Shape := ⟨2, ![2, 1024]⟩
abbrev S1x1024x2304 : Shape := ⟨3, ![1, 1024, 2304]⟩
abbrev S1x64 : Shape := ⟨2, ![1, 64]⟩
abbrev S8192x2x16 : Shape := ⟨3, ![8192, 2, 16]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S1024x2304 : Shape := ⟨2, ![1024, 2304]⟩
abbrev S1024x512 : Shape := ⟨2, ![1024, 512]⟩
abbrev S1024x128 : Shape := ⟨2, ![1024, 128]⟩
abbrev S1024x1536 : Shape := ⟨2, ![1024, 1536]⟩
abbrev S2x8192x512 : Shape := ⟨3, ![2, 8192, 512]⟩
abbrev S2x8192x8x64 : Shape := ⟨4, ![2, 8192, 8, 64]⟩
abbrev S64 : Shape := ⟨1, ![64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x8x2x32 : Shape := ⟨5, ![2, 8192, 8, 2, 32]⟩
abbrev S2x8192x8x2x16 : Shape := ⟨5, ![2, 8192, 8, 2, 16]⟩
abbrev S8192x1x2x16 : Shape := ⟨4, ![8192, 1, 2, 16]⟩
abbrev S1x8192x1x2x16 : Shape := ⟨5, ![1, 8192, 1, 2, 16]⟩
abbrev S2x8192x128 : Shape := ⟨3, ![2, 8192, 128]⟩
abbrev S2x8192x2x64 : Shape := ⟨4, ![2, 8192, 2, 64]⟩
abbrev S2x8192x2 : Shape := ⟨3, ![2, 8192, 2]⟩
abbrev S2x8192x2x1 : Shape := ⟨4, ![2, 8192, 2, 1]⟩
abbrev S2x8192x2x2x32 : Shape := ⟨5, ![2, 8192, 2, 2, 32]⟩
abbrev S2x8192x2x2x16 : Shape := ⟨5, ![2, 8192, 2, 2, 16]⟩
abbrev S2x2x8192x64 : Shape := ⟨4, ![2, 2, 8192, 64]⟩
abbrev S2x2x64x8192 : Shape := ⟨4, ![2, 2, 64, 8192]⟩
abbrev S2x8192x1536 : Shape := ⟨3, ![2, 8192, 1536]⟩

abbrev nBuf : Space → Nat
  | .hbm => 132
  | .vmem => 0
  | .smem => 0
  | _ => 0

abbrev hbmTy0_0 (i : Nat) : BufTy := match i % 128 with
  | 0 => ⟨S2x8192x1024, .f32⟩
  | 1 => ⟨S1x1024, .f32⟩
  | 2 => ⟨S2x1024, .f32⟩
  | 3 => ⟨S2x1024, .f32⟩
  | 4 => ⟨S1x1024x2304, .f32⟩
  | 5 => ⟨S1x64, .f32⟩
  | 6 => ⟨S1x64, .f32⟩
  | 7 => ⟨S8192x2x16, .f32⟩
  | 8 => ⟨S8192x2x16, .f32⟩
  | 9 => ⟨S1024, .f32⟩
  | 10 => ⟨S2x8192x1024, .f32⟩
  | 11 => ⟨S_, .f32⟩
  | 12 => ⟨S2x8192, .f32⟩
  | 13 => ⟨S2x8192x1, .f32⟩
  | 14 => ⟨S_, .f32⟩
  | 15 => ⟨S2x8192x1, .f32⟩
  | 16 => ⟨S2x8192x1, .f32⟩
  | 17 => ⟨S_, .f32⟩
  | 18 => ⟨S2x8192x1, .f32⟩
  | 19 => ⟨S2x8192x1, .f32⟩
  | 20 => ⟨S2x8192x1, .f32⟩
  | 21 => ⟨S2x8192x1024, .f32⟩
  | 22 => ⟨S2x8192x1024, .f32⟩
  | 23 => ⟨S1x1x1024, .f32⟩
  | 24 => ⟨S2x8192x1024, .f32⟩
  | 25 => ⟨S2x8192x1024, .f32⟩
  | 26 => ⟨S2x1x1024, .f32⟩
  | 27 => ⟨S_, .f32⟩
  | 28 => ⟨S2x1x1024, .f32⟩
  | 29 => ⟨S2x1x1024, .f32⟩
  | 30 => ⟨S2x8192x1024, .f32⟩
  | 31 => ⟨S2x8192x1024, .f32⟩
  | 32 => ⟨S2x1x1024, .f32⟩
  | 33 => ⟨S2x8192x1024, .f32⟩
  | 34 => ⟨S2x8192x1024, .f32⟩
  | 35 => ⟨S1024x2304, .f32⟩
  | 36 => ⟨S1024x512, .f32⟩
  | 37 => ⟨S1024x128, .f32⟩
  | 38 => ⟨S1024x128, .f32⟩
  | 39 => ⟨S1024x1536, .f32⟩
  | 40 => ⟨S2x8192x512, .f32⟩
  | 41 => ⟨S2x8192x8x64, .f32⟩
  | 42 => ⟨S64, .f32⟩
  | 43 => ⟨S2x8192x8x64, .f32⟩
  | 44 => ⟨S_, .f32⟩
  | 45 => ⟨S2x8192x8, .f32⟩
  | 46 => ⟨S2x8192x8x1, .f32⟩
  | 47 => ⟨S_, .f32⟩
  | 48 => ⟨S2x8192x8x1, .f32⟩
  | 49 => ⟨S2x8192x8x1, .f32⟩
  | 50 => ⟨S_, .f32⟩
  | 51 => ⟨S2x8192x8x1, .f32⟩
  | 52 => ⟨S2x8192x8x1, .f32⟩
  | 53 => ⟨S2x8192x8x1, .f32⟩
  | 54 => ⟨S2x8192x8x64, .f32⟩
  | 55 => ⟨S2x8192x8x64, .f32⟩
  | 56 => ⟨S1x1x1x64, .f32⟩
  | 57 => ⟨S2x8192x8x64, .f32⟩
  | 58 => ⟨S2x8192x8x64, .f32⟩
  | 59 => ⟨S2x8192x8x2x32, .f32⟩
  | 60 => ⟨S2x8192x8x2x16, .f32⟩
  | 61 => ⟨S2x8192x8x2x16, .f32⟩
  | 62 => ⟨S8192x1x2x16, .f32⟩
  | 63 => ⟨S8192x1x2x16, .f32⟩
  | 64 => ⟨S1x8192x1x2x16, .f32⟩
  | 65 => ⟨S2x8192x8x2x16, .f32⟩
  | 66 => ⟨S2x8192x8x2x16, .f32⟩
  | 67 => ⟨S1x8192x1x2x16, .f32⟩
  | 68 => ⟨S2x8192x8x2x16, .f32⟩
  | 69 => ⟨S2x8192x8x2x16, .f32⟩
  | 70 => ⟨S2x8192x8x2x16, .f32⟩
  | 71 => ⟨S1x8192x1x2x16, .f32⟩
  | 72 => ⟨S2x8192x8x2x16, .f32⟩
  | 73 => ⟨S2x8192x8x2x16, .f32⟩
  | 74 => ⟨S1x8192x1x2x16, .f32⟩
  | 75 => ⟨S2x8192x8x2x16, .f32⟩
  | 76 => ⟨S2x8192x8x2x16, .f32⟩
  | 77 => ⟨S2x8192x8x2x16, .f32⟩
  | 78 => ⟨S2x8192x8x2x32, .f32⟩
  | 79 => ⟨S2x8192x8x64, .f32⟩
  | 80 => ⟨S2x8192x128, .f32⟩
  | 81 => ⟨S2x8192x2x64, .f32⟩
  | 82 => ⟨S64, .f32⟩
  | 83 => ⟨S2x8192x2x64, .f32⟩
  | 84 => ⟨S_, .f32⟩
  | 85 => ⟨S2x8192x2, .f32⟩
  | 86 => ⟨S2x8192x2x1, .f32⟩
  | 87 => ⟨S_, .f32⟩
  | 88 => ⟨S2x8192x2x1, .f32⟩
  | 89 => ⟨S2x8192x2x1, .f32⟩
  | 90 => ⟨S_, .f32⟩
  | 91 => ⟨S2x8192x2x1, .f32⟩
  | 92 => ⟨S2x8192x2x1, .f32⟩
  | 93 => ⟨S2x8192x2x1, .f32⟩
  | 94 => ⟨S2x8192x2x64, .f32⟩
  | 95 => ⟨S2x8192x2x64, .f32⟩
  | 96 => ⟨S1x1x1x64, .f32⟩
  | 97 => ⟨S2x8192x2x64, .f32⟩
  | 98 => ⟨S2x8192x2x64, .f32⟩
  | 99 => ⟨S2x8192x2x2x32, .f32⟩
  | 100 => ⟨S2x8192x2x2x16, .f32⟩
  | 101 => ⟨S2x8192x2x2x16, .f32⟩
  | 102 => ⟨S8192x1x2x16, .f32⟩
  | 103 => ⟨S8192x1x2x16, .f32⟩
  | 104 => ⟨S1x8192x1x2x16, .f32⟩
  | 105 => ⟨S2x8192x2x2x16, .f32⟩
  | 106 => ⟨S2x8192x2x2x16, .f32⟩
  | 107 => ⟨S1x8192x1x2x16, .f32⟩
  | 108 => ⟨S2x8192x2x2x16, .f32⟩
  | 109 => ⟨S2x8192x2x2x16, .f32⟩
  | 110 => ⟨S2x8192x2x2x16, .f32⟩
  | 111 => ⟨S1x8192x1x2x16, .f32⟩
  | 112 => ⟨S2x8192x2x2x16, .f32⟩
  | 113 => ⟨S2x8192x2x2x16, .f32⟩
  | 114 => ⟨S1x8192x1x2x16, .f32⟩
  | 115 => ⟨S2x8192x2x2x16, .f32⟩
  | 116 => ⟨S2x8192x2x2x16, .f32⟩
  | 117 => ⟨S2x8192x2x2x16, .f32⟩
  | 118 => ⟨S2x8192x2x2x32, .f32⟩
  | 119 => ⟨S2x8192x2x64, .f32⟩
  | 120 => ⟨S2x8192x128, .f32⟩
  | 121 => ⟨S2x8192x2x64, .f32⟩
  | 122 => ⟨S_, .f32⟩
  | 123 => ⟨S2x8192x8x64, .f32⟩
  | 124 => ⟨S2x8192x8x64, .f32⟩
  | 125 => ⟨S2x8192x512, .f32⟩
  | 126 => ⟨S2x8192x512, .bf16⟩
  | 127 => ⟨S2x2x8192x64, .f32⟩
  | _ => ⟨S2x8192x1024, .f32⟩

abbrev hbmTy0_1 (i : Nat) : BufTy := match i % 128 with
  | 0 => ⟨S2x2x8192x64, .bf16⟩
  | 1 => ⟨S2x2x64x8192, .f32⟩
  | 2 => ⟨S2x2x64x8192, .bf16⟩
  | 3 => ⟨S2x8192x1536, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_6 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_9 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩

abbrev nD : Nat := 1
abbrev τ : Topo := Topo.v7x

variable {F : FTy → Type} [FloatOps F]
-- ==== Proof.AttnRunA.lean ====
module

public import proofs.«01_k».proof.Proof.Gen.KernelIdeal.Loops
public import proofs.«01_k».proof.Proof.Gen.KernelIdeal.Frame

/-! The attention body run once, in case A -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition as the body computes it, at the bound read off its one-word operand. -/
abbrev condFix (w : F .f32) : Prop :=
  Scalar.cmpi .ne (Scalar.extui (Scalar.cmpf .ole (k0_pay3 w) (FloatOps.ofBits FTy.f32 1123024896#32))) 0#32 = 1#1

/-- The second branch's condition: the first one's comparison, flipped. -/
abbrev condRun (w : F .f32) : Prop :=
  Scalar.cmpi .ne (Scalar.extui (Scalar.xori (Scalar.cmpf .ole (k0_pay3 w) (FloatOps.ofBits FTy.f32 1123024896#32)) 1#1)) 0#32 = 1#1

-- the run is one large term
set_option maxHeartbeats 4000000 in
/-- The body where the bound allows one fixed shift: it runs to its end with its inputs unchanged, and the pieces its stores leave in the output block are the witness the run finds. -/
noncomputable def runA (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x1x11x768x64 .bf16) (harg5 : arg5.IsWhole) (arg6 : Memref sig .tc .vmem S1x1x11x80x768 .bf16) (harg6 : arg6.IsWhole) (arg7 : Memref sig .tc .vmem S1x512x256 .bf16) (harg7 : arg7.IsWhole) (arg8 : Memref sig .tc .vmem S2x768x2048 .f32) (harg8 : arg8.IsWhole) (arg9 : Memref sig .tc .vmem S2x1x2048 .f32) (harg9 : arg9.IsWhole) (arg10 : Memref sig .tc .vmem S1x2048 .f32) (harg10 : arg10.IsWhole) (arg11 : Memref sig .tc .vmem S80x2048 .f32) (harg11 : arg11.IsWhole)
    (x0 : Vec F S1 .f32) (x1 : Vec F S1x512x256 .bf16) (x2 : Vec F S1x1x11x768x64 .bf16) (x3 : Vec F S1x1x11x80x768 .bf16)
    (hc0 : condFix (View.readAt (Elt F) arg3.view (Rect.unit (s := S1) ![0] S1.size inb_S1_S1_0).toLoadRect (harg3.unread x0) (Shape.Idx.first (numel1_S1.symm ▸ Nat.one_pos))))
    (hc1 : ¬ condRun (View.readAt (Elt F) arg3.view (Rect.unit (s := S1) ![0] S1.size inb_S1_S1_0).toLoadRect (harg3.unread x0) (Shape.Idx.first (numel1_S1.symm ▸ Nat.one_pos)))) :
    { L7 : (BufTy.Contents (Elt F) arg8.view.ty → BufTy.Contents (Elt F) arg9.view.ty → BufTy.Contents (Elt F) arg10.view.ty → BufTy.Contents (Elt F) arg11.view.ty → List (View.Piece (Elt F) S1x512x256 .bf16)) //
      ∀ (E : Set ℕ) (K : PUnit → sProp 𝕄) (f8 : BufTy.Contents (Elt F) arg8.view.ty) (f9 : BufTy.Contents (Elt F) arg9.view.ty) (f10 : BufTy.Contents (Elt F) arg10.view.ty) (f11 : BufTy.Contents (Elt F) arg11.view.ty),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f (L7 f8 f9 f10 f11)) ∗ (∃ g, arg8.view.loc (c : Thread nD τ) ↦[arg8.view.set]{fullShare} g) ∗ (∃ g, arg9.view.loc (c : Thread nD τ) ↦[arg9.view.set]{fullShare} g) ∗ (∃ g, arg10.view.loc (c : Thread nD τ) ↦[arg10.view.set]{fullShare} g) ∗ (∃ g, arg11.view.loc (c : Thread nD τ) ↦[arg11.view.set]{fullShare} g)) -∗ K ⟨⟩))
          ⊢ wp frame (wpE (defs₀ (F := F)) Variants.none c none) E (cc0_attention i arg3 harg3 arg4 harg4 arg5 harg5 arg6 harg6 arg7 harg7 arg8 harg8 arg9 harg9 arg10 harg10 arg11 harg11) K } := by
  refine ⟨?_, fun E K f8 f9 f10 f11 => ?run⟩
  case run =>
    simp only [cc0_attention_eq_skeleton]; unfold cc0_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%d4, %f4, -, H4⟩, S8, S9, S10, S11, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [S8]; · iexists _; iexact S8
    isplitl [S9]; · iexists _; iexact S9
    isplitl [S10]; · iexists _; iexact S10
    iexists _; iexact S11

end Cert.KernelIdeal.Attn

end
-- ==== Proof.AttnRunB.lean ====
module

public import proofs.«01_k».proof.Proof.Gen.KernelIdeal.Loops
public import proofs.«01_k».proof.Proof.Gen.KernelIdeal.Frame
public import proofs.«01_k».proof.Proof.AttnRunA

/-! The attention body run once, in case B -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run is one large term
set_option maxHeartbeats 4000000 in
/-- The body where it keeps a running maximum: it runs to its end with its inputs unchanged, and the pieces its stores leave in the output block, as functions of what the scratch buffers hold at the start, are the witness the run finds. -/
noncomputable def runB (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x1x11x768x64 .bf16) (harg5 : arg5.IsWhole) (arg6 : Memref sig .tc .vmem S1x1x11x80x768 .bf16) (harg6 : arg6.IsWhole) (arg7 : Memref sig .tc .vmem S1x512x256 .bf16) (harg7 : arg7.IsWhole) (arg8 : Memref sig .tc .vmem S2x768x2048 .f32) (harg8 : arg8.IsWhole) (arg9 : Memref sig .tc .vmem S2x1x2048 .f32) (harg9 : arg9.IsWhole) (arg10 : Memref sig .tc .vmem S1x2048 .f32) (harg10 : arg10.IsWhole) (arg11 : Memref sig .tc .vmem S80x2048 .f32) (harg11 : arg11.IsWhole)
    (x0 : Vec F S1 .f32) (x1 : Vec F S1x512x256 .bf16) (x2 : Vec F S1x1x11x768x64 .bf16) (x3 : Vec F S1x1x11x80x768 .bf16)
    (hc0 : ¬ condFix (View.readAt (Elt F) arg3.view (Rect.unit (s := S1) ![0] S1.size inb_S1_S1_0).toLoadRect (harg3.unread x0) (Shape.Idx.first (numel1_S1.symm ▸ Nat.one_pos))))
    (hc1 : condRun (View.readAt (Elt F) arg3.view (Rect.unit (s := S1) ![0] S1.size inb_S1_S1_0).toLoadRect (harg3.unread x0) (Shape.Idx.first (numel1_S1.symm ▸ Nat.one_pos)))) :
    { L7 : (BufTy.Contents (Elt F) arg8.view.ty → BufTy.Contents (Elt F) arg9.view.ty → BufTy.Contents (Elt F) arg10.view.ty → BufTy.Contents (Elt F) arg11.view.ty → List (View.Piece (Elt F) S1x512x256 .bf16)) //
      ∀ (E : Set ℕ) (K : PUnit → sProp 𝕄) (f8 : BufTy.Contents (Elt F) arg8.view.ty) (f9 : BufTy.Contents (Elt F) arg9.view.ty) (f10 : BufTy.Contents (Elt F) arg10.view.ty) (f11 : BufTy.Contents (Elt F) arg11.view.ty),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f (L7 f8 f9 f10 f11)) ∗ (∃ g, arg8.view.loc (c : Thread nD τ) ↦[arg8.view.set]{fullShare} g) ∗ (∃ g, arg9.view.loc (c : Thread nD τ) ↦[arg9.view.set]{fullShare} g) ∗ (∃ g, arg10.view.loc (c : Thread nD τ) ↦[arg10.view.set]{fullShare} g) ∗ (∃ g, arg11.view.loc (c : Thread nD τ) ↦[arg11.view.set]{fullShare} g)) -∗ K ⟨⟩))
          ⊢ wp frame (wpE (defs₀ (F := F)) Variants.none c none) E (cc0_attention i arg3 harg3 arg4 harg4 arg5 harg5 arg6 harg6 arg7 harg7 arg8 harg8 arg9 harg9 arg10 harg10 arg11 harg11) K } := by
  refine ⟨?_, fun E K f8 f9 f10 f11 => ?run⟩
  case run =>
    simp only [cc0_attention_eq_skeleton]; unfold cc0_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%d4, %f4, -, H4⟩, S8, S9, S10, S11, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [S8]; · iexists _; iexact S8
    isplitl [S9]; · iexists _; iexact S9
    isplitl [S10]; · iexists _; iexact S10
    iexists _; iexact S11

end Cert.KernelIdeal.Attn

end
-- ==== Proof.AttnVal.lean ====
module

public import proofs.«01_k».proof.Proof.AttnRunB
public import Idealize.ShloMosaic.Lib.Pipeline.Value
public import Idealize.ShloMosaic.Lib.Pipeline.ValueKit

/-! What the attention body computes from its blocks, as functions of the blocks -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The functions -/

/-- The bound, read off its one-word block. -/
def bnd (x0 : Vec F S1 .f32) : F .f32 :=
  View.ld x0 (Rect.unit (s := S1) ![0] S1.size inb_S1_S1_0) (Shape.Idx.first (numel1_S1.symm ▸ Nat.one_pos))

/-- The four query heads of the group, one under the other. -/
def qRows (x1 : Vec F S1x512x256 .bf16) : FVec F S2048x64 .bf16 :=
  k0_pay1 (View.ld x1 (Rect.unit (s := S1x512x256) ![0, 0, 0] S1x512x64.size inb_S1x512x256_S1x512x64_0_0_0))
    (View.ld x1 (Rect.unit (s := S1x512x256) ![0, 0, 64] S1x512x64.size inb_S1x512x256_S1x512x64_0_0_64))
    (View.ld x1 (Rect.unit (s := S1x512x256) ![0, 0, 128] S1x512x64.size inb_S1x512x256_S1x512x64_0_0_128))
    (View.ld x1 (Rect.unit (s := S1x512x256) ![0, 0, 192] S1x512x64.size inb_S1x512x256_S1x512x64_0_0_192))

theorem kCh_inb (c : ℕ) : ∀ a, (![0, 0, c % 11, 0, 0] : Fin 5 → ℕ) a + S1x1x1x768x64.size a ≤ S1x1x11x768x64.size a := by
  have := Nat.mod_lt c (by decide : 0 < 11)
  intro a; fin_cases a <;> simp [S1x1x1x768x64, S1x1x11x768x64] <;> omega

theorem vCh_inb (c : ℕ) : ∀ a, (![0, 0, c % 11, 0, 0] : Fin 5 → ℕ) a + S1x1x1x80x768.size a ≤ S1x1x11x80x768.size a := by
  have := Nat.mod_lt c (by decide : 0 < 11)
  intro a; fin_cases a <;> simp [S1x1x1x80x768, S1x1x11x80x768] <;> omega

/-- Key chunk `c` of the block. -/
def kCh (x2 : Vec F S1x1x11x768x64 .bf16) (c : ℕ) : Vec F S1x1x1x768x64 .bf16 :=
  View.ld x2 (Rect.unit (s := S1x1x11x768x64) ![0, 0, c % 11, 0, 0] S1x1x1x768x64.size (kCh_inb c))

/-- Value chunk `c` of the block, with its row of ones and its rows of zeros. -/
def vCh (x3 : Vec F S1x1x11x80x768 .bf16) (c : ℕ) : Vec F S1x1x1x80x768 .bf16 :=
  View.ld x3 (Rect.unit (s := S1x1x11x80x768) ![0, 0, c % 11, 0, 0] S1x1x1x80x768.size (vCh_inb c))

/-- The accumulator after `n` chunks at one fixed shift `w`. -/
def fixAcc (w : F .f32) (q : FVec F S2048x64 .bf16) (x2 : Vec F S1x1x11x768x64 .bf16) (x3 : Vec F S1x1x11x80x768 .bf16) : ℕ → FVec F S80x2048 .f32
  | 0 => k0_pay2
  | n + 1 => k0_pay6 q w (kCh x2 n) (fixAcc w q x2 x3 n) (vCh x3 n)

/-- The running maximum and the accumulator, one chunk further: the chunk's scores, their maxima, the new maximum,
    the old accumulator rescaled to it and the chunk's contribution. -/
def runStep (q : FVec F S2048x64 .bf16) (k : Vec F S1x1x1x768x64 .bf16) (v : Vec F S1x1x1x80x768 .bf16)
    (st : FVec F S1x2048 .f32 × FVec F S80x2048 .f32) : FVec F S1x2048 .f32 × FVec F S80x2048 .f32 :=
  (k0_pay36 (k0_pay32 st.1 (k0_pay44 q k)),
    k0_pay35 (k0_pay33 st.1 (k0_pay44 q k) (k0_pay43 q k)) (k0_pay34 st.1 (k0_pay44 q k) st.2) v)

/-- The running maximum and the accumulator after `n` chunks. -/
def runSt (q : FVec F S2048x64 .bf16) (x2 : Vec F S1x1x11x768x64 .bf16) (x3 : Vec F S1x1x11x80x768 .bf16) : ℕ → FVec F S1x2048 .f32 × FVec F S80x2048 .f32
  | 0 => (k0_pay41, k0_pay2)
  | n + 1 => runStep q (kCh x2 n) (vCh x3 n) (runSt q x2 x3 n)

/-- The accumulator's rows that carry the values. -/
def topRows (a : FVec F S80x2048 .f32) : Vec F S64x2048 .f32 :=
  View.ld a (Rect.unit (s := S80x2048) ![0, 0] S64x2048.size inb_S80x2048_S64x2048_0_0)
/-- The accumulator's row that carries the sum of the weights. -/
def sumRow (a : FVec F S80x2048 .f32) : Vec F S1x2048 .f32 :=
  View.ld a (Rect.unit (s := S80x2048) ![64, 0] S1x2048.size inb_S80x2048_S1x2048_64_0)

/-- The four stores of the output block, last first. -/
def outPieces (a : FVec F S80x2048 .f32) : List (View.Piece (Elt F) S1x512x256 .bf16) :=
  [⟨Rect.unit (s := S1x512x256) ![0, 0, 192] S1x512x64.size inb_S1x512x256_S1x512x64_0_0_192, k0_pay28 (topRows a) (sumRow a)⟩,
   ⟨Rect.unit (s := S1x512x256) ![0, 0, 128] S1x512x64.size inb_S1x512x256_S1x512x64_0_0_128, k0_pay27 (topRows a) (sumRow a)⟩,
   ⟨Rect.unit (s := S1x512x256) ![0, 0, 64] S1x512x64.size inb_S1x512x256_S1x512x64_0_0_64, k0_pay26 (topRows a) (sumRow a)⟩,
   ⟨Rect.unit (s := S1x512x256) ![0, 0, 0] S1x512x64.size inb_S1x512x256_S1x512x64_0_0_0, k0_pay25 (topRows a) (sumRow a)⟩]

/-- The output block an accumulator ends in. -/
def outOf (a : FVec F S80x2048 .f32) : Vec F S1x512x256 .bf16 := View.canon (outPieces a)

/-- The four stores cover the block. -/
theorem outPieces_cover (a : FVec F S80x2048 .f32) (y : S1x512x256.Idx) : ∃ p ∈ outPieces a, y ∈ p.1.set := by
  exact View.cover_of_tiledL (outPieces a) S1x512x64.size (by sl_kernel_rfl) y

/-! ## The payloads the chunks share -/

theorem pay78 (q : FVec F S2048x64 .bf16) (w : F .f32) (k a v) : k0_pay8 (k0_pay7 q w k a v) = k0_pay6 q w k a v := rfl
theorem pay9 : @k0_pay9 F _ = k0_pay6 := rfl
theorem pay13 (q : FVec F S2048x64 .bf16) (w : F .f32) (k a v) :
    k0_pay13 (k0_pay10 q k) a (k0_pay11 v) (k0_pay12 w) = k0_pay6 q w k a v := rfl
theorem pay14 : @k0_pay14 F _ = k0_pay6 := rfl
theorem pay16 (q : FVec F S2048x64 .bf16) (w : F .f32) (k a v) : k0_pay16 w (k0_pay15 q k) a v = k0_pay6 q w k a v := rfl
theorem pay17 : @k0_pay17 F _ = k0_pay6 := rfl
theorem pay20 : @k0_pay20 F _ = k0_pay6 := rfl
theorem pay21 : @k0_pay21 F _ = k0_pay6 := rfl
theorem pay223 (q : FVec F S2048x64 .bf16) (w : F .f32) (k a v) : k0_pay23 (k0_pay22 q w k a v) = k0_pay6 q w k a v := rfl

theorem hz2 : (![0, 0] : Fin 2 → ℕ) = fun _ => 0 := funext fun a => by fin_cases a <;> rfl

/-- A load through any rectangle, after a store of the whole buffer, reads the stored value there. -/
theorem readCov_whole_store {S : Shape} {e : EltTy} {κ : Kind} {sp : Space} (v : View sig κ sp S e) {off : Fin S.rank → ℕ} (h : off = fun _ => 0)
    (inb : ∀ a, off a + S.size a ≤ S.size a) (w : S.Idx → Elt F e) (L : List (View.Piece (Elt F) S e)) (r : Rect S) :
    v.readCov ((⟨Rect.unit off S.size inb, w⟩ : View.Piece (Elt F) S e) :: L) r.toLoadRect = View.ld w r := by
  rw [View.readCov_eq_canon', View.canon_cons_unit_zero h]

/-! ## The fixed-shift case -/

theorem listA (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x1x11x768x64 .bf16) (harg5 : arg5.IsWhole) (arg6 : Memref sig .tc .vmem S1x1x11x80x768 .bf16) (harg6 : arg6.IsWhole) (arg7 : Memref sig .tc .vmem S1x512x256 .bf16) (harg7 : arg7.IsWhole) (arg8 : Memref sig .tc .vmem S2x768x2048 .f32) (harg8 : arg8.IsWhole) (arg9 : Memref sig .tc .vmem S2x1x2048 .f32) (harg9 : arg9.IsWhole) (arg10 : Memref sig .tc .vmem S1x2048 .f32) (harg10 : arg10.IsWhole) (arg11 : Memref sig .tc .vmem S80x2048 .f32) (harg11 : arg11.IsWhole)
    (x0 : Vec F S1 .f32) (x1 : Vec F S1x512x256 .bf16) (x2 : Vec F S1x1x11x768x64 .bf16) (x3 : Vec F S1x1x11x80x768 .bf16) (hc0 : condFix (View.readAt (Elt F) arg3.view (Rect.unit (s := S1) ![0] S1.size inb_S1_S1_0).toLoadRect (harg3.unread x0) (Shape.Idx.first (numel1_S1.symm ▸ Nat.one_pos))))
    (hc1 : ¬ condRun (View.readAt (Elt F) arg3.view (Rect.unit (s := S1) ![0] S1.size inb_S1_S1_0).toLoadRect (harg3.unread x0) (Shape.Idx.first (numel1_S1.symm ▸ Nat.one_pos)))) (f8 : BufTy.Contents (Elt F) arg8.view.ty) (f9 : BufTy.Contents (Elt F) arg9.view.ty) (f10 : BufTy.Contents (Elt F) arg10.view.ty) (f11 : BufTy.Contents (Elt F) arg11.view.ty) :
    (runA c i arg3 harg3 arg4 harg4 arg5 harg5 arg6 harg6 arg7 harg7 arg8 harg8 arg9 harg9 arg10 harg10 arg11 harg11 x0 x1 x2 x3 hc0 hc1).1 f8 f9 f10 f11 = outPieces (fixAcc (bnd x0) (qRows x1) x2 x3 11) := by
  unfold runA; dsimp only
  sl_unfold_words
  simp only [View.readAt_eq_ld, harg3.read_unread, harg4.read_unread, harg5.read_unread, harg6.read_unread]
  simp only [readCov_whole_store (F := F) (S := S80x2048) _ hz2]
  simp only [View.ld_unit_zero (S := S80x2048) hz2]
  simp only [pay78, pay9, pay13, pay14, pay16, pay17, pay20, pay21, pay223]
  rfl

end Cert.KernelIdeal.Attn

end
-- ==== Proof.AttnLoop.lean ====
module

public import proofs.«01_k».proof.Proof.AttnVal
public import Idealize.ShloMosaic.Lib.Pipeline.Value
public import Idealize.ShloMosaic.Lib.Pipeline.ValueKit

/-! One trip of the running-maximum loop, and the loop -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading back what a trip stored -/

/-- A load of the second last store's own rectangle, where the last store is elsewhere. -/
theorem readCov_second {S : Shape} {e : EltTy} {κ : Kind} {sp : Space} (v : View sig κ sp S e) (r r' : Rect S) (h : LoadRect.disj r r'.toLoadRect = true)
    (w : r.shape.Idx → Elt F e) (w' : r'.shape.Idx → Elt F e) (L : List (View.Piece (Elt F) S e)) :
    v.readCov ((⟨r, w⟩ : View.Piece (Elt F) S e) :: ⟨r', w'⟩ :: L) r'.toLoadRect = w' := by
  rw [View.readCov_eq_canon']
  funext j
  exact (View.canon_cons_of_not_mem _ _ (LoadRect.idx_not_mem_of_disj h j)).trans (View.canon_cons_emb r' w' L j)

/-- A load of the last store's own rectangle, whatever was there before. -/
theorem readAt_writes_head {S : Shape} {e : EltTy} {κ : Kind} {sp : Space} (v : View sig κ sp S e) (f : v.ty.Contents (Elt F)) (r : Rect S)
    (w : r.shape.Idx → Elt F e) (L : List (View.Piece (Elt F) S e)) :
    v.readAt (Elt F) r.toLoadRect (v.writes (Elt F) f ((⟨r, w⟩ : View.Piece (Elt F) S e) :: L)) = w := by
  rw [View.readAt_writes_of_cover v f _ _ (fun j => ⟨_, List.mem_cons_self, r.toLoadRect.idx_mem j⟩), View.readCov_cons_toLoadRect]

/-- The score block a chunk of keys starts, in its slot. -/
abbrev slot8 : Rect S2x768x2048 := Rect.unit (s := S2x768x2048) ![0, 0, 0] S1x768x2048.size inb_S2x768x2048_S1x768x2048_0_0_0
abbrev slot9 : Rect S2x1x2048 := Rect.unit (s := S2x1x2048) ![0, 0, 0] S1x1x2048.size inb_S2x1x2048_S1x1x2048_0_0_0
abbrev slot10 : Rect S1x2048 := Rect.unit (s := S1x2048) ![0, 0] S1x2048.size inb_S1x2048_S1x2048_0_0
abbrev slot11 : Rect S80x2048 := Rect.unit (s := S80x2048) ![0, 0] S80x2048.size inb_S80x2048_S80x2048_0_0

theorem kCh_of (x2 : Vec F S1x1x11x768x64 .bf16) (n : ℕ) (off : Fin 5 → ℕ) (h : off = ![0, 0, n % 11, 0, 0]) (inb : ∀ a, off a + S1x1x1x768x64.size a ≤ S1x1x11x768x64.size a) :
    View.ld x2 (Rect.unit (s := S1x1x11x768x64) off S1x1x1x768x64.size inb) = kCh x2 n := by subst h; rfl

theorem vCh_of (x3 : Vec F S1x1x11x80x768 .bf16) (n : ℕ) (off : Fin 5 → ℕ) (h : off = ![0, 0, n % 11, 0, 0]) (inb : ∀ a, off a + S1x1x1x80x768.size a ≤ S1x1x11x80x768.size a) :
    View.ld x3 (Rect.unit (s := S1x1x11x80x768) off S1x1x1x80x768.size inb) = vCh x3 n := by subst h; rfl

theorem chunk_a (k : ℕ) (hk : k < 5) : (![0, 0, BitVec.toNat (Scalar.indexCast (Scalar.addi (Scalar.muli (2#32) (Scf.iv 0#32 1#32 k)) 1#32)), 0, 0] : Fin 5 → ℕ) = ![0, 0, (2 * k + 1) % 11, 0, 0] := by
  interval_cases k <;> rfl
theorem chunk_b (k : ℕ) (hk : k < 5) : (![0, 0, BitVec.toNat (Scalar.indexCast (Scalar.addi (Scalar.muli (2#32) (Scf.iv 0#32 1#32 k)) 2#32)), 0, 0] : Fin 5 → ℕ) = ![0, 0, (2 * k + 2) % 11, 0, 0] := by
  interval_cases k <;> rfl
theorem chunk_c (k : ℕ) (hk : k < 5) : (![0, 0, BitVec.toNat (Scalar.indexCast (Scalar.muli (2#32) (Scf.iv 0#32 1#32 k))), 0, 0] : Fin 5 → ℕ) = ![0, 0, (2 * k) % 11, 0, 0] := by
  interval_cases k <;> rfl

/-- A step from scores already computed. -/
def stepOf (s : Vec F S1x768x2048 .f32) (x : Vec F S1x1x2048 .f32) (v : Vec F S1x1x1x80x768 .bf16)
    (st : FVec F S1x2048 .f32 × FVec F S80x2048 .f32) : FVec F S1x2048 .f32 × FVec F S80x2048 .f32 :=
  (k0_pay36 (k0_pay32 st.1 x), k0_pay35 (k0_pay33 st.1 x s) (k0_pay34 st.1 x st.2) v)

theorem runStep_eq (q : FVec F S2048x64 .bf16) (k v st) : runStep (F := F) q k v st = stepOf (k0_pay43 q k) (k0_pay44 q k) v st := rfl

section
variable (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x1x11x768x64 .bf16) (harg5 : arg5.IsWhole) (arg6 : Memref sig .tc .vmem S1x1x11x80x768 .bf16) (harg6 : arg6.IsWhole) (arg7 : Memref sig .tc .vmem S1x512x256 .bf16) (harg7 : arg7.IsWhole) (arg8 : Memref sig .tc .vmem S2x768x2048 .f32) (harg8 : arg8.IsWhole) (arg9 : Memref sig .tc .vmem S2x1x2048 .f32) (harg9 : arg9.IsWhole) (arg10 : Memref sig .tc .vmem S1x2048 .f32) (harg10 : arg10.IsWhole) (arg11 : Memref sig .tc .vmem S80x2048 .f32) (harg11 : arg11.IsWhole)
  (q : FVec F S2048x64 .bf16) (x2 : Vec F S1x1x11x768x64 .bf16) (x3 : Vec F S1x1x11x80x768 .bf16)

/-- One trip: it takes the two buffers through two steps and leaves the next chunk's scores in the first slot. -/
theorem trip_heads (k : Fin k0_t1_loop.trips) (hk : k.val < 5) (g8 : BufTy.Contents (Elt F) arg8.view.ty) (g9 : BufTy.Contents (Elt F) arg9.view.ty) (g10 : BufTy.Contents (Elt F) arg10.view.ty) (g11 : BufTy.Contents (Elt F) arg11.view.ty) (st : FVec F S1x2048 .f32 × FVec F S80x2048 .f32)
    (h8 : View.ld (View.read (Elt F) arg8.view g8) slot8 = k0_pay43 q (kCh x2 (2 * k.val))) (h9 : View.ld (View.read (Elt F) arg9.view g9) slot9 = k0_pay44 q (kCh x2 (2 * k.val)))
    (h10 : View.ld (View.read (Elt F) arg10.view g10) slot10 = st.1) (h11 : View.ld (View.read (Elt F) arg11.view g11) slot11 = st.2) :
    ∃ r8 r9 r10 r11, tripL_k0_t1 (F := F) Variants.none c none i arg3 harg3 arg4 harg4 arg5 harg5 arg6 harg6 arg7 harg7 arg8 harg8 arg9 harg9 arg10 harg10 arg11 harg11 q (harg5.unread x2) (harg6.unread x3) k g8 g9 g10 g11
      = (⟨slot8, k0_pay43 q (kCh x2 (2 * k.val + 2))⟩ :: r8, ⟨slot9, k0_pay44 q (kCh x2 (2 * k.val + 2))⟩ :: r9,
         ⟨slot10, (runStep q (kCh x2 (2 * k.val + 1)) (vCh x3 (2 * k.val + 1)) (runStep q (kCh x2 (2 * k.val)) (vCh x3 (2 * k.val)) st)).1⟩ :: r10,
         ⟨slot11, (runStep q (kCh x2 (2 * k.val + 1)) (vCh x3 (2 * k.val + 1)) (runStep q (kCh x2 (2 * k.val)) (vCh x3 (2 * k.val)) st)).2⟩ :: r11) := by
  refine ⟨?r8, ?r9, ?r10, ?r11, ?_⟩
  rotate_left 4
  unfold tripL_k0_t1 trip_k0_t1
  dsimp only
  sl_unfold_words
  simp only [View.readAt_eq_ld, harg5.read_unread, harg6.read_unread]
  rw [readCov_second (F := F) arg8.view _ _ (by decide), readCov_second (F := F) arg9.view _ _ (by decide)]
  simp only [View.readCov_cons_toLoadRect, h8, h9, h10, h11]
  rw [← kCh_of x2 (2 * k.val + 1) _ (chunk_a k.val hk) (by rw [chunk_a k.val hk]; exact kCh_inb _),
    ← kCh_of x2 (2 * k.val + 2) _ (chunk_b k.val hk) (by rw [chunk_b k.val hk]; exact kCh_inb _),
    ← vCh_of x3 (2 * k.val) _ (chunk_c k.val hk) (by rw [chunk_c k.val hk]; exact vCh_inb _),
    ← vCh_of x3 (2 * k.val + 1) _ (chunk_a k.val hk) (by rw [chunk_a k.val hk]; exact vCh_inb _)]
  rfl

theorem trips_eq : k0_t1_loop.trips = 5 := by decide

/-- What the buffers hold before trip `n`. -/
theorem loop_inv (g8 : BufTy.Contents (Elt F) arg8.view.ty) (g9 : BufTy.Contents (Elt F) arg9.view.ty) (g10 : BufTy.Contents (Elt F) arg10.view.ty) (g11 : BufTy.Contents (Elt F) arg11.view.ty)
    (h8 : View.ld (View.read (Elt F) arg8.view g8) slot8 = k0_pay43 q (kCh x2 0)) (h9 : View.ld (View.read (Elt F) arg9.view g9) slot9 = k0_pay44 q (kCh x2 0))
    (h10 : View.ld (View.read (Elt F) arg10.view g10) slot10 = k0_pay41) (h11 : View.ld (View.read (Elt F) arg11.view g11) slot11 = k0_pay2) (n : ℕ) (hn : n ≤ 5) :
    View.ld (View.read (Elt F) arg8.view (arg8.view.writes (Elt F) g8 (pb_k0_t1 (F := F) Variants.none c none i arg3 harg3 arg4 harg4 arg5 harg5 arg6 harg6 arg7 harg7 arg8 harg8 arg9 harg9 arg10 harg10 arg11 harg11 q (harg5.unread x2) (harg6.unread x3) g8 g9 g10 g11 n).1)) slot8 = k0_pay43 q (kCh x2 (2 * n))
    ∧ View.ld (View.read (Elt F) arg9.view (arg9.view.writes (Elt F) g9 (pb_k0_t1 (F := F) Variants.none c none i arg3 harg3 arg4 harg4 arg5 harg5 arg6 harg6 arg7 harg7 arg8 harg8 arg9 harg9 arg10 harg10 arg11 harg11 q (harg5.unread x2) (harg6.unread x3) g8 g9 g10 g11 n).2.1)) slot9 = k0_pay44 q (kCh x2 (2 * n))
    ∧ View.ld (View.read (Elt F) arg10.view (arg10.view.writes (Elt F) g10 (pb_k0_t1 (F := F) Variants.none c none i arg3 harg3 arg4 harg4 arg5 harg5 arg6 harg6 arg7 harg7 arg8 harg8 arg9 harg9 arg10 harg10 arg11 harg11 q (harg5.unread x2) (harg6.unread x3) g8 g9 g10 g11 n).2.2.1)) slot10 = (runSt q x2 x3 (2 * n)).1
    ∧ View.ld (View.read (Elt F) arg11.view (arg11.view.writes (Elt F) g11 (pb_k0_t1 (F := F) Variants.none c none i arg3 harg3 arg4 harg4 arg5 harg5 arg6 harg6 arg7 harg7 arg8 harg8 arg9 harg9 arg10 harg10 arg11 harg11 q (harg5.unread x2) (harg6.unread x3) g8 g9 g10 g11 n).2.2.2)) slot11 = (runSt q x2 x3 (2 * n)).2 := by
  induction n with
  | zero => exact ⟨h8, h9, h10, h11⟩
  | succ n ih =>
    obtain ⟨e8, e9, e10, e11⟩ := ih (by omega)
    obtain ⟨r8, r9, r10, r11, e⟩ := trip_heads c i arg3 harg3 arg4 harg4 arg5 harg5 arg6 harg6 arg7 harg7 arg8 harg8 arg9 harg9 arg10 harg10 arg11 harg11 q x2 x3 ⟨n, by rw [trips_eq]; omega⟩ (by show n < 5; omega) _ _ _ _ (runSt q x2 x3 (2 * n)) e8 e9 e10 e11
    have s := pb_k0_t1_succ (F := F) Variants.none c none i arg3 harg3 arg4 harg4 arg5 harg5 arg6 harg6 arg7 harg7 arg8 harg8 arg9 harg9 arg10 harg10 arg11 harg11 q (harg5.unread x2) (harg6.unread x3) g8 g9 g10 g11 ⟨n, by rw [trips_eq]; omega⟩
    rw [e] at s
    dsimp only at s
    rw [s]
    exact ⟨readAt_writes_head _ _ _ _ _, readAt_writes_head _ _ _ _ _, readAt_writes_head _ _ _ _ _, readAt_writes_head _ _ _ _ _⟩

/-- The stores after the loop's last trip: the last one in each buffer. -/
theorem loop_heads (g8 : BufTy.Contents (Elt F) arg8.view.ty) (g9 : BufTy.Contents (Elt F) arg9.view.ty) (g10 : BufTy.Contents (Elt F) arg10.view.ty) (g11 : BufTy.Contents (Elt F) arg11.view.ty)
    (h8 : View.ld (View.read (Elt F) arg8.view g8) slot8 = k0_pay43 q (kCh x2 0)) (h9 : View.ld (View.read (Elt F) arg9.view g9) slot9 = k0_pay44 q (kCh x2 0))
    (h10 : View.ld (View.read (Elt F) arg10.view g10) slot10 = k0_pay41) (h11 : View.ld (View.read (Elt F) arg11.view g11) slot11 = k0_pay2) :
    ∃ r8 r9 r10 r11, pb_k0_t1 (F := F) Variants.none c none i arg3 harg3 arg4 harg4 arg5 harg5 arg6 harg6 arg7 harg7 arg8 harg8 arg9 harg9 arg10 harg10 arg11 harg11 q (harg5.unread x2) (harg6.unread x3) g8 g9 g10 g11 k0_t1_loop.trips
      = (⟨slot8, k0_pay43 q (kCh x2 10)⟩ :: r8, ⟨slot9, k0_pay44 q (kCh x2 10)⟩ :: r9,
         ⟨slot10, (runSt q x2 x3 10).1⟩ :: r10, ⟨slot11, (runSt q x2 x3 10).2⟩ :: r11) := by
  obtain ⟨e8, e9, e10, e11⟩ := loop_inv c i arg3 harg3 arg4 harg4 arg5 harg5 arg6 harg6 arg7 harg7 arg8 harg8 arg9 harg9 arg10 harg10 arg11 harg11 q x2 x3 g8 g9 g10 g11 h8 h9 h10 h11 4 (by omega)
  obtain ⟨r8, r9, r10, r11, e⟩ := trip_heads c i arg3 harg3 arg4 harg4 arg5 harg5 arg6 harg6 arg7 harg7 arg8 harg8 arg9 harg9 arg10 harg10 arg11 harg11 q x2 x3 ⟨4, by rw [trips_eq]; omega⟩ (by decide) _ _ _ _ (runSt q x2 x3 (2 * 4)) e8 e9 e10 e11
  have s := pb_k0_t1_succ (F := F) Variants.none c none i arg3 harg3 arg4 harg4 arg5 harg5 arg6 harg6 arg7 harg7 arg8 harg8 arg9 harg9 arg10 harg10 arg11 harg11 q (harg5.unread x2) (harg6.unread x3) g8 g9 g10 g11 ⟨4, by rw [trips_eq]; omega⟩
  rw [e] at s
  exact ⟨_, _, _, _, (congrArg (pb_k0_t1 (F := F) Variants.none c none i arg3 harg3 arg4 harg4 arg5 harg5 arg6 harg6 arg7 harg7 arg8 harg8 arg9 harg9 arg10 harg10 arg11 harg11 q (harg5.unread x2) (harg6.unread x3) g8 g9 g10 g11 ·) trips_eq).trans s⟩

end

end Cert.KernelIdeal.Attn

end
-- ==== Proof.AttnRunning.lean ====
module

public import proofs.«01_k».proof.Proof.AttnLoop
public import Idealize.ShloMosaic.Lib.Pipeline.Value
public import Idealize.ShloMosaic.Lib.Pipeline.ValueKit

/-! The running-maximum case -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem listB (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x1x11x768x64 .bf16) (harg5 : arg5.IsWhole) (arg6 : Memref sig .tc .vmem S1x1x11x80x768 .bf16) (harg6 : arg6.IsWhole) (arg7 : Memref sig .tc .vmem S1x512x256 .bf16) (harg7 : arg7.IsWhole) (arg8 : Memref sig .tc .vmem S2x768x2048 .f32) (harg8 : arg8.IsWhole) (arg9 : Memref sig .tc .vmem S2x1x2048 .f32) (harg9 : arg9.IsWhole) (arg10 : Memref sig .tc .vmem S1x2048 .f32) (harg10 : arg10.IsWhole) (arg11 : Memref sig .tc .vmem S80x2048 .f32) (harg11 : arg11.IsWhole)
    (x0 : Vec F S1 .f32) (x1 : Vec F S1x512x256 .bf16) (x2 : Vec F S1x1x11x768x64 .bf16) (x3 : Vec F S1x1x11x80x768 .bf16) (hc0 : ¬ condFix (View.readAt (Elt F) arg3.view (Rect.unit (s := S1) ![0] S1.size inb_S1_S1_0).toLoadRect (harg3.unread x0) (Shape.Idx.first (numel1_S1.symm ▸ Nat.one_pos))))
    (hc1 : condRun (View.readAt (Elt F) arg3.view (Rect.unit (s := S1) ![0] S1.size inb_S1_S1_0).toLoadRect (harg3.unread x0) (Shape.Idx.first (numel1_S1.symm ▸ Nat.one_pos)))) (f8 : BufTy.Contents (Elt F) arg8.view.ty) (f9 : BufTy.Contents (Elt F) arg9.view.ty) (f10 : BufTy.Contents (Elt F) arg10.view.ty) (f11 : BufTy.Contents (Elt F) arg11.view.ty) :
    (runB c i arg3 harg3 arg4 harg4 arg5 harg5 arg6 harg6 arg7 harg7 arg8 harg8 arg9 harg9 arg10 harg10 arg11 harg11 x0 x1 x2 x3 hc0 hc1).1 f8 f9 f10 f11 = outPieces ((runSt (qRows x1) x2 x3 11).2) := by
  unfold runB; dsimp only
  sl_unfold_words
  simp only [View.readAt_eq_ld, harg3.read_unread, harg4.read_unread, harg5.read_unread, harg6.read_unread]
  generalize hP : pb_k0_t1 (F := F) Variants.none c none i arg3 harg3 arg4 harg4 arg5 harg5 arg6 harg6 arg7 harg7 arg8 harg8 arg9 harg9 arg10 harg10 arg11 harg11 _ _ _ _ _ _ _ _ = P
  obtain ⟨r8, r9, r10, r11, e⟩ := loop_heads c i arg3 harg3 arg4 harg4 arg5 harg5 arg6 harg6 arg7 harg7 arg8 harg8 arg9 harg9 arg10 harg10 arg11 harg11 (qRows x1) x2 x3
    (arg8.view.writes (Elt F) f8 [⟨slot8, k0_pay43 (qRows x1) (kCh x2 0)⟩]) (arg9.view.writes (Elt F) f9 [⟨slot9, k0_pay44 (qRows x1) (kCh x2 0)⟩])
    (arg10.view.writes (Elt F) arg10.view.junk [⟨slot10, k0_pay41⟩]) (arg11.view.writes (Elt F) arg11.view.junk [⟨slot11, k0_pay2⟩])
    (readAt_writes_head _ _ _ _ _) (readAt_writes_head _ _ _ _ _) (readAt_writes_head _ _ _ _ _) (readAt_writes_head _ _ _ _ _)
  have e' := hP.symm.trans e
  subst e'
  clear e hP
  dsimp only
  simp only [List.cons_append, View.readCov_cons_toLoadRect]
  simp only [readCov_whole_store (F := F) (S := S80x2048) _ hz2]
  rfl

end Cert.KernelIdeal.Attn

end
-- ==== Proof.AttnFrame.lean ====
module

public import proofs.«01_k».proof.Proof.AttnRunning
public import proofs.«01_k».proof.Proof.AttnRunA
public import Idealize.ShloMosaic.Lib.Claim
public import Idealize.ShloMosaic.Lib.Pipeline.Value
public import Idealize.ShloMosaic.Lib.Pipeline.ValueKit

/-! The attention kernel: what it leaves in memory, point by point, and its frame -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second branch is taken where the first is not. -/
theorem condRun_iff (w : F .f32) : condRun w ↔ ¬ condFix w := by
  unfold condRun condFix
  generalize Scalar.cmpf .ole (k0_pay3 w) (FloatOps.ofBits FTy.f32 1123024896#32) = b
  revert b; decide

/-- The output block as a function of the input blocks. -/
def attnOut (x0 : Vec F S1 .f32) (x1 : Vec F S1x512x256 .bf16) (x2 : Vec F S1x1x11x768x64 .bf16) (x3 : Vec F S1x1x11x80x768 .bf16) : Vec F S1x512x256 .bf16 :=
  open Classical in if condFix (bnd x0) then outOf (fixAcc (bnd x0) (qRows x1) x2 x3 11) else outOf (runSt (qRows x1) x2 x3 11).2

/-- The body from its blocks: the inputs stay, the output block is `attnOut` of them, the scratch buffers end at something. -/
theorem body_run (c : Dev nD) (i : grid0.Coords) (arg3 : Memref sig .tc .smem S1 .f32) (harg3 : arg3.IsWhole) (arg4 : Memref sig .tc .vmem S1x512x256 .bf16) (harg4 : arg4.IsWhole) (arg5 : Memref sig .tc .vmem S1x1x11x768x64 .bf16) (harg5 : arg5.IsWhole) (arg6 : Memref sig .tc .vmem S1x1x11x80x768 .bf16) (harg6 : arg6.IsWhole) (arg7 : Memref sig .tc .vmem S1x512x256 .bf16) (harg7 : arg7.IsWhole) (arg8 : Memref sig .tc .vmem S2x768x2048 .f32) (harg8 : arg8.IsWhole) (arg9 : Memref sig .tc .vmem S2x1x2048 .f32) (harg9 : arg9.IsWhole) (arg10 : Memref sig .tc .vmem S1x2048 .f32) (harg10 : arg10.IsWhole) (arg11 : Memref sig .tc .vmem S80x2048 .f32) (harg11 : arg11.IsWhole)
    (x0 : Vec F S1 .f32) (x1 : Vec F S1x512x256 .bf16) (x2 : Vec F S1x1x11x768x64 .bf16) (x3 : Vec F S1x1x11x80x768 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (attnOut x0 x1 x2 x3) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11) K := by
  have hb : (View.readAt (Elt F) arg3.view (Rect.unit (s := S1) ![0] S1.size inb_S1_S1_0).toLoadRect (harg3.unread x0) (Shape.Idx.first (numel1_S1.symm ▸ Nat.one_pos))) = bnd x0 := by
    rw [View.readAt_eq_ld, harg3.read_unread]; rfl
  by_cases h : condFix (bnd x0)
  · have h' : condFix (View.readAt (Elt F) arg3.view (Rect.unit (s := S1) ![0] S1.size inb_S1_S1_0).toLoadRect (harg3.unread x0) (Shape.Idx.first (numel1_S1.symm ▸ Nat.one_pos))) := by rw [hb]; exact h
    have h1 : ¬ condRun (View.readAt (Elt F) arg3.view (Rect.unit (s := S1) ![0] S1.size inb_S1_S1_0).toLoadRect (harg3.unread x0) (Shape.Idx.first (numel1_S1.symm ▸ Nat.one_pos))) := fun hr => (condRun_iff _).mp hr h'
    refine (show _ ⊢ _ from ?_)
    unfold attnOut; rw [if_pos h]
    iintro ⟨H0, H1, H2, H3, H4, ⟨%d8, S8⟩, ⟨%d9, S9⟩, ⟨%d10, S10⟩, ⟨%d11, S11⟩, Hk⟩
    unfold owns
    icases S8 with ⟨%f8, -, S8⟩
    icases S9 with ⟨%f9, -, S9⟩
    icases S10 with ⟨%f10, -, S10⟩
    icases S11 with ⟨%f11, -, S11⟩
    iapply ((runA c i arg3 harg3 arg4 harg4 arg5 harg5 arg6 harg6 arg7 harg7 arg8 harg8 arg9 harg9 arg10 harg10 arg11 harg11 x0 x1 x2 x3 h' h1).2 E K f8 f9 f10 f11)
    unfold owns
    isplitl [H0]; · iexact H0
    isplitl [H1]; · iexact H1
    isplitl [H2]; · iexact H2
    isplitl [H3]; · iexact H3
    isplitl [H4]; · iexact H4
    isplitl [S8]; · iexact S8
    isplitl [S9]; · iexact S9
    isplitl [S10]; · iexact S10
    isplitl [S11]; · iexact S11
    iintro ⟨H0, H1, H2, H3, ⟨%g7, H4⟩, ⟨%g8, S8⟩, ⟨%g9, S9⟩, ⟨%g10, S10⟩, ⟨%g11, S11⟩⟩
    iapply Hk
    isplitl [H0]; · iexact H0
    isplitl [H1]; · iexact H1
    isplitl [H2]; · iexact H2
    isplitl [H3]; · iexact H3
    isplitl [H4]
    · iexists _; isplitr
      swap; · iexact H4
      ipureintro
      rw [listA]
      exact View.read_writes_eq_canon _ _ _ (outPieces_cover _)
    isplitl [S8]; · iexists _; iexists _; isplitr; swap; · iexact S8
                    ipureintro; rfl
    isplitl [S9]; · iexists _; iexists _; isplitr; swap; · iexact S9
                    ipureintro; rfl
    isplitl [S10]; · iexists _; iexists _; isplitr; swap; · iexact S10
                     ipureintro; rfl
    iexists _; iexists _; isplitr; swap; · iexact S11
    ipureintro; rfl

  · have h' : ¬ condFix (View.readAt (Elt F) arg3.view (Rect.unit (s := S1) ![0] S1.size inb_S1_S1_0).toLoadRect (harg3.unread x0) (Shape.Idx.first (numel1_S1.symm ▸ Nat.one_pos))) := by rw [hb]; exact h
    have h1 : condRun (View.readAt (Elt F) arg3.view (Rect.unit (s := S1) ![0] S1.size inb_S1_S1_0).toLoadRect (harg3.unread x0) (Shape.Idx.first (numel1_S1.symm ▸ Nat.one_pos))) := (condRun_iff _).mpr h'
    refine (show _ ⊢ _ from ?_)
    unfold attnOut; rw [if_neg h]
    iintro ⟨H0, H1, H2, H3, H4, ⟨%d8, S8⟩, ⟨%d9, S9⟩, ⟨%d10, S10⟩, ⟨%d11, S11⟩, Hk⟩
    unfold owns
    icases S8 with ⟨%f8, -, S8⟩
    icases S9 with ⟨%f9, -, S9⟩
    icases S10 with ⟨%f10, -, S10⟩
    icases S11 with ⟨%f11, -, S11⟩
    iapply ((runB c i arg3 harg3 arg4 harg4 arg5 harg5 arg6 harg6 arg7 harg7 arg8 harg8 arg9 harg9 arg10 harg10 arg11 harg11 x0 x1 x2 x3 h' h1).2 E K f8 f9 f10 f11)
    unfold owns
    isplitl [H0]; · iexact H0
    isplitl [H1]; · iexact H1
    isplitl [H2]; · iexact H2
    isplitl [H3]; · iexact H3
    isplitl [H4]; · iexact H4
    isplitl [S8]; · iexact S8
    isplitl [S9]; · iexact S9
    isplitl [S10]; · iexact S10
    isplitl [S11]; · iexact S11
    iintro ⟨H0, H1, H2, H3, ⟨%g7, H4⟩, ⟨%g8, S8⟩, ⟨%g9, S9⟩, ⟨%g10, S10⟩, ⟨%g11, S11⟩⟩
    iapply Hk
    isplitl [H0]; · iexact H0
    isplitl [H1]; · iexact H1
    isplitl [H2]; · iexact H2
    isplitl [H3]; · iexact H3
    isplitl [H4]
    · iexists _; isplitr
      swap; · iexact H4
      ipureintro
      rw [listB]
      exact View.read_writes_eq_canon _ _ _ (outPieces_cover _)
    isplitl [S8]; · iexists _; iexists _; isplitr; swap; · iexact S8
                    ipureintro; rfl
    isplitl [S9]; · iexists _; iexists _; isplitr; swap; · iexact S9
                    ipureintro; rfl
    isplitl [S10]; · iexists _; iexists _; isplitr; swap; · iexact S10
                     ipureintro; rfl
    iexists _; iexists _; isplitr; swap; · iexact S11
    ipureintro; rfl

/-! ## The proof data -/

variable (m : (ℓ : Loc nD τ sig) → Buf (Elt F) ℓ) (ρ : Dev nD → PrngReg)

/-- What the region is proved with: each input's block stays, the output's is `attnOut` of the inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => attnOut (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = attnOut (iblk m c 0 t) (iblk m c 1 t) (iblk m c 2 t) (iblk m c 3 t) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-! ## The body at a point -/

abbrev stg0 (t : Fin cfg0.N) : Memref sig .tc .smem S1 .f32 := win0_0.stage (cfg0.slots t 0)
abbrev stg1 (t : Fin cfg0.N) : Memref sig .tc .vmem S1x512x256 .bf16 := win0_1.stage (cfg0.slots t 1)
abbrev stg2 (t : Fin cfg0.N) : Memref sig .tc .vmem S1x1x11x768x64 .bf16 := win0_2.stage (cfg0.slots t 2)
abbrev stg3 (t : Fin cfg0.N) : Memref sig .tc .vmem S1x1x11x80x768 .bf16 := win0_3.stage (cfg0.slots t 3)
abbrev stg4 (t : Fin cfg0.N) : Memref sig .tc .vmem S1x512x256 .bf16 := win0_4.stage (cfg0.slots t 4)

/-- The scratch buffers and the generator, as memrefs at some contents. -/
theorem Phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

def ptPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

def ptPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

theorem pt_run (c : Dev nD) (t : Fin cfg0.N) :
    ptPre m c t ⊢ wp frame (wpE (defs₀ (F := F)) Variants.none c none) Set.univ (bodyAt0 t) (fun _ => ptPost m c t) := by
  unfold ptPre ptPost bodyAt0
  simp only [before_0, before_1, before_2, before_3]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, Phi_eq]
  rw [show (dats m 0 c).leavesExact 0 t = owns (c : Thread nD τ) (stg0 t) fullShare ((dats m 0 c).after 0 t) from rfl, after_0,
    show (dats m 0 c).leavesExact 1 t = owns (c : Thread nD τ) (stg1 t) fullShare ((dats m 0 c).after 1 t) from rfl, after_1,
    show (dats m 0 c).leavesExact 2 t = owns (c : Thread nD τ) (stg2 t) fullShare ((dats m 0 c).after 2 t) from rfl, after_2,
    show (dats m 0 c).leavesExact 3 t = owns (c : Thread nD τ) (stg3 t) fullShare ((dats m 0 c).after 3 t) from rfl, after_3,
    show (dats m 0 c).leavesExact 4 t = owns (c : Thread nD τ) (stg4 t) fullShare ((dats m 0 c).after 4 t) from rfl, after_4]
  iintro ⟨⟨⟨S8, S9, S10, S11⟩, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [S8]; · iexact S8
  isplitl [S9]; · iexact S9
  isplitl [S10]; · iexact S10
  isplitl [S11]; · iexact S11
  iintro ⟨H0, H1, H2, H3, H4, S8, S9, S10, S11⟩
  isplitl [S8 S9 S10 S11 Hg]
  · isplitl [S8 S9 S10 S11]
    · isplitl [S8]; · iexact S8
      isplitl [S9]; · iexact S9
      isplitl [S10]; · iexact S10
      iexact S11
    iexact Hg
  isplitl [Ho]; · iexact Ho
  isplitl [H0]; · iexact H0
  isplitl [H1]; · iexact H1
  isplitl [H2]; · iexact H2
  isplitl [H3]; · iexact H3
  iexact H4

theorem row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, row]
  exact triple_restated (pt_run m c t) rfl .rfl fun _ => .rfl

/-! ## The run and the frame -/

set_option backward.isDefEq.respectTransparency.types false in
/-- The whole program runs to its end, with the region's arrays at what the proof data say and every counter at zero. -/
theorem whole_run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- The frame: the program terminates, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (whole_run m ρ))) ((θ_run defs _ _).mono (fun _ h => h.2) (whole_run m ρ))

end Cert.KernelIdeal.Attn

end
-- ==== Proof.Softmax.lean ====
module

public import Idealize.ShloMosaic.PureOps.Ideal.Laws

/-! The softmax of real scores over values that may be infinite, and the two ways of computing it -/

@[expose] public section

noncomputable section

namespace Cert.Softmax

open Idealize.ShloMosaic

/-! ## Sums with a real factor -/

theorem sum_mul_real {ι : Type*} (s : Finset ι) (f : ι → EReal) {r : ℝ} (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## Real values -/

/-- A value that is a real number. -/
def IsReal (x : EReal) : Prop := ∃ r : ℝ, x = (r : EReal)

theorem isReal_of_ne {x : EReal} (hb : x ≠ ⊥) (ht : x ≠ ⊤) : IsReal x := ⟨x.toReal, (EReal.coe_toReal ht hb).symm⟩
theorem IsReal.ne_bot {x : EReal} (h : IsReal x) : x ≠ ⊥ := by obtain ⟨r, rfl⟩ := h; exact EReal.coe_ne_bot r
theorem IsReal.ne_top {x : EReal} (h : IsReal x) : x ≠ ⊤ := by obtain ⟨r, rfl⟩ := h; exact EReal.coe_ne_top r
theorem IsReal.eq {x : EReal} (h : IsReal x) : x = (x.toReal : EReal) := (EReal.coe_toReal h.ne_top h.ne_bot).symm
theorem IsReal.mul {x y : EReal} (hx : IsReal x) (hy : IsReal y) : IsReal (x * y) := by
  obtain ⟨a, rfl⟩ := hx; obtain ⟨b, rfl⟩ := hy; exact ⟨a * b, by push_cast; rfl⟩
theorem isReal_sum {ι : Type*} (s : Finset ι) (f : ι → EReal) (h : ∀ k, IsReal (f k)) : IsReal (∑ k ∈ s, f k) := by
  choose g hg using h
  exact ⟨∑ k ∈ s, g k, by rw [coe_sum]; exact Finset.sum_congr rfl fun k _ => hg k⟩
theorem IsReal.max_left {x y : EReal} (hx : IsReal x) (hy : y ≠ ⊤) : IsReal (max x y) := by
  refine isReal_of_ne (fun h => hx.ne_bot (le_bot_iff.mp (h ▸ le_max_left x y))) ?_
  rcases max_choice x y with h | h <;> rw [h]
  · exact hx.ne_top
  · exact hy
theorem fold_max_ne_top {ι : Type*} (s : Finset ι) (b : EReal) (f : ι → EReal) (hb : b ≠ ⊤) (h : ∀ k, IsReal (f k)) :
    s.fold max b f ≠ ⊤ :=
  ((Finset.fold_max_lt (c := (⊤ : EReal))).mpr ⟨lt_top_iff_ne_top.mpr hb, fun k _ => lt_top_iff_ne_top.mpr (h k).ne_top⟩).ne
theorem isReal_fold_max {ι : Type*} (s : Finset ι) (b : EReal) (f : ι → EReal) (hb : b ≠ ⊤) (h : ∀ k, IsReal (f k)) {k : ι} (hk : k ∈ s) :
    IsReal (s.fold max b f) :=
  isReal_of_ne (fun e => (h k).ne_bot (le_bot_iff.mp (e ▸ (Finset.le_fold_max _).mpr (.inr ⟨k, hk, le_refl _⟩))))
    (fold_max_ne_top s b f hb h)

/-! ## The softmax -/

variable {ι : Type*} [Fintype ι]

/-- Values weighted by the softmax, to base 2, of real scores. -/
def soft (s : ι → ℝ) (v : ι → EReal) : EReal :=
  ∑ k, v k * (((2 : ℝ) ^ s k / ∑ j, (2 : ℝ) ^ s j : ℝ) : EReal)

theorem exp2_sub (a b : ℝ) : Ideal.exp2 ((a : EReal) - (b : EReal)) = (((2 : ℝ) ^ (a - b) : ℝ) : EReal) := by
  rw [← EReal.coe_sub]; rfl

theorem exp_sub (a b : ℝ) : Ideal.exp ((a : EReal) - (b : EReal)) = ((Real.exp (a - b) : ℝ) : EReal) := by
  rw [← EReal.coe_sub]; rfl

theorem div_real (x : EReal) {r : ℝ} (hr : r ≠ 0) : Ideal.div x (r : EReal) = x * ((r⁻¹ : ℝ) : EReal) := by
  unfold Ideal.div
  rw [if_neg (by exact_mod_cast hr), EReal.coe_inv]

/-- Weights at any shift `m`, the weighted sum divided at the end by the sum of the weights. -/
theorem soft_shift [Nonempty ι] (s : ι → ℝ) (v : ι → EReal) (m : ℝ) :
    (∑ k, v k * (((2 : ℝ) ^ (s k - m) : ℝ) : EReal)) * Ideal.div 1 (∑ k, (1 : EReal) * (((2 : ℝ) ^ (s k - m) : ℝ) : EReal)) = soft s v := by
  have hp : ∀ x : ℝ, 0 < (2 : ℝ) ^ x := fun x => Real.rpow_pos_of_pos (by norm_num) x
  have hZ : 0 < ∑ k, (2 : ℝ) ^ (s k - m) := Finset.sum_pos (fun k _ => hp _) Finset.univ_nonempty
  have h1 : (∑ k, (1 : EReal) * (((2 : ℝ) ^ (s k - m) : ℝ) : EReal)) = ((∑ k, (2 : ℝ) ^ (s k - m) : ℝ) : EReal) := by
    rw [coe_sum]; exact Finset.sum_congr rfl fun k _ => one_mul _
  rw [h1, div_real _ hZ.ne', one_mul, sum_mul_real _ _ (inv_nonneg.mpr hZ.le)]
  refine Finset.sum_congr rfl fun k _ => ?_
  rw [mul_assoc, ← EReal.coe_mul]
  refine congrArg (fun r : ℝ => v k * (r : EReal)) ?_
  have h2 : ∀ x : ℝ, (2 : ℝ) ^ (x - m) = 2 ^ x * (2 ^ m)⁻¹ := fun x => by rw [Real.rpow_sub (by norm_num), div_eq_mul_inv]
  simp only [h2]
  rw [← Finset.sum_mul, mul_inv, inv_inv, div_eq_mul_inv]
  have := (hp m).ne'
  field_simp

/-- Each weight divided by the sum of the weights, with exponents to base e at any shift. -/
theorem soft_exp [Nonempty ι] (s : ι → ℝ) (v : ι → EReal) (m : ℝ) :
    (∑ k, v k * Ideal.div (Ideal.exp ((s k : EReal) * ((Real.log 2 : ℝ) : EReal) - (m : EReal)))
      (0 + ∑ j, Ideal.exp ((s j : EReal) * ((Real.log 2 : ℝ) : EReal) - (m : EReal)))) = soft s v := by
  have he : ∀ k, Ideal.exp ((s k : EReal) * ((Real.log 2 : ℝ) : EReal) - (m : EReal)) = (((2 : ℝ) ^ s k * (Real.exp m)⁻¹ : ℝ) : EReal) := fun k => by
    rw [← EReal.coe_mul, exp_sub, Real.exp_sub, Real.rpow_def_of_pos (by norm_num), mul_comm (Real.log 2), div_eq_mul_inv]
  have hp : ∀ x : ℝ, 0 < (2 : ℝ) ^ x := fun x => Real.rpow_pos_of_pos (by norm_num) x
  have hZ : 0 < ∑ k, (2 : ℝ) ^ s k * (Real.exp m)⁻¹ :=
    Finset.sum_pos (fun k _ => mul_pos (hp _) (inv_pos.mpr (Real.exp_pos m))) Finset.univ_nonempty
  simp only [he]
  rw [zero_add, ← coe_sum]
  refine Finset.sum_congr rfl fun k _ => ?_
  rw [div_real _ hZ.ne', ← EReal.coe_mul]
  refine congrArg (fun r : ℝ => v k * (r : EReal)) ?_
  rw [← Finset.sum_mul, mul_inv, inv_inv, div_eq_mul_inv]
  have := (Real.exp_pos m).ne'
  field_simp

/-! ## One more chunk of a weighted sum -/

/-- The weighted sum of the first chunks at shift `m`. -/
def partialSum {N : ℕ} (s : ℕ → Fin N → ℝ) (v : ℕ → Fin N → EReal) (m : ℝ) (n : ℕ) : EReal :=
  ∑ c ∈ Finset.range n, ∑ k, v c k * (((2 : ℝ) ^ (s c k - m) : ℝ) : EReal)

/-- Rescaling a partial sum moves its shift. -/
theorem rescale {N : ℕ} (s : ℕ → Fin N → ℝ) (v : ℕ → Fin N → EReal) (m m' : ℝ) (n : ℕ) :
    (((2 : ℝ) ^ (m - m') : ℝ) : EReal) * partialSum s v m n = partialSum s v m' n := by
  have h0 : (0 : ℝ) ≤ 2 ^ (m - m') := (Real.rpow_pos_of_pos (by norm_num) _).le
  unfold partialSum
  rw [mul_comm, sum_mul_real _ _ h0]
  refine Finset.sum_congr rfl fun c _ => ?_
  rw [sum_mul_real _ _ h0]
  refine Finset.sum_congr rfl fun k _ => ?_
  rw [mul_assoc, ← EReal.coe_mul, ← Real.rpow_add (by norm_num)]
  congr 3; ring

theorem partialSum_succ {N : ℕ} (s : ℕ → Fin N → ℝ) (v : ℕ → Fin N → EReal) (m : ℝ) (n : ℕ) :
    partialSum s v m (n + 1) = partialSum s v m n + ∑ k, v n k * (((2 : ℝ) ^ (s n k - m) : ℝ) : EReal) := by
  unfold partialSum; rw [Finset.sum_range_succ]

theorem partialSum_zero {N : ℕ} (s : ℕ → Fin N → ℝ) (v : ℕ → Fin N → EReal) (m : ℝ) : partialSum s v m 0 = 0 := by
  unfold partialSum; simp

end Cert.Softmax

end
-- ==== Proof.AttnTile.lean ====
module

public import proofs.«01_k».proof.Proof.AttnFrame
public import proofs.«01_k».proof.Proof.Softmax
public import Idealize.ShloMosaic.Lib.MatmulPlain
public import Idealize.ShloMosaic.Lib.KernelVsHost
public import Idealize.ShloMosaic.Lib.ValueIdx

/-! The attention body's functions of its blocks, over the extended reals, entry by entry -/

@[expose] public section

set_option maxRecDepth 16384

noncomputable section

namespace Cert.KernelIdeal.Attn

open Cert.KernelIdeal Cert.KernelIdeal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic Idealize.ShloMosaic.ValueIdx
open Idealize.SL.Sem
open Cert.Softmax

/-! ## The blocks -/

theorem kmat_apply (x : Vec Ideal S1x1x1x768x64 .bf16) (κ : Fin 768) (d : Fin 64) :
    shapeCast S768x64 x shapeCasts_S1x1x1x768x64_S768x64 (ix2 κ d) = x (ix5 (0 : Fin 1) (0 : Fin 1) (0 : Fin 1) κ d) := by
  refine shapeCast_apply x _ _ _ ?_
  simp only [Shape.rowMajor_val_two, Shape.rowMajor_val_five]
  simp [ix2, ix5, S1x1x1x768x64, S768x64]

theorem vmat_apply (x : Vec Ideal S1x1x1x80x768 .bf16) (d : Fin 80) (κ : Fin 768) :
    shapeCast S80x768 x shapeCasts_S1x1x1x80x768_S80x768 (ix2 d κ) = x (ix5 (0 : Fin 1) (0 : Fin 1) (0 : Fin 1) d κ) := by
  refine shapeCast_apply x _ _ _ ?_
  simp only [Shape.rowMajor_val_two, Shape.rowMajor_val_five]
  simp [ix2, ix5, S1x1x1x80x768, S80x768]

theorem kCh_apply (x2 : Vec Ideal S1x1x11x768x64 .bf16) (c : Fin 11) (κ : Fin 768) (d : Fin 64) :
    kCh x2 c.val (ix5 (0 : Fin 1) (0 : Fin 1) (0 : Fin 1) κ d) = x2 (ix5 (0 : Fin 1) (0 : Fin 1) c κ d) :=
  View.ld_unit_apply_of x2 _ _ _ _ _ (fun a => match a with
    | ⟨0, _⟩ => rfl
    | ⟨1, _⟩ => rfl
    | ⟨2, _⟩ => by show c.val = c.val % 11 + 0; omega
    | ⟨3, _⟩ => by show κ.val = 0 + κ.val; omega
    | ⟨4, _⟩ => by show d.val = 0 + d.val; omega)

theorem vCh_apply (x3 : Vec Ideal S1x1x11x80x768 .bf16) (c : Fin 11) (d : Fin 80) (κ : Fin 768) :
    vCh x3 c.val (ix5 (0 : Fin 1) (0 : Fin 1) (0 : Fin 1) d κ) = x3 (ix5 (0 : Fin 1) (0 : Fin 1) c d κ) :=
  View.ld_unit_apply_of x3 _ _ _ _ _ (fun a => match a with
    | ⟨0, _⟩ => rfl
    | ⟨1, _⟩ => rfl
    | ⟨2, _⟩ => by show c.val = c.val % 11 + 0; omega
    | ⟨3, _⟩ => by show d.val = 0 + d.val; omega
    | ⟨4, _⟩ => by show κ.val = 0 + κ.val; omega)

/-- Query head `h` of row `r`: row `512 h + r` of the stacked rows. -/
def rowOf (h : Fin 4) (r : Fin 512) : Fin 2048 := ⟨512 * h.val + r.val, by omega⟩
def colOf (h : Fin 4) (d : Fin 64) : Fin 256 := ⟨64 * h.val + d.val, by omega⟩

theorem head_apply (x1 : Vec Ideal S1x512x256 .bf16) (o : ℕ) (inb : ∀ a, (![0, 0, o] : Fin 3 → ℕ) a + S1x512x64.size a ≤ S1x512x256.size a)
    (r : Fin 512) (d : Fin 64) (k : Fin 256) (hk : k.val = o + d.val) :
    shapeCast S512x64 (View.ld x1 (Rect.unit (s := S1x512x256) ![0, 0, o] S1x512x64.size inb)) shapeCasts_S1x512x64_S512x64 (ix2 r d) = x1 (ix3 (0 : Fin 1) r k) := by
  refine (shapeCast_apply (View.ld x1 (Rect.unit (s := S1x512x256) ![0, 0, o] S1x512x64.size inb)) shapeCasts_S1x512x64_S512x64 (ix2 r d) (ix3 (0 : Fin 1) r d) ?_).trans ?_
  · show (S1x512x64.rowMajor (ix3 (0 : Fin 1) r d)).val = _
    simp only [Shape.rowMajor_val_two, Shape.rowMajor_val_three]
    simp [ix2, ix3, S1x512x64, S512x64]
  · exact View.ld_unit_apply_of x1 _ _ inb _ _ (fun a => match a with
      | ⟨0, _⟩ => rfl
      | ⟨1, _⟩ => by show r.val = 0 + r.val; omega
      | ⟨2, _⟩ => by show k.val = o + d.val; omega)

theorem qRows_apply (x1 : Vec Ideal S1x512x256 .bf16) (h : Fin 4) (r : Fin 512) (d : Fin 64) :
    qRows x1 (ix2 (rowOf h r) d) = x1 (ix3 (0 : Fin 1) r (colOf h d)) := by
  unfold qRows k0_pay1
  have hh : h = 0 ∨ h = 1 ∨ h = 2 ∨ h = 3 := by revert h; decide
  rcases hh with rfl | rfl | rfl | rfl
  · refine (concatenate_apply_piece (0 : Fin S2048x64.rank) _ _ (ix2 (rowOf 0 r) d) 0 (by show 0 < 4; decide) S512x64 _ rfl rfl 0 rfl (ix2 r d) (fun b hb => ?_) ?_).trans (head_apply x1 0 _ r d (colOf 0 d) rfl)
    · match b, hb with
      | ⟨0, _⟩, hb => exact absurd rfl hb
      | ⟨1, _⟩, _ => rfl
    · rfl
  · refine (concatenate_apply_piece (0 : Fin S2048x64.rank) _ _ (ix2 (rowOf 1 r) d) 1 (by show 1 < 4; decide) S512x64 _ rfl rfl 512 rfl (ix2 r d) (fun b hb => ?_) ?_).trans (head_apply x1 64 _ r d (colOf 1 d) rfl)
    · match b, hb with
      | ⟨0, _⟩, hb => exact absurd rfl hb
      | ⟨1, _⟩, _ => rfl
    · rfl
  · refine (concatenate_apply_piece (0 : Fin S2048x64.rank) _ _ (ix2 (rowOf 2 r) d) 2 (by show 2 < 4; decide) S512x64 _ rfl rfl 1024 rfl (ix2 r d) (fun b hb => ?_) ?_).trans (head_apply x1 128 _ r d (colOf 2 d) rfl)
    · match b, hb with
      | ⟨0, _⟩, hb => exact absurd rfl hb
      | ⟨1, _⟩, _ => rfl
    · rfl
  · refine (concatenate_apply_piece (0 : Fin S2048x64.rank) _ _ (ix2 (rowOf 3 r) d) 3 (by show 3 < 4; decide) S512x64 _ rfl rfl 1536 rfl (ix2 r d) (fun b hb => ?_) ?_).trans (head_apply x1 192 _ r d (colOf 3 d) rfl)
    · match b, hb with
      | ⟨0, _⟩, hb => exact absurd rfl hb
      | ⟨1, _⟩, _ => rfl
    · rfl

/-! ## The products -/

theorem scores_apply (k : FVec Ideal S768x64 .bf16) (q : FVec Ideal S2048x64 .bf16) (κ : Fin 768) (j : Fin 2048) :
    matmul (F := Ideal) dot_S768x64_S2048x64_S768x2048_1_1_0_0_n_n none k q (constant S768x2048 .f32 0x00000000#32) (ix2 κ j)
      = ∑ d : Fin 64, k (ix2 κ d) * q (ix2 j d) := by
  refine (Ideal.matmul_transposedRhs_apply (M := 768) (K := 64) (N := 2048) none k q _ κ j).trans ?_
  rw [constant_apply, Ideal.ofBits_zero_f32, zero_add]

theorem weighted_apply (v : FVec Ideal S80x768 .bf16) (p : FVec Ideal S768x2048 .bf16) (d : Fin 80) (j : Fin 2048) :
    matmul (F := Ideal) dot_S80x768_S768x2048_S80x2048_1_0_0_1_n_n none v p (constant S80x2048 .f32 0x00000000#32) (ix2 d j)
      = ∑ κ : Fin 768, v (ix2 d κ) * p (ix2 κ j) := by
  refine (Ideal.matmul_plain_apply (M := 80) (K := 768) (N := 2048) none v p _ d j).trans ?_
  rw [constant_apply, Ideal.ofBits_zero_f32, zero_add]

/-- The score of key `κ` of a chunk with query row `j`. -/
def sc (q : FVec Ideal S2048x64 .bf16) (k : Vec Ideal S1x1x1x768x64 .bf16) (j : Fin 2048) (κ : Fin 768) : EReal :=
  ∑ d : Fin 64, k (ix5 (0 : Fin 1) (0 : Fin 1) (0 : Fin 1) κ d) * q (ix2 j d)

theorem sc_eq (q : FVec Ideal S2048x64 .bf16) (k : Vec Ideal S1x1x1x768x64 .bf16) (j : Fin 2048) (κ : Fin 768) :
    matmul (F := Ideal) dot_S768x64_S2048x64_S768x2048_1_1_0_0_n_n none (shapeCast S768x64 k shapeCasts_S1x1x1x768x64_S768x64 : FVec Ideal S768x64 .bf16) q (constant S768x2048 .f32 0x00000000#32) (ix2 κ j)
      = sc q k j κ := by
  rw [scores_apply]
  exact Finset.sum_congr rfl fun d _ => congrArg (· * q (ix2 j d)) (kmat_apply k κ d)

theorem zeros_apply (y : S80x2048.Idx) : k0_pay2 (F := Ideal) y = 0 := by
  unfold k0_pay2
  try dsimp only
  rw [shapeCast_self]
  exact Ideal.ofBits_zero_f32

/-- One chunk at a fixed shift, at an entry. -/
theorem fixStep_apply (q : FVec Ideal S2048x64 .bf16) (w : Ideal .f32) (k : Vec Ideal S1x1x1x768x64 .bf16) (a : Vec Ideal S80x2048 .f32) (v : Vec Ideal S1x1x1x80x768 .bf16)
    (d : Fin 80) (j : Fin 2048) :
    k0_pay6 (F := Ideal) q w k a v (ix2 d j)
      = a (ix2 d j) + ∑ κ : Fin 768, v (ix5 (0 : Fin 1) (0 : Fin 1) (0 : Fin 1) d κ) * Ideal.exp2 (sc q k j κ - w) := by
  unfold k0_pay6
  try dsimp only
  rw [shapeCast_self, addf_apply, weighted_apply]
  refine congrArg (a (ix2 d j) + ·) (Finset.sum_congr rfl fun κ _ => ?_)
  refine congrArg₂ (fun p r : EReal => p * r) (vmat_apply v d κ) ?_
  rw [← sc_eq]
  rfl

/-! ## The running maximum -/

theorem start_apply (j : Fin 2048) : k0_pay41 (F := Ideal) (ix2 (0 : Fin 1) j) = Ideal.ofBits .f32 0xF149F2CA#32 := by
  unfold k0_pay41
  try dsimp only
  rw [shapeCast_self]
  rfl

theorem lift_eq (j : Fin 2048) (κ : Fin 768) : reduces_S768x2048_S2048.lift (ix1 j) κ = ix2 κ j := by
  funext a
  match a with
  | ⟨0, _⟩ => rfl
  | ⟨1, _⟩ => rfl

/-- The largest score of a chunk. -/
theorem chunkMax_apply (q : FVec Ideal S2048x64 .bf16) (k : Vec Ideal S1x1x1x768x64 .bf16) (j : Fin 2048) :
    k0_pay44 (F := Ideal) q k (ix3 (0 : Fin 1) (0 : Fin 1) j) = (Finset.univ : Finset (Fin 768)).fold max (Ideal.ofBits .f32 0xFF800000#32) (sc q k j) := by
  unfold k0_pay44
  try dsimp only
  refine (shapeCast_apply _ shapeCasts_S1x2048_S1x1x2048 _ (ix2 (0 : Fin 1) j) ?_).trans ?_
  · simp only [Shape.rowMajor_val_two, Shape.rowMajor_val_three]
    simp [ix2, ix3, S1x1x2048, S1x2048]
  refine (shapeCast_apply _ shapeCasts_S2048_S1x2048 _ (ix1 j) ?_).trans ?_
  · simp only [Shape.rowMajor_val_two, Shape.rowMajor_val_one]
    simp [ix2, ix1, S2048, S1x2048]
  refine (Ideal.multiReduction_maximumf_single _ _ _ _ _ _).trans ?_
  refine Finset.fold_congr (g := sc q k j) fun κ _ => ?_
  exact (congrArg (k0_pay42 (F := Ideal) q k) (lift_eq j κ)).trans (sc_eq q k j κ)

theorem newMax_apply (m : Vec Ideal S1x2048 .f32) (x : Vec Ideal S1x1x2048 .f32) (j : Fin 2048) :
    k0_pay32 (F := Ideal) m x (ix2 (0 : Fin 1) j) = max (m (ix2 (0 : Fin 1) j)) (x (ix3 (0 : Fin 1) (0 : Fin 1) j)) := by
  unfold k0_pay32
  try dsimp only
  rw [maximumf_apply]
  refine congrArg (fun y : EReal => max (m (ix2 (0 : Fin 1) j)) y) ?_
  refine shapeCast_apply x _ _ _ ?_
  simp only [Shape.rowMajor_val_two, Shape.rowMajor_val_three]
  simp [ix2, ix3, S1x1x2048, S1x2048]

theorem weights_apply (m : Vec Ideal S1x2048 .f32) (q : FVec Ideal S2048x64 .bf16) (k : Vec Ideal S1x1x1x768x64 .bf16) (x : Vec Ideal S1x1x2048 .f32) (κ : Fin 768) (j : Fin 2048) :
    k0_pay33 (F := Ideal) m x (k0_pay43 q k) (ix2 κ j) = Ideal.exp2 (sc q k j κ - k0_pay32 (F := Ideal) m x (ix2 (0 : Fin 1) j)) := by
  unfold k0_pay33
  try dsimp only
  rw [truncf_apply]
  show Ideal.exp2 (shapeCast S768x2048 (k0_pay43 (F := Ideal) q k) shapeCasts_S1x768x2048_S768x2048 (ix2 κ j) - broadcastTo S768x2048 (k0_pay32 (F := Ideal) m x) broadcasts_S1x2048_S768x2048 (ix2 κ j)) = _
  refine congrArg₂ (fun p r : EReal => Ideal.exp2 (p - r)) ?_ ?_
  · unfold k0_pay43
    try dsimp only
    refine (shapeCast_apply _ shapeCasts_S1x768x2048_S768x2048 _ (ix3 (0 : Fin 1) κ j) ?_).trans ?_
    · simp only [Shape.rowMajor_val_two, Shape.rowMajor_val_three]
      simp [ix2, ix3, S1x768x2048, S768x2048]
    refine (shapeCast_apply _ shapeCasts_S768x2048_S1x768x2048 _ (ix2 κ j) ?_).trans (sc_eq q k j κ)
    simp only [Shape.rowMajor_val_two, Shape.rowMajor_val_three]
    simp [ix2, ix3, S1x768x2048, S768x2048]
  · exact broadcastTo_apply _ _ _ _ (fun a => match a with
      | ⟨0, _⟩ => rfl
      | ⟨1, _⟩ => rfl)

theorem rescaled_apply (m : Vec Ideal S1x2048 .f32) (x : Vec Ideal S1x1x2048 .f32) (a : Vec Ideal S80x2048 .f32) (d : Fin 80) (j : Fin 2048) :
    k0_pay34 (F := Ideal) m x a (ix2 d j) = Ideal.exp2 (m (ix2 (0 : Fin 1) j) - k0_pay32 (F := Ideal) m x (ix2 (0 : Fin 1) j)) * a (ix2 d j) := by
  unfold k0_pay34
  try dsimp only
  rw [mulf_apply]
  refine congrArg (fun y : EReal => y * a (ix2 d j)) ?_
  exact broadcastTo_apply _ _ _ (ix2 (0 : Fin 1) j) (fun a => match a with
    | ⟨0, _⟩ => rfl
    | ⟨1, _⟩ => rfl)

/-- The running maximum one chunk further. -/
theorem runStep_max (q : FVec Ideal S2048x64 .bf16) (k : Vec Ideal S1x1x1x768x64 .bf16) (v : Vec Ideal S1x1x1x80x768 .bf16)
    (st : FVec Ideal S1x2048 .f32 × FVec Ideal S80x2048 .f32) (j : Fin 2048) :
    (runStep q k v st).1 (ix2 (0 : Fin 1) j)
      = max (st.1 (ix2 (0 : Fin 1) j)) ((Finset.univ : Finset (Fin 768)).fold max (Ideal.ofBits .f32 0xFF800000#32) (sc q k j)) := by
  unfold runStep k0_pay36
  try dsimp only
  rw [shapeCast_self, newMax_apply, chunkMax_apply]

/-- The accumulator one chunk further. -/
theorem runStep_acc (q : FVec Ideal S2048x64 .bf16) (k : Vec Ideal S1x1x1x768x64 .bf16) (v : Vec Ideal S1x1x1x80x768 .bf16)
    (st : FVec Ideal S1x2048 .f32 × FVec Ideal S80x2048 .f32) (d : Fin 80) (j : Fin 2048) :
    (runStep q k v st).2 (ix2 d j)
      = Ideal.exp2 (st.1 (ix2 (0 : Fin 1) j) - (runStep q k v st).1 (ix2 (0 : Fin 1) j)) * st.2 (ix2 d j)
        + ∑ κ : Fin 768, v (ix5 (0 : Fin 1) (0 : Fin 1) (0 : Fin 1) d κ) * Ideal.exp2 (sc q k j κ - (runStep q k v st).1 (ix2 (0 : Fin 1) j)) := by
  have e : (runStep q k v st).1 (ix2 (0 : Fin 1) j) = k0_pay32 (F := Ideal) st.1 (k0_pay44 q k) (ix2 (0 : Fin 1) j) := by
    unfold runStep k0_pay36
    try dsimp only
    rw [shapeCast_self]
  rw [e]
  unfold runStep k0_pay35
  try dsimp only
  rw [shapeCast_self, addf_apply, rescaled_apply, weighted_apply]
  refine congrArg (fun y : EReal => _ + y) (Finset.sum_congr rfl fun κ _ => ?_)
  exact congrArg₂ (fun p r : EReal => p * r) (vmat_apply v d κ) (weights_apply st.1 q k _ κ j)

/-! ## The output block -/

theorem topRows_apply (a : FVec Ideal S80x2048 .f32) (d : Fin 64) (j : Fin 2048) :
    topRows a (ix2 d j) = a (ix2 (⟨d.val, by omega⟩ : Fin 80) j) :=
  View.ld_unit_apply_of (S := S80x2048) (Val := Elt Ideal) (e := .f32) a _ _ _ _ _ (fun c => match c with
    | ⟨0, _⟩ => by show d.val = 0 + d.val; omega
    | ⟨1, _⟩ => by show j.val = 0 + j.val; omega)

theorem sumRow_apply (a : FVec Ideal S80x2048 .f32) (j : Fin 2048) :
    sumRow a (ix2 (0 : Fin 1) j) = a (ix2 (64 : Fin 80) j) :=
  View.ld_unit_apply_of (S := S80x2048) (Val := Elt Ideal) (e := .f32) a _ _ _ _ _ (fun c => match c with
    | ⟨0, _⟩ => rfl
    | ⟨1, _⟩ => by show j.val = 0 + j.val; omega)

theorem quot_apply (a : FVec Ideal S80x2048 .f32) (d : Fin 64) (j : Fin 2048) :
    k0_pay24 (F := Ideal) (topRows a) (sumRow a) (ix2 d j) = a (ix2 (⟨d.val, by omega⟩ : Fin 80) j) * Ideal.div 1 (a (ix2 (64 : Fin 80) j)) := by
  unfold k0_pay24
  try dsimp only
  rw [mulf_apply]
  refine congrArg₂ (fun p r : EReal => p * r) (topRows_apply a d j) ?_
  refine (broadcastTo_apply _ _ _ (ix2 (0 : Fin 1) j) (fun a => match a with
    | ⟨0, _⟩ => rfl
    | ⟨1, _⟩ => rfl)).trans ?_
  rw [divf_apply]
  exact congrArg₂ Ideal.div Ideal.ofBits_one_f32 (sumRow_apply a j)

theorem piece_apply (u : FVec Ideal S64x2048 .f32) (o : ℕ) (hs : S64x2048.Slices ![0, o] S64x512) (r : Fin 512) (d : Fin 64) (j : Fin 2048) (hj : j.val = o + r.val) :
    shapeCast S1x512x64 (truncf .bf16 (transpose S512x64 [1, 0] (extractStridedSlice S64x512 ![0, o] u hs) transposes_S64x512_p1_0_S512x64) bitsLt_bf16_f32) shapeCasts_S512x64_S1x512x64 (ix3 (0 : Fin 1) r d)
      = u (ix2 d j) := by
  refine (shapeCast_apply _ shapeCasts_S512x64_S1x512x64 _ (ix2 r d) ?_).trans ?_
  · simp only [Shape.rowMajor_val_two, Shape.rowMajor_val_three]
    simp [ix2, ix3, S1x512x64, S512x64]
  rw [truncf_apply]
  refine (transpose_apply [1, 0] _ transposes_S64x512_p1_0_S512x64 (ix2 r d) (ix2 d r) (fun a => match a with
    | ⟨0, _⟩ => rfl
    | ⟨1, _⟩ => rfl)).trans ?_
  exact extractStridedSlice_apply _ u hs _ _ (fun a => match a with
    | ⟨0, _⟩ => by show d.val = 0 + d.val; omega
    | ⟨1, _⟩ => by show j.val = o + r.val; omega)

/-- The output block at an entry: the accumulator's column of the query, divided by its sum. -/
theorem outOf_apply (a : FVec Ideal S80x2048 .f32) (h : Fin 4) (r : Fin 512) (d : Fin 64) :
    outOf a (ix3 (0 : Fin 1) r (colOf h d)) = a (ix2 (⟨d.val, by omega⟩ : Fin 80) (rowOf h r)) * Ideal.div 1 (a (ix2 (64 : Fin 80) (rowOf h r))) := by
  unfold outOf
  refine View.canon_eq_of_allAt _ _ _ (outPieces_cover a _) ?_
  unfold outPieces
  rw [← quot_apply]
  have key : ∀ (n : Fin 4) (x : S1x512x64.Idx), (∀ c, ((ix3 (0 : Fin 1) r (colOf h d) : S1x512x256.Idx) c).val = (![0, 0, 64 * n.val] : Fin 3 → ℕ) c + (x c).val) →
      n = h ∧ x = ix3 (0 : Fin 1) r d := fun n x hx => by
    have h0 : (0 : ℕ) = 0 + (x 0).val := hx 0
    have h1 : r.val = 0 + (x 1).val := hx 1
    have h2 : 64 * h.val + d.val = 64 * n.val + (x 2).val := hx 2
    have hl : (x 2).val < 64 := (x 2).isLt
    have hd := d.isLt
    refine ⟨Fin.ext (by omega), funext fun c => Fin.ext ?_⟩
    match c with
    | ⟨0, _⟩ => show (x 0).val = 0; omega
    | ⟨1, _⟩ => show (x 1).val = r.val; omega
    | ⟨2, _⟩ => show (x 2).val = d.val; have : n.val = h.val := by omega
                omega
  refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _))))
  · obtain ⟨e, rfl⟩ := key 3 x hx
    subst e
    exact piece_apply _ 1536 _ r d (rowOf 3 r) rfl
  · obtain ⟨e, rfl⟩ := key 2 x hx
    subst e
    exact piece_apply _ 1024 _ r d (rowOf 2 r) rfl
  · obtain ⟨e, rfl⟩ := key 1 x hx
    subst e
    exact piece_apply _ 512 _ r d (rowOf 1 r) rfl
  · obtain ⟨e, rfl⟩ := key 0 x hx
    subst e
    exact piece_apply _ 0 _ r d (rowOf 0 r) rfl

end Cert.KernelIdeal.Attn

end
-- ==== Proof.AttnReal.lean ====
module

public import proofs.«01_k».proof.Proof.AttnTile

/-! The attention's output block, of real scores: the softmax of its row over its values -/

@[expose] public section

set_option maxRecDepth 16384

noncomputable section

namespace Cert.KernelIdeal.Attn

open Cert.KernelIdeal Cert.KernelIdeal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic Idealize.ShloMosaic.ValueIdx
open Idealize.SL.Sem
open Cert.Softmax

/-! ## Literals -/

theorem lowest_real : IsReal (Ideal.ofBits .f32 0xF149F2CA#32) := by
  unfold Ideal.ofBits Ideal.ieee
  simp only [show ¬ ((0xF149F2CA#32).extractLsb' 23 8).toNat = 2 ^ 8 - 1 by decide, show ¬ ((0xF149F2CA#32).extractLsb' 23 8).toNat = 0 by decide, if_false]
  exact ⟨_, rfl⟩

theorem negInf_eq : Ideal.ofBits .f32 0xFF800000#32 = ⊥ := by
  simp [Ideal.ofBits, Ideal.ieee]

theorem negInf_ne_top : Ideal.ofBits .f32 0xFF800000#32 ≠ ⊤ := by
  rw [negInf_eq]; exact bot_ne_top

theorem twice_eq : Ideal.ofBits .f32 0x40000000#32 = ((2 : ℝ) : EReal) := by
  simp [Ideal.ofBits, Ideal.ieee, -EReal.coe_mul]; norm_num

theorem limit_real : IsReal (Ideal.ofBits .f32 1123024896#32) := by
  unfold Ideal.ofBits Ideal.ieee
  simp only [show ¬ ((1123024896#32).extractLsb' 23 8).toNat = 2 ^ 8 - 1 by decide, show ¬ ((1123024896#32).extractLsb' 23 8).toNat = 0 by decide, if_false]
  exact ⟨_, rfl⟩

/-! ## The two accumulations -/

section
variable (q : FVec Ideal S2048x64 .bf16) (x2 : Vec Ideal S1x1x11x768x64 .bf16) (x3 : Vec Ideal S1x1x11x80x768 .bf16) (j : Fin 2048)

def scR (c : ℕ) (κ : Fin 768) : ℝ := (sc q (kCh x2 c) j κ).toReal
def vaR (d : Fin 80) (c : ℕ) (κ : Fin 768) : EReal := vCh x3 c (ix5 (0 : Fin 1) (0 : Fin 1) (0 : Fin 1) d κ)

variable (hs : ∀ c κ, IsReal (sc q (kCh x2 c) j κ))
include hs

theorem sc_real (c : ℕ) (κ : Fin 768) : sc q (kCh x2 c) j κ = (scR q x2 j c κ : EReal) := (hs c κ).eq

theorem contribution (m : ℝ) (n : ℕ) (d : Fin 80) :
    ∑ κ : Fin 768, vCh x3 n (ix5 (0 : Fin 1) (0 : Fin 1) (0 : Fin 1) d κ) * Ideal.exp2 (sc q (kCh x2 n) j κ - (m : EReal))
      = ∑ κ, vaR x3 d n κ * (((2 : ℝ) ^ (scR q x2 j n κ - m) : ℝ) : EReal) :=
  Finset.sum_congr rfl fun κ _ => by rw [sc_real q x2 j hs, exp2_sub]; rfl

/-- At a fixed real shift the accumulator is the partial weighted sum at that shift. -/
theorem fixAcc_eq (w : ℝ) (d : Fin 80) (n : ℕ) :
    fixAcc (F := Ideal) (w : EReal) q x2 x3 n (ix2 d j) = partialSum (scR q x2 j) (vaR x3 d) w n := by
  induction n with
  | zero => rw [partialSum_zero]; exact zeros_apply _
  | succ n ih =>
    rw [partialSum_succ, ← ih, ← contribution q x2 x3 j hs]
    exact fixStep_apply q (w : EReal) _ _ _ d j

/-- The running maximum is real, and the accumulator the partial weighted sum at it. -/
theorem runSt_eq (n : ℕ) :
    ∃ m : ℝ, (runSt (F := Ideal) q x2 x3 n).1 (ix2 (0 : Fin 1) j) = (m : EReal)
      ∧ ∀ d, (runSt (F := Ideal) q x2 x3 n).2 (ix2 d j) = partialSum (scR q x2 j) (vaR x3 d) m n := by
  induction n with
  | zero =>
    obtain ⟨m, hm⟩ := lowest_real
    exact ⟨m, (start_apply j).trans hm, fun d => by rw [partialSum_zero]; exact zeros_apply (ix2 d j)⟩
  | succ n ih =>
    obtain ⟨m, hm, ha⟩ := ih
    have e1 := runStep_max q (kCh x2 n) (vCh x3 n) (runSt q x2 x3 n) j
    have hr : IsReal ((runStep q (kCh x2 n) (vCh x3 n) (runSt q x2 x3 n)).1 (ix2 (0 : Fin 1) j)) := by
      rw [e1, hm]
      exact IsReal.max_left ⟨m, rfl⟩ (fold_max_ne_top _ _ _ negInf_ne_top (hs n))
    obtain ⟨m', hm'⟩ := hr
    refine ⟨m', hm', fun d => ?_⟩
    refine (runStep_acc q (kCh x2 n) (vCh x3 n) (runSt q x2 x3 n) d j).trans ?_
    rw [hm', hm, exp2_sub, ha d, rescale, partialSum_succ, contribution q x2 x3 j hs]

/-- Either way: the accumulator is the partial weighted sum at some real shift, the same for all rows. -/
theorem acc_quot (m : ℝ) (a : FVec Ideal S80x2048 .f32) (h : ∀ d, a (ix2 d j) = partialSum (scR q x2 j) (vaR x3 d) m 11)
    (hone : ∀ c κ, x3 (ix5 (0 : Fin 1) (0 : Fin 1) c (64 : Fin 80) κ) = 1) (d : Fin 80) :
    a (ix2 d j) * Ideal.div 1 (a (ix2 (64 : Fin 80) j))
      = soft (fun p : Fin 11 × Fin 768 => (∑ e : Fin 64, x2 (ix5 (0 : Fin 1) (0 : Fin 1) p.1 p.2 e) * q (ix2 j e)).toReal)
          (fun p => x3 (ix5 (0 : Fin 1) (0 : Fin 1) p.1 d p.2)) := by
  have hS : ∀ (c : Fin 11) κ, scR q x2 j c.val κ = (∑ e : Fin 64, x2 (ix5 (0 : Fin 1) (0 : Fin 1) c κ e) * q (ix2 j e)).toReal := fun c κ => by
    unfold scR sc
    exact congrArg EReal.toReal (Finset.sum_congr rfl fun e _ => congrArg (· * q (ix2 j e)) (kCh_apply x2 c κ e))
  rw [← soft_shift _ _ m, h, h]
  unfold partialSum
  rw [Finset.sum_range, Finset.sum_range, Fintype.sum_prod_type, Fintype.sum_prod_type]
  refine congrArg₂ (fun x y : EReal => x * Ideal.div 1 y) ?_ ?_
  · refine Finset.sum_congr rfl fun c _ => Finset.sum_congr rfl fun κ _ => ?_
    rw [hS]
    exact congrArg (· * _) (vCh_apply x3 c d κ)
  · refine Finset.sum_congr rfl fun c _ => Finset.sum_congr rfl fun κ _ => ?_
    rw [hS]
    exact congrArg (· * _) ((vCh_apply x3 c 64 κ).trans (hone c κ))
end

/-! ## The block -/

theorem kCh_apply_mod (x2 : Vec Ideal S1x1x11x768x64 .bf16) (c : ℕ) (κ : Fin 768) (d : Fin 64) :
    kCh x2 c (ix5 (0 : Fin 1) (0 : Fin 1) (0 : Fin 1) κ d) = x2 (ix5 (0 : Fin 1) (0 : Fin 1) (⟨c % 11, Nat.mod_lt _ (by decide)⟩ : Fin 11) κ d) :=
  View.ld_unit_apply_of x2 _ _ _ _ _ (fun a => match a with
    | ⟨0, _⟩ => rfl
    | ⟨1, _⟩ => rfl
    | ⟨2, _⟩ => by show c % 11 = c % 11 + 0; omega
    | ⟨3, _⟩ => by show κ.val = 0 + κ.val; omega
    | ⟨4, _⟩ => by show d.val = 0 + d.val; omega)

theorem bnd_apply (x0 : Vec Ideal S1 .f32) : bnd x0 = x0 (ix1 (0 : Fin 1)) :=
  View.ld_unit_apply_of (S := S1) (Val := Elt Ideal) (e := .f32) x0 _ _ _ _ _ (fun a => match a with
    | ⟨0, _⟩ => by
      have h : ∀ y : S1.Idx, (y 0).val = 0 := fun y => by have := (y 0).isLt; have e : S1.size 0 = 1 := rfl; omega
      show 0 = 0 + _
      exact (h _).symm.trans (Nat.zero_add _).symm)

/-- Where the fixed shift is taken, the bound is below infinity. -/
theorem bound_ne_top (w : EReal) (h : condFix (F := Ideal) w) : w ≠ ⊤ := by
  rintro rfl
  have e : k0_pay3 (F := Ideal) (⊤ : EReal) = (⊤ : EReal) := by
    show Ideal.ofBits .f32 0x40000000#32 * (⊤ : EReal) = ⊤
    rw [twice_eq]
    exact EReal.coe_mul_top_of_pos (by norm_num)
  have h2 : Scalar.cmpf (F := Ideal) (φ := .f32) .ole (⊤ : EReal) (FloatOps.ofBits .f32 1123024896#32) = 0#1 := by
    show Ideal.cmp .ole (⊤ : EReal) (Ideal.ofBits .f32 1123024896#32) = 0#1
    unfold Ideal.cmp
    have := limit_real.ne_top
    simp [top_le_iff, this]
  unfold condFix at h
  rw [e, h2] at h
  revert h
  decide

/-- The output block at an entry, where its scores are real, the bound is not `-∞` and row 64 of the values holds ones. -/
theorem attnOut_apply (x0 : Vec Ideal S1 .f32) (x1 : Vec Ideal S1x512x256 .bf16) (x2 : Vec Ideal S1x1x11x768x64 .bf16) (x3 : Vec Ideal S1x1x11x80x768 .bf16)
    (h : Fin 4) (r : Fin 512) (d : Fin 64)
    (hb : x0 (ix1 (0 : Fin 1)) ≠ ⊥)
    (hq : ∀ e, IsReal (x1 (ix3 (0 : Fin 1) r (colOf h e)))) (hk : ∀ c κ e, IsReal (x2 (ix5 (0 : Fin 1) (0 : Fin 1) c κ e)))
    (hone : ∀ c κ, x3 (ix5 (0 : Fin 1) (0 : Fin 1) c (64 : Fin 80) κ) = 1) :
    attnOut x0 x1 x2 x3 (ix3 (0 : Fin 1) r (colOf h d))
      = soft (fun p : Fin 11 × Fin 768 => (∑ e : Fin 64, x2 (ix5 (0 : Fin 1) (0 : Fin 1) p.1 p.2 e) * x1 (ix3 (0 : Fin 1) r (colOf h e))).toReal)
          (fun p => x3 (ix5 (0 : Fin 1) (0 : Fin 1) p.1 (⟨d.val, by omega⟩ : Fin 80) p.2)) := by
  have hs : ∀ c κ, IsReal (sc (qRows x1) (kCh x2 c) (rowOf h r) κ) := fun c κ => by
    unfold sc
    refine isReal_sum _ _ fun e => IsReal.mul ?_ ?_
    · rw [kCh_apply_mod]; exact hk _ _ _
    · rw [qRows_apply]; exact hq e
  simp only [← qRows_apply x1 h r]
  unfold attnOut
  split
  · rename_i hc
    have hw : IsReal (bnd x0) := isReal_of_ne (by rw [bnd_apply]; exact hb) (bound_ne_top _ hc)
    obtain ⟨w, hw⟩ := hw
    rw [hw, outOf_apply]
    exact acc_quot (qRows x1) x2 x3 (rowOf h r) hs w _ (fun d => fixAcc_eq _ x2 x3 _ hs w d 11) hone _
  · obtain ⟨m, -, ha⟩ := runSt_eq (qRows x1) x2 x3 (rowOf h r) hs 11
    rw [outOf_apply]
    exact acc_quot (qRows x1) x2 x3 (rowOf h r) hs m _ ha hone _

end Cert.KernelIdeal.Attn

end
-- ==== Proof.MaxReduce.lean ====
module

public import Idealize.ShloMosaic.Lib.ReduceAll
public import Idealize.ShloMosaic.PureOps.Ideal.Laws

/-! A host reduction by maximum, over the extended reals: bounds from its elements -/

@[expose] public section

namespace Cert.MaxReduce

open Idealize.ShloMosaic

theorem le_foldl {ι : Type} (f : ι → EReal) : ∀ (l : List ι) (a : EReal), a ≤ l.foldl (fun r n => max r (f n)) a ∧ ∀ n ∈ l, f n ≤ l.foldl (fun r n => max r (f n)) a
  | [], a => ⟨le_refl _, fun _ h => nomatch h⟩
  | x :: l, a => by
    obtain ⟨h1, h2⟩ := le_foldl f l (max a (f x))
    refine ⟨le_trans (le_max_left _ _) h1, fun n hn => ?_⟩
    rcases List.mem_cons.1 hn with rfl | hn
    · exact le_trans (le_max_right _ _) h1
    · exact h2 n hn

theorem foldl_ne_top {ι : Type} (f : ι → EReal) (hf : ∀ n, f n ≠ ⊤) : ∀ (l : List ι) (a : EReal), a ≠ ⊤ → l.foldl (fun r n => max r (f n)) a ≠ ⊤
  | [], _, h => h
  | x :: l, a, h => foldl_ne_top f hf l _ (by
    show max a (f x) ≠ ⊤
    rcases max_choice a (f x) with e | e <;> rw [e]
    · exact h
    · exact hf x)

variable {s t u : Shape} {axes : List (Fin s.rank)} {φ : FTy}

/-- An element is at most the maximum it reduces into. -/
theorem le_reduce (x : FVec Ideal s φ) (init : FVec Ideal u φ) (h : s.ReducesTo axes t) (hu : 0 < u.numel) (j : t.Idx) (i : s.Idx) (hi : h.drop i = j) :
    (x i : EReal) ≤ Host.reduce FloatOps.maximumf x init h hu j := by
  rw [Host.reduce_eq_foldl]
  refine (le_foldl (fun i => (x i : EReal)) _ _).2 i ?_
  rw [List.mem_filter]
  exact ⟨List.mem_map.2 ⟨s.rowMajor i, List.mem_finRange _, Equiv.symm_apply_apply _ _⟩, by simp [hi]⟩

/-- The maximum of values below infinity is below infinity. -/
theorem reduce_ne_top (x : FVec Ideal s φ) (init : FVec Ideal u φ) (h : s.ReducesTo axes t) (hu : 0 < u.numel) (j : t.Idx)
    (hi : (init (Shape.Idx.first hu) : EReal) ≠ ⊤) (hx : ∀ i, (x i : EReal) ≠ ⊤) :
    Host.reduce (FloatOps.maximumf (F := Ideal) (φ := φ)) x init h hu j ≠ (⊤ : EReal) := by
  rw [Host.reduce_eq_foldl]
  exact foldl_ne_top (fun i => (x i : EReal)) hx _ _ hi

end Cert.MaxReduce
-- ==== Proof.AttnSeq.lean ====
module

public import proofs.«01_k».proof.Proof.AttnReal
public import proofs.«01_k».proof.Proof.MaxReduce
public import Idealize.ShloMosaic.Lib.Pipeline.Value

/-! Keys and values read as one sequence, the rows of ones under the values, and the bound of the scores -/

@[expose] public section

set_option maxRecDepth 16384

noncomputable section

namespace Cert.KernelIdeal.Attn

open Cert.KernelIdeal Cert.KernelIdeal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic Idealize.ShloMosaic.ValueIdx
open Idealize.SL.Sem
open Cert.Softmax

/-! ## Keys and values, read as one sequence -/

/-- Key `k` of the sequence followed by the context, of batch `b` and group `g`. -/
def kAt (A3 : Vec Ideal S2x2x8192x64 .bf16) (A5 : Vec Ideal S2x2x256x64 .bf16) (b g : Fin 2) (k : Fin 8448) (e : Fin 64) : EReal :=
  if h : k.val < 8192 then A3 (ix4 b g ⟨k.val, h⟩ e) else A5 (ix4 b g ⟨k.val - 8192, by omega⟩ e)

/-- Its value. -/
def vAt (A4 : Vec Ideal S2x2x64x8192 .bf16) (A6 : Vec Ideal S2x2x64x256 .bf16) (b g : Fin 2) (d : Fin 64) (k : Fin 8448) : EReal :=
  if h : k.val < 8192 then A4 (ix4 b g d ⟨k.val, h⟩) else A6 (ix4 b g d ⟨k.val - 8192, by omega⟩)

/-- Key `κ` of chunk `n`. -/
def keyOf (n : Fin 11) (κ : Fin 768) : Fin 8448 := ⟨768 * n.val + κ.val, by omega⟩

/-- The keys, one after the other. -/
def keySeq (A3 : Vec Ideal S2x2x8192x64 .bf16) (A5 : Vec Ideal S2x2x256x64 .bf16) : Vec Ideal S2x2x8448x64 .bf16 :=
  concatenate S2x2x8448x64 2 [⟨S2x2x8192x64, A3⟩, ⟨S2x2x256x64, A5⟩] concatenates_S2x2x8192x64_S2x2x256x64_S2x2x8448x64_d2

/-- The keys in chunks. -/
def keys (A3 : Vec Ideal S2x2x8192x64 .bf16) (A5 : Vec Ideal S2x2x256x64 .bf16) : Vec Ideal S2x2x11x768x64 .bf16 :=
  shapeCast S2x2x11x768x64 (keySeq A3 A5) shapeCasts_S2x2x8448x64_S2x2x11x768x64

theorem keySeq_apply (A3 : Vec Ideal S2x2x8192x64 .bf16) (A5 : Vec Ideal S2x2x256x64 .bf16) (b g : Fin 2) (k : Fin 8448) (e : Fin 64) :
    keySeq A3 A5 (ix4 b g k e) = kAt A3 A5 b g k e := by
  unfold keySeq kAt
  split
  · rename_i hk
    exact concatenate_pair_apply_left (t := S2x2x8448x64) (s₁ := S2x2x8192x64) (s₂ := S2x2x256x64) 2 A3 A5 _ _ rfl (ix4 b g ⟨k.val, hk⟩ e) (fun a => match a with
      | ⟨0, _⟩ => rfl
      | ⟨1, _⟩ => rfl
      | ⟨2, _⟩ => rfl
      | ⟨3, _⟩ => rfl)
  · rename_i hk
    refine concatenate_pair_apply_right (t := S2x2x8448x64) (s₁ := S2x2x8192x64) (s₂ := S2x2x256x64) 2 A3 A5 _ _ rfl rfl (ix4 b g ⟨k.val - 8192, by omega⟩ e) (fun a ha => ?_) ?_
    · match a, ha with
      | ⟨0, _⟩, _ => rfl
      | ⟨1, _⟩, _ => rfl
      | ⟨2, _⟩, ha => exact absurd rfl ha
      | ⟨3, _⟩, _ => rfl
    · show k.val - 8192 + 8192 = k.val
      omega

theorem keys_apply (A3 : Vec Ideal S2x2x8192x64 .bf16) (A5 : Vec Ideal S2x2x256x64 .bf16) (b g : Fin 2) (n : Fin 11) (κ : Fin 768) (e : Fin 64) :
    keys A3 A5 (ix5 b g n κ e) = kAt A3 A5 b g (keyOf n κ) e := by
  unfold keys
  refine (shapeCast_apply (keySeq A3 A5) shapeCasts_S2x2x8448x64_S2x2x11x768x64 _ (ix4 b g (keyOf n κ) e) ?_).trans (keySeq_apply _ _ _ _ _ _)
  simp only [Shape.rowMajor_val_four, Shape.rowMajor_val_five]
  simp [ix4, ix5, S2x2x8448x64, S2x2x11x768x64, keyOf]
  omega

/-- The values, one after the other. -/
def valSeq (A4 : Vec Ideal S2x2x64x8192 .bf16) (A6 : Vec Ideal S2x2x64x256 .bf16) : Vec Ideal S2x2x64x8448 .bf16 :=
  concatenate S2x2x64x8448 3 [⟨S2x2x64x8192, A4⟩, ⟨S2x2x64x256, A6⟩] concatenates_S2x2x64x8192_S2x2x64x256_S2x2x64x8448_d3

/-- The values in chunks. -/
def valChunks (A4 : Vec Ideal S2x2x64x8192 .bf16) (A6 : Vec Ideal S2x2x64x256 .bf16) : Vec Ideal S2x2x11x64x768 .bf16 :=
  transpose S2x2x11x64x768 [0, 1, 3, 2, 4] (shapeCast S2x2x64x11x768 (valSeq A4 A6) shapeCasts_S2x2x64x8448_S2x2x64x11x768) transposes_S2x2x64x11x768_S2x2x11x64x768_0_1_3_2_4

/-- A row of ones above fifteen of zeros. -/
def onesZeros : Vec Ideal S2x2x11x16x768 .bf16 :=
  concatenate S2x2x11x16x768 3 [⟨S2x2x11x1x768, broadcastInDim S2x2x11x1x768 ![] bcast_S_S2x2x11x1x768 (constant (F := Ideal) S_ .bf16 0x3F80#16)⟩, ⟨S2x2x11x15x768, broadcastInDim S2x2x11x15x768 ![] bcast_S_S2x2x11x15x768 (constant (F := Ideal) S_ .bf16 0x0000#16)⟩] concatenates_S2x2x11x1x768_S2x2x11x15x768_S2x2x11x16x768_d3

/-- The chunks' values with those rows under them. -/
def vals (A4 : Vec Ideal S2x2x64x8192 .bf16) (A6 : Vec Ideal S2x2x64x256 .bf16) : Vec Ideal S2x2x11x80x768 .bf16 :=
  concatenate S2x2x11x80x768 3 [⟨S2x2x11x64x768, valChunks A4 A6⟩, ⟨S2x2x11x16x768, onesZeros⟩] concatenates_S2x2x11x64x768_S2x2x11x16x768_S2x2x11x80x768_d3

theorem valSeq_apply (A4 : Vec Ideal S2x2x64x8192 .bf16) (A6 : Vec Ideal S2x2x64x256 .bf16) (b g : Fin 2) (d : Fin 64) (k : Fin 8448) :
    valSeq A4 A6 (ix4 b g d k) = vAt A4 A6 b g d k := by
  unfold valSeq vAt
  split
  · rename_i hk
    exact concatenate_pair_apply_left (t := S2x2x64x8448) (s₁ := S2x2x64x8192) (s₂ := S2x2x64x256) 3 A4 A6 _ _ rfl (ix4 b g d ⟨k.val, hk⟩) (fun a => match a with
      | ⟨0, _⟩ => rfl
      | ⟨1, _⟩ => rfl
      | ⟨2, _⟩ => rfl
      | ⟨3, _⟩ => rfl)
  · rename_i hk
    refine concatenate_pair_apply_right (t := S2x2x64x8448) (s₁ := S2x2x64x8192) (s₂ := S2x2x64x256) 3 A4 A6 _ _ rfl rfl (ix4 b g d ⟨k.val - 8192, by omega⟩) (fun a ha => ?_) ?_
    · match a, ha with
      | ⟨0, _⟩, _ => rfl
      | ⟨1, _⟩, _ => rfl
      | ⟨2, _⟩, _ => rfl
      | ⟨3, _⟩, ha => exact absurd rfl ha
    · show k.val - 8192 + 8192 = k.val
      omega

theorem valChunks_apply (A4 : Vec Ideal S2x2x64x8192 .bf16) (A6 : Vec Ideal S2x2x64x256 .bf16) (b g : Fin 2) (n : Fin 11) (d : Fin 64) (κ : Fin 768) :
    valChunks A4 A6 (ix5 b g n d κ) = vAt A4 A6 b g d (keyOf n κ) := by
  unfold valChunks
  refine (transpose_apply [0, 1, 3, 2, 4] _ transposes_S2x2x64x11x768_S2x2x11x64x768_0_1_3_2_4 (ix5 b g n d κ) (ix5 b g d n κ) (fun a => match a with
    | ⟨0, _⟩ => rfl
    | ⟨1, _⟩ => rfl
    | ⟨2, _⟩ => rfl
    | ⟨3, _⟩ => rfl
    | ⟨4, _⟩ => rfl)).trans ?_
  refine (shapeCast_apply (valSeq A4 A6) shapeCasts_S2x2x64x8448_S2x2x64x11x768 _ (ix4 b g d (keyOf n κ)) ?_).trans (valSeq_apply _ _ _ _ _ _)
  simp only [Shape.rowMajor_val_four, Shape.rowMajor_val_five]
  simp [ix4, ix5, S2x2x64x8448, S2x2x64x11x768, keyOf]
  omega

theorem vals_apply (A4 : Vec Ideal S2x2x64x8192 .bf16) (A6 : Vec Ideal S2x2x64x256 .bf16) (b g : Fin 2) (n : Fin 11) (d : Fin 64) (κ : Fin 768) :
    vals A4 A6 (ix5 b g n (⟨d.val, by omega⟩ : Fin 80) κ) = vAt A4 A6 b g d (keyOf n κ) := by
  unfold vals
  exact (concatenate_pair_apply_left (t := S2x2x11x80x768) (s₁ := S2x2x11x64x768) (s₂ := S2x2x11x16x768) 3 (valChunks A4 A6) onesZeros _ _ rfl (ix5 b g n d κ) (fun a => match a with
    | ⟨0, _⟩ => rfl
    | ⟨1, _⟩ => rfl
    | ⟨2, _⟩ => rfl
    | ⟨3, _⟩ => rfl
    | ⟨4, _⟩ => rfl)).trans (valChunks_apply _ _ _ _ _ _ _)

theorem onesZeros_apply (b g : Fin 2) (n : Fin 11) (κ : Fin 768) : onesZeros (ix5 b g n (0 : Fin 16) κ) = (1 : EReal) := by
  unfold onesZeros
  exact (concatenate_pair_apply_left (t := S2x2x11x16x768) (s₁ := S2x2x11x1x768) (s₂ := S2x2x11x15x768) 3 _ _ _ _ rfl (ix5 b g n (0 : Fin 1) κ) (fun a => match a with
    | ⟨0, _⟩ => rfl
    | ⟨1, _⟩ => rfl
    | ⟨2, _⟩ => rfl
    | ⟨3, _⟩ => rfl
    | ⟨4, _⟩ => rfl)).trans Ideal.ofBits_one_bf16

theorem vals_one (A4 : Vec Ideal S2x2x64x8192 .bf16) (A6 : Vec Ideal S2x2x64x256 .bf16) (b g : Fin 2) (n : Fin 11) (κ : Fin 768) :
    vals A4 A6 (ix5 b g n (64 : Fin 80) κ) = (1 : EReal) := by
  unfold vals
  refine (concatenate_pair_apply_right (t := S2x2x11x80x768) (s₁ := S2x2x11x64x768) (s₂ := S2x2x11x16x768) 3 (valChunks A4 A6) onesZeros _ _ rfl rfl (ix5 b g n (0 : Fin 16) κ) (fun a ha => ?_) rfl).trans (onesZeros_apply _ _ _ _)
  match a, ha with
  | ⟨0, _⟩, _ => rfl
  | ⟨1, _⟩, _ => rfl
  | ⟨2, _⟩, _ => rfl
  | ⟨3, _⟩, ha => exact absurd rfl ha
  | ⟨4, _⟩, _ => rfl

/-! ## The bound -/

/-- The largest magnitude of a row. -/
def maxAbs (x : FVec Ideal S1x64 .f32) : FVec Ideal S_ .f32 :=
  Host.reduce FloatOps.maximumf (Host.absf (F := Ideal) (φ := .f32) (shapeCast S64 x shapeCasts_S1x64_S64)) (constant (F := Ideal) S_ .f32 0xFF800000#32) reducesTo_S64_S_d0 h_S_

/-- The bound of the scores: a constant times the two rows' largest magnitudes. -/
def bound (x y : FVec Ideal S1x64 .f32) : FVec Ideal S1 .f32 :=
  shapeCast S1 (mulf (F := Ideal) (φ := .f32) (mulf (F := Ideal) (φ := .f32) (constant (F := Ideal) S_ .f32 0x413C5BB7#32) (maxAbs x)) (maxAbs y)) shapeCasts_S_S1

theorem maxAbs_nonneg (x : FVec Ideal S1x64 .f32) (j : S_.Idx) : (0 : EReal) ≤ maxAbs x j := by
  unfold maxAbs
  refine le_trans ?_ (Cert.MaxReduce.le_reduce _ _ reducesTo_S64_S_d0 h_S_ j (ix1 (0 : Fin 64)) (funext fun a => a.elim0))
  show (0 : EReal) ≤ max (shapeCast S64 x shapeCasts_S1x64_S64 (ix1 (0 : Fin 64))) (-(shapeCast S64 x shapeCasts_S1x64_S64 (ix1 (0 : Fin 64))) : EReal)
  generalize (shapeCast S64 x shapeCasts_S1x64_S64 (ix1 (0 : Fin 64)) : EReal) = y
  rcases le_total 0 y with h | h
  · exact le_max_of_le_left h
  · exact le_max_of_le_right (EReal.neg_nonneg.mpr h)

theorem scale_nonneg : (0 : EReal) ≤ Ideal.ofBits .f32 0x413C5BB7#32 := by
  unfold Ideal.ofBits Ideal.ieee
  simp only [show ¬ ((0x413C5BB7#32).extractLsb' 23 8).toNat = 2 ^ 8 - 1 by decide, show ¬ ((0x413C5BB7#32).extractLsb' 23 8).toNat = 0 by decide, if_false,
    show ((0x413C5BB7#32).extractLsb' (8 + 23) 1 == 1#1) = false by decide]
  rw [EReal.coe_nonneg]
  simp only [Bool.false_eq_true, if_false, one_mul]
  positivity

theorem bound_ne_bot (x y : FVec Ideal S1x64 .f32) (i : S1.Idx) : bound x y i ≠ (⊥ : EReal) := by
  have h : (0 : EReal) ≤ bound x y i := by
    unfold bound shapeCast
    generalize Shape.reshapeEquiv _ i = j
    exact mul_nonneg (mul_nonneg scale_nonneg (maxAbs_nonneg x j)) (maxAbs_nonneg y j)
  exact ne_of_gt (lt_of_lt_of_le EReal.bot_lt_zero h)

end Cert.KernelIdeal.Attn

end
-- ==== Proof.AttnHost.lean ====
module

public import proofs.«01_k».proof.Proof.AttnSeq

/-! The attention call's operands, from the arguments -/

@[expose] public section

set_option maxRecDepth 16384

noncomputable section

namespace Cert.KernelIdeal.Attn

open Cert.KernelIdeal Cert.KernelIdeal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic Idealize.ShloMosaic.ValueIdx
open Idealize.SL.Sem
open Cert.Softmax

variable (m : (ℓ : Loc nD τ sig) → Buf (Elt Ideal) ℓ) (c : Dev nD)

theorem v1_eq : (V m c main_v1 : Vec Ideal S2x2x11x768x64 .bf16) = keys (m ((c : Thread nD τ).loc main_arg3)) (m ((c : Thread nD τ).loc main_arg5)) := by
  unfold V hostOps0
  after_results_simp <;> rfl

theorem v8_eq : (V m c main_v8 : Vec Ideal S2x2x11x80x768 .bf16) = vals (m ((c : Thread nD τ).loc main_arg4)) (m ((c : Thread nD τ).loc main_arg6)) := by
  unfold V hostOps0
  after_results_simp <;> rfl

theorem v17_eq : (V m c main_v17 : Vec Ideal S1 .f32) = bound (m ((c : Thread nD τ).loc main_arg0)) (m ((c : Thread nD τ).loc main_arg1)) := by
  unfold V hostOps0
  after_results_simp <;> rfl

end Cert.KernelIdeal.Attn

end
-- ==== Proof.AttnArray.lean ====
module

public import proofs.«01_k».proof.Proof.AttnHost

/-! The attention's array after the run, from the arguments -/

@[expose] public section

set_option maxRecDepth 16384

noncomputable section

namespace Cert.KernelIdeal.Attn

open Cert.KernelIdeal Cert.KernelIdeal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic Idealize.ShloMosaic.ValueIdx
open Idealize.SL Idealize.SL.RA Idealize.SL.BI
open Idealize.SL.Sem
open Idealize.ShloMosaic.Pipeline (Dat Cfg Window BodyObligation cellOf)
open Cert.Softmax

/-! ## The closed form -/

/-- Column of group `g`, head `h` and component `d`. -/
def outCol (g : Fin 2) (h : Fin 4) (d : Fin 64) : Fin 512 := ⟨256 * g.val + 64 * h.val + d.val, by omega⟩
def grpOf (x : Fin 512) : Fin 2 := ⟨x.val / 256, by omega⟩
def headOf (x : Fin 512) : Fin 4 := ⟨x.val % 256 / 64, by omega⟩
def compOf (x : Fin 512) : Fin 64 := ⟨x.val % 64, by omega⟩

theorem outCol_of (x : Fin 512) : outCol (grpOf x) (headOf x) (compOf x) = x := by
  apply Fin.ext; show 256 * (x.val / 256) + 64 * (x.val % 256 / 64) + x.val % 64 = x.val; omega

/-- The score, to base 2, of key `k` with the query of row `s`, group `g` and head `h`. -/
def scoreAt (A2 : Vec Ideal S2x8192x512 .bf16) (A3 : Vec Ideal S2x2x8192x64 .bf16) (A5 : Vec Ideal S2x2x256x64 .bf16)
    (b : Fin 2) (s : Fin 8192) (g : Fin 2) (h : Fin 4) (k : Fin 8448) : EReal :=
  ∑ e : Fin 64, kAt A3 A5 b g k e * A2 (ix3 b s (outCol g h e))

/-- The attention's result at an entry: the values weighted by the softmax of the scores. -/
def attnAt (A2 : Vec Ideal S2x8192x512 .bf16) (A3 : Vec Ideal S2x2x8192x64 .bf16) (A4 : Vec Ideal S2x2x64x8192 .bf16) (A5 : Vec Ideal S2x2x256x64 .bf16) (A6 : Vec Ideal S2x2x64x256 .bf16)
    (b : Fin 2) (s : Fin 8192) (g : Fin 2) (h : Fin 4) (d : Fin 64) : EReal :=
  soft (fun k : Fin 8448 => (scoreAt A2 A3 A5 b s g h k).toReal) (fun k => vAt A4 A6 b g d k)

theorem soft_equiv {ι κ : Type} [Fintype ι] [Fintype κ] (e : ι ≃ κ) (s : κ → ℝ) (v : κ → EReal) :
    soft (fun i => s (e i)) (fun i => v (e i)) = soft s v := by
  unfold soft
  rw [Equiv.sum_comp e (fun j => (2 : ℝ) ^ s j)]
  exact Equiv.sum_comp e (fun k => v k * (((2 : ℝ) ^ s k / ∑ j, (2 : ℝ) ^ s j : ℝ) : EReal))

/-- Chunk and place in it, for the place in the sequence. -/
def keyEquiv : Fin 11 × Fin 768 ≃ Fin 8448 := finProdFinEquiv

theorem keyEquiv_eq (p : Fin 11 × Fin 768) : keyEquiv p = keyOf p.1 p.2 := by
  apply Fin.ext
  show p.2.val + 768 * p.1.val = 768 * p.1.val + p.2.val
  omega

/-! ## The blocks -/

variable (m : (ℓ : Loc nD τ sig) → Buf (Elt Ideal) ℓ) (c : Dev nD)

theorem index_facts : ∀ t : Fin cfg0.N,
    (win0_0.index t (0 : Fin 1) = 0)
    ∧ (win0_1.index t (0 : Fin 3) = t.val / 32 ∧ win0_1.index t (1 : Fin 3) = t.val % 16 ∧ win0_1.index t (2 : Fin 3) = t.val / 16 % 2)
    ∧ (win0_2.index t (0 : Fin 5) = t.val / 32 ∧ win0_2.index t (1 : Fin 5) = t.val / 16 % 2 ∧ win0_2.index t (2 : Fin 5) = 0 ∧ win0_2.index t (3 : Fin 5) = 0 ∧ win0_2.index t (4 : Fin 5) = 0)
    ∧ (win0_3.index t (0 : Fin 5) = t.val / 32 ∧ win0_3.index t (1 : Fin 5) = t.val / 16 % 2 ∧ win0_3.index t (2 : Fin 5) = 0 ∧ win0_3.index t (3 : Fin 5) = 0 ∧ win0_3.index t (4 : Fin 5) = 0)
    ∧ (win0_4.index t (0 : Fin 3) = t.val / 32 ∧ win0_4.index t (1 : Fin 3) = t.val % 16 ∧ win0_4.index t (2 : Fin 3) = t.val / 16 % 2) :=
  (by decide +kernel : ∀ t : Fin grid0.N, _)

theorem lt_N (t : Fin cfg0.N) : t.val < 64 := Nat.lt_of_lt_of_eq t.isLt (show cfg0.N = 64 from N_0)

def batOf (t : Fin cfg0.N) : Fin 2 := ⟨t.val / 32, by have := lt_N t; omega⟩
def grOf (t : Fin cfg0.N) : Fin 2 := ⟨t.val / 16 % 2, by omega⟩
def seqOf (t : Fin cfg0.N) (r : Fin 512) : Fin 8192 := ⟨512 * (t.val % 16) + r.val, by omega⟩

theorem x0_apply (t : Fin cfg0.N) :
    (iblk m c 0 t : Vec Ideal S1 .f32) (ix1 (0 : Fin 1)) = bound (m ((c : Thread nD τ).loc main_arg0)) (m ((c : Thread nD τ).loc main_arg1)) (ix1 (0 : Fin 1)) := by
  obtain ⟨e0, -⟩ := index_facts t
  unfold iblk
  refine (congrArg (V m c main_v17) (?_ : _ = (ix1 (0 : Fin 1) : S1.Idx))).trans (congrFun (v17_eq m c) _)
  funext a
  apply Fin.ext
  match a with
  | ⟨0, _⟩ => show win0_0.index t (0 : Fin 1) * 1 + 1 * 0 = 0; rw [e0]

theorem x1_apply (t : Fin cfg0.N) (r : Fin 512) (h : Fin 4) (e : Fin 64) :
    (iblk m c 1 t : Vec Ideal S1x512x256 .bf16) (ix3 (0 : Fin 1) r (colOf h e)) = (m ((c : Thread nD τ).loc main_arg2) : Vec Ideal S2x8192x512 .bf16) (ix3 (batOf t) (seqOf t r) (outCol (grOf t) h e)) := by
  obtain ⟨-, ⟨e0, e1, e2⟩, -⟩ := index_facts t
  unfold iblk
  refine (congrArg (V m c main_arg2) (?_ : _ = (ix3 (batOf t) (seqOf t r) (outCol (grOf t) h e) : S2x8192x512.Idx))).trans (congrFun (V_main_arg2 m c) _)
  funext a
  apply Fin.ext
  match a with
  | ⟨0, _⟩ => show win0_1.index t (0 : Fin 3) * 1 + 1 * 0 = t.val / 32; rw [e0]; omega
  | ⟨1, _⟩ => show win0_1.index t (1 : Fin 3) * 512 + 1 * r.val = 512 * (t.val % 16) + r.val; rw [e1]; omega
  | ⟨2, _⟩ => show win0_1.index t (2 : Fin 3) * 256 + 1 * (64 * h.val + e.val) = 256 * (t.val / 16 % 2) + 64 * h.val + e.val; rw [e2]; omega

theorem x2_apply (t : Fin cfg0.N) (n : Fin 11) (κ : Fin 768) (e : Fin 64) :
    (iblk m c 2 t : Vec Ideal S1x1x11x768x64 .bf16) (ix5 (0 : Fin 1) (0 : Fin 1) n κ e) = kAt (m ((c : Thread nD τ).loc main_arg3)) (m ((c : Thread nD τ).loc main_arg5)) (batOf t) (grOf t) (keyOf n κ) e := by
  obtain ⟨-, -, ⟨e0, e1, e2, e3, e4⟩, -⟩ := index_facts t
  unfold iblk
  refine (congrArg (V m c main_v1) (?_ : _ = (ix5 (batOf t) (grOf t) n κ e : S2x2x11x768x64.Idx))).trans ((congrFun (v1_eq m c) _).trans (keys_apply _ _ _ _ _ _ _))
  funext a
  apply Fin.ext
  match a with
  | ⟨0, _⟩ => show win0_2.index t (0 : Fin 5) * 1 + 1 * 0 = t.val / 32; rw [e0]; omega
  | ⟨1, _⟩ => show win0_2.index t (1 : Fin 5) * 1 + 1 * 0 = t.val / 16 % 2; rw [e1]; omega
  | ⟨2, _⟩ => show win0_2.index t (2 : Fin 5) * 11 + 1 * n.val = n.val; rw [e2]; omega
  | ⟨3, _⟩ => show win0_2.index t (3 : Fin 5) * 768 + 1 * κ.val = κ.val; rw [e3]; omega
  | ⟨4, _⟩ => show win0_2.index t (4 : Fin 5) * 64 + 1 * e.val = e.val; rw [e4]; omega

theorem x3_read (t : Fin cfg0.N) (n : Fin 11) (d : Fin 80) (κ : Fin 768) :
    (iblk m c 3 t : Vec Ideal S1x1x11x80x768 .bf16) (ix5 (0 : Fin 1) (0 : Fin 1) n d κ) = vals (m ((c : Thread nD τ).loc main_arg4)) (m ((c : Thread nD τ).loc main_arg6)) (ix5 (batOf t) (grOf t) n d κ) := by
  obtain ⟨-, -, -, ⟨e0, e1, e2, e3, e4⟩, -⟩ := index_facts t
  unfold iblk
  refine (congrArg (V m c main_v8) (?_ : _ = (ix5 (batOf t) (grOf t) n d κ : S2x2x11x80x768.Idx))).trans (congrFun (v8_eq m c) _)
  funext a
  apply Fin.ext
  match a with
  | ⟨0, _⟩ => show win0_3.index t (0 : Fin 5) * 1 + 1 * 0 = t.val / 32; rw [e0]; omega
  | ⟨1, _⟩ => show win0_3.index t (1 : Fin 5) * 1 + 1 * 0 = t.val / 16 % 2; rw [e1]; omega
  | ⟨2, _⟩ => show win0_3.index t (2 : Fin 5) * 11 + 1 * n.val = n.val; rw [e2]; omega
  | ⟨3, _⟩ => show win0_3.index t (3 : Fin 5) * 80 + 1 * d.val = d.val; rw [e3]; omega
  | ⟨4, _⟩ => show win0_3.index t (4 : Fin 5) * 768 + 1 * κ.val = κ.val; rw [e4]; omega

/-- The queries and the keys are real numbers. -/
structure Finite : Prop where
  q : ∀ i, IsReal ((m ((c : Thread nD τ).loc main_arg2) : Vec Ideal S2x8192x512 .bf16) i)
  k : ∀ i, IsReal ((m ((c : Thread nD τ).loc main_arg3) : Vec Ideal S2x2x8192x64 .bf16) i)
  kc : ∀ i, IsReal ((m ((c : Thread nD τ).loc main_arg5) : Vec Ideal S2x2x256x64 .bf16) i)

theorem kAt_real (hf : Finite m c) (b g : Fin 2) (k : Fin 8448) (e : Fin 64) : IsReal (kAt (m ((c : Thread nD τ).loc main_arg3)) (m ((c : Thread nD τ).loc main_arg5)) b g k e) := by
  unfold kAt
  split
  · exact hf.k _
  · exact hf.kc _

/-- The array. -/
def G (m : (ℓ : Loc nD τ sig) → Buf (Elt Ideal) ℓ) (c : Dev nD) : Vec Ideal S2x8192x512 .bf16 := fun i =>
  attnAt (m ((c : Thread nD τ).loc main_arg2)) (m ((c : Thread nD τ).loc main_arg3)) (m ((c : Thread nD τ).loc main_arg4)) (m ((c : Thread nD τ).loc main_arg5)) (m ((c : Thread nD τ).loc main_arg6))
    (i 0) (i 1) (grpOf (i 2)) (headOf (i 2)) (compOf (i 2))

/-- A point's output block at an entry. -/
theorem block_apply (hf : Finite m c) (t : Fin cfg0.N) (r : Fin 512) (h : Fin 4) (d : Fin 64) :
    attnOut (F := Ideal) (iblk m c 0 t) (iblk m c 1 t) (iblk m c 2 t) (iblk m c 3 t) (ix3 (0 : Fin 1) r (colOf h d))
      = attnAt (m ((c : Thread nD τ).loc main_arg2)) (m ((c : Thread nD τ).loc main_arg3)) (m ((c : Thread nD τ).loc main_arg4)) (m ((c : Thread nD τ).loc main_arg5)) (m ((c : Thread nD τ).loc main_arg6)) (batOf t) (seqOf t r) (grOf t) h d := by
  refine (attnOut_apply (iblk m c 0 t) (iblk m c 1 t) (iblk m c 2 t) (iblk m c 3 t) h r d ?_ ?_ ?_ ?_).trans ?_
  · exact fun e => bound_ne_bot _ _ _ ((x0_apply m c t).symm.trans e)
  · intro e
    have := x1_apply m c t r h e
    exact (congrArg IsReal this).mpr (hf.q _)
  · intro n κ e
    have := x2_apply m c t n κ e
    exact (congrArg IsReal this).mpr (kAt_real m c hf _ _ _ _)
  · exact fun n κ => (x3_read m c t n 64 κ).trans (vals_one _ _ _ _ _ _)
  · unfold attnAt
    rw [← soft_equiv keyEquiv]
    refine congrArg₂ soft (funext fun p => congrArg EReal.toReal ?_) (funext fun p => ?_)
    · unfold scoreAt
      refine Finset.sum_congr rfl fun e _ => ?_
      rw [keyEquiv_eq]
      exact congrArg₂ (fun x y : EReal => x * y) (x2_apply m c t p.1 p.2 e) (x1_apply m c t r h e)
    · rw [keyEquiv_eq]
      exact (x3_read m c t p.1 _ p.2).trans (vals_apply _ _ _ _ _ _ _)

/-! ## The array -/

theorem flushed_eq (hf : Finite m c) (t : Fin cfg0.N) :
    (dats m 0 c).flushed 4 t = ((cfg0.win 4).blk t).view.read (Elt Ideal) (G m c) := by
  show (cfg0.win 4).cut (grid0.coords t) ((dats m 0 c).after 4 t) = _
  rw [after_4]
  obtain ⟨-, -, -, -, ⟨e0, e1, e2⟩⟩ := index_facts t
  funext y
  have hy0 : (y 0).val < 1 := (y 0).isLt
  have hy1 : (y 1).val < 512 := (y 1).isLt
  have hy2 : (y 2).val < 256 := (y 2).isLt
  have hl : (cfg0.win 4).xinj (grid0.coords t) y = (ix3 (0 : Fin 1) (⟨(y 1).val, hy1⟩ : Fin 512) (colOf ⟨(y 2).val / 64, by omega⟩ ⟨(y 2).val % 64, by omega⟩) : S1x512x256.Idx) := by
    funext a
    apply Fin.ext
    match a with
    | ⟨0, _⟩ => show (y 0).val = 0; omega
    | ⟨1, _⟩ => rfl
    | ⟨2, _⟩ => show (y 2).val = 64 * ((y 2).val / 64) + (y 2).val % 64; omega
  show attnOut (iblk m c 0 t) (iblk m c 1 t) (iblk m c 2 t) (iblk m c 3 t) ((cfg0.win 4).xinj (grid0.coords t) y) = G m c (((cfg0.win 4).blk t).view.emb y)
  rw [hl, block_apply m c hf]
  have hb0 : (((cfg0.win 4).blk t).view.emb y 0).val = win0_4.index t (0 : Fin 3) * 1 + 1 * (y 0).val := rfl
  have hb1 : (((cfg0.win 4).blk t).view.emb y 1).val = win0_4.index t (1 : Fin 3) * 512 + 1 * (y 1).val := rfl
  have hb2 : (((cfg0.win 4).blk t).view.emb y 2).val = win0_4.index t (2 : Fin 3) * 256 + 1 * (y 2).val := rfl
  have g0 : batOf t = ((cfg0.win 4).blk t).view.emb y 0 := Fin.ext (by rw [hb0, e0]; show t.val / 32 = _; omega)
  have g1 : seqOf t ⟨(y 1).val, hy1⟩ = ((cfg0.win 4).blk t).view.emb y 1 := Fin.ext (by rw [hb1, e1]; show 512 * (t.val % 16) + (y 1).val = _; omega)
  have g2 : grOf t = grpOf (((cfg0.win 4).blk t).view.emb y 2) := Fin.ext (by
    show t.val / 16 % 2 = (((cfg0.win 4).blk t).view.emb y 2).val / 256; rw [hb2, e2]; omega)
  have g3 : (⟨(y 2).val / 64, by omega⟩ : Fin 4) = headOf (((cfg0.win 4).blk t).view.emb y 2) := Fin.ext (by
    show (y 2).val / 64 = (((cfg0.win 4).blk t).view.emb y 2).val % 256 / 64; rw [hb2, e2]; omega)
  have g4 : (⟨(y 2).val % 64, by omega⟩ : Fin 64) = compOf (((cfg0.win 4).blk t).view.emb y 2) := Fin.ext (by
    show (y 2).val % 64 = (((cfg0.win 4).blk t).view.emb y 2).val % 64; rw [hb2, e2]; omega)
  unfold G
  rw [g2, g3, g4]
  exact congrArg₂ (fun (x : Fin 2) (z : Fin 8192) => attnAt _ _ _ _ _ x z _ _ _) g0 g1

theorem mem_blk (t : Fin cfg0.N) (i : S2x8192x512.Idx) :
    i ∈ ((cfg0.win 4).blk t).view.set ↔ ∀ a : Fin 3, win0_4.index t a * S1x512x256.size a ≤ (i a).val ∧ (i a).val < win0_4.index t a * S1x512x256.size a + S1x512x256.size a := by
  show i ∈ ((View.whole main_v18).slice (win0_4.rect t)).set ↔ _
  rw [View.set_slice_whole, Rect.mem_set_unit]
  exact Iff.rfl

theorem covered (i : S2x8192x512.Idx) : ∃ t : Fin cfg0.N, (cfg0.win 4).flush t = true ∧ i ∈ ((cfg0.win 4).blk t).view.set := by
  have hi0 : (i 0).val < 2 := (i 0).isLt
  have hi1 : (i 1).val < 8192 := (i 1).isLt
  have hi2 : (i 2).val < 512 := (i 2).isLt
  have hN : cfg0.N = 64 := N_0
  let t : Fin cfg0.N := ⟨32 * (i 0).val + 16 * ((i 2).val / 256) + (i 1).val / 512, by omega⟩
  have ht : t.val = 32 * (i 0).val + 16 * ((i 2).val / 256) + (i 1).val / 512 := rfl
  obtain ⟨-, -, -, -, ⟨e0, e1, e2⟩⟩ := index_facts t
  refine ⟨t, flush0_4 t, (mem_blk t i).mpr fun a => ?_⟩
  match a with
  | ⟨0, _⟩ => show win0_4.index t (0 : Fin 3) * 1 ≤ (i 0).val ∧ (i 0).val < win0_4.index t (0 : Fin 3) * 1 + 1; rw [e0, ht]; omega
  | ⟨1, _⟩ => show win0_4.index t (1 : Fin 3) * 512 ≤ (i 1).val ∧ (i 1).val < win0_4.index t (1 : Fin 3) * 512 + 512; rw [e1, ht]; omega
  | ⟨2, _⟩ => show win0_4.index t (2 : Fin 3) * 256 ≤ (i 2).val ∧ (i 2).val < win0_4.index t (2 : Fin 3) * 256 + 256; rw [e2, ht]; omega

theorem arr_eq (hf : Finite m c) : (dats m 0 c).arrAt 4 cfg0.N = G m c :=
  (dats m 0 c).arrAt_eq_of_cover 4 _ (fun t _ => flushed_eq m c hf t) covered

end Cert.KernelIdeal.Attn

end
-- ==== Proof.AttnPre.lean ====
module

public import proofs.«01_k».proof.Defs
public import proofs.«01_k».proof.Proof.AttnArray
public import Idealize.ShloMosaic.Lib.ReduceAll
public import Idealize.ShloMosaic.Lib.Affine

/-! The precondition read back: the queries and the keys are real numbers -/

@[expose] public section

set_option maxRecDepth 16384

noncomputable section

namespace Cert.FiniteQk

open Idealize.ShloMosaic Idealize.ShloMosaic.TcCoe Cert.Softmax

/-- The predicate's shape facts. -/
theorem facts : Cert.Pre_finite_qk.Facts where
  bitsLt_bf16_f32 := by decide
  bcast_S_S2x8192x512 := by decide
  reducesTo_S2x8192x512_S_d0_1_2 := by decide
  h_S_ := by decide
  bcast_S_S2x2x8192x64 := by decide
  reducesTo_S2x2x8192x64_S_d0_1_2_3 := by decide
  bcast_S_S2x2x256x64 := by decide
  reducesTo_S2x2x256x64_S_d0_1_2_3 := by decide

instance : Subsingleton Cert.Pre_finite_qk.S_.Idx := ⟨fun a b => funext fun i => i.elim0⟩

theorem posInf_eq : Ideal.ofBits .f32 0x7F800000#32 = ⊤ := by
  simp [Ideal.ofBits, Ideal.ieee]

/-- A magnitude below infinity is a real number's. -/
theorem real_of_lt (x : EReal) (h : Ideal.cmp .olt (max x (-x)) (Ideal.ofBits .f32 0x7F800000#32) = 1#1) : IsReal x := by
  rw [posInf_eq] at h
  have hlt : max x (-x) < ⊤ := by
    unfold Ideal.cmp at h
    by_contra hn
    simp [hn] at h
  refine isReal_of_ne (fun e => ?_) (fun e => ?_)
  · rw [e] at hlt; simp at hlt
  · rw [e] at hlt; simp at hlt

attribute [local instance] facts

theorem finite (m : (ℓ : Loc Cert.KernelIdeal.nD Cert.KernelIdeal.τ Cert.KernelIdeal.sig) → Buf (Elt Ideal) ℓ) (h : Cert.Pre_KernelIdeal_finite_qk m) (c : Dev Cert.KernelIdeal.nD) :
    Cert.KernelIdeal.Attn.Finite m c := by
  have h0 := congrFun (h c) (fun a => a.elim0)
  unfold Cert.Pre_finite_qk.fn at h0
  obtain ⟨h1, h2⟩ := IntOp.andi_eq_one.mp h0
  obtain ⟨h3, h4⟩ := IntOp.andi_eq_one.mp h1
  exact {
    q := fun i => real_of_lt _ (Host.reduce_andi_all _ _ _ _ _ h3 i)
    k := fun i => real_of_lt _ (Host.reduce_andi_all _ _ _ _ _ h4 i)
    kc := fun i => real_of_lt _ (Host.reduce_andi_all _ _ _ _ _ h2 i) }

end Cert.FiniteQk

end
-- ==== Proof.AttnRef.lean ====
module

public import proofs.«01_k».proof.Proof.AttnArray
public import proofs.«01_k».proof.Proof.Gen.ReferenceIdeal.Run
public import proofs.«01_k».proof.Proof.Gen.ReferenceIdeal.Read

/-! The reference's attention at an entry: the softmax of the row's scores over the values -/

@[expose] public section

set_option maxRecDepth 16384

noncomputable section

namespace Cert.ReferenceIdeal.Attn

open Cert.ReferenceIdeal Cert.ReferenceIdeal.Gen Cert.ReferenceIdeal.Read
open Cert.KernelIdeal.Attn (kAt vAt scoreAt attnAt outCol grpOf headOf compOf outCol_of twice_eq negInf_ne_top)
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic Idealize.ShloMosaic.ValueIdx
open Idealize.SL.Sem
open Cert.Softmax

variable (x2 : Vec Ideal S2x8192x512 .bf16) (x3 : Vec Ideal S2x2x8192x64 .bf16) (x4 : Vec Ideal S2x2x64x8192 .bf16) (x5 : Vec Ideal S2x2x256x64 .bf16) (x6 : Vec Ideal S2x2x64x256 .bf16)

theorem key_apply (b g : Fin 2) (k : Fin 8448) (e : Fin 64) :
    val_main_v4 (F := Ideal) x3 x5 (ix4 b k g e) = kAt x3 x5 b g k e := by
  unfold val_main_v4 kAt
  split
  · rename_i hk
    refine (concatenate_pair_apply_left (t := S2x8448x2x64) (s₁ := S2x8192x2x64) (s₂ := S2x256x2x64) 1 (val_main_v2 (F := Ideal) x3) (val_main_v3 (F := Ideal) x5) _ _ rfl (ix4 b (⟨k.val, hk⟩ : Fin 8192) g e) (fun a => match a with
      | ⟨0, _⟩ => rfl
      | ⟨1, _⟩ => rfl
      | ⟨2, _⟩ => rfl
      | ⟨3, _⟩ => rfl)).trans ?_
    refine (val_main_v2_apply (F := Ideal) x3 _).trans (congrArg x3 (funext fun a => ?_))
    match a with
    | ⟨0, _⟩ => rfl
    | ⟨1, _⟩ => rfl
    | ⟨2, _⟩ => rfl
    | ⟨3, _⟩ => rfl
  · rename_i hk
    refine (concatenate_pair_apply_right (t := S2x8448x2x64) (s₁ := S2x8192x2x64) (s₂ := S2x256x2x64) 1 (val_main_v2 (F := Ideal) x3) (val_main_v3 (F := Ideal) x5) _ _ rfl rfl (ix4 b (⟨k.val - 8192, by omega⟩ : Fin 256) g e) (fun a ha => ?_) ?_).trans ?_
    · match a, ha with
      | ⟨0, _⟩, _ => rfl
      | ⟨1, _⟩, ha => exact absurd rfl ha
      | ⟨2, _⟩, _ => rfl
      | ⟨3, _⟩, _ => rfl
    · show k.val - 8192 + 8192 = k.val
      omega
    refine (val_main_v3_apply (F := Ideal) x5 _).trans (congrArg x5 (funext fun a => ?_))
    match a with
    | ⟨0, _⟩ => rfl
    | ⟨1, _⟩ => rfl
    | ⟨2, _⟩ => rfl
    | ⟨3, _⟩ => rfl

theorem value_apply (b g : Fin 2) (k : Fin 8448) (d : Fin 64) :
    val_main_v8 (F := Ideal) x4 x6 (ix4 b k g d) = vAt x4 x6 b g d k := by
  unfold val_main_v8 vAt
  split
  · rename_i hk
    refine (concatenate_pair_apply_left (t := S2x8448x2x64) (s₁ := S2x8192x2x64) (s₂ := S2x256x2x64) 1 (val_main_v6 (F := Ideal) x4) (val_main_v7 (F := Ideal) x6) _ _ rfl (ix4 b (⟨k.val, hk⟩ : Fin 8192) g d) (fun a => match a with
      | ⟨0, _⟩ => rfl
      | ⟨1, _⟩ => rfl
      | ⟨2, _⟩ => rfl
      | ⟨3, _⟩ => rfl)).trans ?_
    refine (val_main_v6_apply (F := Ideal) x4 _).trans (congrArg x4 (funext fun a => ?_))
    match a with
    | ⟨0, _⟩ => rfl
    | ⟨1, _⟩ => rfl
    | ⟨2, _⟩ => rfl
    | ⟨3, _⟩ => rfl
  · rename_i hk
    refine (concatenate_pair_apply_right (t := S2x8448x2x64) (s₁ := S2x8192x2x64) (s₂ := S2x256x2x64) 1 (val_main_v6 (F := Ideal) x4) (val_main_v7 (F := Ideal) x6) _ _ rfl rfl (ix4 b (⟨k.val - 8192, by omega⟩ : Fin 256) g d) (fun a ha => ?_) ?_).trans ?_
    · match a, ha with
      | ⟨0, _⟩, _ => rfl
      | ⟨1, _⟩, ha => exact absurd rfl ha
      | ⟨2, _⟩, _ => rfl
      | ⟨3, _⟩, _ => rfl
    · show k.val - 8192 + 8192 = k.val
      omega
    refine (val_main_v7_apply (F := Ideal) x6 _).trans (congrArg x6 (funext fun a => ?_))
    match a with
    | ⟨0, _⟩ => rfl
    | ⟨1, _⟩ => rfl
    | ⟨2, _⟩ => rfl
    | ⟨3, _⟩ => rfl

theorem query_apply (b : Fin 2) (s : Fin 8192) (g : Fin 2) (h : Fin 4) (e : Fin 64) :
    val_main_v1 (F := Ideal) x2 (ix5 b s g h e) = x2 (ix3 b s (outCol g h e)) := by
  unfold val_main_v1
  refine (shapeCast_apply (val_main_v0 (F := Ideal) x2) shapeCasts_S2x8192x512_S2x8192x2x4x64 (ix5 b s g h e) (ix3 b s (outCol g h e)) ?_).trans rfl
  simp only [Shape.rowMajor_val_three, Shape.rowMajor_val_five]
  simp [ix3, ix5, S2x8192x512, S2x8192x2x4x64, outCol]
  omega

theorem score_apply (b g : Fin 2) (h : Fin 4) (s : Fin 8192) (k : Fin 8448) :
    val_main_v11 (F := Ideal) x2 x3 x5 (ix5 b g h s k) = scoreAt x2 x3 x5 b s g h k := by
  rw [val_main_v11_apply, val_main_v10_apply]
  unfold scoreAt
  refine Finset.sum_congr rfl fun e _ => ?_
  refine congrArg₂ (fun x y : EReal => x * y) ?_ ?_
  · refine Eq.trans ?_ (key_apply x3 x5 b g k e)
    rw [val_main_v5_apply]
    show val_main_v4 (F := Ideal) x3 x5 _ = _
    refine congrArg (val_main_v4 (F := Ideal) x3 x5) (funext fun a => ?_)
    match a with
    | ⟨0, _⟩ => rfl
    | ⟨1, _⟩ => rfl
    | ⟨2, _⟩ => rfl
    | ⟨3, _⟩ => rfl
  · refine Eq.trans ?_ (query_apply x2 b s g h e)
    refine congrArg (val_main_v1 (F := Ideal) x2) (funext fun a => ?_)
    match a with
    | ⟨0, _⟩ => rfl
    | ⟨1, _⟩ => rfl
    | ⟨2, _⟩ => rfl
    | ⟨3, _⟩ => rfl
    | ⟨4, _⟩ => rfl

/-- The factor between the two bases. -/
theorem ln2_apply (i : S2x2x4x8192x8448.Idx) : val_main_v14 (F := Ideal) i = ((Real.log 2 : ℝ) : EReal) := by
  rw [val_main_v14_apply, val_main_v13_apply, val_main_v12_apply, val_main_cst_apply]
  show Ideal.log (Ideal.ofBits .f32 0x40000000#32) = _
  rw [twice_eq]
  show (if (2 : ℝ) ≤ 0 then (⊥ : EReal) else ((Real.log 2 : ℝ) : EReal)) = _
  rw [if_neg (by norm_num)]

theorem scaled_apply (b g : Fin 2) (h : Fin 4) (s : Fin 8192) (k : Fin 8448) :
    val_main_v15 (F := Ideal) x2 x3 x5 (ix5 b g h s k) = scoreAt x2 x3 x5 b s g h k * ((Real.log 2 : ℝ) : EReal) := by
  rw [val_main_v15_apply, score_apply, ln2_apply]
  rfl

section
variable (hs : ∀ b s g h k, IsReal (scoreAt x2 x3 x5 b s g h k))
include hs

theorem scaled_real (i : S2x2x4x8192x8448.Idx) : IsReal (val_main_v15 (F := Ideal) x2 x3 x5 i) := by
  have hi : i = ix5 (i 0) (i 1) (i 2) (i 3) (i 4) := funext fun a => match a with
    | ⟨0, _⟩ => rfl
    | ⟨1, _⟩ => rfl
    | ⟨2, _⟩ => rfl
    | ⟨3, _⟩ => rfl
    | ⟨4, _⟩ => rfl
  rw [hi]
  exact (congrArg IsReal (scaled_apply x2 x3 x5 (i 0) (i 1) (i 2) (i 3) (i 4))).mpr ((hs _ _ _ _ _).mul ⟨_, rfl⟩)

/-- The row's maximum is real. -/
theorem max_real (j : S2x2x4x8192.Idx) : IsReal (val_main_v18 (F := Ideal) x2 x3 x5 j) := by
  rw [val_main_v18_apply]
  show IsReal (max (val_main_v17 (F := Ideal) j) (val_main_v16 (F := Ideal) x2 x3 x5 j) : EReal)
  rw [max_comm]
  refine IsReal.max_left ?_ ?_
  · unfold val_main_v16
    refine isReal_of_ne (fun e => ?_) ?_
    · have hle := Cert.MaxReduce.le_reduce (φ := .f32) (val_main_v15 (F := Ideal) x2 x3 x5) (val_main_cst_0 (F := Ideal)) reducesTo_S2x2x4x8192x8448_S2x2x4x8192_d4 h_S_ j (ix5 (j 0) (j 1) (j 2) (j 3) (0 : Fin 8448))
        (funext fun a => match a with
          | ⟨0, _⟩ => rfl
          | ⟨1, _⟩ => rfl
          | ⟨2, _⟩ => rfl
          | ⟨3, _⟩ => rfl)
      exact (scaled_real x2 x3 x5 hs _).ne_bot (le_bot_iff.mp (hle.trans (le_of_eq e)))
    · exact Cert.MaxReduce.reduce_ne_top (φ := .f32) _ _ _ _ _ negInf_ne_top (fun i => (scaled_real x2 x3 x5 hs i).ne_top)
  · rw [val_main_v17_apply]
    exact negInf_ne_top

theorem weight_apply (b g : Fin 2) (h : Fin 4) (s : Fin 8192) (k : Fin 8448) :
    val_main_v22 (F := Ideal) x2 x3 x5 (ix5 b g h s k)
      = Ideal.exp ((((scoreAt x2 x3 x5 b s g h k).toReal : ℝ) : EReal) * ((Real.log 2 : ℝ) : EReal) - (((val_main_v18 (F := Ideal) x2 x3 x5 (ix4 b g h s) : EReal).toReal : ℝ) : EReal)) := by
  rw [val_main_v22_apply, val_main_v21_apply, scaled_apply, val_main_v20_apply, val_main_v19_apply, ← (hs b s g h k).eq]
  rw [← (max_real x2 x3 x5 hs (ix4 b g h s)).eq]
  show Ideal.exp (scoreAt x2 x3 x5 b s g h k * _ - val_main_v18 (F := Ideal) x2 x3 x5 _) = _
  refine congrArg (fun y : EReal => Ideal.exp (scoreAt x2 x3 x5 b s g h k * ((Real.log 2 : ℝ) : EReal) - y)) ?_
  refine congrArg (val_main_v18 (F := Ideal) x2 x3 x5) (funext fun a => ?_)
  match a with
  | ⟨0, _⟩ => rfl
  | ⟨1, _⟩ => rfl
  | ⟨2, _⟩ => rfl
  | ⟨3, _⟩ => rfl

theorem total_apply (b g : Fin 2) (h : Fin 4) (s : Fin 8192) (k : Fin 8448) :
    val_main_v25 (F := Ideal) x2 x3 x5 (ix5 b g h s k) = 0 + ∑ k' : Fin 8448, val_main_v22 (F := Ideal) x2 x3 x5 (ix5 b g h s k') := by
  rw [val_main_v25_apply, val_main_v24_apply, val_main_v23_apply, val_main_cst_2_apply]
  refine congrArg₂ (fun x y : EReal => x + y) Ideal.ofBits_zero_f32 (Finset.sum_congr rfl fun k' _ => ?_)
  refine congrArg (val_main_v22 (F := Ideal) x2 x3 x5) (funext fun a => ?_)
  match a with
  | ⟨0, _⟩ => rfl
  | ⟨1, _⟩ => rfl
  | ⟨2, _⟩ => rfl
  | ⟨3, _⟩ => rfl
  | ⟨4, _⟩ => rfl

theorem prob_apply (b g : Fin 2) (h : Fin 4) (s : Fin 8192) (k : Fin 8448) :
    val_main_v26 (F := Ideal) x2 x3 x5 (ix5 b g h s k)
      = Ideal.div (val_main_v22 (F := Ideal) x2 x3 x5 (ix5 b g h s k)) (0 + ∑ k' : Fin 8448, val_main_v22 (F := Ideal) x2 x3 x5 (ix5 b g h s k')) := by
  rw [val_main_v26_apply, total_apply x2 x3 x5 hs]
  rfl

/-- The result at an entry. -/
theorem result_apply (b : Fin 2) (s : Fin 8192) (g : Fin 2) (h : Fin 4) (d : Fin 64) :
    val_main_v30 (F := Ideal) x2 x3 x4 x5 x6 (ix3 b s (outCol g h d)) = attnAt x2 x3 x4 x5 x6 b s g h d := by
  have e1 : val_main_v30 (F := Ideal) x2 x3 x4 x5 x6 (ix3 b s (outCol g h d)) = val_main_v28 (F := Ideal) x2 x3 x4 x5 x6 (ix5 b s g h d) := by
    show val_main_v29 (F := Ideal) x2 x3 x4 x5 x6 (ix3 b s (outCol g h d)) = _
    unfold val_main_v29
    refine shapeCast_apply (val_main_v28 (F := Ideal) x2 x3 x4 x5 x6) shapeCasts_S2x8192x2x4x64_S2x8192x512 (ix3 b s (outCol g h d)) (ix5 b s g h d) ?_
    simp only [Shape.rowMajor_val_three, Shape.rowMajor_val_five]
    simp [ix3, ix5, S2x8192x512, S2x8192x2x4x64, outCol]
    omega
  rw [e1, val_main_v28_apply, val_main_v27_apply]
  unfold attnAt
  rw [← soft_exp _ _ (val_main_v18 (F := Ideal) x2 x3 x5 (ix4 b g h s) : EReal).toReal]
  refine Finset.sum_congr rfl fun k _ => ?_
  refine congrArg₂ (fun x y : EReal => x * y) ?_ ?_
  · refine Eq.trans ?_ (value_apply x4 x6 b g k d)
    rw [val_main_v9_apply]
    show val_main_v8 (F := Ideal) x4 x6 _ = _
    refine congrArg (val_main_v8 (F := Ideal) x4 x6) (funext fun a => ?_)
    match a with
    | ⟨0, _⟩ => rfl
    | ⟨1, _⟩ => rfl
    | ⟨2, _⟩ => rfl
    | ⟨3, _⟩ => rfl
  · have e2 : ridx_main_v27 (idx_main_v28 (ix5 b s g h d)) k = ix5 b g h s k := funext fun a => match a with
      | ⟨0, _⟩ => rfl
      | ⟨1, _⟩ => rfl
      | ⟨2, _⟩ => rfl
      | ⟨3, _⟩ => rfl
      | ⟨4, _⟩ => rfl
    refine (congrArg (val_main_v26 (F := Ideal) x2 x3 x5) e2).trans ?_
    rw [prob_apply x2 x3 x5 hs, weight_apply x2 x3 x5 hs]
    exact congrArg (fun y : EReal => Ideal.div _ (0 + y)) (Finset.sum_congr rfl fun k' _ => weight_apply x2 x3 x5 hs b g h s k')

theorem result_eq : val_main_v30 (F := Ideal) x2 x3 x4 x5 x6 = fun i => attnAt x2 x3 x4 x5 x6 (i 0) (i 1) (grpOf (i 2)) (headOf (i 2)) (compOf (i 2)) := by
  funext i
  have hi : i = ix3 (i 0) (i 1) (outCol (grpOf (i 2)) (headOf (i 2)) (compOf (i 2))) := funext fun a => match a with
    | ⟨0, _⟩ => rfl
    | ⟨1, _⟩ => rfl
    | ⟨2, _⟩ => (outCol_of (i 2)).symm
  exact (congrArg _ hi).trans (result_apply x2 x3 x4 x5 x6 hs _ _ _ _ _)
end

end Cert.ReferenceIdeal.Attn

end
-- ==== Proof.AttnClaim.lean ====
module

public import proofs.«01_k».proof.Proof.AttnPre
public import proofs.«01_k».proof.Proof.AttnRef
public import Idealize.ShloMosaic.Adequacy

/-! The attention: the kernel's array is the reference's -/

@[expose] public section

set_option maxRecDepth 16384

noncomputable section

namespace Cert

open Idealize.ShloMosaic Idealize.SL.Sem Idealize.ShloMosaic.ValueIdx Cert.Softmax

attribute [local instance] Cert.FiniteQk.facts

/-- Of real queries and keys the scores are real. -/
theorem scores_real (m : (ℓ : Loc KernelIdeal.nD KernelIdeal.τ KernelIdeal.sig) → Buf (Elt Ideal) ℓ) (c : Dev KernelIdeal.nD) (hf : KernelIdeal.Attn.Finite m c)
    (b : Fin 2) (s : Fin 8192) (g : Fin 2) (h : Fin 4) (k : Fin 8448) :
    IsReal (KernelIdeal.Attn.scoreAt (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg5)) b s g h k) :=
  isReal_sum _ _ fun e => (KernelIdeal.Attn.kAt_real m c hf b g k e).mul (hf.q _)

/-- The attention's array, as the one function of the operands both programs compute. -/
theorem attention_array (m : (ℓ : Loc KernelIdeal.nD KernelIdeal.τ KernelIdeal.sig) → Buf (Elt Ideal) ℓ) (c : Dev KernelIdeal.nD) (hf : KernelIdeal.Attn.Finite m c) :
    KernelIdeal.Attn.G m c = ReferenceIdeal.Read.val_main_v30 (F := Ideal) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) :=
  (ReferenceIdeal.Attn.result_eq _ _ _ _ _ (scores_real m c hf)).symm

theorem attention_equal : algebraic_KernelIdeal_ReferenceIdeal_pre_finite_qk := fun m g m' g' hpre hag =>
  have hf := fun c => FiniteQk.finite m hpre c
  ⟨fun c => KernelIdeal.Attn.G m c,
    (θ_run (KernelIdeal.defs (F := Ideal)) _ _).mono (fun r h c => ⟨((h.1.1 c).1 4).trans (KernelIdeal.Attn.arr_eq m c (hf c)), h.2.1 c⟩)
      (θ_run_and (KernelIdeal.Attn.whole_run (F := Ideal) m g) (KernelIdeal.Attn.frame (F := Ideal) m g)),
    (θ_run (ReferenceIdeal.defs (F := Ideal)) _ _).mono (fun r h c => ⟨(h c).1.trans (by
      obtain ⟨-, -, h2, h3, h4, h5, h6⟩ := hag c
      refine (ReferenceIdeal.Read.val_main_v30_eq (F := Ideal) _ _).trans (Eq.trans ?_ (attention_array m c (hf c)).symm)
      rw [h2, h3, h4, h5, h6]), (h c).2⟩) (ReferenceIdeal.Value.run (F := Ideal) m' g')⟩

end Cert

end
-- ==== Proof.FfnBlock.lean ====
module

public import proofs.«01_k».proof.Proof.Gen.Kernel2Ideal.Value
public import Idealize.ShloMosaic.Lib.Pipeline.Value
public import Idealize.ShloMosaic.Lib.Pipeline.ValueKit
public import Idealize.ShloMosaic.Lib.Pipeline.ReadBack

/-! The expert feed-forward's point: what one visit leaves in the accumulator and in the result's block -/

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F]

theorem hz2 : (![0, 0] : Fin 2 → ℕ) = fun _ => 0 := by funext a; fin_cases a <;> rfl
theorem hz3 : (![0, 0, 0] : Fin 3 → ℕ) = fun _ => 0 := by funext a; fin_cases a <;> rfl

/-- One tile: the accumulator's rows plus what the rows of `x` give through this slab of the three weights. -/
def tile (x1 x2 x3 : Vec F S1x688x1024 .f32) (x : Vec F S1x1x512x1024 .bf16) (acc : Vec F S1x512x1024 .f32) : FVec F S1x512x1024 .f32 :=
  k0_pay11 (k0_pay6 (View.ld x1 (Rect.unit (s := S1x688x1024) ![0, 0, 0] S1x688x1024.size inb_S1x688x1024_S1x688x1024_0_0_0))) (k0_pay7 (View.ld x2 (Rect.unit (s := S1x688x1024) ![0, 0, 0] S1x688x1024.size inb_S1x688x1024_S1x688x1024_0_0_0))) (k0_pay8 (View.ld x3 (Rect.unit (s := S1x688x1024) ![0, 0, 0] S1x688x1024.size inb_S1x688x1024_S1x688x1024_0_0_0))) x acc

/-- The four tiles one visit stores into the accumulator, last first. -/
def accTiles (x0 : Vec F S2x1x1024x1024 .bf16) (x1 : Vec F S1x688x1024 .f32) (x2 : Vec F S1x688x1024 .f32) (x3 : Vec F S1x688x1024 .f32) (acc : Vec F S2x1024x1024 .f32) : List (View.Piece (Elt F) S2x1024x1024 .f32) :=
  [⟨Rect.unit (s := S2x1024x1024) ![1, 512, 0] S1x512x1024.size inb_S2x1024x1024_S1x512x1024_1_512_0, tile x1 x2 x3 (View.ld x0 (Rect.unit (s := S2x1x1024x1024) ![1, 0, 512, 0] S1x1x512x1024.size inb_S2x1x1024x1024_S1x1x512x1024_1_0_512_0)) (View.ld acc (Rect.unit (s := S2x1024x1024) ![1, 512, 0] S1x512x1024.size inb_S2x1024x1024_S1x512x1024_1_512_0))⟩,
   ⟨Rect.unit (s := S2x1024x1024) ![1, 0, 0] S1x512x1024.size inb_S2x1024x1024_S1x512x1024_1_0_0, tile x1 x2 x3 (View.ld x0 (Rect.unit (s := S2x1x1024x1024) ![1, 0, 0, 0] S1x1x512x1024.size inb_S2x1x1024x1024_S1x1x512x1024_1_0_0_0)) (View.ld acc (Rect.unit (s := S2x1024x1024) ![1, 0, 0] S1x512x1024.size inb_S2x1024x1024_S1x512x1024_1_0_0))⟩,
   ⟨Rect.unit (s := S2x1024x1024) ![0, 512, 0] S1x512x1024.size inb_S2x1024x1024_S1x512x1024_0_512_0, tile x1 x2 x3 (View.ld x0 (Rect.unit (s := S2x1x1024x1024) ![0, 0, 512, 0] S1x1x512x1024.size inb_S2x1x1024x1024_S1x1x512x1024_0_0_512_0)) (View.ld acc (Rect.unit (s := S2x1024x1024) ![0, 512, 0] S1x512x1024.size inb_S2x1024x1024_S1x512x1024_0_512_0))⟩,
   ⟨Rect.unit (s := S2x1024x1024) ![0, 0, 0] S1x512x1024.size inb_S2x1024x1024_S1x512x1024_0_0_0, tile x1 x2 x3 (View.ld x0 (Rect.unit (s := S2x1x1024x1024) ![0, 0, 0, 0] S1x1x512x1024.size inb_S2x1x1024x1024_S1x1x512x1024_0_0_0_0)) (View.ld acc (Rect.unit (s := S2x1024x1024) ![0, 0, 0] S1x512x1024.size inb_S2x1024x1024_S1x512x1024_0_0_0))⟩]

/-- The accumulator after one visit. -/
def accOf (x0 : Vec F S2x1x1024x1024 .bf16) (x1 : Vec F S1x688x1024 .f32) (x2 : Vec F S1x688x1024 .f32) (x3 : Vec F S1x688x1024 .f32) (acc : Vec F S2x1024x1024 .f32) : Vec F S2x1024x1024 .f32 :=
  View.canon (accTiles x0 x1 x2 x3 acc)

/-- The four pieces the last visit stores into the result's block, last first. -/
def resTiles (a : Vec F S2x1024x1024 .f32) : List (View.Piece (Elt F) S2x1x1040x1024 .bf16) :=
  [⟨Rect.unit (s := S2x1x1040x1024) ![1, 0, 1024, 0] S1x1x16x1024.size inb_S2x1x1040x1024_S1x1x16x1024_1_0_1024_0, k0_pay4⟩,
   ⟨Rect.unit (s := S2x1x1040x1024) ![1, 0, 0, 0] S1x1x1024x1024.size inb_S2x1x1040x1024_S1x1x1024x1024_1_0_0_0, k0_pay3 (View.ld a (Rect.unit (s := S2x1024x1024) ![1, 0, 0] S1x1024x1024.size inb_S2x1024x1024_S1x1024x1024_1_0_0))⟩,
   ⟨Rect.unit (s := S2x1x1040x1024) ![0, 0, 1024, 0] S1x1x16x1024.size inb_S2x1x1040x1024_S1x1x16x1024_0_0_1024_0, k0_pay2⟩,
   ⟨Rect.unit (s := S2x1x1040x1024) ![0, 0, 0, 0] S1x1x1024x1024.size inb_S2x1x1040x1024_S1x1x1024x1024_0_0_0_0, k0_pay1 (View.ld a (Rect.unit (s := S2x1024x1024) ![0, 0, 0] S1x1024x1024.size inb_S2x1024x1024_S1x1024x1024_0_0_0))⟩]

/-- The result's block after the last visit. -/
def resOf (a : Vec F S2x1024x1024 .f32) : Vec F S2x1x1040x1024 .bf16 := View.canon (resTiles a)

theorem accTiles_cover (x0 : Vec F S2x1x1024x1024 .bf16) (x1 : Vec F S1x688x1024 .f32) (x2 : Vec F S1x688x1024 .f32) (x3 : Vec F S1x688x1024 .f32) (acc : Vec F S2x1024x1024 .f32) (y : S2x1024x1024.Idx) :
    ∃ p ∈ accTiles x0 x1 x2 x3 acc, y ∈ p.1.set :=
  View.cover_of_tiledL (accTiles x0 x1 x2 x3 acc) S1x512x1024.size (by sl_kernel_rfl) y

theorem resTiles_cover (a : Vec F S2x1024x1024 .f32) (y : S2x1x1040x1024.Idx) : ∃ p ∈ resTiles a, y ∈ p.1.set :=
  View.cover_of_tiledBy (resTiles a) ![1, 1, 16, 1024] (by sl_kernel_rfl) y

/-- Pieces stored before a list that covers an index do not show there. -/
theorem canon_append_of_cover {S : Shape} {e : EltTy} (M : List (View.Piece (Elt F) S e)) (y : S.Idx) :
    ∀ L : List (View.Piece (Elt F) S e), (∃ p ∈ L, y ∈ p.1.set) → View.canon (L ++ M) y = View.canon L y
  | [], h => by obtain ⟨p, hp, _⟩ := h; exact absurd hp List.not_mem_nil
  | p :: L, h => by
    by_cases hm : y ∈ p.1.set
    · obtain ⟨x, rfl⟩ := p.1.exists_idx_of_mem hm
      exact (View.canon_cons_emb p.1 p.2 (L ++ M) x).trans (View.canon_cons_emb p.1 p.2 L x).symm
    · rw [List.cons_append, View.canon_cons_of_not_mem p _ hm, View.canon_cons_of_not_mem p _ hm]
      obtain ⟨q, hq, hy⟩ := h
      rcases List.mem_cons.mp hq with rfl | hq
      · exact absurd hy hm
      · exact canon_append_of_cover M y L ⟨q, hq, hy⟩

theorem sout_A (c : Dev nD) (i : grid0.Coords) (arg2 : Memref sig .tc .vmem S2x1x1024x1024 .bf16) (harg2 : arg2.IsWhole) (arg3 : Memref sig .tc .vmem S1x688x1024 .f32) (harg3 : arg3.IsWhole) (arg4 : Memref sig .tc .vmem S1x688x1024 .f32) (harg4 : arg4.IsWhole) (arg5 : Memref sig .tc .vmem S1x688x1024 .f32) (harg5 : arg5.IsWhole) (arg6 : Memref sig .tc .vmem S2x1x1040x1024 .bf16) (harg6 : arg6.IsWhole) (arg7 : Memref sig .tc .vmem S2x1024x1024 .f32) (harg7 : arg7.IsWhole) (hc0 : cond0_0 i) (hc1 : ¬cond0_1 i) (x0 : Vec F S2x1x1024x1024 .bf16) (x1 : Vec F S1x688x1024 .f32) (x2 : Vec F S1x688x1024 .f32) (x3 : Vec F S1x688x1024 .f32)  :
    sout0_A_0 c i arg2 harg2 arg3 harg3 arg4 harg4 arg5 harg5 arg6 harg6 arg7 harg7 hc0 hc1 x0 x1 x2 x3  = accOf x0 x1 x2 x3 k0_pay5 := by
  unfold sout0_A_0
  rw [View.read_writes_eq_canon _ _ _ (scover0_A_0 c i arg2 harg2 arg3 harg3 arg4 harg4 arg5 harg5 arg6 harg6 arg7 harg7 hc0 hc1 x0 x1 x2 x3 )]
  unfold kernelRun0_A
  dsimp only
  sl_unfold_words
  simp only [View.readAt_eq_ld, harg2.read_unread, harg3.read_unread, harg4.read_unread, harg5.read_unread, harg7.read_unread]
  simp (disch := decide) only [↓ View.readCov_skip]
  simp only [View.readCov_eq_canon', View.canon_cons_unit_zero (S := S2x1024x1024) hz3]
  funext y
  exact canon_append_of_cover _ y (accTiles x0 x1 x2 x3 k0_pay5) (accTiles_cover x0 x1 x2 x3 k0_pay5 y)

theorem sout_B (c : Dev nD) (i : grid0.Coords) (arg2 : Memref sig .tc .vmem S2x1x1024x1024 .bf16) (harg2 : arg2.IsWhole) (arg3 : Memref sig .tc .vmem S1x688x1024 .f32) (harg3 : arg3.IsWhole) (arg4 : Memref sig .tc .vmem S1x688x1024 .f32) (harg4 : arg4.IsWhole) (arg5 : Memref sig .tc .vmem S1x688x1024 .f32) (harg5 : arg5.IsWhole) (arg6 : Memref sig .tc .vmem S2x1x1040x1024 .bf16) (harg6 : arg6.IsWhole) (arg7 : Memref sig .tc .vmem S2x1024x1024 .f32) (harg7 : arg7.IsWhole) (hc0 : ¬cond0_0 i) (hc1 : ¬cond0_1 i) (x0 : Vec F S2x1x1024x1024 .bf16) (x1 : Vec F S1x688x1024 .f32) (x2 : Vec F S1x688x1024 .f32) (x3 : Vec F S1x688x1024 .f32) (xs0 : Vec F S2x1024x1024 .f32) :
    sout0_B_0 c i arg2 harg2 arg3 harg3 arg4 harg4 arg5 harg5 arg6 harg6 arg7 harg7 hc0 hc1 x0 x1 x2 x3 xs0 = accOf x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  simp only [View.readAt_eq_ld, harg2.read_unread, harg3.read_unread, harg4.read_unread, harg5.read_unread, harg7.read_unread]
  rfl

theorem sout_C (c : Dev nD) (i : grid0.Coords) (arg2 : Memref sig .tc .vmem S2x1x1024x1024 .bf16) (harg2 : arg2.IsWhole) (arg3 : Memref sig .tc .vmem S1x688x1024 .f32) (harg3 : arg3.IsWhole) (arg4 : Memref sig .tc .vmem S1x688x1024 .f32) (harg4 : arg4.IsWhole) (arg5 : Memref sig .tc .vmem S1x688x1024 .f32) (harg5 : arg5.IsWhole) (arg6 : Memref sig .tc .vmem S2x1x1040x1024 .bf16) (harg6 : arg6.IsWhole) (arg7 : Memref sig .tc .vmem S2x1024x1024 .f32) (harg7 : arg7.IsWhole) (hc0 : ¬cond0_0 i) (hc1 : cond0_1 i) (x0 : Vec F S2x1x1024x1024 .bf16) (x1 : Vec F S1x688x1024 .f32) (x2 : Vec F S1x688x1024 .f32) (x3 : Vec F S1x688x1024 .f32) (xs0 : Vec F S2x1024x1024 .f32) :
    sout0_C_0 c i arg2 harg2 arg3 harg3 arg4 harg4 arg5 harg5 arg6 harg6 arg7 harg7 hc0 hc1 x0 x1 x2 x3 xs0 = accOf x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  simp only [View.readAt_eq_ld, harg2.read_unread, harg3.read_unread, harg4.read_unread, harg5.read_unread, harg7.read_unread]
  rfl

theorem out_C (c : Dev nD) (i : grid0.Coords) (arg2 : Memref sig .tc .vmem S2x1x1024x1024 .bf16) (harg2 : arg2.IsWhole) (arg3 : Memref sig .tc .vmem S1x688x1024 .f32) (harg3 : arg3.IsWhole) (arg4 : Memref sig .tc .vmem S1x688x1024 .f32) (harg4 : arg4.IsWhole) (arg5 : Memref sig .tc .vmem S1x688x1024 .f32) (harg5 : arg5.IsWhole) (arg6 : Memref sig .tc .vmem S2x1x1040x1024 .bf16) (harg6 : arg6.IsWhole) (arg7 : Memref sig .tc .vmem S2x1024x1024 .f32) (harg7 : arg7.IsWhole) (hc0 : ¬cond0_0 i) (hc1 : cond0_1 i) (x0 : Vec F S2x1x1024x1024 .bf16) (x1 : Vec F S1x688x1024 .f32) (x2 : Vec F S1x688x1024 .f32) (x3 : Vec F S1x688x1024 .f32) (xs0 : Vec F S2x1024x1024 .f32) :
    out0_C_4 c i arg2 harg2 arg3 harg3 arg4 harg4 arg5 harg5 arg6 harg6 arg7 harg7 hc0 hc1 x0 x1 x2 x3 xs0 = resOf (accOf x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  simp only [View.readAt_eq_ld, harg2.read_unread, harg3.read_unread, harg4.read_unread, harg5.read_unread, harg7.read_unread, View.readCov_eq_canon']
  rfl

end Cert.Kernel2Ideal.Ffn

end
-- ==== Proof.FfnTile.lean ====
module

public import proofs.«01_k».proof.Proof.FfnBlock
public import Idealize.ShloMosaic.Lib.MatmulPlain
public import Idealize.ShloMosaic.Lib.IdealHost

/-! The expert feed-forward's visit over the extended reals: sums of products -/

@[expose] public section

set_option maxRecDepth 16384

noncomputable section

namespace Cert.Kernel2Ideal.Ffn

open Cert.Kernel2Ideal Cert.Kernel2Ideal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic
open Idealize.SL Idealize.SL.RA Idealize.SL.BI
open Idealize.SL.Sem
open Idealize.ShloMosaic.Pipeline (Dat Cfg Window BodyObligation cellOf)

open Idealize.ShloMosaic.ValueIdx

/-- The hidden value from the gate's and the up projection's sums: `silu a · u`. -/
def hid (a u : EReal) : EReal := a * Ideal.div 1 (1 + Ideal.exp (-a)) * u

theorem weight_apply (x : Vec Ideal S1x688x1024 .f32) (f : Fin 688) (k : Fin 1024) :
    k0_pay6 (F := Ideal) (View.ld x (Rect.unit (s := S1x688x1024) ![0, 0, 0] S1x688x1024.size inb_S1x688x1024_S1x688x1024_0_0_0)) (ix2 f k) = x (ix3 (0 : Fin 1) f k) := by
  rw [View.ld_unit_zero (S := S1x688x1024) hz3]
  show shapeCast S688x1024 x shapeCasts_S1x688x1024_S688x1024 (ix2 f k) = _
  refine shapeCast_apply x _ _ _ ?_
  simp only [Shape.rowMajor_val_two, Shape.rowMajor_val_three, ix2, ix3]
  simp [S1x688x1024, S688x1024]

theorem xrow_apply (x : Vec Ideal S1x1x512x1024 .bf16) (r : Fin 512) (k : Fin 1024) :
    k0_pay12 (F := Ideal) x (ix2 r k) = x (ix4 (0 : Fin 1) (0 : Fin 1) r k) := by
  refine shapeCast_apply x _ _ _ ?_
  simp only [Shape.rowMajor_val_two, Shape.rowMajor_val_four]
  simp [ix2, ix4, S1x1x512x1024, S512x1024]

theorem accrow_apply (x : Vec Ideal S1x512x1024 .f32) (r : Fin 512) (d : Fin 1024) :
    shapeCast S512x1024 x shapeCasts_S1x512x1024_S512x1024 (ix2 r d) = x (ix3 (0 : Fin 1) r d) := by
  refine shapeCast_apply x _ _ _ ?_
  simp only [Shape.rowMajor_val_two, Shape.rowMajor_val_three]
  simp [ix2, ix3, S1x512x1024, S512x1024]

theorem back_apply (x : FVec Ideal S512x1024 .f32) (r : Fin 512) (d : Fin 1024) :
    shapeCast S1x512x1024 x shapeCasts_S512x1024_S1x512x1024 (ix3 (0 : Fin 1) r d) = x (ix2 r d) := by
  refine shapeCast_apply x _ _ _ ?_
  simp only [Shape.rowMajor_val_two, Shape.rowMajor_val_three]
  simp [ix2, ix3, S1x512x1024, S512x1024]

theorem dotIn_apply (x : FVec Ideal S512x1024 .bf16) (w : FVec Ideal S688x1024 .bf16) (r : Fin 512) (f : Fin 688) :
    matmul (F := Ideal) dot_S512x1024_S688x1024_S512x688_1_1_0_0_n_n none x w (constant S512x688 .f32 0x00000000#32) (ix2 r f)
      = ∑ k : Fin 1024, x (ix2 r k) * w (ix2 f k) := by
  refine (Ideal.matmul_transposedRhs_apply (M := 512) (K := 1024) (N := 688) none x w _ r f).trans ?_
  rw [constant_apply, Ideal.ofBits_zero_f32, zero_add]

theorem dotOut_apply (x : FVec Ideal S512x688 .bf16) (w : FVec Ideal S688x1024 .bf16) (r : Fin 512) (d : Fin 1024) :
    matmul (F := Ideal) dot_S512x688_S688x1024_S512x1024_1_0_0_1_n_n none x w (constant S512x1024 .f32 0x00000000#32) (ix2 r d)
      = ∑ f : Fin 688, x (ix2 r f) * w (ix2 f d) := by
  refine (Ideal.matmul_plain_apply (M := 512) (K := 688) (N := 1024) none x w _ r d).trans ?_
  rw [constant_apply, Ideal.ofBits_zero_f32, zero_add]

/-- One tile at an entry. -/
theorem tile_apply (x1 x2 x3 : Vec Ideal S1x688x1024 .f32) (x : Vec Ideal S1x1x512x1024 .bf16) (acc : Vec Ideal S1x512x1024 .f32) (r : Fin 512) (d : Fin 1024) :
    tile x1 x2 x3 x acc (ix3 (0 : Fin 1) r d) = acc (ix3 (0 : Fin 1) r d)
      + ∑ f : Fin 688, hid (∑ k : Fin 1024, x (ix4 (0 : Fin 1) (0 : Fin 1) r k) * x1 (ix3 (0 : Fin 1) f k)) (∑ k : Fin 1024, x (ix4 (0 : Fin 1) (0 : Fin 1) r k) * x2 (ix3 (0 : Fin 1) f k)) * x3 (ix3 (0 : Fin 1) f d) := by
  unfold tile k0_pay11
  dsimp only
  rw [back_apply, addf_apply, accrow_apply, dotOut_apply]
  refine congrArg (acc (ix3 (0 : Fin 1) r d) + ·) (Finset.sum_congr rfl fun f _ => ?_)
  refine congrArg₂ (· * ·) ?_ (weight_apply x3 f d)
  rw [truncf_apply, mulf_apply, mulf_apply, divf_apply, dotIn_apply, dotIn_apply]
  have e1 : ∑ k : Fin 1024, shapeCast S512x1024 x shapeCasts_S1x1x512x1024_S512x1024 (ix2 r k) * k0_pay6 (F := Ideal) (View.ld x1 (Rect.unit (s := S1x688x1024) ![0, 0, 0] S1x688x1024.size inb_S1x688x1024_S1x688x1024_0_0_0)) (ix2 f k)
      = ∑ k : Fin 1024, x (ix4 (0 : Fin 1) (0 : Fin 1) r k) * x1 (ix3 (0 : Fin 1) f k) :=
    Finset.sum_congr rfl fun k _ => congrArg₂ (· * ·) (xrow_apply x r k) (weight_apply x1 f k)
  have e2 : ∑ k : Fin 1024, shapeCast S512x1024 x shapeCasts_S1x1x512x1024_S512x1024 (ix2 r k) * k0_pay7 (F := Ideal) (View.ld x2 (Rect.unit (s := S1x688x1024) ![0, 0, 0] S1x688x1024.size inb_S1x688x1024_S1x688x1024_0_0_0)) (ix2 f k)
      = ∑ k : Fin 1024, x (ix4 (0 : Fin 1) (0 : Fin 1) r k) * x2 (ix3 (0 : Fin 1) f k) :=
    Finset.sum_congr rfl fun k _ => congrArg₂ (· * ·) (xrow_apply x r k) (weight_apply x2 f k)
  unfold hid
  rw [← e1, ← e2]
  refine congrArg₂ (· * ·) (congrArg₂ (· * ·) rfl ?_) rfl
  show Ideal.div (Ideal.ofBits .f32 0x3F800000#32) (Ideal.ofBits .f32 0x3F800000#32 + Ideal.exp (Ideal.ofBits .f32 0x00000000#32 - matmul (F := Ideal) dot_S512x1024_S688x1024_S512x688_1_1_0_0_n_n none _ _ (constant S512x688 .f32 0x00000000#32) (ix2 r f))) = _
  rw [Ideal.ofBits_zero_f32, Ideal.ofBits_one_f32, zero_sub, dotIn_apply]

end Cert.Kernel2Ideal.Ffn

end
-- ==== Proof.FfnVisit.lean ====
module

public import proofs.«01_k».proof.Proof.FfnTile
public import Idealize.ShloMosaic.Lib.MatmulPlain
public import Idealize.ShloMosaic.Lib.IdealHost

/-! The expert feed-forward's visit over the extended reals: the accumulator and the result's block at an entry -/

@[expose] public section

set_option maxRecDepth 16384

noncomputable section

namespace Cert.Kernel2Ideal.Ffn

open Cert.Kernel2Ideal Cert.Kernel2Ideal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic
open Idealize.SL Idealize.SL.RA Idealize.SL.BI
open Idealize.SL.Sem
open Idealize.ShloMosaic.Pipeline (Dat Cfg Window BodyObligation cellOf)

open Idealize.ShloMosaic.ValueIdx

/-- What one visit adds to the accumulator at row `r` of batch `b`, column `d`. -/
def adds (x0 : Vec Ideal S2x1x1024x1024 .bf16) (x1 x2 x3 : Vec Ideal S1x688x1024 .f32) (b : Fin 2) (r d : Fin 1024) : EReal :=
  ∑ f : Fin 688, hid (∑ k : Fin 1024, x0 (ix4 b (0 : Fin 1) r k) * x1 (ix3 (0 : Fin 1) f k)) (∑ k : Fin 1024, x0 (ix4 b (0 : Fin 1) r k) * x2 (ix3 (0 : Fin 1) f k)) * x3 (ix3 (0 : Fin 1) f d)

theorem piece_apply (x0 : Vec Ideal S2x1x1024x1024 .bf16) (x1 x2 x3 : Vec Ideal S1x688x1024 .f32) (acc : Vec Ideal S2x1024x1024 .f32) (b : Fin 2) (r d : Fin 1024) (o p : ℕ)
    (ix : ∀ a, (![o, 0, p, 0] : Fin 4 → ℕ) a + S1x1x512x1024.size a ≤ S2x1x1024x1024.size a)
    (ia : ∀ a, (![o, p, 0] : Fin 3 → ℕ) a + S1x512x1024.size a ≤ S2x1024x1024.size a)
    (x : S1x512x1024.Idx) (h0 : b.val = o + (x 0).val) (h1 : r.val = p + (x 1).val) (h2 : d.val = (x 2).val) :
    tile x1 x2 x3 (View.ld x0 (Rect.unit (s := S2x1x1024x1024) ![o, 0, p, 0] S1x1x512x1024.size ix)) (View.ld acc (Rect.unit (s := S2x1024x1024) ![o, p, 0] S1x512x1024.size ia)) x
      = acc (ix3 b r d) + adds x0 x1 x2 x3 b r d := by
  have hx0 : (x 0).val = 0 := by have : (x 0).val < 1 := (x 0).isLt; omega
  have hd : x 2 = d := Fin.ext h2.symm
  obtain ⟨r', hr'⟩ : ∃ r' : Fin 512, r'.val = (x 1).val := ⟨⟨(x 1).val, (x 1).isLt⟩, rfl⟩
  have hx : x = ix3 (0 : Fin 1) r' d := by
    funext a
    match a with
    | ⟨0, _⟩ => exact Fin.ext hx0
    | ⟨1, _⟩ => exact Fin.ext hr'.symm
    | ⟨2, _⟩ => exact hd
  rw [hx, tile_apply]
  have ea : View.ld acc (Rect.unit (s := S2x1024x1024) ![o, p, 0] S1x512x1024.size ia) (ix3 (0 : Fin 1) r' d) = acc (ix3 b r d) :=
    View.ld_unit_apply_of acc _ _ ia _ _ (fun a => match a with
      | ⟨0, _⟩ => by show b.val = o + 0; omega
      | ⟨1, _⟩ => by show r.val = p + r'.val; omega
      | ⟨2, _⟩ => by show d.val = 0 + d.val; omega)
  have ex : ∀ k : Fin 1024, View.ld x0 (Rect.unit (s := S2x1x1024x1024) ![o, 0, p, 0] S1x1x512x1024.size ix) (ix4 (0 : Fin 1) (0 : Fin 1) r' k) = x0 (ix4 b (0 : Fin 1) r k) := fun k =>
    View.ld_unit_apply_of x0 _ _ ix _ _ (fun a => match a with
      | ⟨0, _⟩ => by show b.val = o + 0; omega
      | ⟨1, _⟩ => by show 0 = 0 + 0; omega
      | ⟨2, _⟩ => by show r.val = p + r'.val; omega
      | ⟨3, _⟩ => by show k.val = 0 + k.val; omega)
  unfold adds
  simp only [ea, ex]

/-- The accumulator after one visit, at an entry. -/
theorem accOf_apply (x0 : Vec Ideal S2x1x1024x1024 .bf16) (x1 x2 x3 : Vec Ideal S1x688x1024 .f32) (acc : Vec Ideal S2x1024x1024 .f32) (b : Fin 2) (r d : Fin 1024) :
    accOf x0 x1 x2 x3 acc (ix3 b r d) = acc (ix3 b r d) + adds x0 x1 x2 x3 b r d := by
  unfold accOf
  refine View.canon_eq_of_allAt _ _ _ (accTiles_cover x0 x1 x2 x3 acc _) ?_
  unfold accTiles
  refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _))))
  all_goals exact piece_apply x0 x1 x2 x3 acc b r d _ _ _ _ x (hx 0) (hx 1) ((hx 2).trans (Nat.zero_add _))

theorem copy_apply (x : Vec Ideal S1x1024x1024 .f32) (r d : Fin 1024) :
    k0_pay1 (F := Ideal) x (ix4 (0 : Fin 1) (0 : Fin 1) r d) = x (ix3 (0 : Fin 1) r d) := by
  unfold k0_pay1
  rw [shapeCast_apply _ shapeCasts_S1024x1024_S1x1x1024x1024 (ix4 (0 : Fin 1) (0 : Fin 1) r d) (ix2 r d) (by
    simp only [Shape.rowMajor_val_two, Shape.rowMajor_val_four]
    simp [ix2, ix4, S1024x1024, S1x1x1024x1024]), truncf_apply]
  refine shapeCast_apply x _ _ _ ?_
  simp only [Shape.rowMajor_val_two, Shape.rowMajor_val_three]
  simp [ix2, ix3, S1x1024x1024, S1024x1024]

theorem zeros_apply (y : S1x1x16x1024.Idx) : k0_pay2 (F := Ideal) y = 0 := Ideal.ofBits_zero_bf16

/-- The result's block after the last visit, at an entry: the accumulator's row, or 0 on the rows that pad. -/
theorem resOf_apply (a : Vec Ideal S2x1024x1024 .f32) (b : Fin 2) (r : Fin 1040) (d : Fin 1024) :
    resOf a (ix4 b (0 : Fin 1) r d) = if h : r.val < 1024 then a (ix3 b ⟨r.val, h⟩ d) else 0 := by
  unfold resOf
  refine View.canon_eq_of_allAt _ _ _ (resTiles_cover a _) ?_
  unfold resTiles
  have pad : ∀ (o : ℕ) (x : S1x1x16x1024.Idx), (∀ c, ((ix4 b (0 : Fin 1) r d : S2x1x1040x1024.Idx) c).val = (![o, 0, 1024, 0] : Fin 4 → ℕ) c + (x c).val) →
      k0_pay2 (F := Ideal) x = if h : r.val < 1024 then a (ix3 b ⟨r.val, h⟩ d) else 0 := fun o x hx => by
    have h2 : r.val = 1024 + (x 2).val := hx 2
    rw [dif_neg (by omega), zeros_apply]
  have cop : ∀ (o : ℕ) (ia : ∀ c, (![o, 0, 0] : Fin 3 → ℕ) c + S1x1024x1024.size c ≤ S2x1024x1024.size c) (x : S1x1x1024x1024.Idx), (∀ c, ((ix4 b (0 : Fin 1) r d : S2x1x1040x1024.Idx) c).val = (![o, 0, 0, 0] : Fin 4 → ℕ) c + (x c).val) →
      k0_pay1 (F := Ideal) (View.ld a (Rect.unit (s := S2x1024x1024) ![o, 0, 0] S1x1024x1024.size ia)) x = if h : r.val < 1024 then a (ix3 b ⟨r.val, h⟩ d) else 0 := fun o ia x hx => by
    have h0 : b.val = o + (x 0).val := hx 0
    have h2 : r.val = 0 + (x 2).val := hx 2
    have h3 : d.val = 0 + (x 3).val := hx 3
    have hx0 : (x 0).val = 0 := by have : (x 0).val < 1 := (x 0).isLt; omega
    have hx1 : (x 1).val = 0 := by have : (x 1).val < 1 := (x 1).isLt; omega
    have hr : r.val < 1024 := by have : (x 2).val < 1024 := (x 2).isLt; omega
    rw [dif_pos hr]
    have hxe : x = ix4 (0 : Fin 1) (0 : Fin 1) ⟨r.val, hr⟩ d := by
      funext c
      match c with
      | ⟨0, _⟩ => exact Fin.ext hx0
      | ⟨1, _⟩ => exact Fin.ext hx1
      | ⟨2, _⟩ => exact Fin.ext (by show (x 2).val = r.val; omega)
      | ⟨3, _⟩ => exact Fin.ext (by show (x 3).val = d.val; omega)
    rw [hxe, copy_apply]
    exact View.ld_unit_apply_of a _ _ ia _ _ (fun c => match c with
      | ⟨0, _⟩ => by show b.val = o + 0; omega
      | ⟨1, _⟩ => by show r.val = 0 + r.val; omega
      | ⟨2, _⟩ => by show d.val = 0 + d.val; omega)
  refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _))))
  · exact pad 1 x hx
  · exact cop 1 _ x hx
  · exact pad 0 x hx
  · exact cop 0 _ x hx

end Cert.Kernel2Ideal.Ffn

end
-- ==== Proof.FfnArray.lean ====
module

public import proofs.«01_k».proof.Proof.FfnVisit
public import Idealize.ShloMosaic.Lib.MatmulPlain
public import Idealize.ShloMosaic.Lib.IdealHost

/-! The expert feed-forward's array after the run, from the call's operands -/

@[expose] public section

set_option maxRecDepth 16384

noncomputable section

namespace Cert.Kernel2Ideal.Ffn

open Cert.Kernel2Ideal Cert.Kernel2Ideal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic
open Idealize.SL Idealize.SL.RA Idealize.SL.BI
open Idealize.SL.Sem
open Idealize.ShloMosaic.Pipeline (Dat Cfg Window BodyObligation cellOf)

open Idealize.ShloMosaic.ValueIdx

open Cert.Kernel2Ideal.Value

/-- The term of hidden unit `f` in the result of expert `e` at row `r` of batch `b`, column `d`. -/
def term (A0 : Vec Ideal S2x16x1040x1024 .bf16) (A1 A2 : Vec Ideal S1x16x1024x2752 .f32) (A3 : Vec Ideal S1x16x2752x1024 .f32)
    (b : Fin 2) (e : Fin 16) (r : Fin 1040) (d : Fin 1024) (f : Fin 2752) : EReal :=
  hid (∑ k : Fin 1024, A0 (ix4 b e r k) * A1 (ix4 (0 : Fin 1) e k f)) (∑ k : Fin 1024, A0 (ix4 b e r k) * A2 (ix4 (0 : Fin 1) e k f)) * A3 (ix4 (0 : Fin 1) e f d)

/-- The feed-forward's result at an entry. -/
def ffnAt (A0 : Vec Ideal S2x16x1040x1024 .bf16) (A1 A2 : Vec Ideal S1x16x1024x2752 .f32) (A3 : Vec Ideal S1x16x2752x1024 .f32)
    (b : Fin 2) (e : Fin 16) (r : Fin 1040) (d : Fin 1024) : EReal :=
  if r.val < 1024 then ∑ f : Fin 2752, term A0 A1 A2 A3 b e r d f else 0

variable (m : (ℓ : Loc nD τ sig) → Buf (Elt Ideal) ℓ) (c : Dev nD)

/-- The first weight operand the call reads: the argument's layer, rows and columns exchanged. -/
theorem v1_apply (e : Fin 16) (f : Fin 2752) (k : Fin 1024) :
    (V m c main_v1 : Vec Ideal S16x2752x1024 .f32) (ix3 e f k) = (m ((c : Thread nD τ).loc main_arg1) : Vec Ideal S1x16x1024x2752 .f32) (ix4 (0 : Fin 1) e k f) := by
  have h : (V m c main_v1 : Vec Ideal S16x2752x1024 .f32) = transpose S16x2752x1024 [0, 2, 1] (shapeCast S16x1024x2752 (m ((c : Thread nD τ).loc main_arg1) : Vec Ideal S1x16x1024x2752 .f32) shapeCasts_S1x16x1024x2752_S16x1024x2752) transposes_S16x1024x2752_S16x2752x1024_0_2_1 := by
    unfold V hostOps0
    after_results_simp <;> rfl
  rw [h, transpose_apply [0, 2, 1] _ transposes_S16x1024x2752_S16x2752x1024_0_2_1 (ix3 e f k) (ix3 e k f) (fun a => match a with
    | ⟨0, _⟩ => rfl
    | ⟨1, _⟩ => rfl
    | ⟨2, _⟩ => rfl)]
  refine shapeCast_apply (m ((c : Thread nD τ).loc main_arg1) : Vec Ideal S1x16x1024x2752 .f32) shapeCasts_S1x16x1024x2752_S16x1024x2752 (ix3 e k f) (ix4 (0 : Fin 1) e k f) ?_
  show (S1x16x1024x2752.rowMajor (ix4 (0 : Fin 1) e k f)).val = _
  simp only [Shape.rowMajor_val_three, Shape.rowMajor_val_four]
  simp [ix3, ix4, S16x1024x2752, S1x16x1024x2752]

/-- The second, likewise. -/
theorem v3_apply (e : Fin 16) (f : Fin 2752) (k : Fin 1024) :
    (V m c main_v3 : Vec Ideal S16x2752x1024 .f32) (ix3 e f k) = (m ((c : Thread nD τ).loc main_arg2) : Vec Ideal S1x16x1024x2752 .f32) (ix4 (0 : Fin 1) e k f) := by
  have h : (V m c main_v3 : Vec Ideal S16x2752x1024 .f32) = transpose S16x2752x1024 [0, 2, 1] (shapeCast S16x1024x2752 (m ((c : Thread nD τ).loc main_arg2) : Vec Ideal S1x16x1024x2752 .f32) shapeCasts_S1x16x1024x2752_S16x1024x2752) transposes_S16x1024x2752_S16x2752x1024_0_2_1 := by
    unfold V hostOps0
    after_results_simp <;> rfl
  rw [h, transpose_apply [0, 2, 1] _ transposes_S16x1024x2752_S16x2752x1024_0_2_1 (ix3 e f k) (ix3 e k f) (fun a => match a with
    | ⟨0, _⟩ => rfl
    | ⟨1, _⟩ => rfl
    | ⟨2, _⟩ => rfl)]
  refine shapeCast_apply (m ((c : Thread nD τ).loc main_arg2) : Vec Ideal S1x16x1024x2752 .f32) shapeCasts_S1x16x1024x2752_S16x1024x2752 (ix3 e k f) (ix4 (0 : Fin 1) e k f) ?_
  show (S1x16x1024x2752.rowMajor (ix4 (0 : Fin 1) e k f)).val = _
  simp only [Shape.rowMajor_val_three, Shape.rowMajor_val_four]
  simp [ix3, ix4, S16x1024x2752, S1x16x1024x2752]

/-- The last weight operand: the argument's layer. -/
theorem v4_apply (e : Fin 16) (f : Fin 2752) (d : Fin 1024) :
    (V m c main_v4 : Vec Ideal S16x2752x1024 .f32) (ix3 e f d) = (m ((c : Thread nD τ).loc main_arg3) : Vec Ideal S1x16x2752x1024 .f32) (ix4 (0 : Fin 1) e f d) := by
  have h : (V m c main_v4 : Vec Ideal S16x2752x1024 .f32) = shapeCast S16x2752x1024 (m ((c : Thread nD τ).loc main_arg3) : Vec Ideal S1x16x2752x1024 .f32) shapeCasts_S1x16x2752x1024_S16x2752x1024 := by
    unfold V hostOps0
    after_results_simp <;> rfl
  rw [h]
  refine shapeCast_apply (m ((c : Thread nD τ).loc main_arg3) : Vec Ideal S1x16x2752x1024 .f32) shapeCasts_S1x16x2752x1024_S16x2752x1024 (ix3 e f d) (ix4 (0 : Fin 1) e f d) ?_
  show (S1x16x2752x1024.rowMajor (ix4 (0 : Fin 1) e f d)).val = _
  simp only [Shape.rowMajor_val_three, Shape.rowMajor_val_four]
  simp [ix3, ix4, S16x2752x1024, S1x16x2752x1024]

/-- Where the blocks of a visit lie: the expert, and the quarter of its hidden units. -/
theorem index_facts : ∀ t : Fin cfg0.N,
    (win0_0.index t (0 : Fin 4) = 0 ∧ win0_0.index t (1 : Fin 4) = t.val / 4 ∧ win0_0.index t (2 : Fin 4) = 0 ∧ win0_0.index t (3 : Fin 4) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = t.val % 4 ∧ win0_3.index t (2 : Fin 3) = 0) :=
  (by decide +kernel : ∀ t : Fin grid0.N, _)

def eOf (t : Fin cfg0.N) : Fin 16 := ⟨t.val / 4, by have := Nat.lt_of_lt_of_eq t.isLt (show cfg0.N = 64 from N_0); omega⟩
def fOf (t : Fin cfg0.N) (f : Fin 688) : Fin 2752 := ⟨t.val % 4 * 688 + f.val, by omega⟩

theorem x0_apply (t : Fin cfg0.N) (b : Fin 2) (r k : Fin 1024) :
    (X0_0 m c t : Vec Ideal S2x1x1024x1024 .bf16) (ix4 b (0 : Fin 1) r k) = (m ((c : Thread nD τ).loc main_arg0) : Vec Ideal S2x16x1040x1024 .bf16) (ix4 b (eOf t) ⟨r.val, by omega⟩ k) := by
  obtain ⟨⟨e0, e1, e2, e3⟩, -⟩ := index_facts t
  unfold X0_0 Pipeline.Window.fill
  rw [dif_pos (moved0_0 t _)]
  refine (congrArg (V m c main_arg0) (?_ : _ = (ix4 b (eOf t) (⟨r.val, by omega⟩ : Fin 1040) k : S2x16x1040x1024.Idx))).trans (congrFun (V_main_arg0 m c) _)
  funext a
  apply Fin.ext
  match a with
  | ⟨0, _⟩ => show win0_0.index t (0 : Fin 4) * 2 + 1 * b.val = b.val; rw [e0]; omega
  | ⟨1, _⟩ => show win0_0.index t (1 : Fin 4) * 1 + 1 * 0 = t.val / 4; rw [e1]; omega
  | ⟨2, _⟩ => show win0_0.index t (2 : Fin 4) * 1024 + 1 * r.val = r.val; rw [e2]; omega
  | ⟨3, _⟩ => show win0_0.index t (3 : Fin 4) * 1024 + 1 * k.val = k.val; rw [e3]; omega

theorem x1_apply (t : Fin cfg0.N) (f : Fin 688) (k : Fin 1024) :
    (iblk m c 1 t : Vec Ideal S1x688x1024 .f32) (ix3 (0 : Fin 1) f k) = (m ((c : Thread nD τ).loc main_arg1) : Vec Ideal S1x16x1024x2752 .f32) (ix4 (0 : Fin 1) (eOf t) k (fOf t f)) := by
  obtain ⟨-, ⟨e0, e1, e2⟩, -⟩ := index_facts t
  unfold iblk
  refine (congrArg (V m c main_v1) (?_ : _ = (ix3 (eOf t) (fOf t f) k : S16x2752x1024.Idx))).trans (v1_apply m c _ _ _)
  funext a
  apply Fin.ext
  match a with
  | ⟨0, _⟩ => show win0_1.index t (0 : Fin 3) * 1 + 1 * 0 = t.val / 4; rw [e0]; omega
  | ⟨1, _⟩ => show win0_1.index t (1 : Fin 3) * 688 + 1 * f.val = t.val % 4 * 688 + f.val; rw [e1]; omega
  | ⟨2, _⟩ => show win0_1.index t (2 : Fin 3) * 1024 + 1 * k.val = k.val; rw [e2]; omega

theorem x2_apply (t : Fin cfg0.N) (f : Fin 688) (k : Fin 1024) :
    (iblk m c 2 t : Vec Ideal S1x688x1024 .f32) (ix3 (0 : Fin 1) f k) = (m ((c : Thread nD τ).loc main_arg2) : Vec Ideal S1x16x1024x2752 .f32) (ix4 (0 : Fin 1) (eOf t) k (fOf t f)) := by
  obtain ⟨-, -, ⟨e0, e1, e2⟩, -⟩ := index_facts t
  unfold iblk
  refine (congrArg (V m c main_v3) (?_ : _ = (ix3 (eOf t) (fOf t f) k : S16x2752x1024.Idx))).trans (v3_apply m c _ _ _)
  funext a
  apply Fin.ext
  match a with
  | ⟨0, _⟩ => show win0_2.index t (0 : Fin 3) * 1 + 1 * 0 = t.val / 4; rw [e0]; omega
  | ⟨1, _⟩ => show win0_2.index t (1 : Fin 3) * 688 + 1 * f.val = t.val % 4 * 688 + f.val; rw [e1]; omega
  | ⟨2, _⟩ => show win0_2.index t (2 : Fin 3) * 1024 + 1 * k.val = k.val; rw [e2]; omega

theorem x3_apply (t : Fin cfg0.N) (f : Fin 688) (k : Fin 1024) :
    (iblk m c 3 t : Vec Ideal S1x688x1024 .f32) (ix3 (0 : Fin 1) f k) = (m ((c : Thread nD τ).loc main_arg3) : Vec Ideal S1x16x2752x1024 .f32) (ix4 (0 : Fin 1) (eOf t) (fOf t f) k) := by
  obtain ⟨-, -, -, e0, e1, e2⟩ := index_facts t
  unfold iblk
  refine (congrArg (V m c main_v4) (?_ : _ = (ix3 (eOf t) (fOf t f) k : S16x2752x1024.Idx))).trans (v4_apply m c _ _ _)
  funext a
  apply Fin.ext
  match a with
  | ⟨0, _⟩ => show win0_3.index t (0 : Fin 3) * 1 + 1 * 0 = t.val / 4; rw [e0]; omega
  | ⟨1, _⟩ => show win0_3.index t (1 : Fin 3) * 688 + 1 * f.val = t.val % 4 * 688 + f.val; rw [e1]; omega
  | ⟨2, _⟩ => show win0_3.index t (2 : Fin 3) * 1024 + 1 * k.val = k.val; rw [e2]; omega

/-- The quarter `t` visits of the sum over the hidden units. -/
def part (t : Fin cfg0.N) (b : Fin 2) (r d : Fin 1024) : EReal :=
  ∑ f : Fin 688, term (m ((c : Thread nD τ).loc main_arg0)) (m ((c : Thread nD τ).loc main_arg1)) (m ((c : Thread nD τ).loc main_arg2)) (m ((c : Thread nD τ).loc main_arg3)) b (eOf t) ⟨r.val, by omega⟩ d (fOf t f)

theorem adds_eq (t : Fin cfg0.N) (b : Fin 2) (r d : Fin 1024) :
    adds (X0_0 m c t) (iblk m c 1 t) (iblk m c 2 t) (iblk m c 3 t) b r d = part m c t b r d := by
  unfold adds part term
  refine Finset.sum_congr rfl fun f _ => ?_
  have e1 := fun k : Fin 1024 => congrArg₂ (fun p q : EReal => p * q) (x0_apply m c t b r k) (x1_apply m c t f k)
  have e2 := fun k : Fin 1024 => congrArg₂ (fun p q : EReal => p * q) (x0_apply m c t b r k) (x2_apply m c t f k)
  exact congrArg₂ (fun p q : EReal => p * q) (congrArg₂ hid (Finset.sum_congr rfl fun k _ => e1 k) (Finset.sum_congr rfl fun k _ => e2 k)) (x3_apply m c t f d)

theorem acc_first (t : Fin cfg0.N) (h : t.val % 4 = 0) (b : Fin 2) (r d : Fin 1024) :
    (outsAt0 m c t.val t.isLt).2 (ix3 b r d) = part m c t b r d := by
  rw [outsAt0_A m c t h (by omega)]
  dsimp only
  rw [sout_A, accOf_apply]
  refine (congrArg₂ (· + ·) (Ideal.ofBits_zero_f32 : k0_pay5 (F := Ideal) (ix3 b r d) = 0) (adds_eq m c t b r d)).trans (zero_add _)

theorem acc_next (t : Fin cfg0.N) (h : ¬ t.val % 4 = 0) (b : Fin 2) (r d : Fin 1024) :
    (outsAt0 m c t.val t.isLt).2 (ix3 b r d) = (outsAt0 m c (t.val - 1) (Nat.lt_of_le_of_lt (Nat.sub_le _ _) t.isLt)).2 (ix3 b r d) + part m c t b r d := by
  by_cases h3 : t.val % 4 = 3
  · rw [outsAt0_C m c t h h3]
    dsimp only
    rw [sout_C, accOf_apply, adds_eq]
  · rw [outsAt0_B m c t h h3]
    dsimp only
    rw [sout_B, accOf_apply, adds_eq]

/-- What an expert's last visit leaves in the result's block. -/
theorem out_last (t : Fin cfg0.N) (h : t.val % 4 = 3) (b : Fin 2) (r : Fin 1040) (d : Fin 1024) :
    (outsAt0 m c t.val t.isLt).1 (ix4 b (0 : Fin 1) r d) = if hr : r.val < 1024 then (outsAt0 m c t.val t.isLt).2 (ix3 b ⟨r.val, hr⟩ d) else 0 := by
  rw [outsAt0_C m c t (by omega) h]
  dsimp only
  rw [out_C, resOf_apply, sout_C]

theorem pt_lt (e : Fin 16) (j : Fin 4) : 4 * e.val + j.val < cfg0.N := by
  show _ < grid0.N
  rw [N_0]; omega

theorem acc_last (e : Fin 16) (b : Fin 2) (r d : Fin 1024) :
    (outsAt0 m c (4 * e.val + 3) (pt_lt e 3)).2 (ix3 b r d) = ∑ j : Fin 4, part m c ⟨4 * e.val + j.val, pt_lt e j⟩ b r d := by
  have h3 := acc_next m c ⟨4 * e.val + 3, pt_lt e 3⟩ (by show ¬ (4 * e.val + 3) % 4 = 0; omega) b r d
  have h2 := acc_next m c ⟨4 * e.val + 2, pt_lt e 2⟩ (by show ¬ (4 * e.val + 2) % 4 = 0; omega) b r d
  have h1 := acc_next m c ⟨4 * e.val + 1, pt_lt e 1⟩ (by show ¬ (4 * e.val + 1) % 4 = 0; omega) b r d
  have h0 := acc_first m c ⟨4 * e.val + 0, pt_lt e 0⟩ (by show (4 * e.val + 0) % 4 = 0; omega) b r d
  rw [Fin.sum_univ_four]
  refine h3.trans (congrArg (· + _) ?_)
  refine h2.trans (congrArg (· + _) ?_)
  exact h1.trans (congrArg (· + _) h0)

theorem sum_quarters (g : Fin 2752 → EReal) : (∑ j : Fin 4, ∑ f : Fin 688, g ⟨j.val * 688 + f.val, by omega⟩) = ∑ f : Fin 2752, g f := by
  rw [← Fintype.sum_prod_type' (fun (j : Fin 4) (f : Fin 688) => g ⟨j.val * 688 + f.val, by omega⟩)]
  refine Fintype.sum_equiv (finProdFinEquiv (m := 4) (n := 688)) _ _ fun p => congrArg g (Fin.ext ?_)
  show p.1.val * 688 + p.2.val = p.2.val + 688 * p.1.val
  omega

/-- The array after the run, at an entry. -/
theorem array_apply (b : Fin 2) (e : Fin 16) (r : Fin 1040) (d : Fin 1024) :
    (G4 m c : Vec Ideal S2x16x1040x1024 .bf16) (ix4 b e r d) = ffnAt (m ((c : Thread nD τ).loc main_arg0)) (m ((c : Thread nD τ).loc main_arg1)) (m ((c : Thread nD τ).loc main_arg2)) (m ((c : Thread nD τ).loc main_arg3)) b e r d := by
  have hp : pt4Of (ix4 b e r d : S2x16x1040x1024.Idx) = 4 * e.val + 3 := by
    show 4 * (16 * (b.val / 2 - 0) + 1 * (e.val / 1 - 0) + 1 * (r.val / 1040 - 0) + 1 * (d.val / 1024 - 0)) + 3 = _
    omega
  have hl : loc4Of (ix4 b e r d : S2x16x1040x1024.Idx) = (ix4 b (0 : Fin 1) r d : S2x1x1040x1024.Idx) := by
    funext a
    apply Fin.ext
    match a with
    | ⟨0, _⟩ => show b.val % 2 = b.val; omega
    | ⟨1, _⟩ => show e.val % 1 = 0; omega
    | ⟨2, _⟩ => show r.val % 1040 = r.val; omega
    | ⟨3, _⟩ => show d.val % 1024 = d.val; omega
  unfold G4
  rw [dif_pos (by rw [hp]; exact pt_lt e 3), hl, fold0_congr m c _ _ _ (by rw [Nat.zero_add]; exact pt_lt e 3) hp, ← outsAt0_sweep m c (4 * e.val + 3) (pt_lt e 3)]
  refine (out_last m c ⟨4 * e.val + 3, pt_lt e 3⟩ (by show (4 * e.val + 3) % 4 = 3; omega) b r d).trans ?_
  unfold ffnAt
  by_cases hr : r.val < 1024
  · rw [dif_pos hr, if_pos hr]
    refine (acc_last m c e b ⟨r.val, hr⟩ d).trans ?_
    rw [← sum_quarters]
    refine Finset.sum_congr rfl fun j _ => Finset.sum_congr rfl fun f _ => ?_
    have he : eOf ⟨4 * e.val + j.val, pt_lt e j⟩ = e := Fin.ext (by show (4 * e.val + j.val) / 4 = e.val; omega)
    have hf : fOf ⟨4 * e.val + j.val, pt_lt e j⟩ f = ⟨j.val * 688 + f.val, by omega⟩ := Fin.ext (by show (4 * e.val + j.val) % 4 * 688 + f.val = _; congr 2; omega)
    rw [he, hf]
  · rw [dif_neg hr, if_neg hr]

theorem array_eq : (G4 m c : Vec Ideal S2x16x1040x1024 .bf16) = fun i => ffnAt (m ((c : Thread nD τ).loc main_arg0)) (m ((c : Thread nD τ).loc main_arg1)) (m ((c : Thread nD τ).loc main_arg2)) (m ((c : Thread nD τ).loc main_arg3)) (i 0) (i 1) (i 2) (i 3) := by
  funext i
  have hi : i = ix4 (i 0) (i 1) (i 2) (i 3) := funext fun a => match a with | ⟨0, _⟩ => rfl | ⟨1, _⟩ => rfl | ⟨2, _⟩ => rfl | ⟨3, _⟩ => rfl
  exact (congrArg _ hi).trans (array_apply m c _ _ _ _)

end Cert.Kernel2Ideal.Ffn

end
-- ==== Proof.FfnRef.lean ====
module

public import proofs.«01_k».proof.Proof.FfnArray
public import proofs.«01_k».proof.Proof.Gen.Reference2Ideal.Read
public import Idealize.ShloMosaic.Lib.KernelVsHost

/-! The reference's feed-forward, at an entry, is the kernel's -/

@[expose] public section

set_option maxRecDepth 16384

noncomputable section

namespace Cert.Reference2Ideal.Ffn

open Cert.Reference2Ideal Cert.Reference2Ideal.Gen Cert.Reference2Ideal.Read
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic Idealize.ShloMosaic.ValueIdx
open Cert.Kernel2Ideal.Ffn (hid term ffnAt)

variable (A0 : Vec Ideal S2x16x1040x1024 .bf16) (A1 A2 : Vec Ideal S1x16x1024x2752 .f32) (A3 : Vec Ideal S1x16x2752x1024 .f32)
variable (b : Fin 2) (e : Fin 16) (r : Fin 1024) (d : Fin 1024) (f : Fin 2752)

theorem row_apply (k : Fin 1024) : val_main_v1 (F := Ideal) A0 (ix4 b e r k) = A0 (ix4 b e ⟨r.val, by omega⟩ k) := by
  rw [val_main_v1_apply, val_main_v0_apply]
  exact congrArg A0 (funext fun a => match a with | ⟨0, _⟩ => rfl | ⟨1, _⟩ => rfl | ⟨2, _⟩ => rfl | ⟨3, _⟩ => rfl)

theorem gate_weight_apply (k : Fin 1024) : val_main_v2 (F := Ideal) A1 (ix3 e k f) = A1 (ix4 (0 : Fin 1) e k f) := by
  unfold val_main_v2
  refine shapeCast_apply A1 _ _ _ ?_
  simp only [Shape.rowMajor_val_three, Shape.rowMajor_val_four]
  simp [ix3, ix4, S16x1024x2752, S1x16x1024x2752]

theorem up_weight_apply (k : Fin 1024) : val_main_v5 (F := Ideal) A2 (ix3 e k f) = A2 (ix4 (0 : Fin 1) e k f) := by
  unfold val_main_v5
  refine shapeCast_apply A2 _ _ _ ?_
  simp only [Shape.rowMajor_val_three, Shape.rowMajor_val_four]
  simp [ix3, ix4, S16x1024x2752, S1x16x1024x2752]

theorem down_weight_apply : val_main_v10 (F := Ideal) A3 (ix3 e f d) = A3 (ix4 (0 : Fin 1) e f d) := by
  unfold val_main_v10
  refine shapeCast_apply A3 _ _ _ ?_
  simp only [Shape.rowMajor_val_three, Shape.rowMajor_val_four]
  simp [ix3, ix4, S16x2752x1024, S1x16x2752x1024]

theorem gate_apply : val_main_v4 (F := Ideal) A0 A1 (ix4 b e r f) = ∑ k : Fin 1024, A0 (ix4 b e ⟨r.val, by omega⟩ k) * A1 (ix4 (0 : Fin 1) e k f) := by
  rw [val_main_v4_apply, val_main_v3_apply]
  refine Finset.sum_congr rfl fun k _ => ?_
  have h1 : lidx_main_v3 (idx_main_v4 (ix4 b e r f)) k = ix3 e k f := funext fun a => match a with | ⟨0, _⟩ => rfl | ⟨1, _⟩ => rfl | ⟨2, _⟩ => rfl
  have h2 : ridx_main_v3 (idx_main_v4 (ix4 b e r f)) k = ix4 b e r k := funext fun a => match a with | ⟨0, _⟩ => rfl | ⟨1, _⟩ => rfl | ⟨2, _⟩ => rfl | ⟨3, _⟩ => rfl
  rw [h1, h2, gate_weight_apply, row_apply, mul_comm]

theorem up_apply : val_main_v7 (F := Ideal) A0 A2 (ix4 b e r f) = ∑ k : Fin 1024, A0 (ix4 b e ⟨r.val, by omega⟩ k) * A2 (ix4 (0 : Fin 1) e k f) := by
  rw [val_main_v7_apply, val_main_v6_apply]
  refine Finset.sum_congr rfl fun k _ => ?_
  have h1 : lidx_main_v6 (idx_main_v7 (ix4 b e r f)) k = ix3 e k f := funext fun a => match a with | ⟨0, _⟩ => rfl | ⟨1, _⟩ => rfl | ⟨2, _⟩ => rfl
  have h2 : ridx_main_v6 (idx_main_v7 (ix4 b e r f)) k = ix4 b e r k := funext fun a => match a with | ⟨0, _⟩ => rfl | ⟨1, _⟩ => rfl | ⟨2, _⟩ => rfl | ⟨3, _⟩ => rfl
  rw [h1, h2, up_weight_apply, row_apply, mul_comm]

/-- The gated unit: the same function of the two sums. -/
theorem unit_apply : val_main_v9 (F := Ideal) A0 A1 A2 (ix4 b e r f) = hid (∑ k : Fin 1024, A0 (ix4 b e ⟨r.val, by omega⟩ k) * A1 (ix4 (0 : Fin 1) e k f)) (∑ k : Fin 1024, A0 (ix4 b e ⟨r.val, by omega⟩ k) * A2 (ix4 (0 : Fin 1) e k f)) := by
  rw [← gate_apply, ← up_apply, val_main_v9_apply, val_main_v8_apply, val_main_call0_v5_apply, val_main_call0_v4_apply, val_main_call0_v3_apply, val_main_call0_v2_apply, val_main_call0_v1_apply, val_main_call0_v0_apply, val_main_call0_cst_apply, val_main_call0_cst_0_apply]
  generalize val_main_v4 (F := Ideal) A0 A1 (ix4 b e r f) = a
  generalize val_main_v7 (F := Ideal) A0 A2 (ix4 b e r f) = u
  have h1 : (FloatOps.ofBits .f32 0x3F800000#32 : Ideal .f32) = (1 : EReal) := Ideal.ofBits_one_f32
  rw [h1]
  rfl

theorem sum_apply : val_main_v12 (F := Ideal) A0 A1 A2 A3 (ix4 b e r d) = ∑ f : Fin 2752, term A0 A1 A2 A3 b e ⟨r.val, by omega⟩ d f := by
  rw [val_main_v12_apply, val_main_v11_apply]
  refine Finset.sum_congr rfl fun k _ => ?_
  have h1 : lidx_main_v11 (idx_main_v12 (ix4 b e r d)) k = ix3 e k d := funext fun a => match a with | ⟨0, _⟩ => rfl | ⟨1, _⟩ => rfl | ⟨2, _⟩ => rfl
  have h2 : ridx_main_v11 (idx_main_v12 (ix4 b e r d)) k = ix4 b e r k := funext fun a => match a with | ⟨0, _⟩ => rfl | ⟨1, _⟩ => rfl | ⟨2, _⟩ => rfl | ⟨3, _⟩ => rfl
  rw [h1, h2, down_weight_apply, unit_apply, mul_comm]
  rfl

/-- The reference's result at an entry. -/
theorem result_apply (r : Fin 1040) : val_main_v14 (F := Ideal) A0 A1 A2 A3 (ix4 b e r d) = ffnAt A0 A1 A2 A3 b e r d := by
  rw [val_main_v14_apply]
  show val_main_v13 (F := Ideal) A0 A1 A2 A3 (ix4 b e r d) = _
  unfold val_main_v13 ffnAt
  by_cases hr : r.val < 1024
  · rw [if_pos hr, pad_apply_of_inside _ _ _ _ _ _ _ (ix4 b e r d) (ix4 b e ⟨r.val, hr⟩ d) (fun a => match a with
      | ⟨0, _⟩ => by show b.val = 0 + b.val * (0 + 1); omega
      | ⟨1, _⟩ => by show e.val = 0 + e.val * (0 + 1); omega
      | ⟨2, _⟩ => by show r.val = 0 + r.val * (0 + 1); omega
      | ⟨3, _⟩ => by show d.val = 0 + d.val * (0 + 1); omega)]
    exact sum_apply A0 A1 A2 A3 b e ⟨r.val, hr⟩ d
  · rw [if_neg hr, pad_apply_of_not_inside _ _ _ _ _ _ _ (ix4 b e r d) (2 : Fin 4) (by
      intro h
      have h3 : (r.val - 0) / (0 + 1) < 1024 := h.2.2
      omega)]
    rw [val_main_call1_v0_apply, val_main_c_apply]
    show ((((0#32 : BitVec 32).toInt : ℝ)) : EReal) = 0
    simp

/-- The two programs' results are one function of the operands. -/
theorem result_eq : val_main_v14 (F := Ideal) A0 A1 A2 A3 = fun i => ffnAt A0 A1 A2 A3 (i 0) (i 1) (i 2) (i 3) := by
  funext i
  have hi : i = ix4 (i 0) (i 1) (i 2) (i 3) := funext fun a => match a with | ⟨0, _⟩ => rfl | ⟨1, _⟩ => rfl | ⟨2, _⟩ => rfl | ⟨3, _⟩ => rfl
  exact (congrArg _ hi).trans (result_apply A0 A1 A2 A3 _ _ _ _)

end Cert.Reference2Ideal.Ffn

end
-- ==== Proof.OutReal.lean ====
module

public import proofs.«01_k».proof.Proof.Softmax

/-! The normalization of a row of real numbers, and the differences that vanish on real numbers -/

@[expose] public section

noncomputable section

namespace Cert.Out

open Idealize.ShloMosaic
open Cert.Softmax

theorem IsReal.add {x y : EReal} (hx : IsReal x) (hy : IsReal y) : IsReal (x + y) := by
  obtain ⟨a, rfl⟩ := hx; obtain ⟨b, rfl⟩ := hy; exact ⟨a + b, by push_cast; rfl⟩

theorem sub_self_real {x : EReal} (hx : IsReal x) : x - x = 0 := by
  obtain ⟨a, rfl⟩ := hx
  rw [← EReal.coe_sub, sub_self, EReal.coe_zero]

/-- The row length, 1024. -/
abbrev len : EReal := Ideal.ofBits .f32 0x44800000#32
/-- The term that keeps the mean square from zero. -/
abbrev tiny : EReal := Ideal.ofBits .f32 0x358637BD#32

theorem len_eq : ∃ r : ℝ, 0 < r ∧ len = (r : EReal) := by
  refine ⟨_, ?_, by
    unfold len Ideal.ofBits Ideal.ieee
    simp only [show ¬ ((0x44800000#32).extractLsb' 23 8).toNat = 2 ^ 8 - 1 by decide, if_false]
    rfl⟩
  rw [if_neg (by decide)]
  positivity

theorem tiny_eq : ∃ r : ℝ, 0 < r ∧ tiny = (r : EReal) := by
  refine ⟨_, ?_, by
    unfold tiny Ideal.ofBits Ideal.ieee
    simp only [show ¬ ((0x358637BD#32).extractLsb' 23 8).toNat = 2 ^ 8 - 1 by decide, if_false]
    rfl⟩
  rw [if_neg (by decide)]
  positivity

/-- The row's factor: the inverse square root of its mean square. -/
def scl (f : Fin 1024 → EReal) : EReal := Ideal.rsqrt (Ideal.div (∑ k, f k * f k) len + tiny)

/-- The normalized row, scaled and shifted. -/
def nrm (f n sc sh : Fin 1024 → EReal) (d : Fin 1024) : EReal := f d * scl f * n d * (1 + sc d) + sh d

theorem scl_real {f : Fin 1024 → EReal} (hf : ∀ k, IsReal (f k)) : IsReal (scl f) := by
  choose g hg using hf
  obtain ⟨l, hl, el⟩ := len_eq
  obtain ⟨t, ht, et⟩ := tiny_eq
  have hs : (∑ k, f k * f k) = ((∑ k, g k * g k : ℝ) : EReal) := by
    rw [coe_sum]
    exact Finset.sum_congr rfl fun k _ => by rw [hg k]; push_cast; rfl
  have h0 : (0 : ℝ) ≤ ∑ k, g k * g k := Finset.sum_nonneg fun k _ => mul_self_nonneg _
  have hd : Ideal.div ((∑ k, g k * g k : ℝ) : EReal) (l : EReal) = (((∑ k, g k * g k) * l⁻¹ : ℝ) : EReal) := by
    unfold Ideal.div
    rw [if_neg (by exact_mod_cast hl.ne'), ← EReal.coe_inv, ← EReal.coe_mul]
  unfold scl
  rw [hs, el, et, hd, ← EReal.coe_add]
  have hp : 0 < (∑ k, g k * g k) * l⁻¹ + t := add_pos_of_nonneg_of_pos (mul_nonneg h0 (inv_nonneg.mpr hl.le)) ht
  refine ⟨(Real.sqrt ((∑ k, g k * g k) * l⁻¹ + t))⁻¹, ?_⟩
  show (if (∑ k, g k * g k) * l⁻¹ + t < 0 then (⊥ : EReal) else if (∑ k, g k * g k) * l⁻¹ + t = 0 then ⊤ else (((Real.sqrt ((∑ k, g k * g k) * l⁻¹ + t))⁻¹ : ℝ) : EReal)) = _
  rw [if_neg hp.le.not_gt, if_neg hp.ne']

theorem isReal_one : IsReal (1 : EReal) := ⟨1, rfl⟩

theorem nrm_real {f n sc sh : Fin 1024 → EReal} (hf : ∀ k, IsReal (f k)) (hn : ∀ k, IsReal (n k)) (hc : ∀ k, IsReal (sc k)) (hh : ∀ k, IsReal (sh k))
    (d : Fin 1024) : IsReal (nrm f n sc sh d) :=
  IsReal.add ((((hf d).mul (scl_real hf)).mul (hn d)).mul (IsReal.add isReal_one (hc d))) (hh d)

/-- A split of the weights and of the row into a part and what is left of it adds up to the plain sum. -/
theorem split_sum {w h : Fin 1024 → EReal} (hw : ∀ k, IsReal (w k)) (hh : ∀ k, IsReal (h k)) :
    (∑ k, w k * h k) + (∑ k, (w k - w k) * h k) + (∑ k, w k * (h k - h k)) = ∑ k, w k * h k := by
  have e1 : (∑ k, (w k - w k) * h k) = 0 := Finset.sum_eq_zero fun k _ => by rw [sub_self_real (hw k), zero_mul]
  have e2 : (∑ k, w k * (h k - h k)) = 0 := Finset.sum_eq_zero fun k _ => by rw [sub_self_real (hh k), mul_zero]
  rw [e1, e2, add_zero, add_zero]

end Cert.Out

end
-- ==== Proof.OutTile.lean ====
module

public import proofs.«01_k».proof.Proof.Gen.Kernel3Ideal.Value
public import proofs.«01_k».proof.Proof.OutReal
public import Idealize.ShloMosaic.Lib.Pipeline.ValueKit
public import Idealize.ShloMosaic.Lib.Pipeline.ReadBack
public import Idealize.ShloMosaic.Lib.MatmulPlain
public import Idealize.ShloMosaic.Lib.IdealHost
public import Idealize.ShloMosaic.Lib.ValueLayout

/-! The output projection's block over the extended reals: the residual row, its normalization, and the router's scores -/

@[expose] public section

set_option maxRecDepth 16384

noncomputable section

namespace Cert.Kernel3Ideal.Out

open Cert.Kernel3Ideal Cert.Kernel3Ideal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open Cert.Softmax Cert.Out

/-! ## The layout operations at an entry -/

theorem mixL_apply (x : Vec Ideal S1x1024x512 .bf16) (r : Fin 1024) (k : Fin 512) :
    shapeCast S1024x512 x shapeCasts_S1x1024x512_S1024x512 (ix2 r k) = x (ix3 (0 : Fin 1) r k) := by
  refine shapeCast_apply x _ _ _ ?_
  simp only [Shape.rowMajor_val_two, Shape.rowMajor_val_three]
  simp [ix2, ix3, S1x1024x512, S1024x512]

theorem row_apply (x : Vec Ideal S1x1024x1024 .f32) (r k : Fin 1024) :
    shapeCast S1024x1024 x shapeCasts_S1x1024x1024_S1024x1024 (ix2 r k) = x (ix3 (0 : Fin 1) r k) := by
  refine shapeCast_apply x _ _ _ ?_
  simp only [Shape.rowMajor_val_two, Shape.rowMajor_val_three]
  simp [ix2, ix3, S1x1024x1024, S1024x1024]

theorem back_apply {φ : FTy} (x : FVec Ideal S1024x1024 φ) (r k : Fin 1024) :
    shapeCast S1x1024x1024 x shapeCasts_S1024x1024_S1x1024x1024 (ix3 (0 : Fin 1) r k) = x (ix2 r k) := by
  refine shapeCast_apply x _ _ _ ?_
  simp only [Shape.rowMajor_val_two, Shape.rowMajor_val_three]
  simp [ix2, ix3, S1x1024x1024, S1024x1024]

theorem backL_apply (x : FVec Ideal S16x1024 .f32) (e : Fin 16) (k : Fin 1024) :
    shapeCast S1x16x1024 x shapeCasts_S16x1024_S1x16x1024 (ix3 (0 : Fin 1) e k) = x (ix2 e k) := by
  refine shapeCast_apply x _ _ _ ?_
  simp only [Shape.rowMajor_val_two, Shape.rowMajor_val_three]
  simp [ix2, ix3, S1x16x1024, S16x1024]

theorem vec_apply (x : Vec Ideal S1x1x1024 .f32) (k : Fin 1024) :
    shapeCast S1x1024 x shapeCasts_S1x1x1024_S1x1024 (ix2 (0 : Fin 1) k) = x (ix3 (0 : Fin 1) (0 : Fin 1) k) := by
  refine shapeCast_apply x _ _ _ ?_
  simp only [Shape.rowMajor_val_two, Shape.rowMajor_val_three]
  simp [ix2, ix3, S1x1x1024, S1x1024]

theorem col_apply (x : FVec Ideal S1024 .f32) (r : Fin 1024) :
    shapeCast S1024x1 x shapeCasts_S1024_S1024x1 (ix2 r (0 : Fin 1)) = x (ix1 r) := by
  refine shapeCast_apply x _ _ _ ?_
  simp only [Shape.rowMajor_val_one, Shape.rowMajor_val_two]
  simp [ix1, ix2, S1024, S1024x1]

theorem same_apply {s : Shape} {α : Type} (x : s.Idx → α) (h : s.ShapeCasts s) (i : s.Idx) : shapeCast s x h i = x i :=
  shapeCast_apply x _ _ _ rfl

theorem rows_apply (v : FVec Ideal S1x1024 .f32) (r d : Fin 1024) :
    broadcastTo S1024x1024 v broadcasts_S1x1024_S1024x1024 (ix2 r d) = v (ix2 (0 : Fin 1) d) :=
  broadcastTo_1b_ab_apply v broadcasts_S1x1024_S1024x1024 r d

theorem cols_apply (v : FVec Ideal S1024x1 .f32) (r d : Fin 1024) :
    broadcastTo S1024x1024 v broadcasts_S1024x1_S1024x1024 (ix2 r d) = v (ix2 r (0 : Fin 1)) := by
  refine broadcastTo_apply v _ (ix2 r d) (ix2 r (0 : Fin 1)) fun ax => ?_
  match ax with
  | ⟨0, _⟩ => rfl
  | ⟨1, _⟩ => rfl

/-- The two halves of a mixed row, side by side. -/
def catB (x0 x1 : Vec Ideal S1x1024x512 .bf16) (r k : Fin 1024) : EReal :=
  if h : k.val < 512 then x0 (ix3 (0 : Fin 1) r (⟨k.val, h⟩ : Fin 512)) else x1 (ix3 (0 : Fin 1) r (⟨k.val - 512, by omega⟩ : Fin 512))

theorem cat_apply (x0 x1 : Vec Ideal S1x1024x512 .bf16) (r k : Fin 1024) :
    (concatenate S1024x1024 1 [⟨S1024x512, shapeCast S1024x512 x0 shapeCasts_S1x1024x512_S1024x512⟩, ⟨S1024x512, shapeCast S1024x512 x1 shapeCasts_S1x1024x512_S1024x512⟩] concatenates_S1024x512_S1024x512_S1024x1024_d1 : FVec Ideal S1024x1024 .bf16) (ix2 r k) = catB x0 x1 r k := by
  unfold catB
  split
  · rename_i hk
    refine (concatenate_pair_apply_left (t := S1024x1024) (s₁ := S1024x512) (s₂ := S1024x512) 1 (shapeCast S1024x512 x0 shapeCasts_S1x1024x512_S1024x512) (shapeCast S1024x512 x1 shapeCasts_S1x1024x512_S1024x512) _ _ rfl (ix2 r (⟨k.val, hk⟩ : Fin 512)) (fun a => match a with
      | ⟨0, _⟩ => rfl
      | ⟨1, _⟩ => rfl)).trans ?_
    exact mixL_apply x0 r ⟨k.val, hk⟩
  · rename_i hk
    refine (concatenate_pair_apply_right (t := S1024x1024) (s₁ := S1024x512) (s₂ := S1024x512) 1 (shapeCast S1024x512 x0 shapeCasts_S1x1024x512_S1024x512) (shapeCast S1024x512 x1 shapeCasts_S1x1024x512_S1024x512) _ _ rfl rfl (ix2 r (⟨k.val - 512, by omega⟩ : Fin 512)) (fun a ha => ?_) ?_).trans ?_
    · match a, ha with
      | ⟨0, _⟩, _ => rfl
      | ⟨1, _⟩, ha => exact absurd rfl ha
    · show k.val - 512 + 512 = k.val
      omega
    exact mixL_apply x1 r ⟨k.val - 512, by omega⟩

theorem dotMix_apply (x w : FVec Ideal S1024x1024 .bf16) (r d : Fin 1024) :
    matmul (F := Ideal) dot_S1024x1024_S1024x1024_S1024x1024_1_0_0_1_n_n none x w (constant S1024x1024 .f32 0x00000000#32) (ix2 r d)
      = ∑ k : Fin 1024, x (ix2 r k) * w (ix2 k d) := by
  refine (Ideal.matmul_plain_apply (M := 1024) (K := 1024) (N := 1024) none x w _ r d).trans ?_
  rw [constant_apply, Ideal.ofBits_zero_f32, zero_add]

theorem dotBoth_apply (x : FVec Ideal S32x1024 .bf16) (w : FVec Ideal S1024x1024 .bf16) (r : Fin 32) (f : Fin 1024) :
    matmul (F := Ideal) dot_S32x1024_S1024x1024_S32x1024_1_1_0_0_n_n none x w (constant S32x1024 .f32 0x00000000#32) (ix2 r f)
      = ∑ k : Fin 1024, x (ix2 r k) * w (ix2 f k) := by
  refine (Ideal.matmul_transposedRhs_apply (M := 32) (K := 1024) (N := 1024) none x w _ r f).trans ?_
  rw [constant_apply, Ideal.ofBits_zero_f32, zero_add]

theorem dotRest_apply (x : FVec Ideal S16x1024 .bf16) (w : FVec Ideal S1024x1024 .bf16) (r : Fin 16) (f : Fin 1024) :
    matmul (F := Ideal) dot_S16x1024_S1024x1024_S16x1024_1_1_0_0_n_n none x w (constant S16x1024 .f32 0x00000000#32) (ix2 r f)
      = ∑ k : Fin 1024, x (ix2 r k) * w (ix2 f k) := by
  refine (Ideal.matmul_transposedRhs_apply (M := 16) (K := 1024) (N := 1024) none x w _ r f).trans ?_
  rw [constant_apply, Ideal.ofBits_zero_f32, zero_add]

/-! ## The three results of a block at an entry -/

/-- The residual row of a block. -/
def resB (x0 x1 : Vec Ideal S1x1024x512 .bf16) (x2 : Vec Ideal S1x1024x1024 .f32) (g : Vec Ideal S1x1x1024 .f32) (w : Vec Ideal S1024x1024 .bf16) (r d : Fin 1024) : EReal :=
  x2 (ix3 (0 : Fin 1) r d) + g (ix3 (0 : Fin 1) (0 : Fin 1) d) * ∑ k : Fin 1024, catB x0 x1 r k * w (ix2 k d)

theorem pay5_apply (x0 x1 : Vec Ideal S1x1024x512 .bf16) (x2 : Vec Ideal S1x1024x1024 .f32) (g : Vec Ideal S1x1x1024 .f32) (w : Vec Ideal S1024x1024 .bf16) (r d : Fin 1024) :
    k0_pay5 (F := Ideal) x0 x1 x2 g w (ix2 r d) = resB x0 x1 x2 g w r d := by
  unfold k0_pay5 resB
  try dsimp only
  rw [addf_apply, mulf_apply, row_apply, rows_apply, vec_apply, dotMix_apply]
  refine congrArg (fun y : EReal => x2 (ix3 (0 : Fin 1) r d) + g (ix3 (0 : Fin 1) (0 : Fin 1) d) * y) (Finset.sum_congr rfl fun k _ => ?_)
  exact congrArg₂ (fun p q : EReal => p * q) (cat_apply x0 x1 r k) (same_apply w _ _)

theorem pay6_apply (x0 x1 : Vec Ideal S1x1024x512 .bf16) (x2 : Vec Ideal S1x1024x1024 .f32) (g : Vec Ideal S1x1x1024 .f32) (w : Vec Ideal S1024x1024 .bf16) (r d : Fin 1024) :
    k0_pay6 (F := Ideal) x0 x1 x2 g w (ix3 (0 : Fin 1) r d) = resB x0 x1 x2 g w r d :=
  (back_apply _ r d).trans (pay5_apply x0 x1 x2 g w r d)

theorem lift_eq (r k : Fin 1024) : reduces_S1024x1024_S1024.lift (ix1 r) k = ix2 r k := by
  funext a
  match a with
  | ⟨0, _⟩ => rfl
  | ⟨1, _⟩ => rfl

theorem pay10_apply (x0 x1 : Vec Ideal S1x1024x512 .bf16) (x2 : Vec Ideal S1x1024x1024 .f32) (g : Vec Ideal S1x1x1024 .f32) (w : Vec Ideal S1024x1024 .bf16) (r : Fin 1024) :
    k0_pay10 (F := Ideal) x0 x1 x2 g w (ix2 r (0 : Fin 1)) = Ideal.div (∑ k, resB x0 x1 x2 g w r k * resB x0 x1 x2 g w r k) len := by
  unfold k0_pay10
  try dsimp only
  rw [divf_apply, col_apply]
  refine congrArg (fun y : EReal => Ideal.div y len) ((Ideal.multiReduction_add_single _ _ _ _ _ _).trans (Finset.sum_congr rfl fun k _ => ?_))
  refine (congrArg (mulf (k0_pay5 (F := Ideal) x0 x1 x2 g w) (k0_pay5 (F := Ideal) x0 x1 x2 g w)) (lift_eq r k)).trans ?_
  exact congrArg₂ (fun p q : EReal => p * q) (pay5_apply x0 x1 x2 g w r k) (pay5_apply x0 x1 x2 g w r k)

/-- The normalized row of a block. -/
def nrmB (x0 x1 : Vec Ideal S1x1024x512 .bf16) (x2 : Vec Ideal S1x1024x1024 .f32) (w : Vec Ideal S1024x1024 .bf16) (g : Vec Ideal S1x1x1024 .f32) (n : Vec Ideal S1x1024 .f32) (sh sc : Vec Ideal S1x1x1024 .f32) (r d : Fin 1024) : EReal :=
  nrm (resB x0 x1 x2 g w r) (fun d => n (ix2 (0 : Fin 1) d)) (fun d => sc (ix3 (0 : Fin 1) (0 : Fin 1) d)) (fun d => sh (ix3 (0 : Fin 1) (0 : Fin 1) d)) d

theorem pay1_apply (x0 x1 : Vec Ideal S1x1024x512 .bf16) (x2 : Vec Ideal S1x1024x1024 .f32) (w : Vec Ideal S1024x1024 .bf16) (g : Vec Ideal S1x1x1024 .f32) (n : Vec Ideal S1x1024 .f32) (sh sc : Vec Ideal S1x1x1024 .f32) (r d : Fin 1024) :
    k0_pay1 (F := Ideal) (k0_pay5 x0 x1 x2 g w) (k0_pay7 n) (k0_pay8 sh) (k0_pay9 sc) (k0_pay10 x0 x1 x2 g w) (ix2 r d) = nrmB x0 x1 x2 w g n sh sc r d := by
  unfold k0_pay1 nrmB nrm scl
  try dsimp only
  rw [addf_apply, mulf_apply, mulf_apply, mulf_apply, rows_apply, rows_apply, rows_apply, cols_apply, pay5_apply]
  have e1 : k0_pay8 (F := Ideal) sh (ix2 (0 : Fin 1) d) = sh (ix3 (0 : Fin 1) (0 : Fin 1) d) := vec_apply sh d
  have e2 : k0_pay7 (F := Ideal) n (ix2 (0 : Fin 1) d) = n (ix2 (0 : Fin 1) d) := same_apply n _ _
  have e3 : (addf (broadcast S1x1024 (Scalar.ofBits (F := Ideal) .f32 0x3F800000#32)) (k0_pay9 (F := Ideal) sc) : FVec Ideal S1x1024 .f32) (ix2 (0 : Fin 1) d) = 1 + sc (ix3 (0 : Fin 1) (0 : Fin 1) d) := by
    rw [addf_apply]
    exact congrArg₂ (fun p q : EReal => p + q) Ideal.ofBits_one_f32 (vec_apply sc d)
  have e4 : (rsqrt (addf (k0_pay10 (F := Ideal) x0 x1 x2 g w) (broadcast S1024x1 (Scalar.ofBits (F := Ideal) .f32 0x358637BD#32))) : FVec Ideal S1024x1 .f32) (ix2 r (0 : Fin 1)) = Ideal.rsqrt (Ideal.div (∑ k, resB x0 x1 x2 g w r k * resB x0 x1 x2 g w r k) len + tiny) := by
    show Ideal.rsqrt (k0_pay10 (F := Ideal) x0 x1 x2 g w (ix2 r (0 : Fin 1)) + tiny) = _
    rw [pay10_apply]
  rw [e1, e2, e3, e4]

theorem pay3_apply (x0 x1 : Vec Ideal S1x1024x512 .bf16) (x2 : Vec Ideal S1x1024x1024 .f32) (w : Vec Ideal S1024x1024 .bf16) (g : Vec Ideal S1x1x1024 .f32) (n : Vec Ideal S1x1024 .f32) (sh sc : Vec Ideal S1x1x1024 .f32) (r d : Fin 1024) :
    k0_pay3 (F := Ideal) (k0_pay5 x0 x1 x2 g w) (k0_pay7 n) (k0_pay8 sh) (k0_pay9 sc) (k0_pay10 x0 x1 x2 g w) (ix3 (0 : Fin 1) r d) = nrmB x0 x1 x2 w g n sh sc r d :=
  (back_apply _ r d).trans (pay1_apply x0 x1 x2 w g n sh sc r d)

/-- The router's scores of a block. -/
def lgB (x0 x1 : Vec Ideal S1x1024x512 .bf16) (x2 : Vec Ideal S1x1024x1024 .f32) (w : Vec Ideal S1024x1024 .bf16) (g : Vec Ideal S1x1x1024 .f32) (n : Vec Ideal S1x1024 .f32) (sh sc : Vec Ideal S1x1x1024 .f32) (wr : Vec Ideal S32x1024 .bf16) (e : Fin 16) (r : Fin 1024) : EReal :=
  (∑ k : Fin 1024, wr (ix2 (⟨e.val, by omega⟩ : Fin 32) k) * nrmB x0 x1 x2 w g n sh sc r k)
    + (∑ k : Fin 1024, wr (ix2 (⟨16 + e.val, by omega⟩ : Fin 32) k) * nrmB x0 x1 x2 w g n sh sc r k)
    + ∑ k : Fin 1024, wr (ix2 (⟨e.val, by omega⟩ : Fin 32) k) * (nrmB x0 x1 x2 w g n sh sc r k - nrmB x0 x1 x2 w g n sh sc r k)

theorem top_apply {φ : FTy} (v : FVec Ideal S32x1024 φ) (e : Fin 16) (r : Fin 1024) :
    extractStridedSlice S16x1024 ![0, 0] v slices_S32x1024_o0_0_S16x1024 (ix2 e r) = v (ix2 (⟨e.val, by omega⟩ : Fin 32) r) := by
  refine extractStridedSlice_apply _ v _ _ _ fun a => ?_
  match a with
  | ⟨0, _⟩ => show e.val = 0 + e.val; omega
  | ⟨1, _⟩ => show r.val = 0 + r.val; omega

theorem bottom_apply {φ : FTy} (v : FVec Ideal S32x1024 φ) (e : Fin 16) (r : Fin 1024) :
    extractStridedSlice S16x1024 ![16, 0] v slices_S32x1024_o16_0_S16x1024 (ix2 e r) = v (ix2 (⟨16 + e.val, by omega⟩ : Fin 32) r) := by
  refine extractStridedSlice_apply _ v _ _ _ fun a => ?_
  match a with
  | ⟨0, _⟩ => rfl
  | ⟨1, _⟩ => show r.val = 0 + r.val; omega

theorem pay4_apply (x0 x1 : Vec Ideal S1x1024x512 .bf16) (x2 : Vec Ideal S1x1024x1024 .f32) (w : Vec Ideal S1024x1024 .bf16) (g : Vec Ideal S1x1x1024 .f32) (n : Vec Ideal S1x1024 .f32) (sh sc : Vec Ideal S1x1x1024 .f32) (wr : Vec Ideal S32x1024 .bf16) (e : Fin 16) (r : Fin 1024) :
    k0_pay4 (F := Ideal) (k0_pay5 x0 x1 x2 g w) (k0_pay7 n) (k0_pay8 sh) (k0_pay9 sc) (k0_pay10 x0 x1 x2 g w) wr (ix3 (0 : Fin 1) e r) = lgB x0 x1 x2 w g n sh sc wr e r := by
  unfold k0_pay4 lgB
  try dsimp only
  rw [backL_apply, addf_apply, addf_apply, top_apply, bottom_apply, dotBoth_apply, dotBoth_apply, dotRest_apply]
  have h1 := fun k : Fin 1024 => pay1_apply x0 x1 x2 w g n sh sc r k
  refine congrArg₂ (fun p q : EReal => p + q) (congrArg₂ (fun p q : EReal => p + q) (Finset.sum_congr rfl fun k _ => ?_) (Finset.sum_congr rfl fun k _ => ?_)) (Finset.sum_congr rfl fun k _ => ?_)
  · exact congrArg₂ (fun p q : EReal => p * q) (same_apply wr _ _) (h1 k)
  · exact congrArg₂ (fun p q : EReal => p * q) (same_apply wr _ _) (h1 k)
  · refine congrArg₂ (fun p q : EReal => p * q) ((top_apply _ e k).trans (same_apply wr _ _)) ?_
    exact congrArg₂ (fun p q : EReal => p - q) (h1 k) (h1 k)

/-! ## The blocks left for the three results -/

theorem zeros2 : (![0, 0] : Fin 2 → ℕ) = fun _ => 0 := by funext a; fin_cases a <;> rfl
theorem zeros3 : (![0, 0, 0] : Fin 3 → ℕ) = fun _ => 0 := by funext a; fin_cases a <;> rfl

variable (x0 x1 : Vec Ideal S1x1024x512 .bf16) (x2 : Vec Ideal S1x1024x1024 .f32) (w : Vec Ideal S1024x1024 .bf16) (g : Vec Ideal S1x1x1024 .f32) (n : Vec Ideal S1x1024 .f32) (sh sc : Vec Ideal S1x1x1024 .f32) (wr : Vec Ideal S32x1024 .bf16)

theorem out9_apply (r d : Fin 1024) : out0_9 (F := Ideal) x0 x1 x2 w g n sh sc wr (ix3 (0 : Fin 1) r d) = resB x0 x1 x2 g w r d := by
  unfold out0_9
  rw [View.canon_cons_unit_zero (S := S1x1024x1024) zeros3, View.ld_unit_zero (S := S1x1024x512) zeros3, View.ld_unit_zero (S := S1x1024x512) zeros3, View.ld_unit_zero (S := S1x1024x1024) zeros3, View.ld_unit_zero (S := S1x1x1024) zeros3, View.ld_unit_zero (S := S1024x1024) zeros2]
  exact pay6_apply x0 x1 x2 g w r d

theorem out10_apply (r d : Fin 1024) : out0_10 (F := Ideal) x0 x1 x2 w g n sh sc wr (ix3 (0 : Fin 1) r d) = nrmB x0 x1 x2 w g n sh sc r d := by
  unfold out0_10 k0_pay11 k0_pay12 k0_pay13 k0_pay14 k0_pay15
  rw [View.canon_cons_unit_zero (S := S1x1024x1024) zeros3]
  rw [View.ld_unit_zero (S := S1x1024x512) zeros3, View.ld_unit_zero (S := S1x1024x512) zeros3, View.ld_unit_zero (S := S1x1024x1024) zeros3, View.ld_unit_zero (S := S1x1x1024) zeros3, View.ld_unit_zero (S := S1024x1024) zeros2, View.ld_unit_zero (S := S1x1024) zeros2, View.ld_unit_zero (S := S1x1x1024) zeros3, View.ld_unit_zero (S := S1x1x1024) zeros3]
  exact pay3_apply x0 x1 x2 w g n sh sc r d

theorem out11_apply (e : Fin 16) (r : Fin 1024) : out0_11 (F := Ideal) x0 x1 x2 w g n sh sc wr (ix3 (0 : Fin 1) e r) = lgB x0 x1 x2 w g n sh sc wr e r := by
  unfold out0_11 k0_pay11 k0_pay12 k0_pay13 k0_pay14 k0_pay15
  rw [View.canon_cons_unit_zero (S := S1x16x1024) zeros3]
  rw [View.ld_unit_zero (S := S1x1024x512) zeros3, View.ld_unit_zero (S := S1x1024x512) zeros3, View.ld_unit_zero (S := S1x1024x1024) zeros3, View.ld_unit_zero (S := S1x1x1024) zeros3, View.ld_unit_zero (S := S1024x1024) zeros2, View.ld_unit_zero (S := S1x1024) zeros2, View.ld_unit_zero (S := S1x1x1024) zeros3, View.ld_unit_zero (S := S1x1x1024) zeros3, View.ld_unit_zero (S := S32x1024) zeros2]
  exact pay4_apply x0 x1 x2 w g n sh sc wr e r

end Cert.Kernel3Ideal.Out

end
-- ==== Proof.OutHost.lean ====
module

public import proofs.«01_k».proof.Proof.OutTile

/-! The operands of the output projection's call, from the arguments -/

@[expose] public section

set_option maxRecDepth 16384

noncomputable section

namespace Cert.Kernel3Ideal.Out

open Cert.Kernel3Ideal Cert.Kernel3Ideal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open Cert.Softmax Cert.Out

variable (m : (ℓ : Loc nD τ sig) → Buf (Elt Ideal) ℓ) (c : Dev nD)

/-- The output weights the call reads: the argument's layer. -/
theorem v8_apply (k d : Fin 1024) : (V m c main_v8 : Vec Ideal S1024x1024 .bf16) (ix2 k d) = (m ((c : Thread nD τ).loc main_arg3) : Vec Ideal S1x1024x1024 .f32) (ix3 (0 : Fin 1) k d) := by
  have h : (V m c main_v8 : Vec Ideal S1024x1024 .bf16) = truncf .bf16 (shapeCast S1024x1024 (m ((c : Thread nD τ).loc main_arg3) : Vec Ideal S1x1024x1024 .f32) shapeCasts_S1x1024x1024_S1024x1024 : FVec Ideal S1024x1024 .f32) bitsLt_bf16_f32 := by
    unfold V hostOps0
    after_results_simp <;> rfl
  rw [h]
  exact row_apply (m ((c : Thread nD τ).loc main_arg3) : Vec Ideal S1x1024x1024 .f32) k d

theorem v9_apply (b : Fin 2) (d : Fin 1024) : (V m c main_v9 : Vec Ideal S2x1x1024 .f32) (ix3 b (0 : Fin 1) d) = (m ((c : Thread nD τ).loc main_arg4) : Vec Ideal S2x1024 .f32) (ix2 b d) := by
  have h : (V m c main_v9 : Vec Ideal S2x1x1024 .f32) = broadcastInDim S2x1x1024 ![0, 2] bcast_S2x1024_S2x1x1024_0_2 (m ((c : Thread nD τ).loc main_arg4) : Vec Ideal S2x1024 .f32) := by
    unfold V hostOps0
    after_results_simp <;> rfl
  rw [h]
  exact broadcastInDim_apply _ bcast_S2x1024_S2x1x1024_0_2 (m ((c : Thread nD τ).loc main_arg4) : Vec Ideal S2x1024 .f32) (ix3 b (0 : Fin 1) d) (ix2 b d) (fun a => match a with
    | ⟨0, _⟩ => rfl
    | ⟨1, _⟩ => rfl)

theorem v12_apply (b : Fin 2) (d : Fin 1024) : (V m c main_v12 : Vec Ideal S2x1x1024 .f32) (ix3 b (0 : Fin 1) d) = (m ((c : Thread nD τ).loc main_arg6) : Vec Ideal S2x1024 .f32) (ix2 b d) := by
  have h : (V m c main_v12 : Vec Ideal S2x1x1024 .f32) = broadcastInDim S2x1x1024 ![0, 2] bcast_S2x1024_S2x1x1024_0_2 (m ((c : Thread nD τ).loc main_arg6) : Vec Ideal S2x1024 .f32) := by
    unfold V hostOps0
    after_results_simp <;> rfl
  rw [h]
  exact broadcastInDim_apply _ bcast_S2x1024_S2x1x1024_0_2 (m ((c : Thread nD τ).loc main_arg6) : Vec Ideal S2x1024 .f32) (ix3 b (0 : Fin 1) d) (ix2 b d) (fun a => match a with
    | ⟨0, _⟩ => rfl
    | ⟨1, _⟩ => rfl)

theorem v13_apply (b : Fin 2) (d : Fin 1024) : (V m c main_v13 : Vec Ideal S2x1x1024 .f32) (ix3 b (0 : Fin 1) d) = (m ((c : Thread nD τ).loc main_arg7) : Vec Ideal S2x1024 .f32) (ix2 b d) := by
  have h : (V m c main_v13 : Vec Ideal S2x1x1024 .f32) = broadcastInDim S2x1x1024 ![0, 2] bcast_S2x1024_S2x1x1024_0_2 (m ((c : Thread nD τ).loc main_arg7) : Vec Ideal S2x1024 .f32) := by
    unfold V hostOps0
    after_results_simp <;> rfl
  rw [h]
  exact broadcastInDim_apply _ bcast_S2x1024_S2x1x1024_0_2 (m ((c : Thread nD τ).loc main_arg7) : Vec Ideal S2x1024 .f32) (ix3 b (0 : Fin 1) d) (ix2 b d) (fun a => match a with
    | ⟨0, _⟩ => rfl
    | ⟨1, _⟩ => rfl)

theorem flat_apply (x : Vec Ideal S1x1024 .f32) (d : Fin 1024) : shapeCast S1024 x shapeCasts_S1x1024_S1024 (ix1 d) = x (ix2 (0 : Fin 1) d) := by
  refine shapeCast_apply x _ _ _ ?_
  simp only [Shape.rowMajor_val_one, Shape.rowMajor_val_two]
  simp [ix1, ix2, S1024, S1x1024]

theorem v11_apply (d : Fin 1024) : (V m c main_v11 : Vec Ideal S1x1024 .f32) (ix2 (0 : Fin 1) d) = (m ((c : Thread nD τ).loc main_arg5) : Vec Ideal S1x1024 .f32) (ix2 (0 : Fin 1) d) := by
  have h : (V m c main_v11 : Vec Ideal S1x1024 .f32) = broadcastInDim S1x1024 ![1] bcast_S1024_S1x1024_1 (shapeCast S1024 (m ((c : Thread nD τ).loc main_arg5) : Vec Ideal S1x1024 .f32) shapeCasts_S1x1024_S1024) := by
    unfold V hostOps0
    after_results_simp <;> rfl
  rw [h]
  refine (broadcastInDim_apply _ bcast_S1024_S1x1024_1 (shapeCast S1024 (m ((c : Thread nD τ).loc main_arg5) : Vec Ideal S1x1024 .f32) shapeCasts_S1x1024_S1024) (ix2 (0 : Fin 1) d) (ix1 d) (fun a => match a with
    | ⟨0, _⟩ => rfl)).trans ?_
  exact flat_apply (m ((c : Thread nD τ).loc main_arg5) : Vec Ideal S1x1024 .f32) d

/-- The router's weights, transposed. -/
def wrT (A8 : Vec Ideal S1x1024x16 .f32) : FVec Ideal S16x1024 .f32 :=
  transpose S16x1024 [1, 0] (shapeCast S1024x16 A8 shapeCasts_S1x1024x16_S1024x16) transposes_S1024x16_S16x1024_1_0

theorem wrT_apply (A8 : Vec Ideal S1x1024x16 .f32) (e : Fin 16) (k : Fin 1024) : wrT A8 (ix2 e k) = A8 (ix3 (0 : Fin 1) k e) := by
  unfold wrT
  rw [transpose_apply [1, 0] _ transposes_S1024x16_S16x1024_1_0 (ix2 e k) (ix2 k e) (fun a => match a with
    | ⟨0, _⟩ => rfl
    | ⟨1, _⟩ => rfl)]
  refine shapeCast_apply A8 shapeCasts_S1x1024x16_S1024x16 (ix2 k e) (ix3 (0 : Fin 1) k e) ?_
  simp only [Shape.rowMajor_val_two, Shape.rowMajor_val_three]
  simp [ix2, ix3, S1x1024x16, S1024x16]

/-- The router's weights split in two: the part kept, and what is left of the weights. -/
theorem v6_eq : (V m c main_v6 : Vec Ideal S32x1024 .bf16) = concatenate S32x1024 0 [⟨S16x1024, (truncf .bf16 (wrT (m ((c : Thread nD τ).loc main_arg8) : Vec Ideal S1x1024x16 .f32)) bitsLt_bf16_f32 : FVec Ideal S16x1024 .bf16)⟩, ⟨S16x1024, (truncf .bf16 (subf (wrT (m ((c : Thread nD τ).loc main_arg8) : Vec Ideal S1x1024x16 .f32)) (extf .f32 (truncf .bf16 (wrT (m ((c : Thread nD τ).loc main_arg8) : Vec Ideal S1x1024x16 .f32)) bitsLt_bf16_f32 : FVec Ideal S16x1024 .bf16) bitsLt_bf16_f32)) bitsLt_bf16_f32 : FVec Ideal S16x1024 .bf16)⟩] concatenates_S16x1024_S16x1024_S32x1024_d0 := by
  unfold V hostOps0
  after_results_simp <;> rfl

theorem v6_top (e : Fin 16) (k : Fin 1024) : (V m c main_v6 : Vec Ideal S32x1024 .bf16) (ix2 (⟨e.val, by omega⟩ : Fin 32) k) = (m ((c : Thread nD τ).loc main_arg8) : Vec Ideal S1x1024x16 .f32) (ix3 (0 : Fin 1) k e) := by
  rw [v6_eq]
  refine (concatenate_pair_apply_left (t := S32x1024) (s₁ := S16x1024) (s₂ := S16x1024) 0 (truncf .bf16 (wrT (m ((c : Thread nD τ).loc main_arg8) : Vec Ideal S1x1024x16 .f32)) bitsLt_bf16_f32 : FVec Ideal S16x1024 .bf16) _ _ _ rfl (ix2 e k) (fun a => match a with
    | ⟨0, _⟩ => rfl
    | ⟨1, _⟩ => rfl)).trans ?_
  exact wrT_apply _ e k

theorem v6_bottom (e : Fin 16) (k : Fin 1024) : (V m c main_v6 : Vec Ideal S32x1024 .bf16) (ix2 (⟨16 + e.val, by omega⟩ : Fin 32) k) = (fun w : EReal => w - w) ((m ((c : Thread nD τ).loc main_arg8) : Vec Ideal S1x1024x16 .f32) (ix3 (0 : Fin 1) k e)) := by
  rw [v6_eq]
  refine (concatenate_pair_apply_right (t := S32x1024) (s₁ := S16x1024) (s₂ := S16x1024) 0 (truncf .bf16 (wrT (m ((c : Thread nD τ).loc main_arg8) : Vec Ideal S1x1024x16 .f32)) bitsLt_bf16_f32 : FVec Ideal S16x1024 .bf16) (truncf .bf16 (subf (wrT (m ((c : Thread nD τ).loc main_arg8) : Vec Ideal S1x1024x16 .f32)) (extf .f32 (truncf .bf16 (wrT (m ((c : Thread nD τ).loc main_arg8) : Vec Ideal S1x1024x16 .f32)) bitsLt_bf16_f32 : FVec Ideal S16x1024 .bf16) bitsLt_bf16_f32)) bitsLt_bf16_f32 : FVec Ideal S16x1024 .bf16) _ _ rfl rfl (ix2 e k) (fun a ha => ?_) ?_).trans ?_
  · match a, ha with
    | ⟨0, _⟩, ha => exact absurd rfl ha
    | ⟨1, _⟩, _ => rfl
  · show e.val + 16 = 16 + e.val
    omega
  exact congrArg₂ (fun p q : EReal => p - q) (wrT_apply _ e k) (wrT_apply _ e k)

end Cert.Kernel3Ideal.Out

end
-- ==== Proof.OutArray.lean ====
module

public import proofs.«01_k».proof.Proof.OutHost

/-! The output projection's arrays after the run, from the arguments -/

@[expose] public section

set_option maxRecDepth 16384

noncomputable section

namespace Cert.Kernel3Ideal.Out

open Cert.Kernel3Ideal Cert.Kernel3Ideal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open Cert.Softmax Cert.Out

/-! ## The three results from the arguments -/

/-- The two halves of a mixed row, side by side. -/
def catAt (A0 A1 : Vec Ideal S2x8192x512 .bf16) (b : Fin 2) (s : Fin 8192) (k : Fin 1024) : EReal :=
  if h : k.val < 512 then A0 (ix3 b s (⟨k.val, h⟩ : Fin 512)) else A1 (ix3 b s (⟨k.val - 512, by omega⟩ : Fin 512))

/-- The residual stream after the mixer. -/
def resAt (A0 A1 : Vec Ideal S2x8192x512 .bf16) (A2 : Vec Ideal S2x8192x1024 .f32) (A3 : Vec Ideal S1x1024x1024 .f32) (A4 : Vec Ideal S2x1024 .f32) (b : Fin 2) (s : Fin 8192) (d : Fin 1024) : EReal :=
  A2 (ix3 b s d) + A4 (ix2 b d) * ∑ k : Fin 1024, catAt A0 A1 b s k * A3 (ix3 (0 : Fin 1) k d)

/-- Its modulated normalization. -/
def nrmAt (A0 A1 : Vec Ideal S2x8192x512 .bf16) (A2 : Vec Ideal S2x8192x1024 .f32) (A3 : Vec Ideal S1x1024x1024 .f32) (A4 : Vec Ideal S2x1024 .f32) (A5 : Vec Ideal S1x1024 .f32) (A6 A7 : Vec Ideal S2x1024 .f32) (b : Fin 2) (s : Fin 8192) (d : Fin 1024) : EReal :=
  nrm (resAt A0 A1 A2 A3 A4 b s) (fun d => A5 (ix2 (0 : Fin 1) d)) (fun d => A7 (ix2 b d)) (fun d => A6 (ix2 b d)) d

/-- The router's scores. -/
def lgAt (A0 A1 : Vec Ideal S2x8192x512 .bf16) (A2 : Vec Ideal S2x8192x1024 .f32) (A3 : Vec Ideal S1x1024x1024 .f32) (A4 : Vec Ideal S2x1024 .f32) (A5 : Vec Ideal S1x1024 .f32) (A6 A7 : Vec Ideal S2x1024 .f32) (A8 : Vec Ideal S1x1024x16 .f32) (b : Fin 2) (e : Fin 16) (s : Fin 8192) : EReal :=
  ∑ k : Fin 1024, A8 (ix3 (0 : Fin 1) k e) * nrmAt A0 A1 A2 A3 A4 A5 A6 A7 b s k

theorem resAt_real {A0 A1 : Vec Ideal S2x8192x512 .bf16} {A2 : Vec Ideal S2x8192x1024 .f32} {A3 : Vec Ideal S1x1024x1024 .f32} {A4 : Vec Ideal S2x1024 .f32}
    (h0 : ∀ i, IsReal (A0 i)) (h1 : ∀ i, IsReal (A1 i)) (h2 : ∀ i, IsReal (A2 i)) (h3 : ∀ i, IsReal (A3 i)) (h4 : ∀ i, IsReal (A4 i)) (b : Fin 2) (s : Fin 8192) (d : Fin 1024) :
    IsReal (resAt A0 A1 A2 A3 A4 b s d) := by
  refine Out.IsReal.add (h2 _) ((h4 _).mul (isReal_sum _ _ fun k => IsReal.mul ?_ (h3 _)))
  unfold catAt
  split
  · exact h0 _
  · exact h1 _

variable (m : (ℓ : Loc nD τ sig) → Buf (Elt Ideal) ℓ) (c : Dev nD)

/-- Every operand holds real numbers. -/
structure Finite : Prop where
  a0 : ∀ i, IsReal ((m ((c : Thread nD τ).loc main_arg0) : Vec Ideal S2x8192x512 .bf16) i)
  a1 : ∀ i, IsReal ((m ((c : Thread nD τ).loc main_arg1) : Vec Ideal S2x8192x512 .bf16) i)
  a2 : ∀ i, IsReal ((m ((c : Thread nD τ).loc main_arg2) : Vec Ideal S2x8192x1024 .f32) i)
  a3 : ∀ i, IsReal ((m ((c : Thread nD τ).loc main_arg3) : Vec Ideal S1x1024x1024 .f32) i)
  a4 : ∀ i, IsReal ((m ((c : Thread nD τ).loc main_arg4) : Vec Ideal S2x1024 .f32) i)
  a5 : ∀ i, IsReal ((m ((c : Thread nD τ).loc main_arg5) : Vec Ideal S1x1024 .f32) i)
  a6 : ∀ i, IsReal ((m ((c : Thread nD τ).loc main_arg6) : Vec Ideal S2x1024 .f32) i)
  a7 : ∀ i, IsReal ((m ((c : Thread nD τ).loc main_arg7) : Vec Ideal S2x1024 .f32) i)
  a8 : ∀ i, IsReal ((m ((c : Thread nD τ).loc main_arg8) : Vec Ideal S1x1024x16 .f32) i)

theorem nrm_is_real (hf : Finite m c) (b : Fin 2) (s : Fin 8192) (d : Fin 1024) : IsReal (nrmAt (m ((c : Thread nD τ).loc main_arg0) : Vec Ideal S2x8192x512 .bf16) (m ((c : Thread nD τ).loc main_arg1) : Vec Ideal S2x8192x512 .bf16) (m ((c : Thread nD τ).loc main_arg2) : Vec Ideal S2x8192x1024 .f32) (m ((c : Thread nD τ).loc main_arg3) : Vec Ideal S1x1024x1024 .f32) (m ((c : Thread nD τ).loc main_arg4) : Vec Ideal S2x1024 .f32) (m ((c : Thread nD τ).loc main_arg5) : Vec Ideal S1x1024 .f32) (m ((c : Thread nD τ).loc main_arg6) : Vec Ideal S2x1024 .f32) (m ((c : Thread nD τ).loc main_arg7) : Vec Ideal S2x1024 .f32) b s d) :=
  nrm_real (fun k => resAt_real hf.a0 hf.a1 hf.a2 hf.a3 hf.a4 b s k) (fun k => hf.a5 _) (fun k => hf.a7 _) (fun k => hf.a6 _) d

/-! ## The blocks -/

theorem index_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 2) = 0 ∧ win0_3.index t (1 : Fin 2) = 0)
    ∧ (win0_4.index t (0 : Fin 3) = t.val / 8 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = t.val / 8 ∧ win0_6.index t (1 : Fin 3) = 0 ∧ win0_6.index t (2 : Fin 3) = 0)
    ∧ (win0_7.index t (0 : Fin 3) = t.val / 8 ∧ win0_7.index t (1 : Fin 3) = 0 ∧ win0_7.index t (2 : Fin 3) = 0)
    ∧ (win0_8.index t (0 : Fin 2) = 0 ∧ win0_8.index t (1 : Fin 2) = 0) :=
  (by decide +kernel : ∀ t : Fin grid0.N, _)

theorem out_index_facts : ∀ t : Fin cfg0.N,
    (win0_9.index t (0 : Fin 3) = t.val / 8 ∧ win0_9.index t (1 : Fin 3) = t.val % 8 ∧ win0_9.index t (2 : Fin 3) = 0)
    ∧ (win0_10.index t (0 : Fin 3) = t.val / 8 ∧ win0_10.index t (1 : Fin 3) = t.val % 8 ∧ win0_10.index t (2 : Fin 3) = 0)
    ∧ (win0_11.index t (0 : Fin 3) = t.val / 8 ∧ win0_11.index t (1 : Fin 3) = 0 ∧ win0_11.index t (2 : Fin 3) = t.val % 8) :=
  (by decide +kernel : ∀ t : Fin grid0.N, _)

def batOf (t : Fin cfg0.N) : Fin 2 := ⟨t.val / 8, by have := Nat.lt_of_lt_of_eq t.isLt (show cfg0.N = 16 from N_0); omega⟩
def seqOf (t : Fin cfg0.N) (r : Fin 1024) : Fin 8192 := ⟨t.val % 8 * 1024 + r.val, by omega⟩

theorem x0_apply (t : Fin cfg0.N) (r : Fin 1024) (k : Fin 512) :
    (iblk m c 0 t : Vec Ideal S1x1024x512 .bf16) (ix3 (0 : Fin 1) r k) = (m ((c : Thread nD τ).loc main_arg0) : Vec Ideal S2x8192x512 .bf16) (ix3 (batOf t) (seqOf t r) k) := by
  obtain ⟨⟨e0, e1, e2⟩, -⟩ := index_facts t
  unfold iblk
  refine (congrArg (V m c main_arg0) (?_ : _ = (ix3 (batOf t) (seqOf t r) k : S2x8192x512.Idx))).trans (congrFun (V_main_arg0 m c) _)
  funext a
  apply Fin.ext
  match a with
  | ⟨0, _⟩ => show win0_0.index t (0 : Fin 3) * 1 + 1 * 0 = t.val / 8; rw [e0]; omega
  | ⟨1, _⟩ => show win0_0.index t (1 : Fin 3) * 1024 + 1 * r.val = t.val % 8 * 1024 + r.val; rw [e1]; omega
  | ⟨2, _⟩ => show win0_0.index t (2 : Fin 3) * 512 + 1 * k.val = k.val; rw [e2]; omega

theorem x1_apply (t : Fin cfg0.N) (r : Fin 1024) (k : Fin 512) :
    (iblk m c 1 t : Vec Ideal S1x1024x512 .bf16) (ix3 (0 : Fin 1) r k) = (m ((c : Thread nD τ).loc main_arg1) : Vec Ideal S2x8192x512 .bf16) (ix3 (batOf t) (seqOf t r) k) := by
  obtain ⟨-, ⟨e0, e1, e2⟩, -⟩ := index_facts t
  unfold iblk
  refine (congrArg (V m c main_arg1) (?_ : _ = (ix3 (batOf t) (seqOf t r) k : S2x8192x512.Idx))).trans (congrFun (V_main_arg1 m c) _)
  funext a
  apply Fin.ext
  match a with
  | ⟨0, _⟩ => show win0_1.index t (0 : Fin 3) * 1 + 1 * 0 = t.val / 8; rw [e0]; omega
  | ⟨1, _⟩ => show win0_1.index t (1 : Fin 3) * 1024 + 1 * r.val = t.val % 8 * 1024 + r.val; rw [e1]; omega
  | ⟨2, _⟩ => show win0_1.index t (2 : Fin 3) * 512 + 1 * k.val = k.val; rw [e2]; omega

theorem x2_apply (t : Fin cfg0.N) (r : Fin 1024) (k : Fin 1024) :
    (iblk m c 2 t : Vec Ideal S1x1024x1024 .f32) (ix3 (0 : Fin 1) r k) = (m ((c : Thread nD τ).loc main_arg2) : Vec Ideal S2x8192x1024 .f32) (ix3 (batOf t) (seqOf t r) k) := by
  obtain ⟨-, -, ⟨e0, e1, e2⟩, -⟩ := index_facts t
  unfold iblk
  refine (congrArg (V m c main_arg2) (?_ : _ = (ix3 (batOf t) (seqOf t r) k : S2x8192x1024.Idx))).trans (congrFun (V_main_arg2 m c) _)
  funext a
  apply Fin.ext
  match a with
  | ⟨0, _⟩ => show win0_2.index t (0 : Fin 3) * 1 + 1 * 0 = t.val / 8; rw [e0]; omega
  | ⟨1, _⟩ => show win0_2.index t (1 : Fin 3) * 1024 + 1 * r.val = t.val % 8 * 1024 + r.val; rw [e1]; omega
  | ⟨2, _⟩ => show win0_2.index t (2 : Fin 3) * 1024 + 1 * k.val = k.val; rw [e2]; omega

theorem x3_apply (t : Fin cfg0.N) (k d : Fin 1024) :
    (iblk m c 3 t : Vec Ideal S1024x1024 .bf16) (ix2 k d) = (m ((c : Thread nD τ).loc main_arg3) : Vec Ideal S1x1024x1024 .f32) (ix3 (0 : Fin 1) k d) := by
  obtain ⟨-, -, -, ⟨e0, e1⟩, -⟩ := index_facts t
  unfold iblk
  refine (congrArg (V m c main_v8) (?_ : _ = (ix2 k d : S1024x1024.Idx))).trans (v8_apply m c k d)
  funext a
  apply Fin.ext
  match a with
  | ⟨0, _⟩ => show win0_3.index t (0 : Fin 2) * 1024 + 1 * k.val = k.val; rw [e0]; omega
  | ⟨1, _⟩ => show win0_3.index t (1 : Fin 2) * 1024 + 1 * d.val = d.val; rw [e1]; omega

theorem x5_apply (t : Fin cfg0.N) (d : Fin 1024) :
    (iblk m c 5 t : Vec Ideal S1x1024 .f32) (ix2 (0 : Fin 1) d) = (m ((c : Thread nD τ).loc main_arg5) : Vec Ideal S1x1024 .f32) (ix2 (0 : Fin 1) d) := by
  obtain ⟨-, -, -, -, -, ⟨e0, e1⟩, -⟩ := index_facts t
  unfold iblk
  refine (congrArg (V m c main_v11) (?_ : _ = (ix2 (0 : Fin 1) d : S1x1024.Idx))).trans (v11_apply m c d)
  funext a
  apply Fin.ext
  match a with
  | ⟨0, _⟩ => show win0_5.index t (0 : Fin 2) * 1 + 1 * 0 = 0; rw [e0]
  | ⟨1, _⟩ => show win0_5.index t (1 : Fin 2) * 1024 + 1 * d.val = d.val; rw [e1]; omega

theorem x8_row (t : Fin cfg0.N) (e : Fin 32) (k : Fin 1024) :
    (iblk m c 8 t : Vec Ideal S32x1024 .bf16) (ix2 e k) = (V m c main_v6 : Vec Ideal S32x1024 .bf16) (ix2 e k) := by
  obtain ⟨-, -, -, -, -, -, -, -, ⟨e0, e1⟩⟩ := index_facts t
  unfold iblk
  refine congrArg (V m c main_v6) (?_ : _ = (ix2 e k : S32x1024.Idx))
  funext a
  apply Fin.ext
  match a with
  | ⟨0, _⟩ => show win0_8.index t (0 : Fin 2) * 32 + 1 * e.val = e.val; rw [e0]; omega
  | ⟨1, _⟩ => show win0_8.index t (1 : Fin 2) * 1024 + 1 * k.val = k.val; rw [e1]; omega

theorem x4_apply (t : Fin cfg0.N) (d : Fin 1024) :
    (iblk m c 4 t : Vec Ideal S1x1x1024 .f32) (ix3 (0 : Fin 1) (0 : Fin 1) d) = (m ((c : Thread nD τ).loc main_arg4) : Vec Ideal S2x1024 .f32) (ix2 (batOf t) d) := by
  obtain ⟨-, -, -, -, ⟨e0, e1, e2⟩, -⟩ := index_facts t
  unfold iblk
  refine (congrArg (V m c main_v9) (?_ : _ = (ix3 (batOf t) (0 : Fin 1) d : S2x1x1024.Idx))).trans (v9_apply m c (batOf t) d)
  funext a
  apply Fin.ext
  match a with
  | ⟨0, _⟩ => show win0_4.index t (0 : Fin 3) * 1 + 1 * 0 = t.val / 8; rw [e0]; omega
  | ⟨1, _⟩ => show win0_4.index t (1 : Fin 3) * 1 + 1 * 0 = 0; rw [e1]
  | ⟨2, _⟩ => show win0_4.index t (2 : Fin 3) * 1024 + 1 * d.val = d.val; rw [e2]; omega

theorem x6_apply (t : Fin cfg0.N) (d : Fin 1024) :
    (iblk m c 6 t : Vec Ideal S1x1x1024 .f32) (ix3 (0 : Fin 1) (0 : Fin 1) d) = (m ((c : Thread nD τ).loc main_arg6) : Vec Ideal S2x1024 .f32) (ix2 (batOf t) d) := by
  obtain ⟨-, -, -, -, -, -, ⟨e0, e1, e2⟩, -⟩ := index_facts t
  unfold iblk
  refine (congrArg (V m c main_v12) (?_ : _ = (ix3 (batOf t) (0 : Fin 1) d : S2x1x1024.Idx))).trans (v12_apply m c (batOf t) d)
  funext a
  apply Fin.ext
  match a with
  | ⟨0, _⟩ => show win0_6.index t (0 : Fin 3) * 1 + 1 * 0 = t.val / 8; rw [e0]; omega
  | ⟨1, _⟩ => show win0_6.index t (1 : Fin 3) * 1 + 1 * 0 = 0; rw [e1]
  | ⟨2, _⟩ => show win0_6.index t (2 : Fin 3) * 1024 + 1 * d.val = d.val; rw [e2]; omega

theorem x7_apply (t : Fin cfg0.N) (d : Fin 1024) :
    (iblk m c 7 t : Vec Ideal S1x1x1024 .f32) (ix3 (0 : Fin 1) (0 : Fin 1) d) = (m ((c : Thread nD τ).loc main_arg7) : Vec Ideal S2x1024 .f32) (ix2 (batOf t) d) := by
  obtain ⟨-, -, -, -, -, -, -, ⟨e0, e1, e2⟩, -⟩ := index_facts t
  unfold iblk
  refine (congrArg (V m c main_v13) (?_ : _ = (ix3 (batOf t) (0 : Fin 1) d : S2x1x1024.Idx))).trans (v13_apply m c (batOf t) d)
  funext a
  apply Fin.ext
  match a with
  | ⟨0, _⟩ => show win0_7.index t (0 : Fin 3) * 1 + 1 * 0 = t.val / 8; rw [e0]; omega
  | ⟨1, _⟩ => show win0_7.index t (1 : Fin 3) * 1 + 1 * 0 = 0; rw [e1]
  | ⟨2, _⟩ => show win0_7.index t (2 : Fin 3) * 1024 + 1 * d.val = d.val; rw [e2]; omega

theorem res_eq (t : Fin cfg0.N) (r d : Fin 1024) :
    resB (iblk m c 0 t) (iblk m c 1 t) (iblk m c 2 t) (iblk m c 4 t) (iblk m c 3 t) r d = resAt (m ((c : Thread nD τ).loc main_arg0) : Vec Ideal S2x8192x512 .bf16) (m ((c : Thread nD τ).loc main_arg1) : Vec Ideal S2x8192x512 .bf16) (m ((c : Thread nD τ).loc main_arg2) : Vec Ideal S2x8192x1024 .f32) (m ((c : Thread nD τ).loc main_arg3) : Vec Ideal S1x1024x1024 .f32) (m ((c : Thread nD τ).loc main_arg4) : Vec Ideal S2x1024 .f32) (batOf t) (seqOf t r) d := by
  unfold resB resAt
  refine congrArg₂ (fun p q : EReal => p + q) (x2_apply m c t r d) (congrArg₂ (fun p q : EReal => p * q) (x4_apply m c t d) (Finset.sum_congr rfl fun k _ => congrArg₂ (fun p q : EReal => p * q) ?_ (x3_apply m c t k d)))
  unfold catB catAt
  split
  · exact x0_apply m c t r _
  · exact x1_apply m c t r _

theorem nrm_eq (t : Fin cfg0.N) (r d : Fin 1024) :
    nrmB (iblk m c 0 t) (iblk m c 1 t) (iblk m c 2 t) (iblk m c 3 t) (iblk m c 4 t) (iblk m c 5 t) (iblk m c 6 t) (iblk m c 7 t) r d = nrmAt (m ((c : Thread nD τ).loc main_arg0) : Vec Ideal S2x8192x512 .bf16) (m ((c : Thread nD τ).loc main_arg1) : Vec Ideal S2x8192x512 .bf16) (m ((c : Thread nD τ).loc main_arg2) : Vec Ideal S2x8192x1024 .f32) (m ((c : Thread nD τ).loc main_arg3) : Vec Ideal S1x1024x1024 .f32) (m ((c : Thread nD τ).loc main_arg4) : Vec Ideal S2x1024 .f32) (m ((c : Thread nD τ).loc main_arg5) : Vec Ideal S1x1024 .f32) (m ((c : Thread nD τ).loc main_arg6) : Vec Ideal S2x1024 .f32) (m ((c : Thread nD τ).loc main_arg7) : Vec Ideal S2x1024 .f32) (batOf t) (seqOf t r) d := by
  unfold nrmB nrmAt
  have e1 := funext fun d : Fin 1024 => res_eq m c t r d
  have e2 := funext fun d : Fin 1024 => x5_apply m c t d
  have e3 := funext fun d : Fin 1024 => x7_apply m c t d
  have e4 := funext fun d : Fin 1024 => x6_apply m c t d
  exact (congrArg (fun f => nrm f _ _ _ d) e1).trans ((congrArg (fun f => nrm _ f _ _ d) e2).trans ((congrArg (fun f => nrm _ _ f _ d) e3).trans (congrArg (fun f => nrm _ _ _ f d) e4)))

theorem lg_eq (hf : Finite m c) (t : Fin cfg0.N) (e : Fin 16) (r : Fin 1024) :
    lgB (iblk m c 0 t) (iblk m c 1 t) (iblk m c 2 t) (iblk m c 3 t) (iblk m c 4 t) (iblk m c 5 t) (iblk m c 6 t) (iblk m c 7 t) (iblk m c 8 t) e r = lgAt (m ((c : Thread nD τ).loc main_arg0) : Vec Ideal S2x8192x512 .bf16) (m ((c : Thread nD τ).loc main_arg1) : Vec Ideal S2x8192x512 .bf16) (m ((c : Thread nD τ).loc main_arg2) : Vec Ideal S2x8192x1024 .f32) (m ((c : Thread nD τ).loc main_arg3) : Vec Ideal S1x1024x1024 .f32) (m ((c : Thread nD τ).loc main_arg4) : Vec Ideal S2x1024 .f32) (m ((c : Thread nD τ).loc main_arg5) : Vec Ideal S1x1024 .f32) (m ((c : Thread nD τ).loc main_arg6) : Vec Ideal S2x1024 .f32) (m ((c : Thread nD τ).loc main_arg7) : Vec Ideal S2x1024 .f32) (m ((c : Thread nD τ).loc main_arg8) : Vec Ideal S1x1024x16 .f32) (batOf t) e (seqOf t r) := by
  unfold lgB lgAt
  have h := fun k : Fin 1024 => nrm_eq m c t r k
  have ht := fun k : Fin 1024 => (x8_row m c t ⟨e.val, by omega⟩ k).trans (v6_top m c e k)
  have hb := fun k : Fin 1024 => (x8_row m c t ⟨16 + e.val, by omega⟩ k).trans (v6_bottom m c e k)
  refine Eq.trans ?_ (split_sum (w := fun k => (m ((c : Thread nD τ).loc main_arg8) : Vec Ideal S1x1024x16 .f32) (ix3 (0 : Fin 1) k e)) (h := fun k => nrmAt (m ((c : Thread nD τ).loc main_arg0) : Vec Ideal S2x8192x512 .bf16) (m ((c : Thread nD τ).loc main_arg1) : Vec Ideal S2x8192x512 .bf16) (m ((c : Thread nD τ).loc main_arg2) : Vec Ideal S2x8192x1024 .f32) (m ((c : Thread nD τ).loc main_arg3) : Vec Ideal S1x1024x1024 .f32) (m ((c : Thread nD τ).loc main_arg4) : Vec Ideal S2x1024 .f32) (m ((c : Thread nD τ).loc main_arg5) : Vec Ideal S1x1024 .f32) (m ((c : Thread nD τ).loc main_arg6) : Vec Ideal S2x1024 .f32) (m ((c : Thread nD τ).loc main_arg7) : Vec Ideal S2x1024 .f32) (batOf t) (seqOf t r) k) (fun k => hf.a8 _) (fun k => nrm_is_real m c hf _ _ _))
  refine congrArg₂ (fun p q : EReal => p + q) (congrArg₂ (fun p q : EReal => p + q) (Finset.sum_congr rfl fun k _ => ?_) (Finset.sum_congr rfl fun k _ => ?_)) (Finset.sum_congr rfl fun k _ => ?_)
  · exact congrArg₂ (fun p q : EReal => p * q) (ht k) (h k)
  · exact congrArg₂ (fun p q : EReal => p * q) (hb k) (h k)
  · exact congrArg₂ (fun p q : EReal => p * q) (ht k) (congrArg₂ (fun p q : EReal => p - q) (h k) (h k))

/-! ## The arrays -/

def G9 : Vec Ideal S2x8192x1024 .f32 := fun i => resAt (m ((c : Thread nD τ).loc main_arg0) : Vec Ideal S2x8192x512 .bf16) (m ((c : Thread nD τ).loc main_arg1) : Vec Ideal S2x8192x512 .bf16) (m ((c : Thread nD τ).loc main_arg2) : Vec Ideal S2x8192x1024 .f32) (m ((c : Thread nD τ).loc main_arg3) : Vec Ideal S1x1024x1024 .f32) (m ((c : Thread nD τ).loc main_arg4) : Vec Ideal S2x1024 .f32) (i 0) (i 1) (i 2)
def G10 : Vec Ideal S2x8192x1024 .bf16 := fun i => nrmAt (m ((c : Thread nD τ).loc main_arg0) : Vec Ideal S2x8192x512 .bf16) (m ((c : Thread nD τ).loc main_arg1) : Vec Ideal S2x8192x512 .bf16) (m ((c : Thread nD τ).loc main_arg2) : Vec Ideal S2x8192x1024 .f32) (m ((c : Thread nD τ).loc main_arg3) : Vec Ideal S1x1024x1024 .f32) (m ((c : Thread nD τ).loc main_arg4) : Vec Ideal S2x1024 .f32) (m ((c : Thread nD τ).loc main_arg5) : Vec Ideal S1x1024 .f32) (m ((c : Thread nD τ).loc main_arg6) : Vec Ideal S2x1024 .f32) (m ((c : Thread nD τ).loc main_arg7) : Vec Ideal S2x1024 .f32) (i 0) (i 1) (i 2)
def G11 : Vec Ideal S2x16x8192 .f32 := fun i => lgAt (m ((c : Thread nD τ).loc main_arg0) : Vec Ideal S2x8192x512 .bf16) (m ((c : Thread nD τ).loc main_arg1) : Vec Ideal S2x8192x512 .bf16) (m ((c : Thread nD τ).loc main_arg2) : Vec Ideal S2x8192x1024 .f32) (m ((c : Thread nD τ).loc main_arg3) : Vec Ideal S1x1024x1024 .f32) (m ((c : Thread nD τ).loc main_arg4) : Vec Ideal S2x1024 .f32) (m ((c : Thread nD τ).loc main_arg5) : Vec Ideal S1x1024 .f32) (m ((c : Thread nD τ).loc main_arg6) : Vec Ideal S2x1024 .f32) (m ((c : Thread nD τ).loc main_arg7) : Vec Ideal S2x1024 .f32) (m ((c : Thread nD τ).loc main_arg8) : Vec Ideal S1x1024x16 .f32) (i 0) (i 1) (i 2)

theorem flushed9_eq (t : Fin cfg0.N) :
    (dats m 0 c).flushed 9 t = ((cfg0.win 9).blk t).view.read (Elt Ideal) (G9 m c) := by
  rw [Value.flushed9]
  obtain ⟨⟨e0, e1, e2⟩, -⟩ := out_index_facts t
  funext y
  have hy0 : (y 0).val < 1 := (y 0).isLt
  have hy1 : (y 1).val < 1024 := (y 1).isLt
  have hy2 : (y 2).val < 1024 := (y 2).isLt
  have hl : (cfg0.win 9).xinj (grid0.coords t) y = (ix3 (0 : Fin 1) (⟨(y 1).val, hy1⟩ : Fin 1024) (⟨(y 2).val, hy2⟩ : Fin 1024) : S1x1024x1024.Idx) := by
    funext a
    apply Fin.ext
    match a with
    | ⟨0, _⟩ => show (y 0).val = 0; omega
    | ⟨1, _⟩ => rfl
    | ⟨2, _⟩ => rfl
  show out0_9 (F := Ideal) (iblk m c 0 t) (iblk m c 1 t) (iblk m c 2 t) (iblk m c 3 t) (iblk m c 4 t) (iblk m c 5 t) (iblk m c 6 t) (iblk m c 7 t) (iblk m c 8 t) ((cfg0.win 9).xinj (grid0.coords t) y) = G9 m c (((cfg0.win 9).blk t).view.emb y)
  rw [hl]
  refine (out9_apply (iblk m c 0 t) (iblk m c 1 t) (iblk m c 2 t) (iblk m c 3 t) (iblk m c 4 t) (iblk m c 5 t) (iblk m c 6 t) (iblk m c 7 t) (iblk m c 8 t) _ _).trans ((res_eq m c t _ _).trans ?_)
  have hb0 : (((cfg0.win 9).blk t).view.emb y 0).val = win0_9.index t (0 : Fin 3) * 1 + 1 * (y 0).val := rfl
  have hb1 : (((cfg0.win 9).blk t).view.emb y 1).val = win0_9.index t (1 : Fin 3) * 1024 + 1 * (y 1).val := rfl
  have hb2 : (((cfg0.win 9).blk t).view.emb y 2).val = win0_9.index t (2 : Fin 3) * 1024 + 1 * (y 2).val := rfl
  have g0 : batOf t = ((cfg0.win 9).blk t).view.emb y 0 := Fin.ext (by rw [hb0, e0]; show t.val / 8 = _; omega)
  have g1 : seqOf t ⟨(y 1).val, hy1⟩ = ((cfg0.win 9).blk t).view.emb y 1 := Fin.ext (by rw [hb1, e1]; show t.val % 8 * 1024 + (y 1).val = _; omega)
  have g2 : (⟨(y 2).val, hy2⟩ : Fin 1024) = ((cfg0.win 9).blk t).view.emb y 2 := Fin.ext (by rw [hb2, e2]; show (y 2).val = _; omega)
  unfold G9
  exact (congrArg (fun x : Fin 2 => resAt _ _ _ _ _ x _ _) g0).trans (congrArg₂ (fun (x : Fin 8192) (z : Fin 1024) => resAt _ _ _ _ _ _ x z) g1 g2)

theorem mem_blk9 (t : Fin cfg0.N) (i : S2x8192x1024.Idx) :
    i ∈ ((cfg0.win 9).blk t).view.set ↔ ∀ a : Fin 3, win0_9.index t a * S1x1024x1024.size a ≤ (i a).val ∧ (i a).val < win0_9.index t a * S1x1024x1024.size a + S1x1024x1024.size a := by
  show i ∈ ((View.whole main_v14_0).slice (win0_9.rect t)).set ↔ _
  rw [View.set_slice_whole, Rect.mem_set_unit]
  exact Iff.rfl

theorem covered9 (i : S2x8192x1024.Idx) : ∃ t : Fin cfg0.N, (cfg0.win 9).flush t = true ∧ i ∈ ((cfg0.win 9).blk t).view.set := by
  have hi0 : (i 0).val < 2 := (i 0).isLt
  have hi1 : (i 1).val < 8192 := (i 1).isLt
  have hi2 : (i 2).val < 1024 := (i 2).isLt
  have hN : cfg0.N = 16 := N_0
  let t : Fin cfg0.N := ⟨8 * (i 0).val + (i 1).val / 1024, by omega⟩
  have ht : t.val = 8 * (i 0).val + (i 1).val / 1024 := rfl
  obtain ⟨⟨e0, e1, e2⟩, -⟩ := out_index_facts t
  refine ⟨t, flush0_9 t, (mem_blk9 t i).mpr fun a => ?_⟩
  match a with
  | ⟨0, _⟩ => show win0_9.index t (0 : Fin 3) * 1 ≤ (i 0).val ∧ (i 0).val < win0_9.index t (0 : Fin 3) * 1 + 1; rw [e0, ht]; omega
  | ⟨1, _⟩ => show win0_9.index t (1 : Fin 3) * 1024 ≤ (i 1).val ∧ (i 1).val < win0_9.index t (1 : Fin 3) * 1024 + 1024; rw [e1]; omega
  | ⟨2, _⟩ => show win0_9.index t (2 : Fin 3) * 1024 ≤ (i 2).val ∧ (i 2).val < win0_9.index t (2 : Fin 3) * 1024 + 1024; rw [e2]; omega

theorem arr9_eq : (dats m 0 c).arrAt 9 cfg0.N = G9 m c :=
  (dats m 0 c).arrAt_eq_of_cover 9 _ (fun t _ => flushed9_eq m c t) covered9

theorem flushed10_eq (t : Fin cfg0.N) :
    (dats m 0 c).flushed 10 t = ((cfg0.win 10).blk t).view.read (Elt Ideal) (G10 m c) := by
  rw [Value.flushed10]
  obtain ⟨-, ⟨e0, e1, e2⟩, -⟩ := out_index_facts t
  funext y
  have hy0 : (y 0).val < 1 := (y 0).isLt
  have hy1 : (y 1).val < 1024 := (y 1).isLt
  have hy2 : (y 2).val < 1024 := (y 2).isLt
  have hl : (cfg0.win 10).xinj (grid0.coords t) y = (ix3 (0 : Fin 1) (⟨(y 1).val, hy1⟩ : Fin 1024) (⟨(y 2).val, hy2⟩ : Fin 1024) : S1x1024x1024.Idx) := by
    funext a
    apply Fin.ext
    match a with
    | ⟨0, _⟩ => show (y 0).val = 0; omega
    | ⟨1, _⟩ => rfl
    | ⟨2, _⟩ => rfl
  show out0_10 (F := Ideal) (iblk m c 0 t) (iblk m c 1 t) (iblk m c 2 t) (iblk m c 3 t) (iblk m c 4 t) (iblk m c 5 t) (iblk m c 6 t) (iblk m c 7 t) (iblk m c 8 t) ((cfg0.win 10).xinj (grid0.coords t) y) = G10 m c (((cfg0.win 10).blk t).view.emb y)
  rw [hl]
  refine (out10_apply (iblk m c 0 t) (iblk m c 1 t) (iblk m c 2 t) (iblk m c 3 t) (iblk m c 4 t) (iblk m c 5 t) (iblk m c 6 t) (iblk m c 7 t) (iblk m c 8 t) _ _).trans ((nrm_eq m c t _ _).trans ?_)
  have hb0 : (((cfg0.win 10).blk t).view.emb y 0).val = win0_10.index t (0 : Fin 3) * 1 + 1 * (y 0).val := rfl
  have hb1 : (((cfg0.win 10).blk t).view.emb y 1).val = win0_10.index t (1 : Fin 3) * 1024 + 1 * (y 1).val := rfl
  have hb2 : (((cfg0.win 10).blk t).view.emb y 2).val = win0_10.index t (2 : Fin 3) * 1024 + 1 * (y 2).val := rfl
  have g0 : batOf t = ((cfg0.win 10).blk t).view.emb y 0 := Fin.ext (by rw [hb0, e0]; show t.val / 8 = _; omega)
  have g1 : seqOf t ⟨(y 1).val, hy1⟩ = ((cfg0.win 10).blk t).view.emb y 1 := Fin.ext (by rw [hb1, e1]; show t.val % 8 * 1024 + (y 1).val = _; omega)
  have g2 : (⟨(y 2).val, hy2⟩ : Fin 1024) = ((cfg0.win 10).blk t).view.emb y 2 := Fin.ext (by rw [hb2, e2]; show (y 2).val = _; omega)
  unfold G10
  exact (congrArg (fun x : Fin 2 => nrmAt _ _ _ _ _ _ _ _ x _ _) g0).trans (congrArg₂ (fun (x : Fin 8192) (z : Fin 1024) => nrmAt _ _ _ _ _ _ _ _ _ x z) g1 g2)

theorem mem_blk10 (t : Fin cfg0.N) (i : S2x8192x1024.Idx) :
    i ∈ ((cfg0.win 10).blk t).view.set ↔ ∀ a : Fin 3, win0_10.index t a * S1x1024x1024.size a ≤ (i a).val ∧ (i a).val < win0_10.index t a * S1x1024x1024.size a + S1x1024x1024.size a := by
  show i ∈ ((View.whole main_v14_1).slice (win0_10.rect t)).set ↔ _
  rw [View.set_slice_whole, Rect.mem_set_unit]
  exact Iff.rfl

theorem covered10 (i : S2x8192x1024.Idx) : ∃ t : Fin cfg0.N, (cfg0.win 10).flush t = true ∧ i ∈ ((cfg0.win 10).blk t).view.set := by
  have hi0 : (i 0).val < 2 := (i 0).isLt
  have hi1 : (i 1).val < 8192 := (i 1).isLt
  have hi2 : (i 2).val < 1024 := (i 2).isLt
  have hN : cfg0.N = 16 := N_0
  let t : Fin cfg0.N := ⟨8 * (i 0).val + (i 1).val / 1024, by omega⟩
  have ht : t.val = 8 * (i 0).val + (i 1).val / 1024 := rfl
  obtain ⟨-, ⟨e0, e1, e2⟩, -⟩ := out_index_facts t
  refine ⟨t, flush0_10 t, (mem_blk10 t i).mpr fun a => ?_⟩
  match a with
  | ⟨0, _⟩ => show win0_10.index t (0 : Fin 3) * 1 ≤ (i 0).val ∧ (i 0).val < win0_10.index t (0 : Fin 3) * 1 + 1; rw [e0, ht]; omega
  | ⟨1, _⟩ => show win0_10.index t (1 : Fin 3) * 1024 ≤ (i 1).val ∧ (i 1).val < win0_10.index t (1 : Fin 3) * 1024 + 1024; rw [e1]; omega
  | ⟨2, _⟩ => show win0_10.index t (2 : Fin 3) * 1024 ≤ (i 2).val ∧ (i 2).val < win0_10.index t (2 : Fin 3) * 1024 + 1024; rw [e2]; omega

theorem arr10_eq : (dats m 0 c).arrAt 10 cfg0.N = G10 m c :=
  (dats m 0 c).arrAt_eq_of_cover 10 _ (fun t _ => flushed10_eq m c t) covered10

theorem flushed11_eq (hf : Finite m c) (t : Fin cfg0.N) :
    (dats m 0 c).flushed 11 t = ((cfg0.win 11).blk t).view.read (Elt Ideal) (G11 m c) := by
  rw [Value.flushed11]
  obtain ⟨-, -, ⟨e0, e1, e2⟩⟩ := out_index_facts t
  funext y
  have hy0 : (y 0).val < 1 := (y 0).isLt
  have hy1 : (y 1).val < 16 := (y 1).isLt
  have hy2 : (y 2).val < 1024 := (y 2).isLt
  have hl : (cfg0.win 11).xinj (grid0.coords t) y = (ix3 (0 : Fin 1) (⟨(y 1).val, hy1⟩ : Fin 16) (⟨(y 2).val, hy2⟩ : Fin 1024) : S1x16x1024.Idx) := by
    funext a
    apply Fin.ext
    match a with
    | ⟨0, _⟩ => show (y 0).val = 0; omega
    | ⟨1, _⟩ => rfl
    | ⟨2, _⟩ => rfl
  show out0_11 (F := Ideal) (iblk m c 0 t) (iblk m c 1 t) (iblk m c 2 t) (iblk m c 3 t) (iblk m c 4 t) (iblk m c 5 t) (iblk m c 6 t) (iblk m c 7 t) (iblk m c 8 t) ((cfg0.win 11).xinj (grid0.coords t) y) = G11 m c (((cfg0.win 11).blk t).view.emb y)
  rw [hl]
  refine (out11_apply (iblk m c 0 t) (iblk m c 1 t) (iblk m c 2 t) (iblk m c 3 t) (iblk m c 4 t) (iblk m c 5 t) (iblk m c 6 t) (iblk m c 7 t) (iblk m c 8 t) _ _).trans ((lg_eq m c hf t _ _).trans ?_)
  have hb0 : (((cfg0.win 11).blk t).view.emb y 0).val = win0_11.index t (0 : Fin 3) * 1 + 1 * (y 0).val := rfl
  have hb1 : (((cfg0.win 11).blk t).view.emb y 1).val = win0_11.index t (1 : Fin 3) * 16 + 1 * (y 1).val := rfl
  have hb2 : (((cfg0.win 11).blk t).view.emb y 2).val = win0_11.index t (2 : Fin 3) * 1024 + 1 * (y 2).val := rfl
  have g0 : batOf t = ((cfg0.win 11).blk t).view.emb y 0 := Fin.ext (by rw [hb0, e0]; show t.val / 8 = _; omega)
  have g1 : (⟨(y 1).val, hy1⟩ : Fin 16) = ((cfg0.win 11).blk t).view.emb y 1 := Fin.ext (by rw [hb1, e1]; show (y 1).val = _; omega)
  have g2 : seqOf t ⟨(y 2).val, hy2⟩ = ((cfg0.win 11).blk t).view.emb y 2 := Fin.ext (by rw [hb2, e2]; show t.val % 8 * 1024 + (y 2).val = _; omega)
  unfold G11
  exact (congrArg (fun x : Fin 2 => lgAt _ _ _ _ _ _ _ _ _ x _ _) g0).trans (congrArg₂ (fun (x : Fin 16) (z : Fin 8192) => lgAt _ _ _ _ _ _ _ _ _ _ x z) g1 g2)

theorem mem_blk11 (t : Fin cfg0.N) (i : S2x16x8192.Idx) :
    i ∈ ((cfg0.win 11).blk t).view.set ↔ ∀ a : Fin 3, win0_11.index t a * S1x16x1024.size a ≤ (i a).val ∧ (i a).val < win0_11.index t a * S1x16x1024.size a + S1x16x1024.size a := by
  show i ∈ ((View.whole main_v14_2).slice (win0_11.rect t)).set ↔ _
  rw [View.set_slice_whole, Rect.mem_set_unit]
  exact Iff.rfl

theorem covered11 (i : S2x16x8192.Idx) : ∃ t : Fin cfg0.N, (cfg0.win 11).flush t = true ∧ i ∈ ((cfg0.win 11).blk t).view.set := by
  have hi0 : (i 0).val < 2 := (i 0).isLt
  have hi1 : (i 1).val < 16 := (i 1).isLt
  have hi2 : (i 2).val < 8192 := (i 2).isLt
  have hN : cfg0.N = 16 := N_0
  let t : Fin cfg0.N := ⟨8 * (i 0).val + (i 2).val / 1024, by omega⟩
  have ht : t.val = 8 * (i 0).val + (i 2).val / 1024 := rfl
  obtain ⟨-, -, ⟨e0, e1, e2⟩⟩ := out_index_facts t
  refine ⟨t, flush0_11 t, (mem_blk11 t i).mpr fun a => ?_⟩
  match a with
  | ⟨0, _⟩ => show win0_11.index t (0 : Fin 3) * 1 ≤ (i 0).val ∧ (i 0).val < win0_11.index t (0 : Fin 3) * 1 + 1; rw [e0, ht]; omega
  | ⟨1, _⟩ => show win0_11.index t (1 : Fin 3) * 16 ≤ (i 1).val ∧ (i 1).val < win0_11.index t (1 : Fin 3) * 16 + 16; rw [e1]; omega
  | ⟨2, _⟩ => show win0_11.index t (2 : Fin 3) * 1024 ≤ (i 2).val ∧ (i 2).val < win0_11.index t (2 : Fin 3) * 1024 + 1024; rw [e2]; omega

theorem arr11_eq (hf : Finite m c) : (dats m 0 c).arrAt 11 cfg0.N = G11 m c :=
  (dats m 0 c).arrAt_eq_of_cover 11 _ (fun t _ => flushed11_eq m c hf t) covered11

end Cert.Kernel3Ideal.Out

end
-- ==== Proof.OutRef.lean ====
module

public import proofs.«01_k».proof.Proof.OutArray
public import proofs.«01_k».proof.Proof.Gen.Reference3Ideal.Read
public import Idealize.ShloMosaic.Lib.KernelVsHost

/-! The reference's output projection, at an entry, is the kernel's -/

@[expose] public section

set_option maxRecDepth 16384

noncomputable section

namespace Cert.Reference3Ideal.Out

open Cert.Reference3Ideal Cert.Reference3Ideal.Gen Cert.Reference3Ideal.Read
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic Idealize.ShloMosaic.ValueIdx
open Cert.Softmax Cert.Out
open Cert.Kernel3Ideal.Out (catAt resAt nrmAt lgAt)

variable (A0 A1 : Vec Ideal S2x8192x512 .bf16) (A2 : Vec Ideal S2x8192x1024 .f32) (A3 : Vec Ideal S1x1024x1024 .f32) (A4 : Vec Ideal S2x1024 .f32) (A5 : Vec Ideal S1x1024 .f32) (A6 A7 : Vec Ideal S2x1024 .f32) (A8 : Vec Ideal S1x1024x16 .f32)
variable (b : Fin 2) (s : Fin 8192) (d k : Fin 1024) (e : Fin 16)

theorem mix_apply : val_main_v1 (F := Ideal) A0 A1 (ix3 b s k) = catAt A0 A1 b s k := by
  rw [val_main_v1_apply]
  show val_main_v0 (F := Ideal) A0 A1 (ix3 b s k) = _
  unfold val_main_v0 catAt
  split
  · rename_i hk
    exact concatenate_pair_apply_left (t := S2x8192x1024) (s₁ := S2x8192x512) (s₂ := S2x8192x512) 2 A0 A1 _ _ rfl (ix3 b s (⟨k.val, hk⟩ : Fin 512)) (fun a => match a with
      | ⟨0, _⟩ => rfl
      | ⟨1, _⟩ => rfl
      | ⟨2, _⟩ => rfl)
  · rename_i hk
    refine concatenate_pair_apply_right (t := S2x8192x1024) (s₁ := S2x8192x512) (s₂ := S2x8192x512) 2 A0 A1 _ _ rfl rfl (ix3 b s (⟨k.val - 512, by omega⟩ : Fin 512)) (fun a ha => ?_) ?_
    · match a, ha with
      | ⟨0, _⟩, _ => rfl
      | ⟨1, _⟩, _ => rfl
      | ⟨2, _⟩, ha => exact absurd rfl ha
    · show k.val - 512 + 512 = k.val
      omega

theorem weight_apply : val_main_v2 (F := Ideal) A3 (ix2 k d) = A3 (ix3 (0 : Fin 1) k d) := by
  rw [val_main_v2_apply]
  refine congrArg A3 (funext fun a => Fin.ext ?_)
  have h1 := k.isLt
  have h2 := d.isLt
  match a with
  | ⟨0, _⟩ => rfl
  | ⟨1, _⟩ => show (k.val * 1024 + d.val) / 1024 % 1024 = k.val; omega
  | ⟨2, _⟩ => show (k.val * 1024 + d.val) % 1024 = d.val; omega

theorem res_apply : val_main_v7 (F := Ideal) A0 A1 A2 A3 A4 (ix3 b s d) = resAt A0 A1 A2 A3 A4 b s d := by
  rw [val_main_v7_apply, val_main_v6_apply, val_main_v5_apply, val_main_v4_apply, val_main_v3_apply]
  unfold resAt
  refine congrArg₂ (fun p q : EReal => A2 (ix3 b s d) + p * q) (congrArg A4 (funext fun a => match a with | ⟨0, _⟩ => rfl | ⟨1, _⟩ => rfl)) (Finset.sum_congr rfl fun k _ => congrArg₂ (fun p q : EReal => p * q) ?_ ?_)
  · exact (congrArg (val_main_v1 (F := Ideal) A0 A1) (show lidx_main_v3 (ix3 b s d) k = ix3 b s k from funext fun a => match a with | ⟨0, _⟩ => rfl | ⟨1, _⟩ => rfl | ⟨2, _⟩ => rfl)).trans (mix_apply A0 A1 b s k)
  · exact (congrArg (val_main_v2 (F := Ideal) A3) (show ridx_main_v3 (ix3 b s d) k = ix2 k d from funext fun a => match a with | ⟨0, _⟩ => rfl | ⟨1, _⟩ => rfl)).trans (weight_apply A3 d k)

theorem factor_apply : val_main_v16 (F := Ideal) A0 A1 A2 A3 A4 (ix3 b s d) = scl (resAt A0 A1 A2 A3 A4 b s) := by
  rw [val_main_v16_apply, val_main_v15_apply, val_main_v14_apply, val_main_v13_apply, val_main_v12_apply, val_main_v11_apply, val_main_v10_apply, val_main_v9_apply, val_main_cst_apply, val_main_cst_0_apply, val_main_cst_1_apply]
  unfold scl
  refine congrArg (fun y : EReal => Ideal.rsqrt (Ideal.div y len + tiny)) ?_
  refine (congrArg₂ (fun p q : EReal => p + q) Ideal.ofBits_zero_f32 (Finset.sum_congr rfl fun k _ => ?_)).trans (zero_add _)
  rw [show idx_main_v9 (idx_main_v10 (idx_main_v16 (ix3 b s d))) k = ix3 b s k from funext fun a => match a with | ⟨0, _⟩ => rfl | ⟨1, _⟩ => rfl | ⟨2, _⟩ => rfl, val_main_v8_apply, res_apply]
  rfl

theorem gain_apply : val_main_v20 (F := Ideal) A5 (ix3 b s d) = A5 (ix2 (0 : Fin 1) d) := by
  rw [val_main_v20_apply, val_main_v19_apply, val_main_v18_apply]
  exact congrArg A5 (funext fun a => match a with | ⟨0, _⟩ => rfl | ⟨1, _⟩ => Fin.ext (Nat.mod_eq_of_lt d.isLt))

theorem scale_apply : val_main_v25 (F := Ideal) A7 (ix3 b s d) = 1 + A7 (ix2 b d) := by
  rw [val_main_v25_apply, val_main_v24_apply, val_main_v23_apply, val_main_v22_apply, val_main_cst_2_apply]
  exact congrArg₂ (fun p q : EReal => p + q) Ideal.ofBits_one_f32 (congrArg A7 (funext fun a => match a with | ⟨0, _⟩ => rfl | ⟨1, _⟩ => rfl))

theorem shift_apply : val_main_v28 (F := Ideal) A6 (ix3 b s d) = A6 (ix2 b d) := by
  rw [val_main_v28_apply, val_main_v27_apply]
  refine congrArg A6 (funext fun a => match a with | ⟨0, _⟩ => rfl | ⟨1, _⟩ => rfl)

theorem nrm_apply : val_main_v29 (F := Ideal) A0 A1 A2 A3 A4 A5 A6 A7 (ix3 b s d) = nrmAt A0 A1 A2 A3 A4 A5 A6 A7 b s d := by
  rw [val_main_v29_apply, val_main_v26_apply, val_main_v21_apply, val_main_v17_apply, res_apply, factor_apply, gain_apply, scale_apply, shift_apply]
  rfl

theorem lg_apply : val_main_v32 (F := Ideal) A0 A1 A2 A3 A4 A5 A6 A7 A8 (ix3 b e s) = lgAt A0 A1 A2 A3 A4 A5 A6 A7 A8 b e s := by
  rw [val_main_v32_apply, val_main_v31_apply]
  unfold lgAt
  refine Finset.sum_congr rfl fun k _ => congrArg₂ (fun p q : EReal => p * q) ?_ ?_
  · rw [val_main_v30_apply]
    refine congrArg A8 (funext fun a => Fin.ext ?_)
    have h1 := k.isLt
    have h2 := e.isLt
    match a with
    | ⟨0, _⟩ => rfl
    | ⟨1, _⟩ => show (k.val * 16 + e.val) / 16 % 1024 = k.val; omega
    | ⟨2, _⟩ => show (k.val * 16 + e.val) % 16 = e.val; omega
  · exact (congrArg (val_main_v29 (F := Ideal) A0 A1 A2 A3 A4 A5 A6 A7) (show ridx_main_v31 (idx_main_v32 (ix3 b e s)) k = ix3 b s k from funext fun a => match a with | ⟨0, _⟩ => rfl | ⟨1, _⟩ => rfl | ⟨2, _⟩ => rfl)).trans (nrm_apply A0 A1 A2 A3 A4 A5 A6 A7 b s k)

theorem ix3_eta {n0 n1 n2 : ℕ} (i : (⟨3, ![n0, n1, n2]⟩ : Shape).Idx) : i = ix3 (i 0) (i 1) (i 2) := funext fun a => match a with | ⟨0, _⟩ => rfl | ⟨1, _⟩ => rfl | ⟨2, _⟩ => rfl

theorem res_eq : val_main_v7 (F := Ideal) A0 A1 A2 A3 A4 = fun i => resAt A0 A1 A2 A3 A4 (i 0) (i 1) (i 2) :=
  funext fun i => (congrArg _ (ix3_eta i)).trans (res_apply A0 A1 A2 A3 A4 _ _ _)

theorem nrm_eq : val_main_v33 (F := Ideal) A0 A1 A2 A3 A4 A5 A6 A7 = fun i => nrmAt A0 A1 A2 A3 A4 A5 A6 A7 (i 0) (i 1) (i 2) :=
  funext fun i => (val_main_v33_apply (F := Ideal) A0 A1 A2 A3 A4 A5 A6 A7 i).trans ((congrArg (val_main_v29 (F := Ideal) A0 A1 A2 A3 A4 A5 A6 A7) (ix3_eta i)).trans (nrm_apply A0 A1 A2 A3 A4 A5 A6 A7 _ _ _))

theorem lg_eq : val_main_v32 (F := Ideal) A0 A1 A2 A3 A4 A5 A6 A7 A8 = fun i => lgAt A0 A1 A2 A3 A4 A5 A6 A7 A8 (i 0) (i 1) (i 2) :=
  funext fun i => (congrArg _ (ix3_eta i)).trans (lg_apply A0 A1 A2 A3 A4 A5 A6 A7 A8 _ _ _)

end Cert.Reference3Ideal.Out

end
-- ==== Proof.OutClaim.lean ====
module

public import proofs.«01_k».proof.Proof.OutRef
public import proofs.«01_k».proof.Proof.AttnPre
public import proofs.«01_k».proof.Proof.Gen.Pre_finite_mix
public import Idealize.ShloMosaic.Adequacy

/-! The output projection: the kernel's three arrays are the reference's -/

@[expose] public section

set_option maxRecDepth 16384

noncomputable section

namespace Cert.FiniteMix

open Idealize.ShloMosaic Idealize.ShloMosaic.TcCoe Cert.Softmax
open Cert.FiniteQk (real_of_lt)

instance : Subsingleton Cert.Pre_finite_mix.S_.Idx := ⟨fun a b => funext fun i => i.elim0⟩

attribute [local instance] Cert.Pre_finite_mix.Gen.facts

/-- The precondition read back: every operand holds real numbers. -/
theorem finite (m : (ℓ : Loc Cert.Kernel3Ideal.nD Cert.Kernel3Ideal.τ Cert.Kernel3Ideal.sig) → Buf (Elt Ideal) ℓ) (h : Cert.Pre_Kernel3Ideal_finite_mix m) (c : Dev Cert.Kernel3Ideal.nD) :
    Cert.Kernel3Ideal.Out.Finite m c := by
  have h0 := congrFun (h c) (fun a => a.elim0)
  unfold Cert.Pre_finite_mix.fn Cert.Pre_finite_mix.fn_part1 Cert.Pre_finite_mix.fn_part2 at h0
  obtain ⟨h0, r8⟩ := IntOp.andi_eq_one.mp h0
  obtain ⟨h0, r7⟩ := IntOp.andi_eq_one.mp h0
  obtain ⟨h0, r6⟩ := IntOp.andi_eq_one.mp h0
  obtain ⟨h0, r5⟩ := IntOp.andi_eq_one.mp h0
  obtain ⟨h0, r4⟩ := IntOp.andi_eq_one.mp h0
  obtain ⟨h0, r3⟩ := IntOp.andi_eq_one.mp h0
  obtain ⟨h0, r2⟩ := IntOp.andi_eq_one.mp h0
  obtain ⟨r0, r1⟩ := IntOp.andi_eq_one.mp h0
  exact {
    a0 := fun i => real_of_lt _ (Host.reduce_andi_all _ _ _ _ _ r0 i)
    a1 := fun i => real_of_lt _ (Host.reduce_andi_all _ _ _ _ _ r1 i)
    a2 := fun i => real_of_lt _ (Host.reduce_andi_all _ _ _ _ _ r2 i)
    a3 := fun i => real_of_lt _ (Host.reduce_andi_all _ _ _ _ _ r3 i)
    a4 := fun i => real_of_lt _ (Host.reduce_andi_all _ _ _ _ _ r4 i)
    a5 := fun i => real_of_lt _ (Host.reduce_andi_all _ _ _ _ _ r5 i)
    a6 := fun i => real_of_lt _ (Host.reduce_andi_all _ _ _ _ _ r6 i)
    a7 := fun i => real_of_lt _ (Host.reduce_andi_all _ _ _ _ _ r7 i)
    a8 := fun i => real_of_lt _ (Host.reduce_andi_all _ _ _ _ _ r8 i) }

end Cert.FiniteMix

namespace Cert

open Idealize.ShloMosaic Idealize.SL.Sem Idealize.ShloMosaic.ValueIdx

attribute [local instance] Cert.Pre_finite_mix.Gen.facts

theorem projection_equal : algebraic_Kernel3Ideal_Reference3Ideal_pre_finite_mix := fun m g m' g' hpre hag =>
  have hf := fun c => FiniteMix.finite m hpre c
  ⟨fun c => Kernel3Ideal.Out.G9 m c, fun c => Kernel3Ideal.Out.G10 m c, fun c => Kernel3Ideal.Out.G11 m c,
    (θ_run (Kernel3Ideal.defs (F := Ideal)) _ _).mono (fun r h c => ⟨(h c).1.trans (Kernel3Ideal.Out.arr9_eq m c), (h c).2.1.trans (Kernel3Ideal.Out.arr10_eq m c), (h c).2.2.1.trans (Kernel3Ideal.Out.arr11_eq m c (hf c)), (h c).2.2.2⟩)
      (Kernel3Ideal.Value.run_blocks (F := Ideal) m g),
    (θ_run (Reference3Ideal.defs (F := Ideal)) _ _).mono (fun r h c => by
      obtain ⟨h0, h1, h2, h3, h4, h5, h6, h7, h8⟩ := hag c
      refine ⟨(h c).1.trans ?_, (h c).2.1.trans ?_, (h c).2.2.1.trans ?_, (h c).2.2.2⟩
      · refine (Reference3Ideal.Read.val_main_v7_eq (F := Ideal) _ _ _ _ _).trans ((Reference3Ideal.Out.res_eq _ _ _ _ _).trans ?_)
        rw [h0, h1, h2, h3, h4]
        rfl
      · refine (Reference3Ideal.Read.val_main_v33_eq (F := Ideal) _ _ _ _ _ _ _ _).trans ((Reference3Ideal.Out.nrm_eq _ _ _ _ _ _ _ _).trans ?_)
        rw [h0, h1, h2, h3, h4, h5, h6, h7]
        rfl
      · refine (Reference3Ideal.Read.val_main_v32_eq (F := Ideal) _ _ _ _ _ _ _ _ _).trans ((Reference3Ideal.Out.lg_eq _ _ _ _ _ _ _ _ _).trans ?_)
        rw [h0, h1, h2, h3, h4, h5, h6, h7, h8]
        rfl) (Reference3Ideal.Value.run (F := Ideal) m' g')⟩

end Cert

end
-- ==== Proof.InTile.lean ====
module

public import proofs.«01_k».proof.Proof.Gen.Kernel4Ideal.Value
public import proofs.«01_k».proof.Proof.OutReal
public import Idealize.ShloMosaic.Lib.Pipeline.ValueKit
public import Idealize.ShloMosaic.Lib.Pipeline.ReadBack
public import Idealize.ShloMosaic.Lib.MatmulPlain
public import Idealize.ShloMosaic.Lib.IdealHost
public import Idealize.ShloMosaic.Lib.ValueLayout

/-! The input projection's block over the extended reals: the normalized row against the weights -/

@[expose] public section

set_option maxRecDepth 16384

noncomputable section

namespace Cert.Kernel4Ideal.Inp

open Cert.Kernel4Ideal Cert.Kernel4Ideal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open Cert.Softmax Cert.Out

theorem row_apply (x : Vec Ideal S1x512x1024 .f32) (r : Fin 512) (k : Fin 1024) :
    shapeCast S512x1024 x shapeCasts_S1x512x1024_S512x1024 (ix2 r k) = x (ix3 (0 : Fin 1) r k) := by
  refine shapeCast_apply x _ _ _ ?_
  simp only [Shape.rowMajor_val_two, Shape.rowMajor_val_three]
  simp [ix2, ix3, S1x512x1024, S512x1024]

theorem vec_apply (x : Vec Ideal S1x1x1024 .f32) (k : Fin 1024) :
    shapeCast S1x1024 x shapeCasts_S1x1x1024_S1x1024 (ix2 (0 : Fin 1) k) = x (ix3 (0 : Fin 1) (0 : Fin 1) k) := by
  refine shapeCast_apply x _ _ _ ?_
  simp only [Shape.rowMajor_val_two, Shape.rowMajor_val_three]
  simp [ix2, ix3, S1x1x1024, S1x1024]

theorem col_apply (x : FVec Ideal S512 .f32) (r : Fin 512) :
    shapeCast S512x1 x shapeCasts_S512_S512x1 (ix2 r (0 : Fin 1)) = x (ix1 r) := by
  refine shapeCast_apply x _ _ _ ?_
  simp only [Shape.rowMajor_val_one, Shape.rowMajor_val_two]
  simp [ix1, ix2, S512, S512x1]

theorem same_apply {s : Shape} {α : Type} (x : s.Idx → α) (h : s.ShapeCasts s) (i : s.Idx) : shapeCast s x h i = x i :=
  shapeCast_apply x _ _ _ rfl

theorem rows_apply (v : FVec Ideal S1x1024 .f32) (r : Fin 512) (d : Fin 1024) :
    broadcastTo S512x1024 v broadcasts_S1x1024_S512x1024 (ix2 r d) = v (ix2 (0 : Fin 1) d) :=
  broadcastTo_1b_ab_apply v broadcasts_S1x1024_S512x1024 r d

theorem cols_apply (v : FVec Ideal S512x1 .f32) (r : Fin 512) (d : Fin 1024) :
    broadcastTo S512x1024 v broadcasts_S512x1_S512x1024 (ix2 r d) = v (ix2 r (0 : Fin 1)) := by
  refine broadcastTo_apply v _ (ix2 r d) (ix2 r (0 : Fin 1)) fun ax => ?_
  match ax with
  | ⟨0, _⟩ => rfl
  | ⟨1, _⟩ => rfl

theorem dot_apply (x : FVec Ideal S512x1024 .bf16) (w : FVec Ideal S1024x2304 .bf16) (r : Fin 512) (j : Fin 2304) :
    matmul (F := Ideal) dot_S512x1024_S1024x2304_S512x2304_1_0_0_1_n_n none x w (constant S512x2304 .f32 0x00000000#32) (ix2 r j)
      = ∑ k : Fin 1024, x (ix2 r k) * w (ix2 k j) := by
  refine (Ideal.matmul_plain_apply (M := 512) (K := 1024) (N := 2304) none x w _ r j).trans ?_
  rw [constant_apply, Ideal.ofBits_zero_f32, zero_add]

theorem lift_eq (r : Fin 512) (k : Fin 1024) : reduces_S512x1024_S512.lift (ix1 r) k = ix2 r k := by
  funext a
  match a with
  | ⟨0, _⟩ => rfl
  | ⟨1, _⟩ => rfl

/-- The mean square of a row. -/
theorem mean_apply (x : Vec Ideal S1x512x1024 .f32) (r : Fin 512) :
    (divf (shapeCast S512x1 (multiReduction .add [1] S512 (mulf (shapeCast S512x1024 x shapeCasts_S1x512x1024_S512x1024) (shapeCast S512x1024 x shapeCasts_S1x512x1024_S512x1024) : FVec Ideal S512x1024 .f32) 0x00000000#32 reduces_S512x1024_S512 (.inl rfl) rfl) shapeCasts_S512_S512x1) (broadcast S512x1 (Scalar.ofBits (F := Ideal) .f32 0x44800000#32)) : FVec Ideal S512x1 .f32) (ix2 r (0 : Fin 1))
      = Ideal.div (∑ k : Fin 1024, x (ix3 (0 : Fin 1) r k) * x (ix3 (0 : Fin 1) r k)) len := by
  rw [divf_apply, col_apply]
  refine congrArg (fun y : EReal => Ideal.div y len) ((Ideal.multiReduction_add_single _ _ _ _ _ _).trans (Finset.sum_congr rfl fun k _ => ?_))
  refine (congrArg (mulf (shapeCast S512x1024 x shapeCasts_S1x512x1024_S512x1024) (shapeCast S512x1024 x shapeCasts_S1x512x1024_S512x1024) : FVec Ideal S512x1024 .f32) (lift_eq r k)).trans ?_
  exact congrArg₂ (fun p q : EReal => p * q) (row_apply x r k) (row_apply x r k)

/-- The normalized row of a block. -/
def nrmB (x0 : Vec Ideal S1x512x1024 .f32) (n : Vec Ideal S1x1024 .f32) (sh sc : Vec Ideal S1x1x1024 .f32) (r : Fin 512) (d : Fin 1024) : EReal :=
  nrm (fun k : Fin 1024 => x0 (ix3 (0 : Fin 1) r k)) (fun d => n (ix2 (0 : Fin 1) d)) (fun d => sc (ix3 (0 : Fin 1) (0 : Fin 1) d)) (fun d => sh (ix3 (0 : Fin 1) (0 : Fin 1) d)) d

/-- The row projected. -/
def projB (x0 : Vec Ideal S1x512x1024 .f32) (n : Vec Ideal S1x1024 .f32) (sh sc : Vec Ideal S1x1x1024 .f32) (w : Vec Ideal S1024x2304 .bf16) (r : Fin 512) (j : Fin 2304) : EReal :=
  ∑ k : Fin 1024, nrmB x0 n sh sc r k * w (ix2 k j)

theorem pay4_apply (x0 : Vec Ideal S1x512x1024 .f32) (n : Vec Ideal S1x1024 .f32) (sh sc : Vec Ideal S1x1x1024 .f32) (w : Vec Ideal S1024x2304 .bf16) (r : Fin 512) (j : Fin 2304) :
    k0_pay4 (F := Ideal) x0 n sh sc w (ix2 r j) = projB x0 n sh sc w r j := by
  unfold k0_pay4 projB
  try dsimp only
  rw [dot_apply]
  refine Finset.sum_congr rfl fun k _ => congrArg₂ (fun p q : EReal => p * q) ?_ (same_apply w _ _)
  show (addf _ _ : FVec Ideal S512x1024 .f32) (ix2 r k) = _
  unfold nrmB nrm scl
  rw [addf_apply, mulf_apply, mulf_apply, mulf_apply, rows_apply, rows_apply, rows_apply, cols_apply, row_apply]
  have e1 : shapeCast S1x1024 sh shapeCasts_S1x1x1024_S1x1024 (ix2 (0 : Fin 1) k) = sh (ix3 (0 : Fin 1) (0 : Fin 1) k) := vec_apply sh k
  have e2 : shapeCast S1x1024 n shapeCasts_S1x1024_S1x1024 (ix2 (0 : Fin 1) k) = n (ix2 (0 : Fin 1) k) := same_apply n _ _
  have e3 : (addf (broadcast S1x1024 (Scalar.ofBits (F := Ideal) .f32 0x3F800000#32)) (shapeCast S1x1024 sc shapeCasts_S1x1x1024_S1x1024 : FVec Ideal S1x1024 .f32) : FVec Ideal S1x1024 .f32) (ix2 (0 : Fin 1) k) = 1 + sc (ix3 (0 : Fin 1) (0 : Fin 1) k) := by
    rw [addf_apply]
    exact congrArg₂ (fun p q : EReal => p + q) Ideal.ofBits_one_f32 (vec_apply sc k)
  have e4 := congrArg (fun y : EReal => Ideal.rsqrt (y + tiny)) (mean_apply x0 r)
  exact congrArg₂ (fun p q : EReal => p + q) (congrArg₂ (fun p q : EReal => p * q) (congrArg₂ (fun p q : EReal => p * q) (congrArg (fun p : EReal => x0 (ix3 (0 : Fin 1) r k) * p) e4) e2) e3) e1

/-! ## The blocks left for the values and for the convolution's rows -/

theorem zeros2 : (![0, 0] : Fin 2 → ℕ) = fun _ => 0 := by funext a; fin_cases a <;> rfl
theorem zeros3 : (![0, 0, 0] : Fin 3 → ℕ) = fun _ => 0 := by funext a; fin_cases a <;> rfl

variable (x0 : Vec Ideal S1x512x1024 .f32) (x1 : Vec Ideal S1x1024 .f32) (x2 x3 : Vec Ideal S1x1x1024 .f32) (x4 : Vec Ideal S1024x2304 .bf16) (x5 x6 : Vec Ideal S1x128 .f32) (x7 : Vec Ideal S256x256 .bf16) (x8 x9 : Vec Ideal S512x128 .f32)

theorem pay24_eq : k0_pay24 (F := Ideal) x0 x1 x2 x3 x4 x5 x6 x7 x8 x9 = k0_pay4 x0 x1 x2 x3 x4 := by
  unfold k0_pay24
  rw [View.ld_unit_zero (S := S1x512x1024) zeros3, View.ld_unit_zero (S := S1x1024) zeros2, View.ld_unit_zero (S := S1x1x1024) zeros3, View.ld_unit_zero (S := S1x1x1024) zeros3, View.ld_unit_zero (S := S1024x2304) zeros2]

theorem out12_apply (h : Fin 2) (e : Fin 64) (r : Fin 512) : out0_12 (F := Ideal) x0 x1 x2 x3 x4 x5 x6 x7 x8 x9 (ix4 (0 : Fin 1) h e r) = projB x0 x1 x2 x3 x4 r ⟨h.val * 64 + e.val + 640, by omega⟩ := by
  unfold out0_12
  rw [pay24_eq, Value.canon12_eq]
  refine Eq.trans ?_ (pay4_apply x0 x1 x2 x3 x4 r ⟨h.val * 64 + e.val + 640, by omega⟩)
  show k0_pay4 (F := Ideal) x0 x1 x2 x3 x4 (Value.ix12_0 (ix4 (0 : Fin 1) h e r)) = _
  exact congrArg (k0_pay4 (F := Ideal) x0 x1 x2 x3 x4) (funext fun a => match a with
    | ⟨0, _⟩ => rfl
    | ⟨1, _⟩ => rfl)

theorem out13_apply (r : Fin 512) (j : Fin 1536) : out0_13 (F := Ideal) x0 x1 x2 x3 x4 x5 x6 x7 x8 x9 (ix3 (0 : Fin 1) r j) = projB x0 x1 x2 x3 x4 r ⟨j.val + 768, by omega⟩ := by
  unfold out0_13
  rw [pay24_eq, Value.canon13_eq]
  refine Eq.trans ?_ (pay4_apply x0 x1 x2 x3 x4 r ⟨j.val + 768, by omega⟩)
  show k0_pay4 (F := Ideal) x0 x1 x2 x3 x4 (Value.ix13_0 (ix3 (0 : Fin 1) r j)) = _
  exact congrArg (k0_pay4 (F := Ideal) x0 x1 x2 x3 x4) (funext fun a => match a with
    | ⟨0, _⟩ => rfl
    | ⟨1, _⟩ => rfl)

end Cert.Kernel4Ideal.Inp

end
-- ==== Proof.InHost.lean ====
module

public import proofs.«01_k».proof.Proof.InTile

/-! The operands of the input projection's call, from the arguments -/

@[expose] public section

set_option maxRecDepth 16384

noncomputable section

namespace Cert.Kernel4Ideal.Inp

open Cert.Kernel4Ideal Cert.Kernel4Ideal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open Cert.Softmax Cert.Out

variable (m : (ℓ : Loc nD τ sig) → Buf (Elt Ideal) ℓ) (c : Dev nD)

theorem layer_apply (x : Vec Ideal S1x1024x2304 .f32) (k : Fin 1024) (j : Fin 2304) : shapeCast S1024x2304 x shapeCasts_S1x1024x2304_S1024x2304 (ix2 k j) = x (ix3 (0 : Fin 1) k j) := by
  refine shapeCast_apply x _ _ _ ?_
  simp only [Shape.rowMajor_val_two, Shape.rowMajor_val_three]
  simp [ix2, ix3, S1x1024x2304, S1024x2304]

/-- The input weights the call reads: the argument's layer. -/
theorem w_apply (k : Fin 1024) (j : Fin 2304) : (V m c main_v1 : Vec Ideal S1024x2304 .bf16) (ix2 k j) = (m ((c : Thread nD τ).loc main_arg4) : Vec Ideal S1x1024x2304 .f32) (ix3 (0 : Fin 1) k j) := by
  have h : (V m c main_v1 : Vec Ideal S1024x2304 .bf16) = truncf .bf16 (shapeCast S1024x2304 (m ((c : Thread nD τ).loc main_arg4) : Vec Ideal S1x1024x2304 .f32) shapeCasts_S1x1024x2304_S1024x2304 : FVec Ideal S1024x2304 .f32) bitsLt_bf16_f32 := by
    unfold V hostOps0
    after_results_simp <;> rfl
  rw [h]
  exact layer_apply (m ((c : Thread nD τ).loc main_arg4) : Vec Ideal S1x1024x2304 .f32) k j

theorem flat_apply (x : Vec Ideal S1x1024 .f32) (d : Fin 1024) : shapeCast S1024 x shapeCasts_S1x1024_S1024 (ix1 d) = x (ix2 (0 : Fin 1) d) := by
  refine shapeCast_apply x _ _ _ ?_
  simp only [Shape.rowMajor_val_one, Shape.rowMajor_val_two]
  simp [ix1, ix2, S1024, S1x1024]

theorem gain_apply (d : Fin 1024) : (V m c main_v31 : Vec Ideal S1x1024 .f32) (ix2 (0 : Fin 1) d) = (m ((c : Thread nD τ).loc main_arg1) : Vec Ideal S1x1024 .f32) (ix2 (0 : Fin 1) d) := by
  have h : (V m c main_v31 : Vec Ideal S1x1024 .f32) = broadcastInDim S1x1024 ![1] bcast_S1024_S1x1024_1 (shapeCast S1024 (m ((c : Thread nD τ).loc main_arg1) : Vec Ideal S1x1024 .f32) shapeCasts_S1x1024_S1024) := by
    unfold V hostOps0
    after_results_simp <;> rfl
  rw [h]
  refine (broadcastInDim_apply _ bcast_S1024_S1x1024_1 (shapeCast S1024 (m ((c : Thread nD τ).loc main_arg1) : Vec Ideal S1x1024 .f32) shapeCasts_S1x1024_S1024) (ix2 (0 : Fin 1) d) (ix1 d) (fun a => match a with
    | ⟨0, _⟩ => rfl)).trans ?_
  exact flat_apply (m ((c : Thread nD τ).loc main_arg1) : Vec Ideal S1x1024 .f32) d

theorem shift_apply (b : Fin 2) (d : Fin 1024) : (V m c main_v32 : Vec Ideal S2x1x1024 .f32) (ix3 b (0 : Fin 1) d) = (m ((c : Thread nD τ).loc main_arg2) : Vec Ideal S2x1024 .f32) (ix2 b d) := by
  have h : (V m c main_v32 : Vec Ideal S2x1x1024 .f32) = broadcastInDim S2x1x1024 ![0, 2] bcast_S2x1024_S2x1x1024_0_2 (m ((c : Thread nD τ).loc main_arg2) : Vec Ideal S2x1024 .f32) := by
    unfold V hostOps0
    after_results_simp <;> rfl
  rw [h]
  exact broadcastInDim_apply _ bcast_S2x1024_S2x1x1024_0_2 (m ((c : Thread nD τ).loc main_arg2) : Vec Ideal S2x1024 .f32) (ix3 b (0 : Fin 1) d) (ix2 b d) (fun a => match a with
    | ⟨0, _⟩ => rfl
    | ⟨1, _⟩ => rfl)

theorem scale_apply (b : Fin 2) (d : Fin 1024) : (V m c main_v33 : Vec Ideal S2x1x1024 .f32) (ix3 b (0 : Fin 1) d) = (m ((c : Thread nD τ).loc main_arg3) : Vec Ideal S2x1024 .f32) (ix2 b d) := by
  have h : (V m c main_v33 : Vec Ideal S2x1x1024 .f32) = broadcastInDim S2x1x1024 ![0, 2] bcast_S2x1024_S2x1x1024_0_2 (m ((c : Thread nD τ).loc main_arg3) : Vec Ideal S2x1024 .f32) := by
    unfold V hostOps0
    after_results_simp <;> rfl
  rw [h]
  exact broadcastInDim_apply _ bcast_S2x1024_S2x1x1024_0_2 (m ((c : Thread nD τ).loc main_arg3) : Vec Ideal S2x1024 .f32) (ix3 b (0 : Fin 1) d) (ix2 b d) (fun a => match a with
    | ⟨0, _⟩ => rfl
    | ⟨1, _⟩ => rfl)

end Cert.Kernel4Ideal.Inp

end
-- ==== Proof.InReal.lean ====
module

public import proofs.«01_k».proof.Proof.OutReal

/-! The normalization of a head and its turning by the position's angles -/

@[expose] public section

noncomputable section

namespace Cert.Inp

open Idealize.ShloMosaic
open Cert.Softmax Cert.Out

/-- The width of a head, 64. -/
abbrev wide : EReal := Ideal.ofBits .f32 0x42800000#32
/-- Its inverse, as the kernel's table holds it. -/
abbrev inv64 : EReal := Ideal.ofBits .f32 0x3C800000#32

theorem wide_eq : wide = ((64 : ℝ) : EReal) := by
  show Ideal.ieee 8 23 (0x42800000#32) = _
  unfold Ideal.ieee
  dsimp only
  rw [if_neg (by decide), if_neg (by decide), show ((0x42800000#32).extractLsb' 23 8).toNat = 133 by decide, show ((0x42800000#32).extractLsb' 0 23).toNat = 0 by decide, if_neg (by decide)]
  refine congrArg _ ?_
  norm_num

theorem inv64_eq : inv64 = ((1 / 64 : ℝ) : EReal) := by
  show Ideal.ieee 8 23 (0x3C800000#32) = _
  unfold Ideal.ieee
  dsimp only
  rw [if_neg (by decide), if_neg (by decide), show ((0x3C800000#32).extractLsb' 23 8).toNat = 121 by decide, show ((0x3C800000#32).extractLsb' 0 23).toNat = 0 by decide, if_neg (by decide)]
  refine congrArg _ ?_
  norm_num

/-- The mean square of a head. -/
def hms (f : Fin 64 → EReal) : EReal := Ideal.div (∑ k : Fin 64, f k * f k) wide

/-- The head normalized, with its gain. -/
def hnrm (f g : Fin 64 → EReal) (e : Fin 64) : EReal := f e * Ideal.rsqrt (hms f + tiny) * g e

/-- The head turned: in each half of 32 the first 16 against the last 16. -/
def rot (t : Fin 64 → EReal) (c s : Fin 2 → Fin 16 → EReal) (e : Fin 64) : EReal :=
  if h : e.val % 32 < 16 then
    t e * c ⟨e.val / 32, by omega⟩ ⟨e.val % 16, by omega⟩ - t ⟨e.val + 16, by omega⟩ * s ⟨e.val / 32, by omega⟩ ⟨e.val % 16, by omega⟩
  else
    t ⟨e.val - 16, by omega⟩ * s ⟨e.val / 32, by omega⟩ ⟨e.val % 16, by omega⟩ + t e * c ⟨e.val / 32, by omega⟩ ⟨e.val % 16, by omega⟩

/-- The factor of the queries. -/
abbrev qs : EReal := Ideal.ofBits .f32 0x3E38AA3B#32

/-- The queries from a projected row. -/
def rowQ (P : Fin 2304 → EReal) (gain : Fin 64 → EReal) (c s : Fin 2 → Fin 16 → EReal) (j : Fin 512) : EReal :=
  rot (hnrm (fun e : Fin 64 => P ⟨64 * (j.val / 64) + e.val, by omega⟩) gain) c s ⟨j.val % 64, by omega⟩ * qs

/-- The keys from a projected row. -/
def rowK (P : Fin 2304 → EReal) (gain : Fin 64 → EReal) (c s : Fin 2 → Fin 16 → EReal) (h : Fin 2) (e : Fin 64) : EReal :=
  rot (hnrm (fun e : Fin 64 => P ⟨512 + 64 * h.val + e.val, by omega⟩) gain) c s e

theorem block_sum (f : Fin 256 → ℝ) (l : Fin 256) :
    (∑ k : Fin 256, f k * f k * (if k.val / 64 = l.val / 64 then (1 / 64 : ℝ) else 0)) = (∑ j : Fin 64, f ⟨64 * (l.val / 64) + j.val, by omega⟩ * f ⟨64 * (l.val / 64) + j.val, by omega⟩) * (64 : ℝ)⁻¹ := by
  rw [← Equiv.sum_comp (finProdFinEquiv (m := 4) (n := 64)) (fun k : Fin 256 => f k * f k * (if k.val / 64 = l.val / 64 then (1 / 64 : ℝ) else 0)), Fintype.sum_prod_type,
    Finset.sum_eq_single (⟨l.val / 64, by omega⟩ : Fin 4)]
  · rw [Finset.sum_mul]
    refine Finset.sum_congr rfl fun j _ => ?_
    have e : (finProdFinEquiv ((⟨l.val / 64, by omega⟩ : Fin 4), j) : Fin 256) = ⟨64 * (l.val / 64) + j.val, by omega⟩ := Fin.ext (by
      show j.val + 64 * (l.val / 64) = 64 * (l.val / 64) + j.val
      exact Nat.add_comm _ _)
    rw [e]
    have c : (64 * (l.val / 64) + j.val) / 64 = l.val / 64 := by omega
    show _ * _ * (if (64 * (l.val / 64) + j.val) / 64 = l.val / 64 then (1 / 64 : ℝ) else 0) = _
    rw [if_pos c]
    norm_num
  · intro a _ ha
    refine Finset.sum_eq_zero fun j _ => ?_
    have e : (finProdFinEquiv (a, j) : Fin 256).val = j.val + 64 * a.val := rfl
    rw [e, if_neg (by
      intro h
      refine ha (Fin.ext ?_)
      show a.val = l.val / 64
      omega), mul_zero]
  · intro h
    exact absurd (Finset.mem_univ _) h

/-- The sums of the squares against the block diagonal table, with what the rounding leaves, are the mean squares. -/
theorem head_mean {t : Fin 256 → EReal} (ht : ∀ k, IsReal (t k)) (l : Fin 256) :
    (∑ k : Fin 256, t k * t k * (if k.val / 64 = l.val / 64 then inv64 else 0)) + (∑ k : Fin 256, (t k * t k - t k * t k) * (if k.val / 64 = l.val / 64 then inv64 else 0))
      = hms (fun j : Fin 64 => t ⟨64 * (l.val / 64) + j.val, by omega⟩) := by
  have e2 : (∑ k : Fin 256, (t k * t k - t k * t k) * (if k.val / 64 = l.val / 64 then inv64 else 0)) = 0 := Finset.sum_eq_zero fun k _ => by
    rw [sub_self_real ((ht k).mul (ht k)), zero_mul]
  rw [e2, add_zero]
  choose f hf using ht
  have e1 : ∀ k : Fin 256, t k * t k * (if k.val / 64 = l.val / 64 then inv64 else 0) = ((f k * f k * (if k.val / 64 = l.val / 64 then (1 / 64 : ℝ) else 0) : ℝ) : EReal) := fun k => by
    rw [hf k, inv64_eq]
    split_ifs
    · push_cast; rfl
    · simp
  rw [Finset.sum_congr rfl fun k _ => e1 k, ← coe_sum, block_sum]
  unfold hms
  have e3 : (∑ j : Fin 64, t ⟨64 * (l.val / 64) + j.val, by omega⟩ * t ⟨64 * (l.val / 64) + j.val, by omega⟩) = ((∑ j : Fin 64, f ⟨64 * (l.val / 64) + j.val, by omega⟩ * f ⟨64 * (l.val / 64) + j.val, by omega⟩ : ℝ) : EReal) := by
    rw [coe_sum]
    exact Finset.sum_congr rfl fun j _ => by rw [hf]; push_cast; rfl
  rw [e3, wide_eq]
  unfold Ideal.div
  rw [if_neg (by norm_num), ← EReal.coe_inv, ← EReal.coe_mul]

/-- The kernel's turning of two heads side by side, lane by lane, is the turning of each. -/
theorem lane_rot (u : Fin 128 → EReal) (t : Fin 64 → EReal) (c s : Fin 2 → Fin 16 → EReal) (L : Fin 128)
    (hu : ∀ j : Fin 64, u ⟨64 * (L.val / 64) + j.val, by omega⟩ = t j) (C S : EReal)
    (hC : C = c ⟨L.val % 64 / 32, by omega⟩ ⟨L.val % 16, by omega⟩)
    (hS : S = if L.val % 32 < 16 then - s ⟨L.val % 64 / 32, by omega⟩ ⟨L.val % 16, by omega⟩ else s ⟨L.val % 64 / 32, by omega⟩ ⟨L.val % 16, by omega⟩) :
    u L * C + (if L.val % 32 < 16 then u ⟨(L.val + 16) % 128, by omega⟩ else u ⟨(L.val + 112) % 128, by omega⟩) * S = rot t c s ⟨L.val % 64, by omega⟩ := by
  have e0 : u L = t ⟨L.val % 64, by omega⟩ := by
    rw [← hu]; exact congrArg u (Fin.ext (by show L.val = 64 * (L.val / 64) + L.val % 64; omega))
  have a1 : (⟨L.val % 64 % 16, by omega⟩ : Fin 16) = ⟨L.val % 16, by omega⟩ := Fin.ext (by show L.val % 64 % 16 = L.val % 16; omega)
  unfold rot
  by_cases h : L.val % 32 < 16
  · have h' : L.val % 64 % 32 < 16 := by omega
    have e1 : u ⟨(L.val + 16) % 128, by omega⟩ = t ⟨L.val % 64 + 16, by omega⟩ := by
      rw [← hu]; exact congrArg u (Fin.ext (by show (L.val + 16) % 128 = 64 * (L.val / 64) + (L.val % 64 + 16); omega))
    rw [dif_pos h', if_pos h, hS, if_pos h, e0, e1, hC, a1, mul_neg, ← sub_eq_add_neg]
  · have h' : ¬ L.val % 64 % 32 < 16 := by omega
    have e1 : u ⟨(L.val + 112) % 128, by omega⟩ = t ⟨L.val % 64 - 16, by omega⟩ := by
      rw [← hu]; exact congrArg u (Fin.ext (by show (L.val + 112) % 128 = 64 * (L.val / 64) + (L.val % 64 - 16); omega))
    rw [dif_neg h', if_neg h, hS, if_neg h, e0, e1, hC, a1, add_comm]

end Cert.Inp

end
-- ==== Proof.InHead.lean ====
module

public import proofs.«01_k».proof.Proof.InTile
public import proofs.«01_k».proof.Proof.InReal
public import Idealize.ShloMosaic.Lib.KernelVsHost

/-! The input projection's queries and keys in a block, over the extended reals -/

@[expose] public section

set_option maxRecDepth 16384

noncomputable section

namespace Cert.Kernel4Ideal.Inp

open Cert.Kernel4Ideal Cert.Kernel4Ideal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open Cert.Softmax Cert.Out Cert.Inp

/-! ## The turning -/

/-- Two heads side by side turned by the tables. -/
def turn (u C S : FVec Ideal S512x128 .f32) : FVec Ideal S512x128 .f32 :=
  addf (mulf u C) (mulf (select (cmpi .slt (andi (iota .tc S512x128 32 [1] iota_S512x128_d1_w32) (broadcast S512x128 31#32)) (broadcast S512x128 16#32)) (dynamicRotate 1 112#32 none u rotates_S512x128_d1) (dynamicRotate 1 16#32 none u rotates_S512x128_d1)) S)

theorem mask_word : ∀ L : Fin 128, IntOp.cmpi .slt (IntOp.andi (BitVec.ofNat 32 L.val) 31#32) 16#32 = if L.val % 32 < 16 then 1 else 0 := by decide

theorem rotate_up (u : FVec Ideal S512x128 .f32) (r : Fin 512) (L : Fin 128) : dynamicRotate 1 112#32 none u rotates_S512x128_d1 (ix2 r L) = u (ix2 r (⟨(L.val + 16) % 128, by omega⟩ : Fin 128)) :=
  dynamicRotate_apply (s := S512x128) 1 112#32 u rotates_S512x128_d1 (ix2 r L) _ (fun b => match b with
    | ⟨0, _⟩ => rfl
    | ⟨1, _⟩ => by show (L.val + 16) % 128 = (L.val + 128 - 112 % 128) % 128; omega)

theorem rotate_down (u : FVec Ideal S512x128 .f32) (r : Fin 512) (L : Fin 128) : dynamicRotate 1 16#32 none u rotates_S512x128_d1 (ix2 r L) = u (ix2 r (⟨(L.val + 112) % 128, by omega⟩ : Fin 128)) :=
  dynamicRotate_apply (s := S512x128) 1 16#32 u rotates_S512x128_d1 (ix2 r L) _ (fun b => match b with
    | ⟨0, _⟩ => rfl
    | ⟨1, _⟩ => by show (L.val + 112) % 128 = (L.val + 128 - 16 % 128) % 128; omega)

theorem turn_apply (u C S : FVec Ideal S512x128 .f32) (r : Fin 512) (L : Fin 128) :
    turn u C S (ix2 r L) = u (ix2 r L) * C (ix2 r L) + (if L.val % 32 < 16 then u (ix2 r (⟨(L.val + 16) % 128, by omega⟩ : Fin 128)) else u (ix2 r (⟨(L.val + 112) % 128, by omega⟩ : Fin 128))) * S (ix2 r L) := by
  unfold turn
  rw [addf_apply, mulf_apply, mulf_apply]
  refine congrArg (fun y : EReal => u (ix2 r L) * C (ix2 r L) + y * S (ix2 r L)) ?_
  show Scalar.select (IntOp.cmpi .slt (IntOp.andi (iota .tc S512x128 32 [1] iota_S512x128_d1_w32 (ix2 r L)) 31#32) 16#32) (dynamicRotate 1 112#32 none u rotates_S512x128_d1 (ix2 r L)) (dynamicRotate 1 16#32 none u rotates_S512x128_d1 (ix2 r L)) = _
  rw [iota_single_apply, rotate_up, rotate_down]
  show Scalar.select (IntOp.cmpi .slt (IntOp.andi (BitVec.ofNat 32 L.val) 31#32) 16#32) _ _ = _
  rw [mask_word]
  unfold Scalar.select
  by_cases h : L.val % 32 < 16
  · rw [if_pos h, if_pos rfl, if_pos h]
  · rw [if_neg h, if_neg (by decide), if_neg h]

/-! ## The mean squares -/

theorem dot2_apply (x : FVec Ideal S512x256 .bf16) (w : FVec Ideal S256x256 .bf16) (r : Fin 512) (j : Fin 256) :
    matmul (F := Ideal) dot_S512x256_S256x256_S512x256_1_0_0_1_n_n none x w (constant S512x256 .f32 0x00000000#32) (ix2 r j)
      = ∑ k : Fin 256, x (ix2 r k) * w (ix2 k j) := by
  refine (Ideal.matmul_plain_apply (M := 512) (K := 256) (N := 256) none x w _ r j).trans ?_
  rw [constant_apply, Ideal.ofBits_zero_f32, zero_add]

/-- The squares summed against the table. -/
def means (t : FVec Ideal S512x256 .f32) (bd : FVec Ideal S256x256 .bf16) : FVec Ideal S512x256 .f32 :=
  addf (matmul dot_S512x256_S256x256_S512x256_1_0_0_1_n_n none (truncf .bf16 (mulf t t) bitsLt_bf16_f32) bd (constant S512x256 .f32 0x00000000#32))
    (matmul dot_S512x256_S256x256_S512x256_1_0_0_1_n_n none (truncf .bf16 (subf (mulf t t) (extf .f32 (truncf .bf16 (mulf t t) bitsLt_bf16_f32 : FVec Ideal S512x256 .bf16) bitsLt_bf16_f32)) bitsLt_bf16_f32) bd (constant S512x256 .f32 0x00000000#32))

/-- A table with 1/64 in the diagonal blocks of 64 and nothing elsewhere. -/
def Diag (bd : Vec Ideal S256x256 .bf16) : Prop := ∀ k l : Fin 256, bd (ix2 k l) = if k.val / 64 = l.val / 64 then inv64 else 0

theorem means_apply (t : FVec Ideal S512x256 .f32) (bd : FVec Ideal S256x256 .bf16) (hb : Diag bd) (r : Fin 512) (ht : ∀ k : Fin 256, IsReal (t (ix2 r k))) (l : Fin 256) :
    means t bd (ix2 r l) = hms (fun j : Fin 64 => t (ix2 r (⟨64 * (l.val / 64) + j.val, by omega⟩ : Fin 256))) := by
  unfold means
  rw [addf_apply, dot2_apply, dot2_apply]
  refine Eq.trans ?_ (head_mean (t := fun k : Fin 256 => t (ix2 r k)) ht l)
  refine congrArg₂ (fun p q : EReal => p + q) (Finset.sum_congr rfl fun k _ => ?_) (Finset.sum_congr rfl fun k _ => ?_)
  · exact congrArg (fun y : EReal => t (ix2 r k) * t (ix2 r k) * y) (hb k l)
  · exact congrArg (fun y : EReal => (t (ix2 r k) * t (ix2 r k) - t (ix2 r k) * t (ix2 r k)) * y) (hb k l)

/-! ## Two heads of a block -/

/-- Two heads normalized. -/
def heads (u ms : FVec Ideal S512x128 .f32) (g : Vec Ideal S1x128 .f32) : FVec Ideal S512x128 .f32 :=
  mulf (mulf u (rsqrt (addf ms (broadcast S512x128 (Scalar.ofBits (F := Ideal) .f32 0x358637BD#32))))) (broadcastTo S512x128 (shapeCast S1x128 g shapeCasts_S1x128_S1x128) broadcasts_S1x128_S512x128)

theorem heads_apply (u ms : FVec Ideal S512x128 .f32) (g : Vec Ideal S1x128 .f32) (r : Fin 512) (L : Fin 128) :
    heads u ms g (ix2 r L) = u (ix2 r L) * Ideal.rsqrt (ms (ix2 r L) + tiny) * g (ix2 (0 : Fin 1) L) := by
  unfold heads
  rw [mulf_apply, mulf_apply]
  refine congrArg (fun y : EReal => u (ix2 r L) * Ideal.rsqrt (ms (ix2 r L) + tiny) * y) ?_
  refine (broadcastTo_1b_ab_apply _ broadcasts_S1x128_S512x128 r L).trans ?_
  exact same_apply g _ _

/-- The tables a block reads: gains, cosines, signed sines. -/
structure Tabs (g : Vec Ideal S1x128 .f32) (C S : Vec Ideal S512x128 .f32) (r : Fin 512) (gain : Fin 64 → EReal) (c s : Fin 2 → Fin 16 → EReal) : Prop where
  gain : ∀ L : Fin 128, g (ix2 (0 : Fin 1) L) = gain ⟨L.val % 64, by omega⟩
  cos : ∀ L : Fin 128, C (ix2 r L) = c ⟨L.val % 64 / 32, by omega⟩ ⟨L.val % 16, by omega⟩
  sin : ∀ L : Fin 128, S (ix2 r L) = if L.val % 32 < 16 then - s ⟨L.val % 64 / 32, by omega⟩ ⟨L.val % 16, by omega⟩ else s ⟨L.val % 64 / 32, by omega⟩ ⟨L.val % 16, by omega⟩

theorem pair_apply (u ms : FVec Ideal S512x128 .f32) (g : Vec Ideal S1x128 .f32) (C S : Vec Ideal S512x128 .f32) (r : Fin 512) (gain : Fin 64 → EReal) (c s : Fin 2 → Fin 16 → EReal) (T : Tabs g C S r gain c s)
    (L : Fin 128) (f : Fin 64 → EReal) (hu : ∀ j : Fin 64, u (ix2 r (⟨64 * (L.val / 64) + j.val, by omega⟩ : Fin 128)) = f j)
    (hm : ∀ j : Fin 64, ms (ix2 r (⟨64 * (L.val / 64) + j.val, by omega⟩ : Fin 128)) = hms f) :
    turn (heads u ms g) (shapeCast S512x128 C shapeCasts_S512x128_S512x128) (shapeCast S512x128 S shapeCasts_S512x128_S512x128) (ix2 r L) = rot (hnrm f gain) c s ⟨L.val % 64, by omega⟩ := by
  rw [turn_apply]
  refine lane_rot (fun L => heads u ms g (ix2 r L)) (hnrm f gain) c s L (fun j => ?_) _ _ ((same_apply C _ _).trans (T.cos L)) ((same_apply S _ _).trans (T.sin L))
  show heads u ms g (ix2 r (⟨64 * (L.val / 64) + j.val, by omega⟩ : Fin 128)) = _
  rw [heads_apply, hu, hm, T.gain]
  unfold hnrm
  refine congrArg (fun y : EReal => f j * Ideal.rsqrt (hms f + tiny) * y) (congrArg gain (Fin.ext ?_))
  show (64 * (L.val / 64) + j.val) % 64 = j.val
  omega

/-! ## Slices of the projected rows -/

/-- Two heads from the columns `o` on, their mean squares the columns `p` on of those of the 256 columns from `a` on. -/
theorem part_apply (P : FVec Ideal S512x2304 .f32) (bd : FVec Ideal S256x256 .bf16) (hb : Diag bd) (r : Fin 512) (hP : ∀ k : Fin 2304, IsReal (P (ix2 r k)))
    (a p : ℕ) (hp : p = 0 ∨ p = 128) (ha : a + 256 ≤ 2304)
    (h1 : S512x2304.Slices ![0, a + p] S512x128) (h2 : S512x2304.Slices ![0, a] S512x256) (h3 : S512x256.Slices ![0, p] S512x128)
    (g : Vec Ideal S1x128 .f32) (C S : Vec Ideal S512x128 .f32) (gain : Fin 64 → EReal) (c s : Fin 2 → Fin 16 → EReal) (T : Tabs g C S r gain c s) (L : Fin 128) :
    turn (heads (extractStridedSlice S512x128 ![0, a + p] P h1) (extractStridedSlice S512x128 ![0, p] (means (extractStridedSlice S512x256 ![0, a] P h2) bd) h3) g) (shapeCast S512x128 C shapeCasts_S512x128_S512x128) (shapeCast S512x128 S shapeCasts_S512x128_S512x128) (ix2 r L)
      = rot (hnrm (fun j : Fin 64 => P (ix2 r (⟨a + p + 64 * (L.val / 64) + j.val, by omega⟩ : Fin 2304))) gain) c s ⟨L.val % 64, by omega⟩ := by
  have s2 : ∀ k : Fin 256, extractStridedSlice S512x256 ![0, a] P h2 (ix2 r k) = P (ix2 r (⟨a + k.val, by omega⟩ : Fin 2304)) := fun k =>
    extractStridedSlice_apply ![0, a] P h2 (ix2 r k) _ (fun ax => match ax with
      | ⟨0, _⟩ => by show r.val = 0 + r.val; omega
      | ⟨1, _⟩ => rfl)
  refine pair_apply _ _ g C S r gain c s T L _ (fun j => ?_) (fun j => ?_)
  · refine (extractStridedSlice_apply ![0, a + p] P h1 _ (ix2 r (⟨a + p + 64 * (L.val / 64) + j.val, by omega⟩ : Fin 2304)) (fun ax => match ax with
      | ⟨0, _⟩ => by show r.val = 0 + r.val; omega
      | ⟨1, _⟩ => by show a + p + 64 * (L.val / 64) + j.val = a + p + (64 * (L.val / 64) + j.val); omega))
  · refine (extractStridedSlice_apply ![0, p] _ h3 _ (ix2 r (⟨p + (64 * (L.val / 64) + j.val), by omega⟩ : Fin 256)) (fun ax => match ax with
      | ⟨0, _⟩ => by show r.val = 0 + r.val; omega
      | ⟨1, _⟩ => rfl)).trans ?_
    rw [means_apply _ bd hb r (fun k => by rw [s2]; exact hP _)]
    refine congrArg hms (funext fun i => (s2 _).trans (congrArg P (congrArg (ix2 r) (Fin.ext ?_))))
    show a + (64 * ((p + (64 * (L.val / 64) + j.val)) / 64) + i.val) = a + p + 64 * (L.val / 64) + i.val
    omega

end Cert.Kernel4Ideal.Inp

end
-- ==== Proof.InHeads.lean ====
module

public import proofs.«01_k».proof.Proof.InHead

/-! The blocks left for the queries and for the keys -/

@[expose] public section

set_option maxRecDepth 16384

noncomputable section

namespace Cert.Kernel4Ideal.Inp

open Cert.Kernel4Ideal Cert.Kernel4Ideal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open Cert.Softmax Cert.Out Cert.Inp

/-- Two heads of queries scaled, as a block. -/
def last (x : FVec Ideal S512x128 .f32) : FVec Ideal S1x512x128 .bf16 :=
  shapeCast S1x512x128 (truncf .bf16 (mulf x (broadcast S512x128 (Scalar.ofBits (F := Ideal) .f32 0x3E38AA3B#32))) bitsLt_bf16_f32 : FVec Ideal S512x128 .bf16) shapeCasts_S512x128_S1x512x128

theorem last_apply (x : FVec Ideal S512x128 .f32) (r : Fin 512) (L : Fin 128) : last x (ix3 (0 : Fin 1) r L) = x (ix2 r L) * qs := by
  unfold last
  refine (shapeCast_apply _ shapeCasts_S512x128_S1x512x128 (ix3 (0 : Fin 1) r L) (ix2 r L) ?_).trans rfl
  simp only [Shape.rowMajor_val_two, Shape.rowMajor_val_three]
  simp [ix2, ix3, S1x512x128, S512x128]

section
variable (P : FVec Ideal S512x2304 .f32) (bd : Vec Ideal S256x256 .bf16) (g : Vec Ideal S1x128 .f32) (C S : Vec Ideal S512x128 .f32) (hb : Diag bd) (r : Fin 512) (hP : ∀ k : Fin 2304, IsReal (P (ix2 r k)))
  (gain : Fin 64 → EReal) (c s : Fin 2 → Fin 16 → EReal) (T : Tabs g C S r gain c s) (L : Fin 128)
include hb hP T

theorem rowQ_of (o : ℕ) (ho : o + 128 ≤ 512) (h64 : o % 64 = 0) (j : Fin 512) (hj : j.val = o + L.val) :
    rot (hnrm (fun e : Fin 64 => P (ix2 r (⟨o + 64 * (L.val / 64) + e.val, by omega⟩ : Fin 2304))) gain) c s ⟨L.val % 64, by omega⟩ * qs = rowQ (fun k => P (ix2 r k)) gain c s j := by
  unfold rowQ
  have e1 : (fun e : Fin 64 => P (ix2 r (⟨o + 64 * (L.val / 64) + e.val, by omega⟩ : Fin 2304))) = fun e : Fin 64 => P (ix2 r (⟨64 * (j.val / 64) + e.val, by omega⟩ : Fin 2304)) :=
    funext fun e => congrArg (fun k : Fin 2304 => P (ix2 r k)) (Fin.ext (by show o + 64 * (L.val / 64) + e.val = 64 * (j.val / 64) + e.val; omega))
  have e2 : (⟨L.val % 64, by omega⟩ : Fin 64) = ⟨j.val % 64, by omega⟩ := Fin.ext (by show L.val % 64 = j.val % 64; omega)
  rw [e1, e2]

theorem q0_apply (j : Fin 512) (hj : j.val = 0 + L.val) : k0_pay8 (F := Ideal) P bd (k0_pay5 C) S g (ix3 (0 : Fin 1) r L) = rowQ (fun k => P (ix2 r k)) gain c s j := by
  refine Eq.trans ?_ (rowQ_of P bd g C S hb r hP gain c s T L 0 (by omega) (by omega) j hj)
  have h : k0_pay8 (F := Ideal) P bd (k0_pay5 C) S g = last (turn (heads (extractStridedSlice S512x128 ![0, 0] P slices_S512x2304_o0_0_S512x128) (extractStridedSlice S512x128 ![0, 0] (means (extractStridedSlice S512x256 ![0, 0] P slices_S512x2304_o0_0_S512x256) bd) slices_S512x256_o0_0_S512x128) g) (shapeCast S512x128 C shapeCasts_S512x128_S512x128) (shapeCast S512x128 S shapeCasts_S512x128_S512x128)) := by
    unfold k0_pay8 k0_pay7 last turn heads means
    rfl
  rw [h, last_apply]
  exact congrArg (fun y : EReal => y * qs) (part_apply P bd hb r hP 0 0 (.inl rfl) (by omega) slices_S512x2304_o0_0_S512x128 slices_S512x2304_o0_0_S512x256 slices_S512x256_o0_0_S512x128 g C S gain c s T L)

theorem q1_apply (j : Fin 512) (hj : j.val = 128 + L.val) : k0_pay12 (F := Ideal) (k0_pay5 C) (k0_pay6 S) (k0_pay9 P) (k0_pay10 g) (k0_pay11 P bd) (ix3 (0 : Fin 1) r L) = rowQ (fun k => P (ix2 r k)) gain c s j := by
  refine Eq.trans ?_ (rowQ_of P bd g C S hb r hP gain c s T L 128 (by omega) (by omega) j hj)
  have h : k0_pay12 (F := Ideal) (k0_pay5 C) (k0_pay6 S) (k0_pay9 P) (k0_pay10 g) (k0_pay11 P bd) = last (turn (heads (extractStridedSlice S512x128 ![0, 128] P slices_S512x2304_o0_128_S512x128) (extractStridedSlice S512x128 ![0, 128] (means (extractStridedSlice S512x256 ![0, 0] P slices_S512x2304_o0_0_S512x256) bd) slices_S512x256_o0_128_S512x128) g) (shapeCast S512x128 C shapeCasts_S512x128_S512x128) (shapeCast S512x128 S shapeCasts_S512x128_S512x128)) := by
    unfold k0_pay12 k0_pay11 k0_pay10 k0_pay9 k0_pay7 last turn heads means
    rfl
  rw [h, last_apply]
  exact congrArg (fun y : EReal => y * qs) (part_apply P bd hb r hP 0 128 (.inr rfl) (by omega) slices_S512x2304_o0_128_S512x128 slices_S512x2304_o0_0_S512x256 slices_S512x256_o0_128_S512x128 g C S gain c s T L)

theorem q2_apply (j : Fin 512) (hj : j.val = 256 + L.val) : k0_pay17 (F := Ideal) (k0_pay5 C) (k0_pay6 S) (k0_pay14 P bd g) k0_pay15 k0_pay16 (ix3 (0 : Fin 1) r L) = rowQ (fun k => P (ix2 r k)) gain c s j := by
  refine Eq.trans ?_ (rowQ_of P bd g C S hb r hP gain c s T L 256 (by omega) (by omega) j hj)
  have h : k0_pay17 (F := Ideal) (k0_pay5 C) (k0_pay6 S) (k0_pay14 P bd g) k0_pay15 k0_pay16 = last (turn (heads (extractStridedSlice S512x128 ![0, 256] P slices_S512x2304_o0_256_S512x128) (extractStridedSlice S512x128 ![0, 0] (means (extractStridedSlice S512x256 ![0, 256] P slices_S512x2304_o0_256_S512x256) bd) slices_S512x256_o0_0_S512x128) g) (shapeCast S512x128 C shapeCasts_S512x128_S512x128) (shapeCast S512x128 S shapeCasts_S512x128_S512x128)) := by
    unfold k0_pay17 k0_pay16 k0_pay15 k0_pay14 k0_pay13 last turn heads means
    rfl
  rw [h, last_apply]
  exact congrArg (fun y : EReal => y * qs) (part_apply P bd hb r hP 256 0 (.inl rfl) (by omega) slices_S512x2304_o0_256_S512x128 slices_S512x2304_o0_256_S512x256 slices_S512x256_o0_0_S512x128 g C S gain c s T L)

theorem q3_apply (j : Fin 512) (hj : j.val = 384 + L.val) : k0_pay18 (F := Ideal) P (k0_pay5 C) (k0_pay6 S) (k0_pay13 P bd) g (ix3 (0 : Fin 1) r L) = rowQ (fun k => P (ix2 r k)) gain c s j := by
  refine Eq.trans ?_ (rowQ_of P bd g C S hb r hP gain c s T L 384 (by omega) (by omega) j hj)
  have h : k0_pay18 (F := Ideal) P (k0_pay5 C) (k0_pay6 S) (k0_pay13 P bd) g = last (turn (heads (extractStridedSlice S512x128 ![0, 384] P slices_S512x2304_o0_384_S512x128) (extractStridedSlice S512x128 ![0, 128] (means (extractStridedSlice S512x256 ![0, 256] P slices_S512x2304_o0_256_S512x256) bd) slices_S512x256_o0_128_S512x128) g) (shapeCast S512x128 C shapeCasts_S512x128_S512x128) (shapeCast S512x128 S shapeCasts_S512x128_S512x128)) := by
    unfold k0_pay18 k0_pay13 last turn heads means
    rfl
  rw [h, last_apply]
  exact congrArg (fun y : EReal => y * qs) (part_apply P bd hb r hP 256 128 (.inr rfl) (by omega) slices_S512x2304_o0_384_S512x128 slices_S512x2304_o0_256_S512x256 slices_S512x256_o0_128_S512x128 g C S gain c s T L)

theorem k_apply (h : Fin 2) (e : Fin 64) (hL : L.val = h.val * 64 + e.val) : k0_pay20 (F := Ideal) P bd (k0_pay5 C) (k0_pay6 S) (k0_pay19 P) g (ix2 r L) = rowK (fun k => P (ix2 r k)) gain c s h e := by
  refine (part_apply P bd hb r hP 512 0 (.inl rfl) (by omega) slices_S512x2304_o0_512_S512x128 slices_S512x2304_o0_512_S512x256 slices_S512x256_o0_0_S512x128 g C S gain c s T L).trans ?_
  unfold rowK
  have e1 : (fun j : Fin 64 => P (ix2 r (⟨512 + 0 + 64 * (L.val / 64) + j.val, by omega⟩ : Fin 2304))) = fun j : Fin 64 => P (ix2 r (⟨512 + 64 * h.val + j.val, by omega⟩ : Fin 2304)) :=
    funext fun j => congrArg (fun k : Fin 2304 => P (ix2 r k)) (Fin.ext (by show 512 + 0 + 64 * (L.val / 64) + j.val = 512 + 64 * h.val + j.val; omega))
  have e2 : (⟨L.val % 64, by omega⟩ : Fin 64) = e := Fin.ext (by show L.val % 64 = e.val; omega)
  rw [e1, e2]

end

/-! ## The blocks -/

variable (x0 : Vec Ideal S1x512x1024 .f32) (x1 : Vec Ideal S1x1024 .f32) (x2 x3 : Vec Ideal S1x1x1024 .f32) (x4 : Vec Ideal S1024x2304 .bf16) (x5 x6 : Vec Ideal S1x128 .f32) (x7 : Vec Ideal S256x256 .bf16) (x8 x9 : Vec Ideal S512x128 .f32)

theorem pay25_eq : k0_pay25 (F := Ideal) x0 x1 x2 x3 x4 x5 x6 x7 x8 x9 = k0_pay5 x8 := by
  unfold k0_pay25
  rw [View.ld_unit_zero (S := S512x128) zeros2]

theorem pay26_eq : k0_pay26 (F := Ideal) x0 x1 x2 x3 x4 x5 x6 x7 x8 x9 = k0_pay6 x9 := by
  unfold k0_pay26
  rw [View.ld_unit_zero (S := S512x128) zeros2]

theorem pay27_eq : k0_pay27 (F := Ideal) x0 x1 x2 x3 x4 x5 x6 x7 x8 x9 = k0_pay19 (k0_pay4 x0 x1 x2 x3 x4) := by
  unfold k0_pay27
  rw [pay24_eq]

section
variable (hb : Diag x7) (hP : ∀ (r : Fin 512) (k : Fin 2304), IsReal (projB x0 x1 x2 x3 x4 r k)) (gain : Fin 64 → EReal) (c s : Fin 512 → Fin 2 → Fin 16 → EReal)
include hb hP

theorem out11_apply (T : ∀ r, Tabs x6 x8 x9 r gain (c r) (s r)) (h : Fin 2) (r : Fin 512) (e : Fin 64) :
    out0_11 (F := Ideal) x0 x1 x2 x3 x4 x5 x6 x7 x8 x9 (ix4 (0 : Fin 1) h r e) = rowK (projB x0 x1 x2 x3 x4 r) gain (c r) (s r) h e := by
  unfold out0_11
  rw [pay24_eq, pay25_eq, pay26_eq, pay27_eq, View.ld_unit_zero (S := S1x128) zeros2, View.ld_unit_zero (S := S256x256) zeros2, Value.canon11_eq]
  have hP' : ∀ k : Fin 2304, IsReal (k0_pay4 (F := Ideal) x0 x1 x2 x3 x4 (ix2 r k)) := fun k => by rw [pay4_apply]; exact hP r k
  have hf : (fun k : Fin 2304 => k0_pay4 (F := Ideal) x0 x1 x2 x3 x4 (ix2 r k)) = projB x0 x1 x2 x3 x4 r := funext fun k => pay4_apply x0 x1 x2 x3 x4 r k
  rw [← hf]
  refine Eq.trans ?_ (k_apply (k0_pay4 x0 x1 x2 x3 x4) x7 x6 x8 x9 hb r hP' gain (c r) (s r) (T r) ⟨h.val * 64 + e.val, by omega⟩ h e rfl)
  show k0_pay20 (F := Ideal) (k0_pay4 x0 x1 x2 x3 x4) x7 (k0_pay5 x8) (k0_pay6 x9) (k0_pay19 (k0_pay4 x0 x1 x2 x3 x4)) x6 (Value.ix11_0 (ix4 (0 : Fin 1) h r e)) = _
  exact congrArg (k0_pay20 (F := Ideal) (k0_pay4 x0 x1 x2 x3 x4) x7 (k0_pay5 x8) (k0_pay6 x9) (k0_pay19 (k0_pay4 x0 x1 x2 x3 x4)) x6) (funext fun a => match a with
    | ⟨0, _⟩ => rfl
    | ⟨1, _⟩ => rfl)

/-- The block of queries, entry by entry. -/
def blockQ (gain : Fin 64 → EReal) (c s : Fin 512 → Fin 2 → Fin 16 → EReal) : Vec Ideal S1x512x512 .bf16 := fun y => rowQ (projB x0 x1 x2 x3 x4 (y 1)) gain (c (y 1)) (s (y 1)) (y 2)

theorem out10_apply (T : ∀ r, Tabs x5 x8 x9 r gain (c r) (s r)) (r : Fin 512) (j : Fin 512) :
    out0_10 (F := Ideal) x0 x1 x2 x3 x4 x5 x6 x7 x8 x9 (ix3 (0 : Fin 1) r j) = rowQ (projB x0 x1 x2 x3 x4 r) gain (c r) (s r) j := by
  have hP' : ∀ (r : Fin 512) (k : Fin 2304), IsReal (k0_pay4 (F := Ideal) x0 x1 x2 x3 x4 (ix2 r k)) := fun r k => by rw [pay4_apply]; exact hP r k
  have hf : ∀ r : Fin 512, (fun k : Fin 2304 => k0_pay4 (F := Ideal) x0 x1 x2 x3 x4 (ix2 r k)) = projB x0 x1 x2 x3 x4 r := fun r => funext fun k => pay4_apply x0 x1 x2 x3 x4 r k
  have hx : ∀ x : S1x512x128.Idx, x = ix3 (0 : Fin 1) (x 1) (x 2) := fun x => by
    have h0 : (x 0).val < 1 := (x 0).isLt
    funext a
    match a with
    | ⟨0, _⟩ => exact Fin.ext (by show (x 0).val = 0; omega)
    | ⟨1, _⟩ => rfl
    | ⟨2, _⟩ => rfl
  unfold out0_10
  rw [pay24_eq, pay25_eq, pay26_eq, View.ld_unit_zero (S := S1x128) zeros2, View.ld_unit_zero (S := S256x256) zeros2, View.ld_unit_zero (S := S512x128) zeros2]
  refine View.canon_apply_of_pieces (blockQ x0 x1 x2 x3 x4 gain c s) _ ?_ (ix3 (0 : Fin 1) r j) (cover0_10 _ _ _ _ _)
  intro p hp
  have key : ∀ (R : Fin 512) (J : Fin 512) (y : S1x512x512.Idx), (y 1).val = R.val → (y 2).val = J.val → rowQ (fun k => k0_pay4 (F := Ideal) x0 x1 x2 x3 x4 (ix2 R k)) gain (c R) (s R) J = blockQ x0 x1 x2 x3 x4 gain c s y := fun R J y h1 h2 => by
    have g1 : y 1 = R := Fin.ext h1
    have g2 : y 2 = J := Fin.ext h2
    unfold blockQ
    rw [g1, g2, hf]
  rcases List.mem_cons.mp hp with rfl | hp
  · intro x
    have h2 : (x 2).val < 128 := (x 2).isLt
    refine ((congrArg _ (hx x)).trans (q3_apply (k0_pay4 x0 x1 x2 x3 x4) x7 x5 x8 x9 hb (x 1) (hP' (x 1)) gain (c (x 1)) (s (x 1)) (T (x 1)) (x 2) ⟨384 + (x 2).val, by omega⟩ rfl)).trans (key _ _ _ ?_ ?_)
    · show 0 + 1 * (x 1).val = (x 1).val; omega
    · show 384 + 1 * (x 2).val = 384 + (x 2).val; omega
  rcases List.mem_cons.mp hp with rfl | hp
  · intro x
    have h2 : (x 2).val < 128 := (x 2).isLt
    refine ((congrArg _ (hx x)).trans (q2_apply (k0_pay4 x0 x1 x2 x3 x4) x7 x5 x8 x9 hb (x 1) (hP' (x 1)) gain (c (x 1)) (s (x 1)) (T (x 1)) (x 2) ⟨256 + (x 2).val, by omega⟩ rfl)).trans (key _ _ _ ?_ ?_)
    · show 0 + 1 * (x 1).val = (x 1).val; omega
    · show 256 + 1 * (x 2).val = 256 + (x 2).val; omega
  rcases List.mem_cons.mp hp with rfl | hp
  · intro x
    have h2 : (x 2).val < 128 := (x 2).isLt
    refine ((congrArg _ (hx x)).trans (q1_apply (k0_pay4 x0 x1 x2 x3 x4) x7 x5 x8 x9 hb (x 1) (hP' (x 1)) gain (c (x 1)) (s (x 1)) (T (x 1)) (x 2) ⟨128 + (x 2).val, by omega⟩ rfl)).trans (key _ _ _ ?_ ?_)
    · show 0 + 1 * (x 1).val = (x 1).val; omega
    · show 128 + 1 * (x 2).val = 128 + (x 2).val; omega
  rcases List.mem_cons.mp hp with rfl | hp
  · intro x
    have h2 : (x 2).val < 128 := (x 2).isLt
    refine ((congrArg _ (hx x)).trans (q0_apply (k0_pay4 x0 x1 x2 x3 x4) x7 x5 x8 x9 hb (x 1) (hP' (x 1)) gain (c (x 1)) (s (x 1)) (T (x 1)) (x 2) ⟨0 + (x 2).val, by omega⟩ rfl)).trans (key _ _ _ ?_ ?_)
    · show 0 + 1 * (x 1).val = (x 1).val; omega
    · show 0 + 1 * (x 2).val = 0 + (x 2).val; omega
  exact absurd hp List.not_mem_nil

end

end Cert.Kernel4Ideal.Inp

end
-- ==== Proof.InDiag.lean ====
module

public import proofs.«01_k».proof.Kernel4Ideal

/-! The words of the block diagonal table -/

@[expose] public section

set_option maxRecDepth 16384

noncomputable section

namespace Cert.Kernel4Ideal.Inp

open Cert.Kernel4Ideal

/-! ## A line of 128 words: one of three -/

theorem line_left_small : ∀ i : Fin 128, lit0t0_0 i.val = if i.val / 64 = 0 then 0x3C80#16 else 0#16 := by decide +kernel
theorem line_none_small : ∀ i : Fin 128, lit0t0_1 i.val = 0#16 := by decide +kernel
theorem line_right_small : ∀ i : Fin 128, lit0t0_128 i.val = if i.val / 64 = 1 then 0x3C80#16 else 0#16 := by decide +kernel

theorem line_left (x : Nat) : lit0t0_0 x = if x % 128 / 64 = 0 then 0x3C80#16 else 0#16 := by
  have h : lit0t0_0 x = lit0t0_0 (x % 128) := by unfold lit0t0_0; rw [Nat.mod_mod]
  exact h.trans (line_left_small ⟨x % 128, Nat.mod_lt _ (by decide)⟩)
theorem line_none (x : Nat) : lit0t0_1 x = 0#16 := by
  have h : lit0t0_1 x = lit0t0_1 (x % 128) := by unfold lit0t0_1; rw [Nat.mod_mod]
  exact h.trans (line_none_small ⟨x % 128, Nat.mod_lt _ (by decide)⟩)
theorem line_right (x : Nat) : lit0t0_128 x = if x % 128 / 64 = 1 then 0x3C80#16 else 0#16 := by
  have h : lit0t0_128 x = lit0t0_128 (x % 128) := by unfold lit0t0_128; rw [Nat.mod_mod]
  exact h.trans (line_right_small ⟨x % 128, Nat.mod_lt _ (by decide)⟩)

/-! ## The lines of each quarter of the table -/

/-- Quarter 0 by its line. -/
def quarter0 (q x : Nat) : BitVec 16 := match q with
  | 0 => lit0t0_0 x
  | 1 => lit0t0_1 x
  | 2 => lit0t0_2 x
  | 3 => lit0t0_3 x
  | 4 => lit0t0_4 x
  | 5 => lit0t0_5 x
  | 6 => lit0t0_6 x
  | 7 => lit0t0_7 x
  | 8 => lit0t0_8 x
  | 9 => lit0t0_9 x
  | 10 => lit0t0_10 x
  | 11 => lit0t0_11 x
  | 12 => lit0t0_12 x
  | 13 => lit0t0_13 x
  | 14 => lit0t0_14 x
  | 15 => lit0t0_15 x
  | 16 => lit0t0_16 x
  | 17 => lit0t0_17 x
  | 18 => lit0t0_18 x
  | 19 => lit0t0_19 x
  | 20 => lit0t0_20 x
  | 21 => lit0t0_21 x
  | 22 => lit0t0_22 x
  | 23 => lit0t0_23 x
  | 24 => lit0t0_24 x
  | 25 => lit0t0_25 x
  | 26 => lit0t0_26 x
  | 27 => lit0t0_27 x
  | 28 => lit0t0_28 x
  | 29 => lit0t0_29 x
  | 30 => lit0t0_30 x
  | 31 => lit0t0_31 x
  | 32 => lit0t0_32 x
  | 33 => lit0t0_33 x
  | 34 => lit0t0_34 x
  | 35 => lit0t0_35 x
  | 36 => lit0t0_36 x
  | 37 => lit0t0_37 x
  | 38 => lit0t0_38 x
  | 39 => lit0t0_39 x
  | 40 => lit0t0_40 x
  | 41 => lit0t0_41 x
  | 42 => lit0t0_42 x
  | 43 => lit0t0_43 x
  | 44 => lit0t0_44 x
  | 45 => lit0t0_45 x
  | 46 => lit0t0_46 x
  | 47 => lit0t0_47 x
  | 48 => lit0t0_48 x
  | 49 => lit0t0_49 x
  | 50 => lit0t0_50 x
  | 51 => lit0t0_51 x
  | 52 => lit0t0_52 x
  | 53 => lit0t0_53 x
  | 54 => lit0t0_54 x
  | 55 => lit0t0_55 x
  | 56 => lit0t0_56 x
  | 57 => lit0t0_57 x
  | 58 => lit0t0_58 x
  | 59 => lit0t0_59 x
  | 60 => lit0t0_60 x
  | 61 => lit0t0_61 x
  | 62 => lit0t0_62 x
  | 63 => lit0t0_63 x
  | 64 => lit0t0_64 x
  | 65 => lit0t0_65 x
  | 66 => lit0t0_66 x
  | 67 => lit0t0_67 x
  | 68 => lit0t0_68 x
  | 69 => lit0t0_69 x
  | 70 => lit0t0_70 x
  | 71 => lit0t0_71 x
  | 72 => lit0t0_72 x
  | 73 => lit0t0_73 x
  | 74 => lit0t0_74 x
  | 75 => lit0t0_75 x
  | 76 => lit0t0_76 x
  | 77 => lit0t0_77 x
  | 78 => lit0t0_78 x
  | 79 => lit0t0_79 x
  | 80 => lit0t0_80 x
  | 81 => lit0t0_81 x
  | 82 => lit0t0_82 x
  | 83 => lit0t0_83 x
  | 84 => lit0t0_84 x
  | 85 => lit0t0_85 x
  | 86 => lit0t0_86 x
  | 87 => lit0t0_87 x
  | 88 => lit0t0_88 x
  | 89 => lit0t0_89 x
  | 90 => lit0t0_90 x
  | 91 => lit0t0_91 x
  | 92 => lit0t0_92 x
  | 93 => lit0t0_93 x
  | 94 => lit0t0_94 x
  | 95 => lit0t0_95 x
  | 96 => lit0t0_96 x
  | 97 => lit0t0_97 x
  | 98 => lit0t0_98 x
  | 99 => lit0t0_99 x
  | 100 => lit0t0_100 x
  | 101 => lit0t0_101 x
  | 102 => lit0t0_102 x
  | 103 => lit0t0_103 x
  | 104 => lit0t0_104 x
  | 105 => lit0t0_105 x
  | 106 => lit0t0_106 x
  | 107 => lit0t0_107 x
  | 108 => lit0t0_108 x
  | 109 => lit0t0_109 x
  | 110 => lit0t0_110 x
  | 111 => lit0t0_111 x
  | 112 => lit0t0_112 x
  | 113 => lit0t0_113 x
  | 114 => lit0t0_114 x
  | 115 => lit0t0_115 x
  | 116 => lit0t0_116 x
  | 117 => lit0t0_117 x
  | 118 => lit0t0_118 x
  | 119 => lit0t0_119 x
  | 120 => lit0t0_120 x
  | 121 => lit0t0_121 x
  | 122 => lit0t0_122 x
  | 123 => lit0t0_123 x
  | 124 => lit0t0_124 x
  | 125 => lit0t0_125 x
  | 126 => lit0t0_126 x
  | 127 => lit0t0_127 x
  | _ => 0#16

theorem lit0t1_0_eq (x : Nat) : lit0t1_0 x = quarter0 (x / 128 % 128) x := rfl

theorem quarter0_eq : ∀ q : Nat, q < 128 → quarter0 q = fun x => if q % 2 = 0 then lit0t0_0 x else lit0t0_1 x
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | 52, _ => rfl
  | 53, _ => rfl
  | 54, _ => rfl
  | 55, _ => rfl
  | 56, _ => rfl
  | 57, _ => rfl
  | 58, _ => rfl
  | 59, _ => rfl
  | 60, _ => rfl
  | 61, _ => rfl
  | 62, _ => rfl
  | 63, _ => rfl
  | 64, _ => rfl
  | 65, _ => rfl
  | 66, _ => rfl
  | 67, _ => rfl
  | 68, _ => rfl
  | 69, _ => rfl
  | 70, _ => rfl
  | 71, _ => rfl
  | 72, _ => rfl
  | 73, _ => rfl
  | 74, _ => rfl
  | 75, _ => rfl
  | 76, _ => rfl
  | 77, _ => rfl
  | 78, _ => rfl
  | 79, _ => rfl
  | 80, _ => rfl
  | 81, _ => rfl
  | 82, _ => rfl
  | 83, _ => rfl
  | 84, _ => rfl
  | 85, _ => rfl
  | 86, _ => rfl
  | 87, _ => rfl
  | 88, _ => rfl
  | 89, _ => rfl
  | 90, _ => rfl
  | 91, _ => rfl
  | 92, _ => rfl
  | 93, _ => rfl
  | 94, _ => rfl
  | 95, _ => rfl
  | 96, _ => rfl
  | 97, _ => rfl
  | 98, _ => rfl
  | 99, _ => rfl
  | 100, _ => rfl
  | 101, _ => rfl
  | 102, _ => rfl
  | 103, _ => rfl
  | 104, _ => rfl
  | 105, _ => rfl
  | 106, _ => rfl
  | 107, _ => rfl
  | 108, _ => rfl
  | 109, _ => rfl
  | 110, _ => rfl
  | 111, _ => rfl
  | 112, _ => rfl
  | 113, _ => rfl
  | 114, _ => rfl
  | 115, _ => rfl
  | 116, _ => rfl
  | 117, _ => rfl
  | 118, _ => rfl
  | 119, _ => rfl
  | 120, _ => rfl
  | 121, _ => rfl
  | 122, _ => rfl
  | 123, _ => rfl
  | 124, _ => rfl
  | 125, _ => rfl
  | 126, _ => rfl
  | 127, _ => rfl
  | q + 128, h => absurd h (by omega)

/-- Quarter 1 by its line. -/
def quarter1 (q x : Nat) : BitVec 16 := match q with
  | 0 => lit0t0_128 x
  | 1 => lit0t0_129 x
  | 2 => lit0t0_130 x
  | 3 => lit0t0_131 x
  | 4 => lit0t0_132 x
  | 5 => lit0t0_133 x
  | 6 => lit0t0_134 x
  | 7 => lit0t0_135 x
  | 8 => lit0t0_136 x
  | 9 => lit0t0_137 x
  | 10 => lit0t0_138 x
  | 11 => lit0t0_139 x
  | 12 => lit0t0_140 x
  | 13 => lit0t0_141 x
  | 14 => lit0t0_142 x
  | 15 => lit0t0_143 x
  | 16 => lit0t0_144 x
  | 17 => lit0t0_145 x
  | 18 => lit0t0_146 x
  | 19 => lit0t0_147 x
  | 20 => lit0t0_148 x
  | 21 => lit0t0_149 x
  | 22 => lit0t0_150 x
  | 23 => lit0t0_151 x
  | 24 => lit0t0_152 x
  | 25 => lit0t0_153 x
  | 26 => lit0t0_154 x
  | 27 => lit0t0_155 x
  | 28 => lit0t0_156 x
  | 29 => lit0t0_157 x
  | 30 => lit0t0_158 x
  | 31 => lit0t0_159 x
  | 32 => lit0t0_160 x
  | 33 => lit0t0_161 x
  | 34 => lit0t0_162 x
  | 35 => lit0t0_163 x
  | 36 => lit0t0_164 x
  | 37 => lit0t0_165 x
  | 38 => lit0t0_166 x
  | 39 => lit0t0_167 x
  | 40 => lit0t0_168 x
  | 41 => lit0t0_169 x
  | 42 => lit0t0_170 x
  | 43 => lit0t0_171 x
  | 44 => lit0t0_172 x
  | 45 => lit0t0_173 x
  | 46 => lit0t0_174 x
  | 47 => lit0t0_175 x
  | 48 => lit0t0_176 x
  | 49 => lit0t0_177 x
  | 50 => lit0t0_178 x
  | 51 => lit0t0_179 x
  | 52 => lit0t0_180 x
  | 53 => lit0t0_181 x
  | 54 => lit0t0_182 x
  | 55 => lit0t0_183 x
  | 56 => lit0t0_184 x
  | 57 => lit0t0_185 x
  | 58 => lit0t0_186 x
  | 59 => lit0t0_187 x
  | 60 => lit0t0_188 x
  | 61 => lit0t0_189 x
  | 62 => lit0t0_190 x
  | 63 => lit0t0_191 x
  | 64 => lit0t0_192 x
  | 65 => lit0t0_193 x
  | 66 => lit0t0_194 x
  | 67 => lit0t0_195 x
  | 68 => lit0t0_196 x
  | 69 => lit0t0_197 x
  | 70 => lit0t0_198 x
  | 71 => lit0t0_199 x
  | 72 => lit0t0_200 x
  | 73 => lit0t0_201 x
  | 74 => lit0t0_202 x
  | 75 => lit0t0_203 x
  | 76 => lit0t0_204 x
  | 77 => lit0t0_205 x
  | 78 => lit0t0_206 x
  | 79 => lit0t0_207 x
  | 80 => lit0t0_208 x
  | 81 => lit0t0_209 x
  | 82 => lit0t0_210 x
  | 83 => lit0t0_211 x
  | 84 => lit0t0_212 x
  | 85 => lit0t0_213 x
  | 86 => lit0t0_214 x
  | 87 => lit0t0_215 x
  | 88 => lit0t0_216 x
  | 89 => lit0t0_217 x
  | 90 => lit0t0_218 x
  | 91 => lit0t0_219 x
  | 92 => lit0t0_220 x
  | 93 => lit0t0_221 x
  | 94 => lit0t0_222 x
  | 95 => lit0t0_223 x
  | 96 => lit0t0_224 x
  | 97 => lit0t0_225 x
  | 98 => lit0t0_226 x
  | 99 => lit0t0_227 x
  | 100 => lit0t0_228 x
  | 101 => lit0t0_229 x
  | 102 => lit0t0_230 x
  | 103 => lit0t0_231 x
  | 104 => lit0t0_232 x
  | 105 => lit0t0_233 x
  | 106 => lit0t0_234 x
  | 107 => lit0t0_235 x
  | 108 => lit0t0_236 x
  | 109 => lit0t0_237 x
  | 110 => lit0t0_238 x
  | 111 => lit0t0_239 x
  | 112 => lit0t0_240 x
  | 113 => lit0t0_241 x
  | 114 => lit0t0_242 x
  | 115 => lit0t0_243 x
  | 116 => lit0t0_244 x
  | 117 => lit0t0_245 x
  | 118 => lit0t0_246 x
  | 119 => lit0t0_247 x
  | 120 => lit0t0_248 x
  | 121 => lit0t0_249 x
  | 122 => lit0t0_250 x
  | 123 => lit0t0_251 x
  | 124 => lit0t0_252 x
  | 125 => lit0t0_253 x
  | 126 => lit0t0_254 x
  | 127 => lit0t0_255 x
  | _ => 0#16

theorem lit0t1_1_eq (x : Nat) : lit0t1_1 x = quarter1 (x / 128 % 128) x := rfl

theorem quarter1_eq : ∀ q : Nat, q < 128 → quarter1 q = fun x => if q % 2 = 0 then lit0t0_128 x else lit0t0_1 x
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | 52, _ => rfl
  | 53, _ => rfl
  | 54, _ => rfl
  | 55, _ => rfl
  | 56, _ => rfl
  | 57, _ => rfl
  | 58, _ => rfl
  | 59, _ => rfl
  | 60, _ => rfl
  | 61, _ => rfl
  | 62, _ => rfl
  | 63, _ => rfl
  | 64, _ => rfl
  | 65, _ => rfl
  | 66, _ => rfl
  | 67, _ => rfl
  | 68, _ => rfl
  | 69, _ => rfl
  | 70, _ => rfl
  | 71, _ => rfl
  | 72, _ => rfl
  | 73, _ => rfl
  | 74, _ => rfl
  | 75, _ => rfl
  | 76, _ => rfl
  | 77, _ => rfl
  | 78, _ => rfl
  | 79, _ => rfl
  | 80, _ => rfl
  | 81, _ => rfl
  | 82, _ => rfl
  | 83, _ => rfl
  | 84, _ => rfl
  | 85, _ => rfl
  | 86, _ => rfl
  | 87, _ => rfl
  | 88, _ => rfl
  | 89, _ => rfl
  | 90, _ => rfl
  | 91, _ => rfl
  | 92, _ => rfl
  | 93, _ => rfl
  | 94, _ => rfl
  | 95, _ => rfl
  | 96, _ => rfl
  | 97, _ => rfl
  | 98, _ => rfl
  | 99, _ => rfl
  | 100, _ => rfl
  | 101, _ => rfl
  | 102, _ => rfl
  | 103, _ => rfl
  | 104, _ => rfl
  | 105, _ => rfl
  | 106, _ => rfl
  | 107, _ => rfl
  | 108, _ => rfl
  | 109, _ => rfl
  | 110, _ => rfl
  | 111, _ => rfl
  | 112, _ => rfl
  | 113, _ => rfl
  | 114, _ => rfl
  | 115, _ => rfl
  | 116, _ => rfl
  | 117, _ => rfl
  | 118, _ => rfl
  | 119, _ => rfl
  | 120, _ => rfl
  | 121, _ => rfl
  | 122, _ => rfl
  | 123, _ => rfl
  | 124, _ => rfl
  | 125, _ => rfl
  | 126, _ => rfl
  | 127, _ => rfl
  | q + 128, h => absurd h (by omega)

/-- Quarter 2 by its line. -/
def quarter2 (q x : Nat) : BitVec 16 := match q with
  | 0 => lit0t0_256 x
  | 1 => lit0t0_257 x
  | 2 => lit0t0_258 x
  | 3 => lit0t0_259 x
  | 4 => lit0t0_260 x
  | 5 => lit0t0_261 x
  | 6 => lit0t0_262 x
  | 7 => lit0t0_263 x
  | 8 => lit0t0_264 x
  | 9 => lit0t0_265 x
  | 10 => lit0t0_266 x
  | 11 => lit0t0_267 x
  | 12 => lit0t0_268 x
  | 13 => lit0t0_269 x
  | 14 => lit0t0_270 x
  | 15 => lit0t0_271 x
  | 16 => lit0t0_272 x
  | 17 => lit0t0_273 x
  | 18 => lit0t0_274 x
  | 19 => lit0t0_275 x
  | 20 => lit0t0_276 x
  | 21 => lit0t0_277 x
  | 22 => lit0t0_278 x
  | 23 => lit0t0_279 x
  | 24 => lit0t0_280 x
  | 25 => lit0t0_281 x
  | 26 => lit0t0_282 x
  | 27 => lit0t0_283 x
  | 28 => lit0t0_284 x
  | 29 => lit0t0_285 x
  | 30 => lit0t0_286 x
  | 31 => lit0t0_287 x
  | 32 => lit0t0_288 x
  | 33 => lit0t0_289 x
  | 34 => lit0t0_290 x
  | 35 => lit0t0_291 x
  | 36 => lit0t0_292 x
  | 37 => lit0t0_293 x
  | 38 => lit0t0_294 x
  | 39 => lit0t0_295 x
  | 40 => lit0t0_296 x
  | 41 => lit0t0_297 x
  | 42 => lit0t0_298 x
  | 43 => lit0t0_299 x
  | 44 => lit0t0_300 x
  | 45 => lit0t0_301 x
  | 46 => lit0t0_302 x
  | 47 => lit0t0_303 x
  | 48 => lit0t0_304 x
  | 49 => lit0t0_305 x
  | 50 => lit0t0_306 x
  | 51 => lit0t0_307 x
  | 52 => lit0t0_308 x
  | 53 => lit0t0_309 x
  | 54 => lit0t0_310 x
  | 55 => lit0t0_311 x
  | 56 => lit0t0_312 x
  | 57 => lit0t0_313 x
  | 58 => lit0t0_314 x
  | 59 => lit0t0_315 x
  | 60 => lit0t0_316 x
  | 61 => lit0t0_317 x
  | 62 => lit0t0_318 x
  | 63 => lit0t0_319 x
  | 64 => lit0t0_320 x
  | 65 => lit0t0_321 x
  | 66 => lit0t0_322 x
  | 67 => lit0t0_323 x
  | 68 => lit0t0_324 x
  | 69 => lit0t0_325 x
  | 70 => lit0t0_326 x
  | 71 => lit0t0_327 x
  | 72 => lit0t0_328 x
  | 73 => lit0t0_329 x
  | 74 => lit0t0_330 x
  | 75 => lit0t0_331 x
  | 76 => lit0t0_332 x
  | 77 => lit0t0_333 x
  | 78 => lit0t0_334 x
  | 79 => lit0t0_335 x
  | 80 => lit0t0_336 x
  | 81 => lit0t0_337 x
  | 82 => lit0t0_338 x
  | 83 => lit0t0_339 x
  | 84 => lit0t0_340 x
  | 85 => lit0t0_341 x
  | 86 => lit0t0_342 x
  | 87 => lit0t0_343 x
  | 88 => lit0t0_344 x
  | 89 => lit0t0_345 x
  | 90 => lit0t0_346 x
  | 91 => lit0t0_347 x
  | 92 => lit0t0_348 x
  | 93 => lit0t0_349 x
  | 94 => lit0t0_350 x
  | 95 => lit0t0_351 x
  | 96 => lit0t0_352 x
  | 97 => lit0t0_353 x
  | 98 => lit0t0_354 x
  | 99 => lit0t0_355 x
  | 100 => lit0t0_356 x
  | 101 => lit0t0_357 x
  | 102 => lit0t0_358 x
  | 103 => lit0t0_359 x
  | 104 => lit0t0_360 x
  | 105 => lit0t0_361 x
  | 106 => lit0t0_362 x
  | 107 => lit0t0_363 x
  | 108 => lit0t0_364 x
  | 109 => lit0t0_365 x
  | 110 => lit0t0_366 x
  | 111 => lit0t0_367 x
  | 112 => lit0t0_368 x
  | 113 => lit0t0_369 x
  | 114 => lit0t0_370 x
  | 115 => lit0t0_371 x
  | 116 => lit0t0_372 x
  | 117 => lit0t0_373 x
  | 118 => lit0t0_374 x
  | 119 => lit0t0_375 x
  | 120 => lit0t0_376 x
  | 121 => lit0t0_377 x
  | 122 => lit0t0_378 x
  | 123 => lit0t0_379 x
  | 124 => lit0t0_380 x
  | 125 => lit0t0_381 x
  | 126 => lit0t0_382 x
  | 127 => lit0t0_383 x
  | _ => 0#16

theorem lit0t1_2_eq (x : Nat) : lit0t1_2 x = quarter2 (x / 128 % 128) x := rfl

theorem quarter2_eq : ∀ q : Nat, q < 128 → quarter2 q = fun x => if q % 2 = 0 then lit0t0_1 x else lit0t0_0 x
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | 52, _ => rfl
  | 53, _ => rfl
  | 54, _ => rfl
  | 55, _ => rfl
  | 56, _ => rfl
  | 57, _ => rfl
  | 58, _ => rfl
  | 59, _ => rfl
  | 60, _ => rfl
  | 61, _ => rfl
  | 62, _ => rfl
  | 63, _ => rfl
  | 64, _ => rfl
  | 65, _ => rfl
  | 66, _ => rfl
  | 67, _ => rfl
  | 68, _ => rfl
  | 69, _ => rfl
  | 70, _ => rfl
  | 71, _ => rfl
  | 72, _ => rfl
  | 73, _ => rfl
  | 74, _ => rfl
  | 75, _ => rfl
  | 76, _ => rfl
  | 77, _ => rfl
  | 78, _ => rfl
  | 79, _ => rfl
  | 80, _ => rfl
  | 81, _ => rfl
  | 82, _ => rfl
  | 83, _ => rfl
  | 84, _ => rfl
  | 85, _ => rfl
  | 86, _ => rfl
  | 87, _ => rfl
  | 88, _ => rfl
  | 89, _ => rfl
  | 90, _ => rfl
  | 91, _ => rfl
  | 92, _ => rfl
  | 93, _ => rfl
  | 94, _ => rfl
  | 95, _ => rfl
  | 96, _ => rfl
  | 97, _ => rfl
  | 98, _ => rfl
  | 99, _ => rfl
  | 100, _ => rfl
  | 101, _ => rfl
  | 102, _ => rfl
  | 103, _ => rfl
  | 104, _ => rfl
  | 105, _ => rfl
  | 106, _ => rfl
  | 107, _ => rfl
  | 108, _ => rfl
  | 109, _ => rfl
  | 110, _ => rfl
  | 111, _ => rfl
  | 112, _ => rfl
  | 113, _ => rfl
  | 114, _ => rfl
  | 115, _ => rfl
  | 116, _ => rfl
  | 117, _ => rfl
  | 118, _ => rfl
  | 119, _ => rfl
  | 120, _ => rfl
  | 121, _ => rfl
  | 122, _ => rfl
  | 123, _ => rfl
  | 124, _ => rfl
  | 125, _ => rfl
  | 126, _ => rfl
  | 127, _ => rfl
  | q + 128, h => absurd h (by omega)

/-- Quarter 3 by its line. -/
def quarter3 (q x : Nat) : BitVec 16 := match q with
  | 0 => lit0t0_384 x
  | 1 => lit0t0_385 x
  | 2 => lit0t0_386 x
  | 3 => lit0t0_387 x
  | 4 => lit0t0_388 x
  | 5 => lit0t0_389 x
  | 6 => lit0t0_390 x
  | 7 => lit0t0_391 x
  | 8 => lit0t0_392 x
  | 9 => lit0t0_393 x
  | 10 => lit0t0_394 x
  | 11 => lit0t0_395 x
  | 12 => lit0t0_396 x
  | 13 => lit0t0_397 x
  | 14 => lit0t0_398 x
  | 15 => lit0t0_399 x
  | 16 => lit0t0_400 x
  | 17 => lit0t0_401 x
  | 18 => lit0t0_402 x
  | 19 => lit0t0_403 x
  | 20 => lit0t0_404 x
  | 21 => lit0t0_405 x
  | 22 => lit0t0_406 x
  | 23 => lit0t0_407 x
  | 24 => lit0t0_408 x
  | 25 => lit0t0_409 x
  | 26 => lit0t0_410 x
  | 27 => lit0t0_411 x
  | 28 => lit0t0_412 x
  | 29 => lit0t0_413 x
  | 30 => lit0t0_414 x
  | 31 => lit0t0_415 x
  | 32 => lit0t0_416 x
  | 33 => lit0t0_417 x
  | 34 => lit0t0_418 x
  | 35 => lit0t0_419 x
  | 36 => lit0t0_420 x
  | 37 => lit0t0_421 x
  | 38 => lit0t0_422 x
  | 39 => lit0t0_423 x
  | 40 => lit0t0_424 x
  | 41 => lit0t0_425 x
  | 42 => lit0t0_426 x
  | 43 => lit0t0_427 x
  | 44 => lit0t0_428 x
  | 45 => lit0t0_429 x
  | 46 => lit0t0_430 x
  | 47 => lit0t0_431 x
  | 48 => lit0t0_432 x
  | 49 => lit0t0_433 x
  | 50 => lit0t0_434 x
  | 51 => lit0t0_435 x
  | 52 => lit0t0_436 x
  | 53 => lit0t0_437 x
  | 54 => lit0t0_438 x
  | 55 => lit0t0_439 x
  | 56 => lit0t0_440 x
  | 57 => lit0t0_441 x
  | 58 => lit0t0_442 x
  | 59 => lit0t0_443 x
  | 60 => lit0t0_444 x
  | 61 => lit0t0_445 x
  | 62 => lit0t0_446 x
  | 63 => lit0t0_447 x
  | 64 => lit0t0_448 x
  | 65 => lit0t0_449 x
  | 66 => lit0t0_450 x
  | 67 => lit0t0_451 x
  | 68 => lit0t0_452 x
  | 69 => lit0t0_453 x
  | 70 => lit0t0_454 x
  | 71 => lit0t0_455 x
  | 72 => lit0t0_456 x
  | 73 => lit0t0_457 x
  | 74 => lit0t0_458 x
  | 75 => lit0t0_459 x
  | 76 => lit0t0_460 x
  | 77 => lit0t0_461 x
  | 78 => lit0t0_462 x
  | 79 => lit0t0_463 x
  | 80 => lit0t0_464 x
  | 81 => lit0t0_465 x
  | 82 => lit0t0_466 x
  | 83 => lit0t0_467 x
  | 84 => lit0t0_468 x
  | 85 => lit0t0_469 x
  | 86 => lit0t0_470 x
  | 87 => lit0t0_471 x
  | 88 => lit0t0_472 x
  | 89 => lit0t0_473 x
  | 90 => lit0t0_474 x
  | 91 => lit0t0_475 x
  | 92 => lit0t0_476 x
  | 93 => lit0t0_477 x
  | 94 => lit0t0_478 x
  | 95 => lit0t0_479 x
  | 96 => lit0t0_480 x
  | 97 => lit0t0_481 x
  | 98 => lit0t0_482 x
  | 99 => lit0t0_483 x
  | 100 => lit0t0_484 x
  | 101 => lit0t0_485 x
  | 102 => lit0t0_486 x
  | 103 => lit0t0_487 x
  | 104 => lit0t0_488 x
  | 105 => lit0t0_489 x
  | 106 => lit0t0_490 x
  | 107 => lit0t0_491 x
  | 108 => lit0t0_492 x
  | 109 => lit0t0_493 x
  | 110 => lit0t0_494 x
  | 111 => lit0t0_495 x
  | 112 => lit0t0_496 x
  | 113 => lit0t0_497 x
  | 114 => lit0t0_498 x
  | 115 => lit0t0_499 x
  | 116 => lit0t0_500 x
  | 117 => lit0t0_501 x
  | 118 => lit0t0_502 x
  | 119 => lit0t0_503 x
  | 120 => lit0t0_504 x
  | 121 => lit0t0_505 x
  | 122 => lit0t0_506 x
  | 123 => lit0t0_507 x
  | 124 => lit0t0_508 x
  | 125 => lit0t0_509 x
  | 126 => lit0t0_510 x
  | 127 => lit0t0_511 x
  | _ => 0#16

theorem lit0t1_3_eq (x : Nat) : lit0t1_3 x = quarter3 (x / 128 % 128) x := rfl

theorem quarter3_eq : ∀ q : Nat, q < 128 → quarter3 q = fun x => if q % 2 = 0 then lit0t0_1 x else lit0t0_128 x
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | 52, _ => rfl
  | 53, _ => rfl
  | 54, _ => rfl
  | 55, _ => rfl
  | 56, _ => rfl
  | 57, _ => rfl
  | 58, _ => rfl
  | 59, _ => rfl
  | 60, _ => rfl
  | 61, _ => rfl
  | 62, _ => rfl
  | 63, _ => rfl
  | 64, _ => rfl
  | 65, _ => rfl
  | 66, _ => rfl
  | 67, _ => rfl
  | 68, _ => rfl
  | 69, _ => rfl
  | 70, _ => rfl
  | 71, _ => rfl
  | 72, _ => rfl
  | 73, _ => rfl
  | 74, _ => rfl
  | 75, _ => rfl
  | 76, _ => rfl
  | 77, _ => rfl
  | 78, _ => rfl
  | 79, _ => rfl
  | 80, _ => rfl
  | 81, _ => rfl
  | 82, _ => rfl
  | 83, _ => rfl
  | 84, _ => rfl
  | 85, _ => rfl
  | 86, _ => rfl
  | 87, _ => rfl
  | 88, _ => rfl
  | 89, _ => rfl
  | 90, _ => rfl
  | 91, _ => rfl
  | 92, _ => rfl
  | 93, _ => rfl
  | 94, _ => rfl
  | 95, _ => rfl
  | 96, _ => rfl
  | 97, _ => rfl
  | 98, _ => rfl
  | 99, _ => rfl
  | 100, _ => rfl
  | 101, _ => rfl
  | 102, _ => rfl
  | 103, _ => rfl
  | 104, _ => rfl
  | 105, _ => rfl
  | 106, _ => rfl
  | 107, _ => rfl
  | 108, _ => rfl
  | 109, _ => rfl
  | 110, _ => rfl
  | 111, _ => rfl
  | 112, _ => rfl
  | 113, _ => rfl
  | 114, _ => rfl
  | 115, _ => rfl
  | 116, _ => rfl
  | 117, _ => rfl
  | 118, _ => rfl
  | 119, _ => rfl
  | 120, _ => rfl
  | 121, _ => rfl
  | 122, _ => rfl
  | 123, _ => rfl
  | 124, _ => rfl
  | 125, _ => rfl
  | 126, _ => rfl
  | 127, _ => rfl
  | q + 128, h => absurd h (by omega)

theorem quarters (x : Nat) : lit0t x = (match x / 16384 with
    | 0 => lit0t1_0 x
    | 1 => lit0t1_1 x
    | 2 => lit0t1_2 x
    | 3 => lit0t1_3 x
    | _ => 0#16) := rfl

/-- Each word of the table is 1/64 in a diagonal block and 0 outside. -/
theorem diag_word (k l : Nat) (hk : k < 256) (hl : l < 256) : lit0t (k * 256 + l) = if k / 64 = l / 64 then 0x3C80#16 else 0#16 := by
  have hq : (k * 256 + l) / 128 % 128 < 128 := Nat.mod_lt _ (by decide)
  have hm : (k * 256 + l) / 128 % 128 % 2 = l / 128 := by omega
  have hr : (k * 256 + l) % 128 / 64 = l / 64 % 2 := by omega
  rw [quarters]
  have hd : (k * 256 + l) / 16384 = k / 64 := by omega
  have hc : k / 64 = 0 ∨ k / 64 = 1 ∨ k / 64 = 2 ∨ k / 64 = 3 := by omega
  rw [hd]
  rcases hc with h | h | h | h

  · rw [h]
    show lit0t1_0 (k * 256 + l) = _
    rw [lit0t1_0_eq, quarter0_eq _ hq]
    show (if (k * 256 + l) / 128 % 128 % 2 = 0 then lit0t0_0 (k * 256 + l) else lit0t0_1 (k * 256 + l)) = _
    rw [hm, line_left, line_none, hr]
    split_ifs <;> first | rfl | omega
  · rw [h]
    show lit0t1_1 (k * 256 + l) = _
    rw [lit0t1_1_eq, quarter1_eq _ hq]
    show (if (k * 256 + l) / 128 % 128 % 2 = 0 then lit0t0_128 (k * 256 + l) else lit0t0_1 (k * 256 + l)) = _
    rw [hm, line_right, line_none, hr]
    split_ifs <;> first | rfl | omega
  · rw [h]
    show lit0t1_2 (k * 256 + l) = _
    rw [lit0t1_2_eq, quarter2_eq _ hq]
    show (if (k * 256 + l) / 128 % 128 % 2 = 0 then lit0t0_1 (k * 256 + l) else lit0t0_0 (k * 256 + l)) = _
    rw [hm, line_none, line_left, hr]
    split_ifs <;> first | rfl | omega
  · rw [h]
    show lit0t1_3 (k * 256 + l) = _
    rw [lit0t1_3_eq, quarter3_eq _ hq]
    show (if (k * 256 + l) / 128 % 128 % 2 = 0 then lit0t0_1 (k * 256 + l) else lit0t0_128 (k * 256 + l)) = _
    rw [hm, line_none, line_right, hr]
    split_ifs <;> first | rfl | omega

end Cert.Kernel4Ideal.Inp

end
-- ==== Proof.InTabs.lean ====
module

public import proofs.«01_k».proof.Proof.InHost
public import proofs.«01_k».proof.Proof.InHeads
public import proofs.«01_k».proof.Proof.InDiag

/-! The tables of the input projection's call, from the arguments -/

@[expose] public section

set_option maxRecDepth 16384

noncomputable section

namespace Cert.Kernel4Ideal.Inp

open Cert.Kernel4Ideal Cert.Kernel4Ideal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open Cert.Softmax Cert.Out Cert.Inp

/-! ## The gains, once for each of two heads -/

/-- A head's gains for two heads side by side. -/
def twice (x : Vec Ideal S1x64 .f32) : FVec Ideal S1x128 .f32 :=
  shapeCast S1x128 (broadcastInDim S1x1x2x64 ![0, 1, 2, 3] bcast_S1x1x1x64_S1x1x2x64_0_1_2_3 (shapeCast S1x1x1x64 (broadcastInDim S1x64 ![1] bcast_S64_S1x64_1 (shapeCast S64 x shapeCasts_S1x64_S64 : FVec Ideal S64 .f32)) shapeCasts_S1x64_S1x1x1x64 : FVec Ideal S1x1x1x64 .f32)) shapeCasts_S1x1x2x64_S1x128

theorem twice_apply (x : Vec Ideal S1x64 .f32) (L : Fin 128) : twice x (ix2 (0 : Fin 1) L) = x (ix2 (0 : Fin 1) (⟨L.val % 64, by omega⟩ : Fin 64)) := by
  unfold twice
  refine (shapeCast_apply _ shapeCasts_S1x1x2x64_S1x128 (ix2 (0 : Fin 1) L) (ix4 (0 : Fin 1) (0 : Fin 1) (⟨L.val / 64, by omega⟩ : Fin 2) (⟨L.val % 64, by omega⟩ : Fin 64)) ?_).trans ?_
  · rw [Shape.rowMajor_val_two, Shape.rowMajor_val_four]
    show ((0 * 1 + 0) * 2 + L.val / 64) * 64 + L.val % 64 = 0 * 128 + L.val
    omega
  refine (broadcastInDim_apply _ bcast_S1x1x1x64_S1x1x2x64_0_1_2_3 _ _ (ix4 (0 : Fin 1) (0 : Fin 1) (0 : Fin 1) (⟨L.val % 64, by omega⟩ : Fin 64)) (fun a => match a with
    | ⟨0, _⟩ => rfl
    | ⟨1, _⟩ => rfl
    | ⟨2, _⟩ => rfl
    | ⟨3, _⟩ => rfl)).trans ?_
  refine (shapeCast_apply _ shapeCasts_S1x64_S1x1x1x64 _ (ix2 (0 : Fin 1) (⟨L.val % 64, by omega⟩ : Fin 64)) ?_).trans ?_
  · rw [Shape.rowMajor_val_two, Shape.rowMajor_val_four]
    show 0 * 64 + L.val % 64 = ((0 * 1 + 0) * 1 + 0) * 64 + L.val % 64
    omega
  refine (broadcastInDim_apply _ bcast_S64_S1x64_1 _ _ (ix1 (⟨L.val % 64, by omega⟩ : Fin 64)) (fun a => match a with
    | ⟨0, _⟩ => rfl)).trans ?_
  refine shapeCast_apply x shapeCasts_S1x64_S64 _ _ ?_
  rw [Shape.rowMajor_val_two, Shape.rowMajor_val_one]
  show 0 * 64 + L.val % 64 = L.val % 64
  omega

/-! ## The block diagonal table -/

/-- The table of 1/64 in the diagonal blocks. -/
def diagT : FVec Ideal S256x256 .bf16 := fun i => FloatOps.ofBits .bf16 (lit0 (S256x256.rowMajor i))

theorem sixtyfourth : Ideal.ieee 8 7 (0x3C80#16) = inv64 := by
  rw [inv64_eq]
  unfold Ideal.ieee
  dsimp only
  rw [if_neg (by decide), if_neg (by decide), show ((0x3C80#16).extractLsb' 15 1 : BitVec 1) = 0#1 by decide, show ((0x3C80#16).extractLsb' 7 8).toNat = 121 by decide, show ((0x3C80#16).extractLsb' 0 7).toNat = 0 by decide]
  refine congrArg _ ?_
  norm_num

theorem diagT_diag : Diag diagT := fun k l => by
  have hk : k.val < 256 := k.isLt
  have hl : l.val < 256 := l.isLt
  have e : (S256x256.rowMajor (ix2 k l)).val = k.val * 256 + l.val := Shape.rowMajor_val_two _
  have w : lit0 (S256x256.rowMajor (ix2 k l)) = if k.val / 64 = l.val / 64 then 0x3C80#16 else 0#16 := by
    show lit0t (S256x256.rowMajor (ix2 k l)).val = _
    rw [e]
    exact diag_word k.val l.val hk hl
  have h : diagT (ix2 k l) = Ideal.ieee 8 7 (if k.val / 64 = l.val / 64 then 0x3C80#16 else 0#16) := by
    rw [← w]
    rfl
  rw [h]
  by_cases g : k.val / 64 = l.val / 64
  · rw [if_pos g, if_pos g]
    exact sixtyfourth
  · rw [if_neg g, if_neg g]
    unfold Ideal.ieee
    dsimp only
    norm_num

/-! ## The angles' tables -/

/-- One of the two rows of angles of each position. -/
def angle0 (x : Vec Ideal S8192x2x16 .f32) : FVec Ideal S8192x16 .f32 :=
  shapeCast S8192x16 (extractStridedSlice S8192x1x16 ![0, 0, 0] x slices_S8192x2x16_S8192x1x16_0_0_0) shapeCasts_S8192x1x16_S8192x16
def angle1 (x : Vec Ideal S8192x2x16 .f32) : FVec Ideal S8192x16 .f32 :=
  shapeCast S8192x16 (extractStridedSlice S8192x1x16 ![0, 1, 0] x slices_S8192x2x16_S8192x1x16_0_1_0) shapeCasts_S8192x1x16_S8192x16

theorem angle0_apply (x : Vec Ideal S8192x2x16 .f32) (s : Fin 8192) (j : Fin 16) : angle0 x (ix2 s j) = x (ix3 s (0 : Fin 2) j) := by
  unfold angle0
  refine (shapeCast_apply _ shapeCasts_S8192x1x16_S8192x16 (ix2 s j) (ix3 s (0 : Fin 1) j) ?_).trans ?_
  · rw [Shape.rowMajor_val_two, Shape.rowMajor_val_three]
    show (s.val * 1 + 0) * 16 + j.val = s.val * 16 + j.val
    omega
  exact extractStridedSlice_apply ![0, 0, 0] x _ _ _ (fun a => match a with
    | ⟨0, _⟩ => by show s.val = 0 + s.val; omega
    | ⟨1, _⟩ => rfl
    | ⟨2, _⟩ => by show j.val = 0 + j.val; omega)

theorem angle1_apply (x : Vec Ideal S8192x2x16 .f32) (s : Fin 8192) (j : Fin 16) : angle1 x (ix2 s j) = x (ix3 s (1 : Fin 2) j) := by
  unfold angle1
  refine (shapeCast_apply _ shapeCasts_S8192x1x16_S8192x16 (ix2 s j) (ix3 s (0 : Fin 1) j) ?_).trans ?_
  · rw [Shape.rowMajor_val_two, Shape.rowMajor_val_three]
    show (s.val * 1 + 0) * 16 + j.val = s.val * 16 + j.val
    omega
  exact extractStridedSlice_apply ![0, 1, 0] x _ _ _ (fun a => match a with
    | ⟨0, _⟩ => by show s.val = 0 + s.val; omega
    | ⟨1, _⟩ => rfl
    | ⟨2, _⟩ => by show j.val = 0 + j.val; omega)

/-- Four rows of 16 side by side. -/
def four (y0 y1 y2 y3 : FVec Ideal S8192x16 .f32) : FVec Ideal S8192x64 .f32 :=
  concatenate S8192x64 1 [⟨S8192x16, y0⟩, ⟨S8192x16, y1⟩, ⟨S8192x16, y2⟩, ⟨S8192x16, y3⟩] concatenates_S8192x16_S8192x16_S8192x16_S8192x16_S8192x64_d1

theorem four_apply (y0 y1 y2 y3 : FVec Ideal S8192x16 .f32) (s : Fin 8192) (e : Fin 64) :
    four y0 y1 y2 y3 (ix2 s e) = (if e.val / 16 = 0 then y0 else if e.val / 16 = 1 then y1 else if e.val / 16 = 2 then y2 else y3) (ix2 s (⟨e.val % 16, by omega⟩ : Fin 16)) := by
  have he : e.val < 64 := e.isLt
  unfold four
  have h : e.val / 16 = 0 ∨ e.val / 16 = 1 ∨ e.val / 16 = 2 ∨ e.val / 16 = 3 := by omega
  rcases h with h | h | h | h
  · rw [if_pos h]
    exact concatenate_apply_piece (t := S8192x64) 1 _ _ (ix2 s e) 0 (by show 0 < 4; omega) S8192x16 y0 rfl rfl 0 rfl (ix2 s (⟨e.val % 16, by omega⟩ : Fin 16)) (fun b hb => match b, hb with
      | ⟨0, _⟩, _ => rfl
      | ⟨1, _⟩, hb => absurd rfl hb) (by show 0 + e.val % 16 = e.val; omega)
  · rw [if_neg (by omega), if_pos h]
    exact concatenate_apply_piece (t := S8192x64) 1 _ _ (ix2 s e) 1 (by show 1 < 4; omega) S8192x16 y1 rfl rfl 16 rfl (ix2 s (⟨e.val % 16, by omega⟩ : Fin 16)) (fun b hb => match b, hb with
      | ⟨0, _⟩, _ => rfl
      | ⟨1, _⟩, hb => absurd rfl hb) (by show 16 + e.val % 16 = e.val; omega)
  · rw [if_neg (by omega), if_neg (by omega), if_pos h]
    exact concatenate_apply_piece (t := S8192x64) 1 _ _ (ix2 s e) 2 (by show 2 < 4; omega) S8192x16 y2 rfl rfl 32 rfl (ix2 s (⟨e.val % 16, by omega⟩ : Fin 16)) (fun b hb => match b, hb with
      | ⟨0, _⟩, _ => rfl
      | ⟨1, _⟩, hb => absurd rfl hb) (by show 32 + e.val % 16 = e.val; omega)
  · rw [if_neg (by omega), if_neg (by omega), if_neg (by omega)]
    exact concatenate_apply_piece (t := S8192x64) 1 _ _ (ix2 s e) 3 (by show 3 < 4; omega) S8192x16 y3 rfl rfl 48 rfl (ix2 s (⟨e.val % 16, by omega⟩ : Fin 16)) (fun b hb => match b, hb with
      | ⟨0, _⟩, _ => rfl
      | ⟨1, _⟩, hb => absurd rfl hb) (by show 48 + e.val % 16 = e.val; omega)

/-- A row of 64 for two heads side by side. -/
def both (x : FVec Ideal S8192x64 .f32) : FVec Ideal S8192x128 .f32 :=
  shapeCast S8192x128 (broadcastInDim S1x8192x2x64 ![0, 1, 2, 3] bcast_S1x8192x1x64_S1x8192x2x64_0_1_2_3 (shapeCast S1x8192x1x64 x shapeCasts_S8192x64_S1x8192x1x64 : FVec Ideal S1x8192x1x64 .f32)) shapeCasts_S1x8192x2x64_S8192x128

theorem both_apply (x : FVec Ideal S8192x64 .f32) (s : Fin 8192) (L : Fin 128) : both x (ix2 s L) = x (ix2 s (⟨L.val % 64, by omega⟩ : Fin 64)) := by
  unfold both
  refine (shapeCast_apply _ shapeCasts_S1x8192x2x64_S8192x128 (ix2 s L) (ix4 (0 : Fin 1) s (⟨L.val / 64, by omega⟩ : Fin 2) (⟨L.val % 64, by omega⟩ : Fin 64)) ?_).trans ?_
  · rw [Shape.rowMajor_val_two, Shape.rowMajor_val_four]
    show ((0 * 8192 + s.val) * 2 + L.val / 64) * 64 + L.val % 64 = s.val * 128 + L.val
    omega
  refine (broadcastInDim_apply _ bcast_S1x8192x1x64_S1x8192x2x64_0_1_2_3 _ _ (ix4 (0 : Fin 1) s (0 : Fin 1) (⟨L.val % 64, by omega⟩ : Fin 64)) (fun a => match a with
    | ⟨0, _⟩ => rfl
    | ⟨1, _⟩ => rfl
    | ⟨2, _⟩ => rfl
    | ⟨3, _⟩ => rfl)).trans ?_
  refine shapeCast_apply x shapeCasts_S8192x64_S1x8192x1x64 _ (ix2 s (⟨L.val % 64, by omega⟩ : Fin 64)) ?_
  rw [Shape.rowMajor_val_two, Shape.rowMajor_val_four]
  show s.val * 64 + L.val % 64 = ((0 * 8192 + s.val) * 1 + 0) * 64 + L.val % 64
  omega

/-- The table of cosines. -/
def cosT (x : Vec Ideal S8192x2x16 .f32) : FVec Ideal S8192x128 .f32 := both (four (angle0 x) (angle0 x) (angle1 x) (angle1 x))

theorem cosT_apply (x : Vec Ideal S8192x2x16 .f32) (s : Fin 8192) (L : Fin 128) :
    cosT x (ix2 s L) = x (ix3 s (⟨L.val % 64 / 32, by omega⟩ : Fin 2) (⟨L.val % 16, by omega⟩ : Fin 16)) := by
  unfold cosT
  rw [both_apply, four_apply]
  have hj : (⟨L.val % 64 % 16, by omega⟩ : Fin 16) = ⟨L.val % 16, by omega⟩ := Fin.ext (by show L.val % 64 % 16 = L.val % 16; omega)
  show (if L.val % 64 / 16 = 0 then angle0 x else if L.val % 64 / 16 = 1 then angle0 x else if L.val % 64 / 16 = 2 then angle1 x else angle1 x) (ix2 s (⟨L.val % 64 % 16, by omega⟩ : Fin 16)) = _
  rw [hj]
  by_cases h : L.val % 64 / 32 = 0
  · have g : (⟨L.val % 64 / 32, by omega⟩ : Fin 2) = 0 := Fin.ext h
    rw [g, ← angle0_apply x s _]
    by_cases h0 : L.val % 64 / 16 = 0
    · rw [if_pos h0]
    · rw [if_neg h0, if_pos (by omega)]
  · have g : (⟨L.val % 64 / 32, by omega⟩ : Fin 2) = 1 := Fin.ext (by show L.val % 64 / 32 = 1; omega)
    rw [g, ← angle1_apply x s _, if_neg (by omega), if_neg (by omega), ite_self]

/-- The table of sines, the first 16 of each 32 negated. -/
def sinT (x : Vec Ideal S8192x2x16 .f32) : FVec Ideal S8192x128 .f32 := both (four (Host.negf (angle0 x)) (angle0 x) (Host.negf (angle1 x)) (angle1 x))

theorem sinT_apply (x : Vec Ideal S8192x2x16 .f32) (s : Fin 8192) (L : Fin 128) :
    sinT x (ix2 s L) = if L.val % 32 < 16 then - (x (ix3 s (⟨L.val % 64 / 32, by omega⟩ : Fin 2) (⟨L.val % 16, by omega⟩ : Fin 16)) : EReal) else x (ix3 s (⟨L.val % 64 / 32, by omega⟩ : Fin 2) (⟨L.val % 16, by omega⟩ : Fin 16)) := by
  unfold sinT
  rw [both_apply, four_apply]
  have hj : (⟨L.val % 64 % 16, by omega⟩ : Fin 16) = ⟨L.val % 16, by omega⟩ := Fin.ext (by show L.val % 64 % 16 = L.val % 16; omega)
  show (if L.val % 64 / 16 = 0 then Host.negf (angle0 x) else if L.val % 64 / 16 = 1 then angle0 x else if L.val % 64 / 16 = 2 then Host.negf (angle1 x) else angle1 x) (ix2 s (⟨L.val % 64 % 16, by omega⟩ : Fin 16)) = _
  rw [hj]
  by_cases h : L.val % 64 / 32 = 0
  · have g : (⟨L.val % 64 / 32, by omega⟩ : Fin 2) = 0 := Fin.ext h
    rw [g, ← angle0_apply x s _]
    by_cases h0 : L.val % 64 / 16 = 0
    · rw [if_pos h0, if_pos (by omega)]
      rfl
    · rw [if_neg h0, if_pos (by omega), if_neg (by omega)]
  · have g : (⟨L.val % 64 / 32, by omega⟩ : Fin 2) = 1 := Fin.ext (by show L.val % 64 / 32 = 1; omega)
    rw [g, ← angle1_apply x s _, if_neg (by omega), if_neg (by omega)]
    by_cases h0 : L.val % 64 / 16 = 2
    · rw [if_pos h0, if_pos (by omega)]
      rfl
    · rw [if_neg h0, if_neg (by omega)]

/-! ## The operands -/

variable (m : (ℓ : Loc nD τ sig) → Buf (Elt Ideal) ℓ) (c : Dev nD)

theorem v6_eq : (V m c main_v6 : Vec Ideal S1x128 .f32) = twice (m ((c : Thread nD τ).loc main_arg5) : Vec Ideal S1x64 .f32) := by
  unfold V hostOps0
  after_results_simp <;> rfl

theorem v11_eq : (V m c main_v11 : Vec Ideal S1x128 .f32) = twice (m ((c : Thread nD τ).loc main_arg6) : Vec Ideal S1x64 .f32) := by
  unfold V hostOps0
  after_results_simp <;> rfl

theorem cst_eq : (V m c main_cst : Vec Ideal S256x256 .bf16) = diagT := by
  unfold V hostOps0
  after_results_simp <;> rfl

theorem v23_eq : (V m c main_v23 : Vec Ideal S8192x128 .f32) = cosT (m ((c : Thread nD τ).loc main_arg7) : Vec Ideal S8192x2x16 .f32) := by
  unfold V hostOps0
  after_results_simp <;> rfl

theorem v29_eq : (V m c main_v29 : Vec Ideal S8192x128 .f32) = sinT (m ((c : Thread nD τ).loc main_arg8) : Vec Ideal S8192x2x16 .f32) := by
  unfold V hostOps0
  after_results_simp <;> rfl

end Cert.Kernel4Ideal.Inp

end
-- ==== Proof.InArray.lean ====
module

public import proofs.«01_k».proof.Proof.InHost

/-! The input projection's values and convolution rows after the run, from the arguments -/

@[expose] public section

set_option maxRecDepth 16384

noncomputable section

namespace Cert.Kernel4Ideal.Inp

open Cert.Kernel4Ideal Cert.Kernel4Ideal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open Cert.Softmax Cert.Out

/-- The normalized row. -/
def nrmAt (A0 : Vec Ideal S2x8192x1024 .f32) (A1 : Vec Ideal S1x1024 .f32) (A2 A3 : Vec Ideal S2x1024 .f32) (b : Fin 2) (s : Fin 8192) (d : Fin 1024) : EReal :=
  nrm (fun k : Fin 1024 => A0 (ix3 b s k)) (fun d => A1 (ix2 (0 : Fin 1) d)) (fun d => A3 (ix2 b d)) (fun d => A2 (ix2 b d)) d

/-- The row projected. -/
def projAt (A0 : Vec Ideal S2x8192x1024 .f32) (A1 : Vec Ideal S1x1024 .f32) (A2 A3 : Vec Ideal S2x1024 .f32) (A4 : Vec Ideal S1x1024x2304 .f32) (b : Fin 2) (s : Fin 8192) (j : Fin 2304) : EReal :=
  ∑ k : Fin 1024, nrmAt A0 A1 A2 A3 b s k * A4 (ix3 (0 : Fin 1) k j)

/-- The values, transposed head by head. -/
def valAt (A0 : Vec Ideal S2x8192x1024 .f32) (A1 : Vec Ideal S1x1024 .f32) (A2 A3 : Vec Ideal S2x1024 .f32) (A4 : Vec Ideal S1x1024x2304 .f32) (b h : Fin 2) (e : Fin 64) (s : Fin 8192) : EReal :=
  projAt A0 A1 A2 A3 A4 b s ⟨h.val * 64 + e.val + 640, by omega⟩

/-- The rows of the convolution. -/
def cnvAt (A0 : Vec Ideal S2x8192x1024 .f32) (A1 : Vec Ideal S1x1024 .f32) (A2 A3 : Vec Ideal S2x1024 .f32) (A4 : Vec Ideal S1x1024x2304 .f32) (b : Fin 2) (s : Fin 8192) (j : Fin 1536) : EReal :=
  projAt A0 A1 A2 A3 A4 b s ⟨j.val + 768, by omega⟩

variable (m : (ℓ : Loc nD τ sig) → Buf (Elt Ideal) ℓ) (c : Dev nD)

theorem index_facts : ∀ t : Fin cfg0.N,
    (win0_0.index t (0 : Fin 3) = t.val / 16 ∧ win0_0.index t (1 : Fin 3) = t.val % 16 ∧ win0_0.index t (2 : Fin 3) = 0)
    ∧ (win0_1.index t (0 : Fin 2) = 0 ∧ win0_1.index t (1 : Fin 2) = 0)
    ∧ (win0_2.index t (0 : Fin 3) = t.val / 16 ∧ win0_2.index t (1 : Fin 3) = 0 ∧ win0_2.index t (2 : Fin 3) = 0)
    ∧ (win0_3.index t (0 : Fin 3) = t.val / 16 ∧ win0_3.index t (1 : Fin 3) = 0 ∧ win0_3.index t (2 : Fin 3) = 0)
    ∧ (win0_4.index t (0 : Fin 2) = 0 ∧ win0_4.index t (1 : Fin 2) = 0)
    ∧ (win0_12.index t (0 : Fin 4) = t.val / 16 ∧ win0_12.index t (1 : Fin 4) = 0 ∧ win0_12.index t (2 : Fin 4) = 0 ∧ win0_12.index t (3 : Fin 4) = t.val % 16)
    ∧ (win0_13.index t (0 : Fin 3) = t.val / 16 ∧ win0_13.index t (1 : Fin 3) = t.val % 16 ∧ win0_13.index t (2 : Fin 3) = 0) :=
  (by decide +kernel : ∀ t : Fin grid0.N, _)

def batOf (t : Fin cfg0.N) : Fin 2 := ⟨t.val / 16, by have := Nat.lt_of_lt_of_eq t.isLt (show cfg0.N = 32 from N_0); omega⟩
def seqOf (t : Fin cfg0.N) (r : Fin 512) : Fin 8192 := ⟨t.val % 16 * 512 + r.val, by omega⟩

theorem x0_apply (t : Fin cfg0.N) (r : Fin 512) (k : Fin 1024) :
    (iblk m c 0 t : Vec Ideal S1x512x1024 .f32) (ix3 (0 : Fin 1) r k) = (m ((c : Thread nD τ).loc main_arg0) : Vec Ideal S2x8192x1024 .f32) (ix3 (batOf t) (seqOf t r) k) := by
  obtain ⟨⟨e0, e1, e2⟩, -⟩ := index_facts t
  unfold iblk
  refine (congrArg (V m c main_arg0) (?_ : _ = (ix3 (batOf t) (seqOf t r) k : S2x8192x1024.Idx))).trans (congrFun (V_main_arg0 m c) _)
  funext a
  apply Fin.ext
  match a with
  | ⟨0, _⟩ => show win0_0.index t (0 : Fin 3) * 1 + 1 * 0 = t.val / 16; rw [e0]; omega
  | ⟨1, _⟩ => show win0_0.index t (1 : Fin 3) * 512 + 1 * r.val = t.val % 16 * 512 + r.val; rw [e1]; omega
  | ⟨2, _⟩ => show win0_0.index t (2 : Fin 3) * 1024 + 1 * k.val = k.val; rw [e2]; omega

theorem x1_apply (t : Fin cfg0.N) (d : Fin 1024) :
    (iblk m c 1 t : Vec Ideal S1x1024 .f32) (ix2 (0 : Fin 1) d) = (m ((c : Thread nD τ).loc main_arg1) : Vec Ideal S1x1024 .f32) (ix2 (0 : Fin 1) d) := by
  obtain ⟨-, ⟨e0, e1⟩, -⟩ := index_facts t
  unfold iblk
  refine (congrArg (V m c main_v31) (?_ : _ = (ix2 (0 : Fin 1) d : S1x1024.Idx))).trans (gain_apply m c d)
  funext a
  apply Fin.ext
  match a with
  | ⟨0, _⟩ => show win0_1.index t (0 : Fin 2) * 1 + 1 * 0 = 0; rw [e0]
  | ⟨1, _⟩ => show win0_1.index t (1 : Fin 2) * 1024 + 1 * d.val = d.val; rw [e1]; omega

theorem x2_apply (t : Fin cfg0.N) (d : Fin 1024) :
    (iblk m c 2 t : Vec Ideal S1x1x1024 .f32) (ix3 (0 : Fin 1) (0 : Fin 1) d) = (m ((c : Thread nD τ).loc main_arg2) : Vec Ideal S2x1024 .f32) (ix2 (batOf t) d) := by
  obtain ⟨-, -, ⟨e0, e1, e2⟩, -⟩ := index_facts t
  unfold iblk
  refine (congrArg (V m c main_v32) (?_ : _ = (ix3 (batOf t) (0 : Fin 1) d : S2x1x1024.Idx))).trans (shift_apply m c (batOf t) d)
  funext a
  apply Fin.ext
  match a with
  | ⟨0, _⟩ => show win0_2.index t (0 : Fin 3) * 1 + 1 * 0 = t.val / 16; rw [e0]; omega
  | ⟨1, _⟩ => show win0_2.index t (1 : Fin 3) * 1 + 1 * 0 = 0; rw [e1]
  | ⟨2, _⟩ => show win0_2.index t (2 : Fin 3) * 1024 + 1 * d.val = d.val; rw [e2]; omega

theorem x3_apply (t : Fin cfg0.N) (d : Fin 1024) :
    (iblk m c 3 t : Vec Ideal S1x1x1024 .f32) (ix3 (0 : Fin 1) (0 : Fin 1) d) = (m ((c : Thread nD τ).loc main_arg3) : Vec Ideal S2x1024 .f32) (ix2 (batOf t) d) := by
  obtain ⟨-, -, -, ⟨e0, e1, e2⟩, -⟩ := index_facts t
  unfold iblk
  refine (congrArg (V m c main_v33) (?_ : _ = (ix3 (batOf t) (0 : Fin 1) d : S2x1x1024.Idx))).trans (scale_apply m c (batOf t) d)
  funext a
  apply Fin.ext
  match a with
  | ⟨0, _⟩ => show win0_3.index t (0 : Fin 3) * 1 + 1 * 0 = t.val / 16; rw [e0]; omega
  | ⟨1, _⟩ => show win0_3.index t (1 : Fin 3) * 1 + 1 * 0 = 0; rw [e1]
  | ⟨2, _⟩ => show win0_3.index t (2 : Fin 3) * 1024 + 1 * d.val = d.val; rw [e2]; omega

theorem x4_apply (t : Fin cfg0.N) (k : Fin 1024) (j : Fin 2304) :
    (iblk m c 4 t : Vec Ideal S1024x2304 .bf16) (ix2 k j) = (m ((c : Thread nD τ).loc main_arg4) : Vec Ideal S1x1024x2304 .f32) (ix3 (0 : Fin 1) k j) := by
  obtain ⟨-, -, -, -, ⟨e0, e1⟩, -⟩ := index_facts t
  unfold iblk
  refine (congrArg (V m c main_v1) (?_ : _ = (ix2 k j : S1024x2304.Idx))).trans (w_apply m c k j)
  funext a
  apply Fin.ext
  match a with
  | ⟨0, _⟩ => show win0_4.index t (0 : Fin 2) * 1024 + 1 * k.val = k.val; rw [e0]; omega
  | ⟨1, _⟩ => show win0_4.index t (1 : Fin 2) * 2304 + 1 * j.val = j.val; rw [e1]; omega

theorem nrm_eq (t : Fin cfg0.N) (r : Fin 512) (d : Fin 1024) :
    nrmB (iblk m c 0 t) (iblk m c 1 t) (iblk m c 2 t) (iblk m c 3 t) r d = nrmAt (m ((c : Thread nD τ).loc main_arg0) : Vec Ideal S2x8192x1024 .f32) (m ((c : Thread nD τ).loc main_arg1) : Vec Ideal S1x1024 .f32) (m ((c : Thread nD τ).loc main_arg2) : Vec Ideal S2x1024 .f32) (m ((c : Thread nD τ).loc main_arg3) : Vec Ideal S2x1024 .f32) (batOf t) (seqOf t r) d := by
  unfold nrmB nrmAt
  have e1 := funext fun k : Fin 1024 => x0_apply m c t r k
  have e2 := funext fun d : Fin 1024 => x1_apply m c t d
  have e3 := funext fun d : Fin 1024 => x3_apply m c t d
  have e4 := funext fun d : Fin 1024 => x2_apply m c t d
  exact (congrArg (fun f => nrm f _ _ _ d) e1).trans ((congrArg (fun f => nrm _ f _ _ d) e2).trans ((congrArg (fun f => nrm _ _ f _ d) e3).trans (congrArg (fun f => nrm _ _ _ f d) e4)))

theorem proj_eq (t : Fin cfg0.N) (r : Fin 512) (j : Fin 2304) :
    projB (iblk m c 0 t) (iblk m c 1 t) (iblk m c 2 t) (iblk m c 3 t) (iblk m c 4 t) r j = projAt (m ((c : Thread nD τ).loc main_arg0) : Vec Ideal S2x8192x1024 .f32) (m ((c : Thread nD τ).loc main_arg1) : Vec Ideal S1x1024 .f32) (m ((c : Thread nD τ).loc main_arg2) : Vec Ideal S2x1024 .f32) (m ((c : Thread nD τ).loc main_arg3) : Vec Ideal S2x1024 .f32) (m ((c : Thread nD τ).loc main_arg4) : Vec Ideal S1x1024x2304 .f32) (batOf t) (seqOf t r) j := by
  unfold projB projAt
  exact Finset.sum_congr rfl fun k _ => congrArg₂ (fun p q : EReal => p * q) (nrm_eq m c t r k) (x4_apply m c t k j)

/-! ## The arrays -/

def G12 : Vec Ideal S2x2x64x8192 .bf16 := fun i => valAt (m ((c : Thread nD τ).loc main_arg0) : Vec Ideal S2x8192x1024 .f32) (m ((c : Thread nD τ).loc main_arg1) : Vec Ideal S1x1024 .f32) (m ((c : Thread nD τ).loc main_arg2) : Vec Ideal S2x1024 .f32) (m ((c : Thread nD τ).loc main_arg3) : Vec Ideal S2x1024 .f32) (m ((c : Thread nD τ).loc main_arg4) : Vec Ideal S1x1024x2304 .f32) (i 0) (i 1) (i 2) (i 3)
def G13 : Vec Ideal S2x8192x1536 .f32 := fun i => cnvAt (m ((c : Thread nD τ).loc main_arg0) : Vec Ideal S2x8192x1024 .f32) (m ((c : Thread nD τ).loc main_arg1) : Vec Ideal S1x1024 .f32) (m ((c : Thread nD τ).loc main_arg2) : Vec Ideal S2x1024 .f32) (m ((c : Thread nD τ).loc main_arg3) : Vec Ideal S2x1024 .f32) (m ((c : Thread nD τ).loc main_arg4) : Vec Ideal S1x1024x2304 .f32) (i 0) (i 1) (i 2)

theorem flushed12_eq (t : Fin cfg0.N) :
    (dats m 0 c).flushed 12 t = ((cfg0.win 12).blk t).view.read (Elt Ideal) (G12 m c) := by
  rw [Value.flushed12]
  obtain ⟨-, -, -, -, -, ⟨e0, e1, e2, e3⟩, -⟩ := index_facts t
  funext y
  have hy0 : (y 0).val < 1 := (y 0).isLt
  have hy1 : (y 1).val < 2 := (y 1).isLt
  have hy2 : (y 2).val < 64 := (y 2).isLt
  have hy3 : (y 3).val < 512 := (y 3).isLt
  have hl : (cfg0.win 12).xinj (grid0.coords t) y = (ix4 (0 : Fin 1) (⟨(y 1).val, hy1⟩ : Fin 2) (⟨(y 2).val, hy2⟩ : Fin 64) (⟨(y 3).val, hy3⟩ : Fin 512) : S1x2x64x512.Idx) := by
    funext a
    apply Fin.ext
    match a with
    | ⟨0, _⟩ => show (y 0).val = 0; omega
    | ⟨1, _⟩ => rfl
    | ⟨2, _⟩ => rfl
    | ⟨3, _⟩ => rfl
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) ((cfg0.win 12).xinj (grid0.coords t) y) = G12 m c (((cfg0.win 12).blk t).view.emb y)
  rw [hl]
  refine (out12_apply (iblk m c 0 t) (iblk m c 1 t) (iblk m c 2 t) (iblk m c 3 t) (iblk m c 4 t) (iblk m c 5 t) (iblk m c 6 t) (iblk m c 7 t) (iblk m c 8 t) (iblk m c 9 t) _ _ _).trans ((proj_eq m c t _ _).trans ?_)
  have hb0 : (((cfg0.win 12).blk t).view.emb y 0).val = win0_12.index t (0 : Fin 4) * 1 + 1 * (y 0).val := rfl
  have hb1 : (((cfg0.win 12).blk t).view.emb y 1).val = win0_12.index t (1 : Fin 4) * 2 + 1 * (y 1).val := rfl
  have hb2 : (((cfg0.win 12).blk t).view.emb y 2).val = win0_12.index t (2 : Fin 4) * 64 + 1 * (y 2).val := rfl
  have hb3 : (((cfg0.win 12).blk t).view.emb y 3).val = win0_12.index t (3 : Fin 4) * 512 + 1 * (y 3).val := rfl
  have g0 : batOf t = ((cfg0.win 12).blk t).view.emb y 0 := Fin.ext (by rw [hb0, e0]; show t.val / 16 = _; omega)
  have g1 : (⟨(y 1).val, hy1⟩ : Fin 2) = ((cfg0.win 12).blk t).view.emb y 1 := Fin.ext (by rw [hb1, e1]; show (y 1).val = _; omega)
  have g2 : (⟨(y 2).val, hy2⟩ : Fin 64) = ((cfg0.win 12).blk t).view.emb y 2 := Fin.ext (by rw [hb2, e2]; show (y 2).val = _; omega)
  have g3 : seqOf t ⟨(y 3).val, hy3⟩ = ((cfg0.win 12).blk t).view.emb y 3 := Fin.ext (by rw [hb3, e3]; show t.val % 16 * 512 + (y 3).val = _; omega)
  unfold G12
  show valAt _ _ _ _ _ (batOf t) (⟨(y 1).val, hy1⟩ : Fin 2) (⟨(y 2).val, hy2⟩ : Fin 64) (seqOf t ⟨(y 3).val, hy3⟩) = _
  exact (congrArg₂ (fun (x : Fin 2) (z : Fin 2) => valAt _ _ _ _ _ x z _ _) g0 g1).trans (congrArg₂ (fun (x : Fin 64) (z : Fin 8192) => valAt _ _ _ _ _ _ _ x z) g2 g3)

theorem mem_blk12 (t : Fin cfg0.N) (i : S2x2x64x8192.Idx) :
    i ∈ ((cfg0.win 12).blk t).view.set ↔ ∀ a : Fin 4, win0_12.index t a * S1x2x64x512.size a ≤ (i a).val ∧ (i a).val < win0_12.index t a * S1x2x64x512.size a + S1x2x64x512.size a := by
  show i ∈ ((View.whole main_v34_2).slice (win0_12.rect t)).set ↔ _
  rw [View.set_slice_whole, Rect.mem_set_unit]
  exact Iff.rfl

theorem covered12 (i : S2x2x64x8192.Idx) : ∃ t : Fin cfg0.N, (cfg0.win 12).flush t = true ∧ i ∈ ((cfg0.win 12).blk t).view.set := by
  have hi0 : (i 0).val < 2 := (i 0).isLt
  have hi1 : (i 1).val < 2 := (i 1).isLt
  have hi2 : (i 2).val < 64 := (i 2).isLt
  have hi3 : (i 3).val < 8192 := (i 3).isLt
  have hN : cfg0.N = 32 := N_0
  let t : Fin cfg0.N := ⟨16 * (i 0).val + (i 3).val / 512, by omega⟩
  have ht : t.val = 16 * (i 0).val + (i 3).val / 512 := rfl
  obtain ⟨-, -, -, -, -, ⟨e0, e1, e2, e3⟩, -⟩ := index_facts t
  refine ⟨t, flush0_12 t, (mem_blk12 t i).mpr fun a => ?_⟩
  match a with
  | ⟨0, _⟩ => show win0_12.index t (0 : Fin 4) * 1 ≤ (i 0).val ∧ (i 0).val < win0_12.index t (0 : Fin 4) * 1 + 1; rw [e0, ht]; omega
  | ⟨1, _⟩ => show win0_12.index t (1 : Fin 4) * 2 ≤ (i 1).val ∧ (i 1).val < win0_12.index t (1 : Fin 4) * 2 + 2; rw [e1]; omega
  | ⟨2, _⟩ => show win0_12.index t (2 : Fin 4) * 64 ≤ (i 2).val ∧ (i 2).val < win0_12.index t (2 : Fin 4) * 64 + 64; rw [e2]; omega
  | ⟨3, _⟩ => show win0_12.index t (3 : Fin 4) * 512 ≤ (i 3).val ∧ (i 3).val < win0_12.index t (3 : Fin 4) * 512 + 512; rw [e3]; omega

theorem arr12_eq : (dats m 0 c).arrAt 12 cfg0.N = G12 m c :=
  (dats m 0 c).arrAt_eq_of_cover 12 _ (fun t _ => flushed12_eq m c t) covered12

theorem flushed13_eq (t : Fin cfg0.N) :
    (dats m 0 c).flushed 13 t = ((cfg0.win 13).blk t).view.read (Elt Ideal) (G13 m c) := by
  rw [Value.flushed13]
  obtain ⟨-, -, -, -, -, -, ⟨e0, e1, e2⟩⟩ := index_facts t
  funext y
  have hy0 : (y 0).val < 1 := (y 0).isLt
  have hy1 : (y 1).val < 512 := (y 1).isLt
  have hy2 : (y 2).val < 1536 := (y 2).isLt
  have hl : (cfg0.win 13).xinj (grid0.coords t) y = (ix3 (0 : Fin 1) (⟨(y 1).val, hy1⟩ : Fin 512) (⟨(y 2).val, hy2⟩ : Fin 1536) : S1x512x1536.Idx) := by
    funext a
    apply Fin.ext
    match a with
    | ⟨0, _⟩ => show (y 0).val = 0; omega
    | ⟨1, _⟩ => rfl
    | ⟨2, _⟩ => rfl
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) ((cfg0.win 13).xinj (grid0.coords t) y) = G13 m c (((cfg0.win 13).blk t).view.emb y)
  rw [hl]
  refine (out13_apply (iblk m c 0 t) (iblk m c 1 t) (iblk m c 2 t) (iblk m c 3 t) (iblk m c 4 t) (iblk m c 5 t) (iblk m c 6 t) (iblk m c 7 t) (iblk m c 8 t) (iblk m c 9 t) _ _).trans ((proj_eq m c t _ _).trans ?_)
  have hb0 : (((cfg0.win 13).blk t).view.emb y 0).val = win0_13.index t (0 : Fin 3) * 1 + 1 * (y 0).val := rfl
  have hb1 : (((cfg0.win 13).blk t).view.emb y 1).val = win0_13.index t (1 : Fin 3) * 512 + 1 * (y 1).val := rfl
  have hb2 : (((cfg0.win 13).blk t).view.emb y 2).val = win0_13.index t (2 : Fin 3) * 1536 + 1 * (y 2).val := rfl
  have g0 : batOf t = ((cfg0.win 13).blk t).view.emb y 0 := Fin.ext (by rw [hb0, e0]; show t.val / 16 = _; omega)
  have g1 : seqOf t ⟨(y 1).val, hy1⟩ = ((cfg0.win 13).blk t).view.emb y 1 := Fin.ext (by rw [hb1, e1]; show t.val % 16 * 512 + (y 1).val = _; omega)
  have g2 : (⟨(y 2).val, hy2⟩ : Fin 1536) = ((cfg0.win 13).blk t).view.emb y 2 := Fin.ext (by rw [hb2, e2]; show (y 2).val = _; omega)
  unfold G13
  show cnvAt _ _ _ _ _ (batOf t) (seqOf t ⟨(y 1).val, hy1⟩) (⟨(y 2).val, hy2⟩ : Fin 1536) = _
  exact (congrArg (fun x : Fin 2 => cnvAt _ _ _ _ _ x _ _) g0).trans (congrArg₂ (fun (x : Fin 8192) (z : Fin 1536) => cnvAt _ _ _ _ _ _ x z) g1 g2)

theorem mem_blk13 (t : Fin cfg0.N) (i : S2x8192x1536.Idx) :
    i ∈ ((cfg0.win 13).blk t).view.set ↔ ∀ a : Fin 3, win0_13.index t a * S1x512x1536.size a ≤ (i a).val ∧ (i a).val < win0_13.index t a * S1x512x1536.size a + S1x512x1536.size a := by
  show i ∈ ((View.whole main_v34_3).slice (win0_13.rect t)).set ↔ _
  rw [View.set_slice_whole, Rect.mem_set_unit]
  exact Iff.rfl

theorem covered13 (i : S2x8192x1536.Idx) : ∃ t : Fin cfg0.N, (cfg0.win 13).flush t = true ∧ i ∈ ((cfg0.win 13).blk t).view.set := by
  have hi0 : (i 0).val < 2 := (i 0).isLt
  have hi1 : (i 1).val < 8192 := (i 1).isLt
  have hi2 : (i 2).val < 1536 := (i 2).isLt
  have hN : cfg0.N = 32 := N_0
  let t : Fin cfg0.N := ⟨16 * (i 0).val + (i 1).val / 512, by omega⟩
  have ht : t.val = 16 * (i 0).val + (i 1).val / 512 := rfl
  obtain ⟨-, -, -, -, -, -, ⟨e0, e1, e2⟩⟩ := index_facts t
  refine ⟨t, flush0_13 t, (mem_blk13 t i).mpr fun a => ?_⟩
  match a with
  | ⟨0, _⟩ => show win0_13.index t (0 : Fin 3) * 1 ≤ (i 0).val ∧ (i 0).val < win0_13.index t (0 : Fin 3) * 1 + 1; rw [e0, ht]; omega
  | ⟨1, _⟩ => show win0_13.index t (1 : Fin 3) * 512 ≤ (i 1).val ∧ (i 1).val < win0_13.index t (1 : Fin 3) * 512 + 512; rw [e1]; omega
  | ⟨2, _⟩ => show win0_13.index t (2 : Fin 3) * 1536 ≤ (i 2).val ∧ (i 2).val < win0_13.index t (2 : Fin 3) * 1536 + 1536; rw [e2]; omega

theorem arr13_eq : (dats m 0 c).arrAt 13 cfg0.N = G13 m c :=
  (dats m 0 c).arrAt_eq_of_cover 13 _ (fun t _ => flushed13_eq m c t) covered13

end Cert.Kernel4Ideal.Inp

end
-- ==== Proof.InQK.lean ====
module

public import proofs.«01_k».proof.Proof.InTabs
public import proofs.«01_k».proof.Proof.InArray

/-! The input projection's queries and keys after the run, from the arguments -/

@[expose] public section

set_option maxRecDepth 16384

noncomputable section

namespace Cert.Kernel4Ideal.Inp

open Cert.Kernel4Ideal Cert.Kernel4Ideal.Gen
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open Cert.Softmax Cert.Out Cert.Inp

/-- The queries, scaled. -/
def qAt (A0 : Vec Ideal S2x8192x1024 .f32) (A1 : Vec Ideal S1x1024 .f32) (A2 A3 : Vec Ideal S2x1024 .f32) (A4 : Vec Ideal S1x1024x2304 .f32) (A5 : Vec Ideal S1x64 .f32) (A7 A8 : Vec Ideal S8192x2x16 .f32) (b : Fin 2) (s : Fin 8192) (j : Fin 512) : EReal :=
  rowQ (projAt A0 A1 A2 A3 A4 b s) (fun e => A5 (ix2 (0 : Fin 1) e)) (fun a i => A7 (ix3 s a i)) (fun a i => A8 (ix3 s a i)) j

/-- The keys, head by head. -/
def kAt (A0 : Vec Ideal S2x8192x1024 .f32) (A1 : Vec Ideal S1x1024 .f32) (A2 A3 : Vec Ideal S2x1024 .f32) (A4 : Vec Ideal S1x1024x2304 .f32) (A6 : Vec Ideal S1x64 .f32) (A7 A8 : Vec Ideal S8192x2x16 .f32) (b h : Fin 2) (s : Fin 8192) (e : Fin 64) : EReal :=
  rowK (projAt A0 A1 A2 A3 A4 b s) (fun e => A6 (ix2 (0 : Fin 1) e)) (fun a i => A7 (ix3 s a i)) (fun a i => A8 (ix3 s a i)) h e

/-- Every number of the arguments the projected rows are made of is real. -/
structure Reals (A0 : Vec Ideal S2x8192x1024 .f32) (A1 : Vec Ideal S1x1024 .f32) (A2 A3 : Vec Ideal S2x1024 .f32) (A4 : Vec Ideal S1x1024x2304 .f32) : Prop where
  r0 : ∀ i, IsReal (A0 i)
  r1 : ∀ i, IsReal (A1 i)
  r2 : ∀ i, IsReal (A2 i)
  r3 : ∀ i, IsReal (A3 i)
  r4 : ∀ i, IsReal (A4 i)

theorem projAt_real (A0 : Vec Ideal S2x8192x1024 .f32) (A1 : Vec Ideal S1x1024 .f32) (A2 A3 : Vec Ideal S2x1024 .f32) (A4 : Vec Ideal S1x1024x2304 .f32) (R : Reals A0 A1 A2 A3 A4) (b : Fin 2) (s : Fin 8192) (j : Fin 2304) : IsReal (projAt A0 A1 A2 A3 A4 b s j) := by
  unfold projAt
  refine isReal_sum _ _ fun k => IsReal.mul ?_ (R.r4 _)
  unfold nrmAt
  exact nrm_real (fun _ => R.r0 _) (fun _ => R.r1 _) (fun _ => R.r3 _) (fun _ => R.r2 _) k

variable (m : (ℓ : Loc nD τ sig) → Buf (Elt Ideal) ℓ) (c : Dev nD)

theorem index_tabs : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val % 16 ∧ win0_8.index t (1 : Fin 2) = 0)
    ∧ (win0_9.index t (0 : Fin 2) = t.val % 16 ∧ win0_9.index t (1 : Fin 2) = 0)
    ∧ (win0_10.index t (0 : Fin 3) = t.val / 16 ∧ win0_10.index t (1 : Fin 3) = t.val % 16 ∧ win0_10.index t (2 : Fin 3) = 0)
    ∧ (win0_11.index t (0 : Fin 4) = t.val / 16 ∧ win0_11.index t (1 : Fin 4) = 0 ∧ win0_11.index t (2 : Fin 4) = t.val % 16 ∧ win0_11.index t (3 : Fin 4) = 0) :=
  (by decide +kernel : ∀ t : Fin grid0.N, _)

theorem x5_apply (t : Fin cfg0.N) (L : Fin 128) :
    (iblk m c 5 t : Vec Ideal S1x128 .f32) (ix2 (0 : Fin 1) L) = (m ((c : Thread nD τ).loc main_arg5) : Vec Ideal S1x64 .f32) (ix2 (0 : Fin 1) (⟨L.val % 64, by omega⟩ : Fin 64)) := by
  obtain ⟨⟨e0, e1⟩, -⟩ := index_tabs t
  unfold iblk
  refine (congrArg (V m c main_v6) (?_ : _ = (ix2 (0 : Fin 1) L : S1x128.Idx))).trans ((congrFun (v6_eq m c) _).trans (twice_apply (m ((c : Thread nD τ).loc main_arg5) : Vec Ideal S1x64 .f32) L))
  funext a
  apply Fin.ext
  match a with
  | ⟨0, _⟩ => show win0_5.index t (0 : Fin 2) * 1 + 1 * 0 = 0; rw [e0]
  | ⟨1, _⟩ => show win0_5.index t (1 : Fin 2) * 128 + 1 * L.val = L.val; rw [e1]; omega

theorem x6_apply (t : Fin cfg0.N) (L : Fin 128) :
    (iblk m c 6 t : Vec Ideal S1x128 .f32) (ix2 (0 : Fin 1) L) = (m ((c : Thread nD τ).loc main_arg6) : Vec Ideal S1x64 .f32) (ix2 (0 : Fin 1) (⟨L.val % 64, by omega⟩ : Fin 64)) := by
  obtain ⟨-, ⟨e0, e1⟩, -⟩ := index_tabs t
  unfold iblk
  refine (congrArg (V m c main_v11) (?_ : _ = (ix2 (0 : Fin 1) L : S1x128.Idx))).trans ((congrFun (v11_eq m c) _).trans (twice_apply (m ((c : Thread nD τ).loc main_arg6) : Vec Ideal S1x64 .f32) L))
  funext a
  apply Fin.ext
  match a with
  | ⟨0, _⟩ => show win0_6.index t (0 : Fin 2) * 1 + 1 * 0 = 0; rw [e0]
  | ⟨1, _⟩ => show win0_6.index t (1 : Fin 2) * 128 + 1 * L.val = L.val; rw [e1]; omega

theorem x7_diag (t : Fin cfg0.N) : Diag (iblk m c 7 t : Vec Ideal S256x256 .bf16) := fun k l => by
  obtain ⟨-, -, ⟨e0, e1⟩, -⟩ := index_tabs t
  unfold iblk
  refine (congrArg (V m c main_cst) (?_ : _ = (ix2 k l : S256x256.Idx))).trans ((congrFun (cst_eq m c) _).trans (diagT_diag k l))
  funext a
  apply Fin.ext
  match a with
  | ⟨0, _⟩ => show win0_7.index t (0 : Fin 2) * 256 + 1 * k.val = k.val; rw [e0]; omega
  | ⟨1, _⟩ => show win0_7.index t (1 : Fin 2) * 256 + 1 * l.val = l.val; rw [e1]; omega

theorem x8_apply (t : Fin cfg0.N) (r : Fin 512) (L : Fin 128) :
    (iblk m c 8 t : Vec Ideal S512x128 .f32) (ix2 r L) = (m ((c : Thread nD τ).loc main_arg7) : Vec Ideal S8192x2x16 .f32) (ix3 (seqOf t r) (⟨L.val % 64 / 32, by omega⟩ : Fin 2) (⟨L.val % 16, by omega⟩ : Fin 16)) := by
  obtain ⟨-, -, -, ⟨e0, e1⟩, -⟩ := index_tabs t
  unfold iblk
  refine (congrArg (V m c main_v23) (?_ : _ = (ix2 (seqOf t r) L : S8192x128.Idx))).trans ((congrFun (v23_eq m c) _).trans (cosT_apply (m ((c : Thread nD τ).loc main_arg7) : Vec Ideal S8192x2x16 .f32) (seqOf t r) L))
  funext a
  apply Fin.ext
  match a with
  | ⟨0, _⟩ => show win0_8.index t (0 : Fin 2) * 512 + 1 * r.val = t.val % 16 * 512 + r.val; rw [e0]; omega
  | ⟨1, _⟩ => show win0_8.index t (1 : Fin 2) * 128 + 1 * L.val = L.val; rw [e1]; omega

theorem x9_apply (t : Fin cfg0.N) (r : Fin 512) (L : Fin 128) :
    (iblk m c 9 t : Vec Ideal S512x128 .f32) (ix2 r L) = if L.val % 32 < 16 then Neg.neg (α := EReal) ((m ((c : Thread nD τ).loc main_arg8) : Vec Ideal S8192x2x16 .f32) (ix3 (seqOf t r) (⟨L.val % 64 / 32, by omega⟩ : Fin 2) (⟨L.val % 16, by omega⟩ : Fin 16))) else (m ((c : Thread nD τ).loc main_arg8) : Vec Ideal S8192x2x16 .f32) (ix3 (seqOf t r) (⟨L.val % 64 / 32, by omega⟩ : Fin 2) (⟨L.val % 16, by omega⟩ : Fin 16)) := by
  obtain ⟨-, -, -, -, ⟨e0, e1⟩, -⟩ := index_tabs t
  unfold iblk
  refine (congrArg (V m c main_v29) (?_ : _ = (ix2 (seqOf t r) L : S8192x128.Idx))).trans ((congrFun (v29_eq m c) _).trans (sinT_apply (m ((c : Thread nD τ).loc main_arg8) : Vec Ideal S8192x2x16 .f32) (seqOf t r) L))
  funext a
  apply Fin.ext
  match a with
  | ⟨0, _⟩ => show win0_9.index t (0 : Fin 2) * 512 + 1 * r.val = t.val % 16 * 512 + r.val; rw [e0]; omega
  | ⟨1, _⟩ => show win0_9.index t (1 : Fin 2) * 128 + 1 * L.val = L.val; rw [e1]; omega

theorem tabs_q (t : Fin cfg0.N) (r : Fin 512) : Tabs (iblk m c 5 t) (iblk m c 8 t) (iblk m c 9 t) r (fun e => (m ((c : Thread nD τ).loc main_arg5) : Vec Ideal S1x64 .f32) (ix2 (0 : Fin 1) e)) (fun a i => (m ((c : Thread nD τ).loc main_arg7) : Vec Ideal S8192x2x16 .f32) (ix3 (seqOf t r) a i)) (fun a i => (m ((c : Thread nD τ).loc main_arg8) : Vec Ideal S8192x2x16 .f32) (ix3 (seqOf t r) a i)) :=
  ⟨x5_apply m c t, x8_apply m c t r, x9_apply m c t r⟩

theorem tabs_k (t : Fin cfg0.N) (r : Fin 512) : Tabs (iblk m c 6 t) (iblk m c 8 t) (iblk m c 9 t) r (fun e => (m ((c : Thread nD τ).loc main_arg6) : Vec Ideal S1x64 .f32) (ix2 (0 : Fin 1) e)) (fun a i => (m ((c : Thread nD τ).loc main_arg7) : Vec Ideal S8192x2x16 .f32) (ix3 (seqOf t r) a i)) (fun a i => (m ((c : Thread nD τ).loc main_arg8) : Vec Ideal S8192x2x16 .f32) (ix3 (seqOf t r) a i)) :=
  ⟨x6_apply m c t, x8_apply m c t r, x9_apply m c t r⟩

/-! ## The arrays -/

def G10 : Vec Ideal S2x8192x512 .bf16 := fun i => qAt (m ((c : Thread nD τ).loc main_arg0) : Vec Ideal S2x8192x1024 .f32) (m ((c : Thread nD τ).loc main_arg1) : Vec Ideal S1x1024 .f32) (m ((c : Thread nD τ).loc main_arg2) : Vec Ideal S2x1024 .f32) (m ((c : Thread nD τ).loc main_arg3) : Vec Ideal S2x1024 .f32) (m ((c : Thread nD τ).loc main_arg4) : Vec Ideal S1x1024x2304 .f32) (m ((c : Thread nD τ).loc main_arg5) : Vec Ideal S1x64 .f32) (m ((c : Thread nD τ).loc main_arg7) : Vec Ideal S8192x2x16 .f32) (m ((c : Thread nD τ).loc main_arg8) : Vec Ideal S8192x2x16 .f32) (i 0) (i 1) (i 2)
def G11 : Vec Ideal S2x2x8192x64 .bf16 := fun i => kAt (m ((c : Thread nD τ).loc main_arg0) : Vec Ideal S2x8192x1024 .f32) (m ((c : Thread nD τ).loc main_arg1) : Vec Ideal S1x1024 .f32) (m ((c : Thread nD τ).loc main_arg2) : Vec Ideal S2x1024 .f32) (m ((c : Thread nD τ).loc main_arg3) : Vec Ideal S2x1024 .f32) (m ((c : Thread nD τ).loc main_arg4) : Vec Ideal S1x1024x2304 .f32) (m ((c : Thread nD τ).loc main_arg6) : Vec Ideal S1x64 .f32) (m ((c : Thread nD τ).loc main_arg7) : Vec Ideal S8192x2x16 .f32) (m ((c : Thread nD τ).loc main_arg8) : Vec Ideal S8192x2x16 .f32) (i 0) (i 1) (i 2) (i 3)

variable (R : Reals (m ((c : Thread nD τ).loc main_arg0) : Vec Ideal S2x8192x1024 .f32) (m ((c : Thread nD τ).loc main_arg1) : Vec Ideal S1x1024 .f32) (m ((c : Thread nD τ).loc main_arg2) : Vec Ideal S2x1024 .f32) (m ((c : Thread nD τ).loc main_arg3) : Vec Ideal S2x1024 .f32) (m ((c : Thread nD τ).loc main_arg4) : Vec Ideal S1x1024x2304 .f32))
include R

theorem projB_real (t : Fin cfg0.N) (r : Fin 512) (k : Fin 2304) : IsReal (projB (iblk m c 0 t) (iblk m c 1 t) (iblk m c 2 t) (iblk m c 3 t) (iblk m c 4 t) r k) := by
  rw [proj_eq]
  exact projAt_real _ _ _ _ _ R _ _ _

theorem flushed10_eq (t : Fin cfg0.N) :
    (dats m 0 c).flushed 10 t = ((cfg0.win 10).blk t).view.read (Elt Ideal) (G10 m c) := by
  rw [Value.flushed10]
  obtain ⟨-, -, -, -, -, ⟨e0, e1, e2⟩, -⟩ := index_tabs t
  funext y
  have hy0 : (y 0).val < 1 := (y 0).isLt
  have hy1 : (y 1).val < 512 := (y 1).isLt
  have hy2 : (y 2).val < 512 := (y 2).isLt
  have hl : (cfg0.win 10).xinj (grid0.coords t) y = (ix3 (0 : Fin 1) (⟨(y 1).val, hy1⟩ : Fin 512) (⟨(y 2).val, hy2⟩ : Fin 512) : S1x512x512.Idx) := by
    funext a
    apply Fin.ext
    match a with
    | ⟨0, _⟩ => show (y 0).val = 0; omega
    | ⟨1, _⟩ => rfl
    | ⟨2, _⟩ => rfl
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) ((cfg0.win 10).xinj (grid0.coords t) y) = G10 m c (((cfg0.win 10).blk t).view.emb y)
  rw [hl]
  refine (out10_apply (iblk m c 0 t) (iblk m c 1 t) (iblk m c 2 t) (iblk m c 3 t) (iblk m c 4 t) (iblk m c 5 t) (iblk m c 6 t) (iblk m c 7 t) (iblk m c 8 t) (iblk m c 9 t) (x7_diag m c t) (projB_real m c R t) _ _ _ (tabs_q m c t) _ _).trans ((congrArg (fun P => rowQ P _ _ _ _) (funext fun k => proj_eq m c t _ k)).trans ?_)
  have hb0 : (((cfg0.win 10).blk t).view.emb y 0).val = win0_10.index t (0 : Fin 3) * 1 + 1 * (y 0).val := rfl
  have hb1 : (((cfg0.win 10).blk t).view.emb y 1).val = win0_10.index t (1 : Fin 3) * 512 + 1 * (y 1).val := rfl
  have hb2 : (((cfg0.win 10).blk t).view.emb y 2).val = win0_10.index t (2 : Fin 3) * 512 + 1 * (y 2).val := rfl
  have g0 : batOf t = ((cfg0.win 10).blk t).view.emb y 0 := Fin.ext (by rw [hb0, e0]; show t.val / 16 = _; omega)
  have g1 : seqOf t ⟨(y 1).val, hy1⟩ = ((cfg0.win 10).blk t).view.emb y 1 := Fin.ext (by rw [hb1, e1]; show t.val % 16 * 512 + (y 1).val = _; omega)
  have g2 : (⟨(y 2).val, hy2⟩ : Fin 512) = ((cfg0.win 10).blk t).view.emb y 2 := Fin.ext (by rw [hb2, e2]; show (y 2).val = _; omega)
  unfold G10
  show qAt (m ((c : Thread nD τ).loc main_arg0) : Vec Ideal S2x8192x1024 .f32) (m ((c : Thread nD τ).loc main_arg1) : Vec Ideal S1x1024 .f32) (m ((c : Thread nD τ).loc main_arg2) : Vec Ideal S2x1024 .f32) (m ((c : Thread nD τ).loc main_arg3) : Vec Ideal S2x1024 .f32) (m ((c : Thread nD τ).loc main_arg4) : Vec Ideal S1x1024x2304 .f32) (m ((c : Thread nD τ).loc main_arg5) : Vec Ideal S1x64 .f32) (m ((c : Thread nD τ).loc main_arg7) : Vec Ideal S8192x2x16 .f32) (m ((c : Thread nD τ).loc main_arg8) : Vec Ideal S8192x2x16 .f32) (batOf t) (seqOf t ⟨(y 1).val, hy1⟩) (⟨(y 2).val, hy2⟩ : Fin 512) = _
  exact (congrArg (fun x : Fin 2 => qAt _ _ _ _ _ _ _ _ x _ _) g0).trans (congrArg₂ (fun (x : Fin 8192) (z : Fin 512) => qAt _ _ _ _ _ _ _ _ _ x z) g1 g2)

omit R in
theorem mem_blk10 (t : Fin cfg0.N) (i : S2x8192x512.Idx) :
    i ∈ ((cfg0.win 10).blk t).view.set ↔ ∀ a : Fin 3, win0_10.index t a * S1x512x512.size a ≤ (i a).val ∧ (i a).val < win0_10.index t a * S1x512x512.size a + S1x512x512.size a := by
  show i ∈ ((View.whole main_v34_0).slice (win0_10.rect t)).set ↔ _
  rw [View.set_slice_whole, Rect.mem_set_unit]
  exact Iff.rfl

omit R in
theorem covered10 (i : S2x8192x512.Idx) : ∃ t : Fin cfg0.N, (cfg0.win 10).flush t = true ∧ i ∈ ((cfg0.win 10).blk t).view.set := by
  have hi0 : (i 0).val < 2 := (i 0).isLt
  have hi1 : (i 1).val < 8192 := (i 1).isLt
  have hi2 : (i 2).val < 512 := (i 2).isLt
  have hN : cfg0.N = 32 := N_0
  let t : Fin cfg0.N := ⟨16 * (i 0).val + (i 1).val / 512, by omega⟩
  have ht : t.val = 16 * (i 0).val + (i 1).val / 512 := rfl
  obtain ⟨-, -, -, -, -, ⟨e0, e1, e2⟩, -⟩ := index_tabs t
  refine ⟨t, flush0_10 t, (mem_blk10 t i).mpr fun a => ?_⟩
  match a with
  | ⟨0, _⟩ => show win0_10.index t (0 : Fin 3) * 1 ≤ (i 0).val ∧ (i 0).val < win0_10.index t (0 : Fin 3) * 1 + 1; rw [e0, ht]; omega
  | ⟨1, _⟩ => show win0_10.index t (1 : Fin 3) * 512 ≤ (i 1).val ∧ (i 1).val < win0_10.index t (1 : Fin 3) * 512 + 512; rw [e1]; omega
  | ⟨2, _⟩ => show win0_10.index t (2 : Fin 3) * 512 ≤ (i 2).val ∧ (i 2).val < win0_10.index t (2 : Fin 3) * 512 + 512; rw [e2]; omega

theorem arr10_eq : (dats m 0 c).arrAt 10 cfg0.N = G10 m c :=
  (dats m 0 c).arrAt_eq_of_cover 10 _ (fun t _ => flushed10_eq m c R t) covered10

theorem flushed11_eq (t : Fin cfg0.N) :
    (dats m 0 c).flushed 11 t = ((cfg0.win 11).blk t).view.read (Elt Ideal) (G11 m c) := by
  rw [Value.flushed11]
  obtain ⟨-, -, -, -, -, -, ⟨e0, e1, e2, e3⟩⟩ := index_tabs t
  funext y
  have hy0 : (y 0).val < 1 := (y 0).isLt
  have hy1 : (y 1).val < 2 := (y 1).isLt
  have hy2 : (y 2).val < 512 := (y 2).isLt
  have hy3 : (y 3).val < 64 := (y 3).isLt
  have hl : (cfg0.win 11).xinj (grid0.coords t) y = (ix4 (0 : Fin 1) (⟨(y 1).val, hy1⟩ : Fin 2) (⟨(y 2).val, hy2⟩ : Fin 512) (⟨(y 3).val, hy3⟩ : Fin 64) : S1x2x512x64.Idx) := by
    funext a
    apply Fin.ext
    match a with
    | ⟨0, _⟩ => show (y 0).val = 0; omega
    | ⟨1, _⟩ => rfl
    | ⟨2, _⟩ => rfl
    | ⟨3, _⟩ => rfl
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) ((cfg0.win 11).xinj (grid0.coords t) y) = G11 m c (((cfg0.win 11).blk t).view.emb y)
  rw [hl]
  refine (out11_apply (iblk m c 0 t) (iblk m c 1 t) (iblk m c 2 t) (iblk m c 3 t) (iblk m c 4 t) (iblk m c 5 t) (iblk m c 6 t) (iblk m c 7 t) (iblk m c 8 t) (iblk m c 9 t) (x7_diag m c t) (projB_real m c R t) _ _ _ (tabs_k m c t) _ _ _).trans ((congrArg (fun P => rowK P _ _ _ _ _) (funext fun k => proj_eq m c t _ k)).trans ?_)
  have hb0 : (((cfg0.win 11).blk t).view.emb y 0).val = win0_11.index t (0 : Fin 4) * 1 + 1 * (y 0).val := rfl
  have hb1 : (((cfg0.win 11).blk t).view.emb y 1).val = win0_11.index t (1 : Fin 4) * 2 + 1 * (y 1).val := rfl
  have hb2 : (((cfg0.win 11).blk t).view.emb y 2).val = win0_11.index t (2 : Fin 4) * 512 + 1 * (y 2).val := rfl
  have hb3 : (((cfg0.win 11).blk t).view.emb y 3).val = win0_11.index t (3 : Fin 4) * 64 + 1 * (y 3).val := rfl
  have g0 : batOf t = ((cfg0.win 11).blk t).view.emb y 0 := Fin.ext (by rw [hb0, e0]; show t.val / 16 = _; omega)
  have g1 : (⟨(y 1).val, hy1⟩ : Fin 2) = ((cfg0.win 11).blk t).view.emb y 1 := Fin.ext (by rw [hb1, e1]; show (y 1).val = _; omega)
  have g2 : seqOf t ⟨(y 2).val, hy2⟩ = ((cfg0.win 11).blk t).view.emb y 2 := Fin.ext (by rw [hb2, e2]; show t.val % 16 * 512 + (y 2).val = _; omega)
  have g3 : (⟨(y 3).val, hy3⟩ : Fin 64) = ((cfg0.win 11).blk t).view.emb y 3 := Fin.ext (by rw [hb3, e3]; show (y 3).val = _; omega)
  unfold G11
  show kAt (m ((c : Thread nD τ).loc main_arg0) : Vec Ideal S2x8192x1024 .f32) (m ((c : Thread nD τ).loc main_arg1) : Vec Ideal S1x1024 .f32) (m ((c : Thread nD τ).loc main_arg2) : Vec Ideal S2x1024 .f32) (m ((c : Thread nD τ).loc main_arg3) : Vec Ideal S2x1024 .f32) (m ((c : Thread nD τ).loc main_arg4) : Vec Ideal S1x1024x2304 .f32) (m ((c : Thread nD τ).loc main_arg6) : Vec Ideal S1x64 .f32) (m ((c : Thread nD τ).loc main_arg7) : Vec Ideal S8192x2x16 .f32) (m ((c : Thread nD τ).loc main_arg8) : Vec Ideal S8192x2x16 .f32) (batOf t) (⟨(y 1).val, hy1⟩ : Fin 2) (seqOf t ⟨(y 2).val, hy2⟩) (⟨(y 3).val, hy3⟩ : Fin 64) = _
  exact (congrArg₂ (fun (x : Fin 2) (z : Fin 2) => kAt _ _ _ _ _ _ _ _ x z _ _) g0 g1).trans (congrArg₂ (fun (x : Fin 8192) (z : Fin 64) => kAt _ _ _ _ _ _ _ _ _ _ x z) g2 g3)

omit R in
theorem mem_blk11 (t : Fin cfg0.N) (i : S2x2x8192x64.Idx) :
    i ∈ ((cfg0.win 11).blk t).view.set ↔ ∀ a : Fin 4, win0_11.index t a * S1x2x512x64.size a ≤ (i a).val ∧ (i a).val < win0_11.index t a * S1x2x512x64.size a + S1x2x512x64.size a := by
  show i ∈ ((View.whole main_v34_1).slice (win0_11.rect t)).set ↔ _
  rw [View.set_slice_whole, Rect.mem_set_unit]
  exact Iff.rfl

omit R in
theorem covered11 (i : S2x2x8192x64.Idx) : ∃ t : Fin cfg0.N, (cfg0.win 11).flush t = true ∧ i ∈ ((cfg0.win 11).blk t).view.set := by
  have hi0 : (i 0).val < 2 := (i 0).isLt
  have hi1 : (i 1).val < 2 := (i 1).isLt
  have hi2 : (i 2).val < 8192 := (i 2).isLt
  have hi3 : (i 3).val < 64 := (i 3).isLt
  have hN : cfg0.N = 32 := N_0
  let t : Fin cfg0.N := ⟨16 * (i 0).val + (i 2).val / 512, by omega⟩
  have ht : t.val = 16 * (i 0).val + (i 2).val / 512 := rfl
  obtain ⟨-, -, -, -, -, -, ⟨e0, e1, e2, e3⟩⟩ := index_tabs t
  refine ⟨t, flush0_11 t, (mem_blk11 t i).mpr fun a => ?_⟩
  match a with
  | ⟨0, _⟩ => show win0_11.index t (0 : Fin 4) * 1 ≤ (i 0).val ∧ (i 0).val < win0_11.index t (0 : Fin 4) * 1 + 1; rw [e0, ht]; omega
  | ⟨1, _⟩ => show win0_11.index t (1 : Fin 4) * 2 ≤ (i 1).val ∧ (i 1).val < win0_11.index t (1 : Fin 4) * 2 + 2; rw [e1]; omega
  | ⟨2, _⟩ => show win0_11.index t (2 : Fin 4) * 512 ≤ (i 2).val ∧ (i 2).val < win0_11.index t (2 : Fin 4) * 512 + 512; rw [e2]; omega
  | ⟨3, _⟩ => show win0_11.index t (3 : Fin 4) * 64 ≤ (i 3).val ∧ (i 3).val < win0_11.index t (3 : Fin 4) * 64 + 64; rw [e3]; omega

theorem arr11_eq : (dats m 0 c).arrAt 11 cfg0.N = G11 m c :=
  (dats m 0 c).arrAt_eq_of_cover 11 _ (fun t _ => flushed11_eq m c R t) covered11

end Cert.Kernel4Ideal.Inp

end
-- ==== Proof.InRef.lean ====
module

public import proofs.«01_k».proof.Proof.InQK
public import proofs.«01_k».proof.Proof.Gen.Reference4Ideal.Read
public import Idealize.ShloMosaic.Lib.KernelVsHost

/-! The reference's input projection, at an entry, is the kernel's -/

@[expose] public section

set_option maxRecDepth 16384

noncomputable section

namespace Cert.Reference4Ideal.Inp

open Cert.Reference4Ideal Cert.Reference4Ideal.Gen Cert.Reference4Ideal.Read
open Idealize.ShloMosaic hiding ix0 ix1 ix2 ix3 ix4 ix5 eq_ix1 eq_ix2 eq_ix3 eq_ix4 eq_ix5 addf_apply mulf_apply subf_apply divf_apply maximumf_apply constant_apply truncf_apply extf_apply sum_idx2
open Idealize.ShloMosaic.TcCoe Idealize.ShloMosaic.Tactic
open Idealize.ShloMosaic.ValueIdx
open Cert.Softmax Cert.Out Cert.Inp
open Cert.Kernel4Ideal.Inp (nrmAt projAt valAt cnvAt qAt kAt)

variable (A0 : Vec Ideal S2x8192x1024 .f32) (A1 : Vec Ideal S1x1024 .f32) (A2 A3 : Vec Ideal S2x1024 .f32) (A4 : Vec Ideal S1x1024x2304 .f32)
variable (b : Fin 2) (s : Fin 8192) (d k : Fin 1024)

theorem weight_apply (j : Fin 2304) : val_main_v22 (F := Ideal) A4 (ix2 k j) = A4 (ix3 (0 : Fin 1) k j) := by
  rw [val_main_v22_apply]
  refine congrArg A4 (funext fun a => Fin.ext ?_)
  have h1 := k.isLt
  have h2 := j.isLt
  match a with
  | ⟨0, _⟩ => rfl
  | ⟨1, _⟩ => show (k.val * 2304 + j.val) / 2304 % 1024 = k.val; omega
  | ⟨2, _⟩ => show (k.val * 2304 + j.val) % 2304 = j.val; omega

theorem factor_apply : val_main_v9 (F := Ideal) A0 (ix3 b s d) = scl (fun k : Fin 1024 => A0 (ix3 b s k)) := by
  rw [val_main_v9_apply, val_main_v8_apply, val_main_v7_apply, val_main_v6_apply, val_main_v5_apply, val_main_v4_apply, val_main_v3_apply, val_main_v2_apply, val_main_cst_apply, val_main_cst_0_apply, val_main_cst_1_apply]
  unfold scl
  refine congrArg (fun y : EReal => Ideal.rsqrt (Ideal.div y len + tiny)) ?_
  refine (congrArg₂ (fun p q : EReal => p + q) Ideal.ofBits_zero_f32 (Finset.sum_congr rfl fun k _ => ?_)).trans (zero_add _)
  rw [show idx_main_v2 (idx_main_v3 (idx_main_v9 (ix3 b s d))) k = ix3 b s k from funext fun a => match a with | ⟨0, _⟩ => rfl | ⟨1, _⟩ => rfl | ⟨2, _⟩ => rfl, val_main_v1_apply]
  rfl

theorem gain_apply : val_main_v12 (F := Ideal) A1 (ix3 b s d) = A1 (ix2 (0 : Fin 1) d) := by
  rw [val_main_v12_apply, val_main_v11_apply, val_main_v0_apply]
  exact congrArg A1 (funext fun a => match a with | ⟨0, _⟩ => rfl | ⟨1, _⟩ => Fin.ext (Nat.mod_eq_of_lt d.isLt))

theorem scale_apply : val_main_v17 (F := Ideal) A3 (ix3 b s d) = 1 + A3 (ix2 b d) := by
  rw [val_main_v17_apply, val_main_v16_apply, val_main_v15_apply, val_main_v14_apply, val_main_cst_2_apply]
  exact congrArg₂ (fun p q : EReal => p + q) Ideal.ofBits_one_f32 (congrArg A3 (funext fun a => match a with | ⟨0, _⟩ => rfl | ⟨1, _⟩ => rfl))

theorem shift_apply : val_main_v20 (F := Ideal) A2 (ix3 b s d) = A2 (ix2 b d) := by
  rw [val_main_v20_apply, val_main_v19_apply]
  refine congrArg A2 (funext fun a => match a with | ⟨0, _⟩ => rfl | ⟨1, _⟩ => rfl)

theorem nrm_apply : val_main_v21 (F := Ideal) A0 A1 A2 A3 (ix3 b s d) = nrmAt A0 A1 A2 A3 b s d := by
  rw [val_main_v21_apply, val_main_v18_apply, val_main_v13_apply, val_main_v10_apply, factor_apply, gain_apply, scale_apply, shift_apply]
  rfl

theorem val_apply (h : Fin 2) (e : Fin 64) : val_main_v110 (F := Ideal) A0 A1 A2 A3 A4 (ix4 b h e s) = valAt A0 A1 A2 A3 A4 b h e s := by
  rw [val_main_v110_apply]
  show val_main_v109 (F := Ideal) A0 A1 A2 A3 A4 (ix4 b h e s) = _
  rw [val_main_v109_apply, val_main_v102_apply]
  have hb := b.isLt
  have hs := s.isLt
  have hh := h.isLt
  have he := e.isLt
  have hi : idx_main_v102 (idx_main_v109 (ix4 b h e s)) = ix3 b s (⟨h.val * 64 + e.val, by omega⟩ : Fin 128) := funext fun a => Fin.ext (by
    match a with
    | ⟨0, _⟩ => show (((b.val * 8192 + s.val) * 2 + h.val) * 64 + e.val) / 1048576 = b.val; omega
    | ⟨1, _⟩ => show (((b.val * 8192 + s.val) * 2 + h.val) * 64 + e.val) / 128 % 8192 = s.val; omega
    | ⟨2, _⟩ => show (((b.val * 8192 + s.val) * 2 + h.val) * 64 + e.val) % 128 = h.val * 64 + e.val; omega)
  rw [hi, val_main_v101_apply]
  unfold valAt projAt
  refine Finset.sum_congr rfl fun k _ => congrArg₂ (fun p q : EReal => p * q) ?_ ?_
  · exact (congrArg (val_main_v21 (F := Ideal) A0 A1 A2 A3) (show lidx_main_v101 (ix3 b s (⟨h.val * 64 + e.val, by omega⟩ : Fin 128)) k = ix3 b s k from funext fun a => match a with | ⟨0, _⟩ => rfl | ⟨1, _⟩ => rfl | ⟨2, _⟩ => rfl)).trans (nrm_apply A0 A1 A2 A3 b s k)
  · rw [val_main_v25_apply]
    refine (congrArg (val_main_v22 (F := Ideal) A4) (?_ : _ = ix2 k (⟨h.val * 64 + e.val + 640, by omega⟩ : Fin 2304))).trans (weight_apply A4 k _)
    funext a
    apply Fin.ext
    match a with
    | ⟨0, _⟩ => rfl
    | ⟨1, _⟩ => show 640 + (h.val * 64 + e.val) = h.val * 64 + e.val + 640; omega

theorem cnv_apply (j : Fin 1536) : val_main_v111 (F := Ideal) A0 A1 A2 A3 A4 (ix3 b s j) = cnvAt A0 A1 A2 A3 A4 b s j := by
  rw [val_main_v111_apply]
  unfold cnvAt projAt
  refine Finset.sum_congr rfl fun k _ => congrArg₂ (fun p q : EReal => p * q) ?_ ?_
  · exact (congrArg (val_main_v21 (F := Ideal) A0 A1 A2 A3) (show lidx_main_v111 (ix3 b s j) k = ix3 b s k from funext fun a => match a with | ⟨0, _⟩ => rfl | ⟨1, _⟩ => rfl | ⟨2, _⟩ => rfl)).trans (nrm_apply A0 A1 A2 A3 b s k)
  · rw [val_main_v26_apply]
    refine (congrArg (val_main_v22 (F := Ideal) A4) (?_ : _ = ix2 k (⟨j.val + 768, by omega⟩ : Fin 2304))).trans (weight_apply A4 k _)
    funext a
    apply Fin.ext
    match a with
    | ⟨0, _⟩ => rfl
    | ⟨1, _⟩ => show 768 + j.val = j.val + 768; omega

theorem ix3_eta {n0 n1 n2 : ℕ} (i : (⟨3, ![n0, n1, n2]⟩ : Shape).Idx) : i = ix3 (i 0) (i 1) (i 2) := funext fun a => match a with | ⟨0, _⟩ => rfl | ⟨1, _⟩ => rfl | ⟨2, _⟩ => rfl
theorem ix4_eta {n0 n1 n2 n3 : ℕ} (i : (⟨4, ![n0, n1, n2, n3]⟩ : Shape).Idx) : i = ix4 (i 0) (i 1) (i 2) (i 3) := funext fun a => match a with | ⟨0, _⟩ => rfl | ⟨1, _⟩ => rfl | ⟨2, _⟩ => rfl | ⟨3, _⟩ => rfl

theorem val_eq : val_main_v110 (F := Ideal) A0 A1 A2 A3 A4 = fun i => valAt A0 A1 A2 A3 A4 (i 0) (i 1) (i 2) (i 3) :=
  funext fun i => (congrArg _ (ix4_eta i)).trans (val_apply A0 A1 A2 A3 A4 _ _ _ _)

theorem cnv_eq : val_main_v111 (F := Ideal) A0 A1 A2 A3 A4 = fun i => cnvAt A0 A1 A2 A3 A4 (i 0) (i 1) (i 2) :=
  funext fun i => (congrArg _ (ix3_eta i)).trans (cnv_apply A0 A1 A2 A3 A4 _ _ _)

variable (A5 A6 : Vec Ideal S1x64 .f32) (A7 A8 : Vec Ideal S8192x2x16 .f32)

/-! ## The queries -/

theorem q_dot (j : Fin 512) : val_main_v27 (F := Ideal) A0 A1 A2 A3 A4 (ix3 b s j) = projAt A0 A1 A2 A3 A4 b s (⟨j.val, by omega⟩ : Fin 2304) := by
  rw [val_main_v27_apply]
  unfold projAt
  refine Finset.sum_congr rfl fun k _ => congrArg₂ (fun p q : EReal => p * q) ?_ ?_
  · exact (congrArg (val_main_v21 (F := Ideal) A0 A1 A2 A3) (show lidx_main_v27 (ix3 b s j) k = ix3 b s k from funext fun a => match a with | ⟨0, _⟩ => rfl | ⟨1, _⟩ => rfl | ⟨2, _⟩ => rfl)).trans (nrm_apply A0 A1 A2 A3 b s k)
  · rw [val_main_v23_apply]
    refine (congrArg (val_main_v22 (F := Ideal) A4) (?_ : _ = ix2 k (⟨j.val, by omega⟩ : Fin 2304))).trans (weight_apply A4 k _)
    exact funext fun a => match a with | ⟨0, _⟩ => rfl | ⟨1, _⟩ => rfl

/-- The columns of one head of the queries. -/
def qHead (h : Fin 8) (e : Fin 64) : EReal := projAt A0 A1 A2 A3 A4 b s (⟨64 * h.val + e.val, by omega⟩ : Fin 2304)

theorem q_head (h : Fin 8) (e : Fin 64) : val_main_v28 (F := Ideal) A0 A1 A2 A3 A4 (ix4 b s h e) = qHead A0 A1 A2 A3 A4 b s h e := by
  have hb := b.isLt
  have hs := s.isLt
  have hh := h.isLt
  have he := e.isLt
  have hi : idx_main_v28 (ix4 b s h e) = ix3 b s (⟨64 * h.val + e.val, by omega⟩ : Fin 512) := funext fun a => Fin.ext (by
    match a with
    | ⟨0, _⟩ => show (((b.val * 8192 + s.val) * 8 + h.val) * 64 + e.val) / 4194304 = b.val; omega
    | ⟨1, _⟩ => show (((b.val * 8192 + s.val) * 8 + h.val) * 64 + e.val) / 512 % 8192 = s.val; omega
    | ⟨2, _⟩ => show (((b.val * 8192 + s.val) * 8 + h.val) * 64 + e.val) % 512 = 64 * h.val + e.val; omega)
  rw [val_main_v28_apply, hi, q_dot]
  unfold qHead
  refine congrArg (projAt A0 A1 A2 A3 A4 b s) (Fin.ext ?_)
  show (64 * h.val + e.val) = 64 * h.val + e.val
  omega

theorem q_factor (h : Fin 8) (e : Fin 64) : val_main_v38 (F := Ideal) A0 A1 A2 A3 A4 (ix4 b s h e) = Ideal.rsqrt (hms (qHead A0 A1 A2 A3 A4 b s h) + tiny) := by
  rw [val_main_v38_apply, val_main_v37_apply, val_main_v36_apply, val_main_v35_apply, val_main_v34_apply, val_main_v33_apply, val_main_v32_apply, val_main_v31_apply, val_main_cst_3_apply, val_main_cst_4_apply, val_main_cst_5_apply]
  unfold hms
  refine congrArg (fun y : EReal => Ideal.rsqrt (Ideal.div y wide + tiny)) ?_
  refine (congrArg₂ (fun p q : EReal => p + q) Ideal.ofBits_zero_f32 (Finset.sum_congr rfl fun k _ => ?_)).trans (zero_add _)
  rw [show idx_main_v31 (idx_main_v32 (idx_main_v38 (ix4 b s h e))) k = ix4 b s h k from funext fun a => match a with | ⟨0, _⟩ => rfl | ⟨1, _⟩ => rfl | ⟨2, _⟩ => rfl | ⟨3, _⟩ => rfl, val_main_v30_apply, q_head]
  rfl

theorem q_gain (h : Fin 8) (e : Fin 64) : val_main_v41 (F := Ideal) A5 (ix4 b s h e) = A5 (ix2 (0 : Fin 1) e) := by
  rw [val_main_v41_apply, val_main_v40_apply, val_main_v29_apply]
  exact congrArg A5 (funext fun a => match a with | ⟨0, _⟩ => rfl | ⟨1, _⟩ => Fin.ext (Nat.mod_eq_of_lt e.isLt))

theorem q_norm (h : Fin 8) (e : Fin 64) : val_main_v42 (F := Ideal) A0 A1 A2 A3 A4 A5 (ix4 b s h e) = hnrm (qHead A0 A1 A2 A3 A4 b s h) (fun e => A5 (ix2 (0 : Fin 1) e)) e := by
  rw [val_main_v42_apply, val_main_v39_apply, q_head, q_factor, q_gain]
  rfl

theorem q_split (h : Fin 8) (a : Fin 2) (i : Fin 32) : val_main_v43 (F := Ideal) A0 A1 A2 A3 A4 A5 (ix5 b s h a i) = hnrm (qHead A0 A1 A2 A3 A4 b s h) (fun e => A5 (ix2 (0 : Fin 1) e)) (⟨32 * a.val + i.val, by omega⟩ : Fin 64) := by
  have hb := b.isLt
  have hs := s.isLt
  have hh := h.isLt
  have ha := a.isLt
  have hi := i.isLt
  have e0 : idx_main_v43 (ix5 b s h a i) = ix4 b s h (⟨32 * a.val + i.val, by omega⟩ : Fin 64) := funext fun x => Fin.ext (by
    match x with
    | ⟨0, _⟩ => show ((((b.val * 8192 + s.val) * 8 + h.val) * 2 + a.val) * 32 + i.val) / 4194304 = b.val; omega
    | ⟨1, _⟩ => show ((((b.val * 8192 + s.val) * 8 + h.val) * 2 + a.val) * 32 + i.val) / 512 % 8192 = s.val; omega
    | ⟨2, _⟩ => show ((((b.val * 8192 + s.val) * 8 + h.val) * 2 + a.val) * 32 + i.val) / 64 % 8 = h.val; omega
    | ⟨3, _⟩ => show ((((b.val * 8192 + s.val) * 8 + h.val) * 2 + a.val) * 32 + i.val) % 64 = 32 * a.val + i.val; omega)
  rw [val_main_v43_apply, e0, q_norm]

theorem q_first (h : Fin 8) (a : Fin 2) (i : Fin 16) : val_main_v44 (F := Ideal) A0 A1 A2 A3 A4 A5 (ix5 b s h a i) = hnrm (qHead A0 A1 A2 A3 A4 b s h) (fun e => A5 (ix2 (0 : Fin 1) e)) (⟨32 * a.val + i.val, by omega⟩ : Fin 64) := by
  rw [val_main_v44_apply]
  exact (congrArg (val_main_v43 (F := Ideal) A0 A1 A2 A3 A4 A5) (show _ = ix5 b s h a (⟨i.val, by omega⟩ : Fin 32) from funext fun x => match x with | ⟨0, _⟩ => rfl | ⟨1, _⟩ => rfl | ⟨2, _⟩ => rfl | ⟨3, _⟩ => rfl | ⟨4, _⟩ => rfl)).trans (q_split A0 A1 A2 A3 A4 b s A5 h a _)

theorem q_last (h : Fin 8) (a : Fin 2) (i : Fin 16) : val_main_v45 (F := Ideal) A0 A1 A2 A3 A4 A5 (ix5 b s h a i) = hnrm (qHead A0 A1 A2 A3 A4 b s h) (fun e => A5 (ix2 (0 : Fin 1) e)) (⟨32 * a.val + (16 + i.val), by omega⟩ : Fin 64) := by
  rw [val_main_v45_apply]
  exact (congrArg (val_main_v43 (F := Ideal) A0 A1 A2 A3 A4 A5) (show _ = ix5 b s h a (⟨16 + i.val, by omega⟩ : Fin 32) from funext fun x => match x with | ⟨0, _⟩ => rfl | ⟨1, _⟩ => rfl | ⟨2, _⟩ => rfl | ⟨3, _⟩ => rfl | ⟨4, _⟩ => rfl)).trans (q_split A0 A1 A2 A3 A4 b s A5 h a _)

theorem q_angle7 (h : Fin 8) (a : Fin 2) (i : Fin 16) : val_main_v49 (F := Ideal) A7 (ix5 b s h a i) = A7 (ix3 s a i) := by
  rw [val_main_v49_apply, val_main_v48_apply, val_main_v46_apply]
  exact congrArg A7 (funext fun x => match x with | ⟨0, _⟩ => rfl | ⟨1, _⟩ => rfl | ⟨2, _⟩ => rfl)

theorem q_angle10 (h : Fin 8) (a : Fin 2) (i : Fin 16) : val_main_v52 (F := Ideal) A8 (ix5 b s h a i) = A8 (ix3 s a i) := by
  rw [val_main_v52_apply, val_main_v51_apply, val_main_v47_apply]
  exact congrArg A8 (funext fun x => match x with | ⟨0, _⟩ => rfl | ⟨1, _⟩ => rfl | ⟨2, _⟩ => rfl)

theorem q_angle14 (h : Fin 8) (a : Fin 2) (i : Fin 16) : val_main_v56 (F := Ideal) A8 (ix5 b s h a i) = A8 (ix3 s a i) := by
  rw [val_main_v56_apply, val_main_v55_apply, val_main_v47_apply]
  exact congrArg A8 (funext fun x => match x with | ⟨0, _⟩ => rfl | ⟨1, _⟩ => rfl | ⟨2, _⟩ => rfl)

theorem q_angle17 (h : Fin 8) (a : Fin 2) (i : Fin 16) : val_main_v59 (F := Ideal) A7 (ix5 b s h a i) = A7 (ix3 s a i) := by
  rw [val_main_v59_apply, val_main_v58_apply, val_main_v46_apply]
  exact congrArg A7 (funext fun x => match x with | ⟨0, _⟩ => rfl | ⟨1, _⟩ => rfl | ⟨2, _⟩ => rfl)

theorem q_turned (h : Fin 8) (e : Fin 64) : val_main_v63 (F := Ideal) A0 A1 A2 A3 A4 A5 A7 A8 (ix4 b s h e) = rot (hnrm (qHead A0 A1 A2 A3 A4 b s h) (fun e => A5 (ix2 (0 : Fin 1) e))) (fun a i => A7 (ix3 s a i)) (fun a i => A8 (ix3 s a i)) e := by
  have hb := b.isLt
  have hs := s.isLt
  have hh := h.isLt
  have he := e.isLt
  have e0 : idx_main_v63 (ix4 b s h e) = ix5 b s h (⟨e.val / 32, by omega⟩ : Fin 2) (⟨e.val % 32, by omega⟩ : Fin 32) := funext fun x => Fin.ext (by
    match x with
    | ⟨0, _⟩ => show (((b.val * 8192 + s.val) * 8 + h.val) * 64 + e.val) / 4194304 = b.val; omega
    | ⟨1, _⟩ => show (((b.val * 8192 + s.val) * 8 + h.val) * 64 + e.val) / 512 % 8192 = s.val; omega
    | ⟨2, _⟩ => show (((b.val * 8192 + s.val) * 8 + h.val) * 64 + e.val) / 64 % 8 = h.val; omega
    | ⟨3, _⟩ => show (((b.val * 8192 + s.val) * 8 + h.val) * 64 + e.val) / 32 % 2 = e.val / 32; omega
    | ⟨4, _⟩ => show (((b.val * 8192 + s.val) * 8 + h.val) * 64 + e.val) % 32 = e.val % 32; omega)
  rw [val_main_v63_apply, e0]
  unfold val_main_v62 rot
  by_cases hc : e.val % 32 < 16
  · rw [dif_pos hc]
    refine (concatenate_pair_apply_left (t := S2x8192x8x2x32) (s₁ := S2x8192x8x2x16) (s₂ := S2x8192x8x2x16) 4 _ _ _ _ rfl (ix5 b s h (⟨e.val / 32, by omega⟩ : Fin 2) (⟨e.val % 16, by omega⟩ : Fin 16)) (fun x => match x with
      | ⟨0, _⟩ => rfl
      | ⟨1, _⟩ => rfl
      | ⟨2, _⟩ => rfl
      | ⟨3, _⟩ => rfl
      | ⟨4, _⟩ => (by show e.val % 16 = e.val % 32; omega))).trans ?_
    rw [val_main_v54_apply, val_main_v50_apply, val_main_v53_apply, q_first, q_last, q_angle7, q_angle10]
    have p0 : (⟨32 * (e.val / 32) + e.val % 16, by omega⟩ : Fin 64) = e := Fin.ext (by show 32 * (e.val / 32) + e.val % 16 = e.val; omega)
    have p1 : (⟨32 * (e.val / 32) + (16 + e.val % 16), by omega⟩ : Fin 64) = ⟨e.val + 16, by omega⟩ := Fin.ext (by show 32 * (e.val / 32) + (16 + e.val % 16) = e.val + 16; omega)
    rw [p0, p1]
    rfl
  · rw [dif_neg hc]
    refine (concatenate_pair_apply_right (t := S2x8192x8x2x32) (s₁ := S2x8192x8x2x16) (s₂ := S2x8192x8x2x16) 4 _ _ _ _ rfl rfl (ix5 b s h (⟨e.val / 32, by omega⟩ : Fin 2) (⟨e.val % 16, by omega⟩ : Fin 16)) (fun x hx => ?_) ?_).trans ?_
    · match x, hx with
      | ⟨0, _⟩, _ => rfl
      | ⟨1, _⟩, _ => rfl
      | ⟨2, _⟩, _ => rfl
      | ⟨3, _⟩, _ => rfl
      | ⟨4, _⟩, hx => exact absurd rfl hx
    · show e.val % 16 + 16 = e.val % 32
      omega
    rw [val_main_v61_apply, val_main_v57_apply, val_main_v60_apply, q_first, q_last, q_angle14, q_angle17]
    have p0 : (⟨32 * (e.val / 32) + e.val % 16, by omega⟩ : Fin 64) = ⟨e.val - 16, by omega⟩ := Fin.ext (by show 32 * (e.val / 32) + e.val % 16 = e.val - 16; omega)
    have p1 : (⟨32 * (e.val / 32) + (16 + e.val % 16), by omega⟩ : Fin 64) = e := Fin.ext (by show 32 * (e.val / 32) + (16 + e.val % 16) = e.val; omega)
    rw [p0, p1]
    rfl

theorem q_apply (j : Fin 512) : val_main_v106 (F := Ideal) A0 A1 A2 A3 A4 A5 A7 A8 (ix3 b s j) = qAt A0 A1 A2 A3 A4 A5 A7 A8 b s j := by
  have hb := b.isLt
  have hs := s.isLt
  have hj := j.isLt
  have e0 : idx_main_v105 (ix3 b s j) = ix4 b s (⟨j.val / 64, by omega⟩ : Fin 8) (⟨j.val % 64, by omega⟩ : Fin 64) := funext fun x => Fin.ext (by
    match x with
    | ⟨0, _⟩ => show ((b.val * 8192 + s.val) * 512 + j.val) / 4194304 = b.val; omega
    | ⟨1, _⟩ => show ((b.val * 8192 + s.val) * 512 + j.val) / 512 % 8192 = s.val; omega
    | ⟨2, _⟩ => show ((b.val * 8192 + s.val) * 512 + j.val) / 64 % 8 = j.val / 64; omega
    | ⟨3, _⟩ => show ((b.val * 8192 + s.val) * 512 + j.val) % 64 = j.val % 64; omega)
  rw [val_main_v106_apply]
  show val_main_v105 (F := Ideal) A0 A1 A2 A3 A4 A5 A7 A8 (ix3 b s j) = _
  rw [val_main_v105_apply, e0, val_main_v104_apply, q_turned, val_main_v103_apply, val_main_cst_9_apply]
  rfl

/-! ## The keys -/

theorem k_dot (j : Fin 128) : val_main_v64 (F := Ideal) A0 A1 A2 A3 A4 (ix3 b s j) = projAt A0 A1 A2 A3 A4 b s (⟨512 + j.val, by omega⟩ : Fin 2304) := by
  rw [val_main_v64_apply]
  unfold projAt
  refine Finset.sum_congr rfl fun k _ => congrArg₂ (fun p q : EReal => p * q) ?_ ?_
  · exact (congrArg (val_main_v21 (F := Ideal) A0 A1 A2 A3) (show lidx_main_v64 (ix3 b s j) k = ix3 b s k from funext fun a => match a with | ⟨0, _⟩ => rfl | ⟨1, _⟩ => rfl | ⟨2, _⟩ => rfl)).trans (nrm_apply A0 A1 A2 A3 b s k)
  · rw [val_main_v24_apply]
    refine (congrArg (val_main_v22 (F := Ideal) A4) (?_ : _ = ix2 k (⟨512 + j.val, by omega⟩ : Fin 2304))).trans (weight_apply A4 k _)
    exact funext fun a => match a with | ⟨0, _⟩ => rfl | ⟨1, _⟩ => rfl

/-- The columns of one head of the keys. -/
def kHead (h : Fin 2) (e : Fin 64) : EReal := projAt A0 A1 A2 A3 A4 b s (⟨512 + 64 * h.val + e.val, by omega⟩ : Fin 2304)

theorem k_head (h : Fin 2) (e : Fin 64) : val_main_v65 (F := Ideal) A0 A1 A2 A3 A4 (ix4 b s h e) = kHead A0 A1 A2 A3 A4 b s h e := by
  have hb := b.isLt
  have hs := s.isLt
  have hh := h.isLt
  have he := e.isLt
  have hi : idx_main_v65 (ix4 b s h e) = ix3 b s (⟨64 * h.val + e.val, by omega⟩ : Fin 128) := funext fun a => Fin.ext (by
    match a with
    | ⟨0, _⟩ => show (((b.val * 8192 + s.val) * 2 + h.val) * 64 + e.val) / 1048576 = b.val; omega
    | ⟨1, _⟩ => show (((b.val * 8192 + s.val) * 2 + h.val) * 64 + e.val) / 128 % 8192 = s.val; omega
    | ⟨2, _⟩ => show (((b.val * 8192 + s.val) * 2 + h.val) * 64 + e.val) % 128 = 64 * h.val + e.val; omega)
  rw [val_main_v65_apply, hi, k_dot]
  unfold kHead
  refine congrArg (projAt A0 A1 A2 A3 A4 b s) (Fin.ext ?_)
  show 512 + (64 * h.val + e.val) = 512 + 64 * h.val + e.val
  omega

theorem k_factor (h : Fin 2) (e : Fin 64) : val_main_v75 (F := Ideal) A0 A1 A2 A3 A4 (ix4 b s h e) = Ideal.rsqrt (hms (kHead A0 A1 A2 A3 A4 b s h) + tiny) := by
  rw [val_main_v75_apply, val_main_v74_apply, val_main_v73_apply, val_main_v72_apply, val_main_v71_apply, val_main_v70_apply, val_main_v69_apply, val_main_v68_apply, val_main_cst_6_apply, val_main_cst_7_apply, val_main_cst_8_apply]
  unfold hms
  refine congrArg (fun y : EReal => Ideal.rsqrt (Ideal.div y wide + tiny)) ?_
  refine (congrArg₂ (fun p q : EReal => p + q) Ideal.ofBits_zero_f32 (Finset.sum_congr rfl fun k _ => ?_)).trans (zero_add _)
  rw [show idx_main_v68 (idx_main_v69 (idx_main_v75 (ix4 b s h e))) k = ix4 b s h k from funext fun a => match a with | ⟨0, _⟩ => rfl | ⟨1, _⟩ => rfl | ⟨2, _⟩ => rfl | ⟨3, _⟩ => rfl, val_main_v67_apply, k_head]
  rfl

theorem k_gain (h : Fin 2) (e : Fin 64) : val_main_v78 (F := Ideal) A6 (ix4 b s h e) = A6 (ix2 (0 : Fin 1) e) := by
  rw [val_main_v78_apply, val_main_v77_apply, val_main_v66_apply]
  exact congrArg A6 (funext fun a => match a with | ⟨0, _⟩ => rfl | ⟨1, _⟩ => Fin.ext (Nat.mod_eq_of_lt e.isLt))

theorem k_norm (h : Fin 2) (e : Fin 64) : val_main_v79 (F := Ideal) A0 A1 A2 A3 A4 A6 (ix4 b s h e) = hnrm (kHead A0 A1 A2 A3 A4 b s h) (fun e => A6 (ix2 (0 : Fin 1) e)) e := by
  rw [val_main_v79_apply, val_main_v76_apply, k_head, k_factor, k_gain]
  rfl

theorem k_split (h : Fin 2) (a : Fin 2) (i : Fin 32) : val_main_v80 (F := Ideal) A0 A1 A2 A3 A4 A6 (ix5 b s h a i) = hnrm (kHead A0 A1 A2 A3 A4 b s h) (fun e => A6 (ix2 (0 : Fin 1) e)) (⟨32 * a.val + i.val, by omega⟩ : Fin 64) := by
  have hb := b.isLt
  have hs := s.isLt
  have hh := h.isLt
  have ha := a.isLt
  have hi := i.isLt
  have e0 : idx_main_v80 (ix5 b s h a i) = ix4 b s h (⟨32 * a.val + i.val, by omega⟩ : Fin 64) := funext fun x => Fin.ext (by
    match x with
    | ⟨0, _⟩ => show ((((b.val * 8192 + s.val) * 2 + h.val) * 2 + a.val) * 32 + i.val) / 1048576 = b.val; omega
    | ⟨1, _⟩ => show ((((b.val * 8192 + s.val) * 2 + h.val) * 2 + a.val) * 32 + i.val) / 128 % 8192 = s.val; omega
    | ⟨2, _⟩ => show ((((b.val * 8192 + s.val) * 2 + h.val) * 2 + a.val) * 32 + i.val) / 64 % 2 = h.val; omega
    | ⟨3, _⟩ => show ((((b.val * 8192 + s.val) * 2 + h.val) * 2 + a.val) * 32 + i.val) % 64 = 32 * a.val + i.val; omega)
  rw [val_main_v80_apply, e0, k_norm]

theorem k_first (h : Fin 2) (a : Fin 2) (i : Fin 16) : val_main_v81 (F := Ideal) A0 A1 A2 A3 A4 A6 (ix5 b s h a i) = hnrm (kHead A0 A1 A2 A3 A4 b s h) (fun e => A6 (ix2 (0 : Fin 1) e)) (⟨32 * a.val + i.val, by omega⟩ : Fin 64) := by
  rw [val_main_v81_apply]
  exact (congrArg (val_main_v80 (F := Ideal) A0 A1 A2 A3 A4 A6) (show _ = ix5 b s h a (⟨i.val, by omega⟩ : Fin 32) from funext fun x => match x with | ⟨0, _⟩ => rfl | ⟨1, _⟩ => rfl | ⟨2, _⟩ => rfl | ⟨3, _⟩ => rfl | ⟨4, _⟩ => rfl)).trans (k_split A0 A1 A2 A3 A4 b s A6 h a _)

theorem k_last (h : Fin 2) (a : Fin 2) (i : Fin 16) : val_main_v82 (F := Ideal) A0 A1 A2 A3 A4 A6 (ix5 b s h a i) = hnrm (kHead A0 A1 A2 A3 A4 b s h) (fun e => A6 (ix2 (0 : Fin 1) e)) (⟨32 * a.val + (16 + i.val), by omega⟩ : Fin 64) := by
  rw [val_main_v82_apply]
  exact (congrArg (val_main_v80 (F := Ideal) A0 A1 A2 A3 A4 A6) (show _ = ix5 b s h a (⟨16 + i.val, by omega⟩ : Fin 32) from funext fun x => match x with | ⟨0, _⟩ => rfl | ⟨1, _⟩ => rfl | ⟨2, _⟩ => rfl | ⟨3, _⟩ => rfl | ⟨4, _⟩ => rfl)).trans (k_split A0 A1 A2 A3 A4 b s A6 h a _)

theorem k_angle7 (h : Fin 2) (a : Fin 2) (i : Fin 16) : val_main_v86 (F := Ideal) A7 (ix5 b s h a i) = A7 (ix3 s a i) := by
  rw [val_main_v86_apply, val_main_v85_apply, val_main_v83_apply]
  exact congrArg A7 (funext fun x => match x with | ⟨0, _⟩ => rfl | ⟨1, _⟩ => rfl | ⟨2, _⟩ => rfl)

theorem k_angle10 (h : Fin 2) (a : Fin 2) (i : Fin 16) : val_main_v89 (F := Ideal) A8 (ix5 b s h a i) = A8 (ix3 s a i) := by
  rw [val_main_v89_apply, val_main_v88_apply, val_main_v84_apply]
  exact congrArg A8 (funext fun x => match x with | ⟨0, _⟩ => rfl | ⟨1, _⟩ => rfl | ⟨2, _⟩ => rfl)

theorem k_angle14 (h : Fin 2) (a : Fin 2) (i : Fin 16) : val_main_v93 (F := Ideal) A8 (ix5 b s h a i) = A8 (ix3 s a i) := by
  rw [val_main_v93_apply, val_main_v92_apply, val_main_v84_apply]
  exact congrArg A8 (funext fun x => match x with | ⟨0, _⟩ => rfl | ⟨1, _⟩ => rfl | ⟨2, _⟩ => rfl)

theorem k_angle17 (h : Fin 2) (a : Fin 2) (i : Fin 16) : val_main_v96 (F := Ideal) A7 (ix5 b s h a i) = A7 (ix3 s a i) := by
  rw [val_main_v96_apply, val_main_v95_apply, val_main_v83_apply]
  exact congrArg A7 (funext fun x => match x with | ⟨0, _⟩ => rfl | ⟨1, _⟩ => rfl | ⟨2, _⟩ => rfl)

theorem k_turned (h : Fin 2) (e : Fin 64) : val_main_v100 (F := Ideal) A0 A1 A2 A3 A4 A6 A7 A8 (ix4 b s h e) = rot (hnrm (kHead A0 A1 A2 A3 A4 b s h) (fun e => A6 (ix2 (0 : Fin 1) e))) (fun a i => A7 (ix3 s a i)) (fun a i => A8 (ix3 s a i)) e := by
  have hb := b.isLt
  have hs := s.isLt
  have hh := h.isLt
  have he := e.isLt
  have e0 : idx_main_v100 (ix4 b s h e) = ix5 b s h (⟨e.val / 32, by omega⟩ : Fin 2) (⟨e.val % 32, by omega⟩ : Fin 32) := funext fun x => Fin.ext (by
    match x with
    | ⟨0, _⟩ => show (((b.val * 8192 + s.val) * 2 + h.val) * 64 + e.val) / 1048576 = b.val; omega
    | ⟨1, _⟩ => show (((b.val * 8192 + s.val) * 2 + h.val) * 64 + e.val) / 128 % 8192 = s.val; omega
    | ⟨2, _⟩ => show (((b.val * 8192 + s.val) * 2 + h.val) * 64 + e.val) / 64 % 2 = h.val; omega
    | ⟨3, _⟩ => show (((b.val * 8192 + s.val) * 2 + h.val) * 64 + e.val) / 32 % 2 = e.val / 32; omega
    | ⟨4, _⟩ => show (((b.val * 8192 + s.val) * 2 + h.val) * 64 + e.val) % 32 = e.val % 32; omega)
  rw [val_main_v100_apply, e0]
  unfold val_main_v99 rot
  by_cases hc : e.val % 32 < 16
  · rw [dif_pos hc]
    refine (concatenate_pair_apply_left (t := S2x8192x2x2x32) (s₁ := S2x8192x2x2x16) (s₂ := S2x8192x2x2x16) 4 _ _ _ _ rfl (ix5 b s h (⟨e.val / 32, by omega⟩ : Fin 2) (⟨e.val % 16, by omega⟩ : Fin 16)) (fun x => match x with
      | ⟨0, _⟩ => rfl
      | ⟨1, _⟩ => rfl
      | ⟨2, _⟩ => rfl
      | ⟨3, _⟩ => rfl
      | ⟨4, _⟩ => (by show e.val % 16 = e.val % 32; omega))).trans ?_
    rw [val_main_v91_apply, val_main_v87_apply, val_main_v90_apply, k_first, k_last, k_angle7, k_angle10]
    have p0 : (⟨32 * (e.val / 32) + e.val % 16, by omega⟩ : Fin 64) = e := Fin.ext (by show 32 * (e.val / 32) + e.val % 16 = e.val; omega)
    have p1 : (⟨32 * (e.val / 32) + (16 + e.val % 16), by omega⟩ : Fin 64) = ⟨e.val + 16, by omega⟩ := Fin.ext (by show 32 * (e.val / 32) + (16 + e.val % 16) = e.val + 16; omega)
    rw [p0, p1]
    rfl
  · rw [dif_neg hc]
    refine (concatenate_pair_apply_right (t := S2x8192x2x2x32) (s₁ := S2x8192x2x2x16) (s₂ := S2x8192x2x2x16) 4 _ _ _ _ rfl rfl (ix5 b s h (⟨e.val / 32, by omega⟩ : Fin 2) (⟨e.val % 16, by omega⟩ : Fin 16)) (fun x hx => ?_) ?_).trans ?_
    · match x, hx with
      | ⟨0, _⟩, _ => rfl
      | ⟨1, _⟩, _ => rfl
      | ⟨2, _⟩, _ => rfl
      | ⟨3, _⟩, _ => rfl
      | ⟨4, _⟩, hx => exact absurd rfl hx
    · show e.val % 16 + 16 = e.val % 32
      omega
    rw [val_main_v98_apply, val_main_v94_apply, val_main_v97_apply, k_first, k_last, k_angle14, k_angle17]
    have p0 : (⟨32 * (e.val / 32) + e.val % 16, by omega⟩ : Fin 64) = ⟨e.val - 16, by omega⟩ := Fin.ext (by show 32 * (e.val / 32) + e.val % 16 = e.val - 16; omega)
    have p1 : (⟨32 * (e.val / 32) + (16 + e.val % 16), by omega⟩ : Fin 64) = e := Fin.ext (by show 32 * (e.val / 32) + (16 + e.val % 16) = e.val; omega)
    rw [p0, p1]
    rfl

theorem k_apply (h : Fin 2) (e : Fin 64) : val_main_v108 (F := Ideal) A0 A1 A2 A3 A4 A6 A7 A8 (ix4 b h s e) = kAt A0 A1 A2 A3 A4 A6 A7 A8 b h s e := by
  rw [val_main_v108_apply]
  show val_main_v107 (F := Ideal) A0 A1 A2 A3 A4 A6 A7 A8 (ix4 b h s e) = _
  rw [val_main_v107_apply]
  refine (congrArg (val_main_v100 (F := Ideal) A0 A1 A2 A3 A4 A6 A7 A8) (show _ = ix4 b s h e from funext fun x => match x with | ⟨0, _⟩ => rfl | ⟨1, _⟩ => rfl | ⟨2, _⟩ => rfl | ⟨3, _⟩ => rfl)).trans ?_
  rw [k_turned]
  rfl

theorem q_eq : val_main_v106 (F := Ideal) A0 A1 A2 A3 A4 A5 A7 A8 = fun i => qAt A0 A1 A2 A3 A4 A5 A7 A8 (i 0) (i 1) (i 2) :=
  funext fun i => (congrArg _ (ix3_eta i)).trans (q_apply A0 A1 A2 A3 A4 _ _ A5 A7 A8 _)

theorem k_eq : val_main_v108 (F := Ideal) A0 A1 A2 A3 A4 A6 A7 A8 = fun i => kAt A0 A1 A2 A3 A4 A6 A7 A8 (i 0) (i 1) (i 2) (i 3) :=
  funext fun i => (congrArg _ (ix4_eta i)).trans (k_apply A0 A1 A2 A3 A4 _ _ A6 A7 A8 _ _)

end Cert.Reference4Ideal.Inp

end
-- ==== Proof.InClaim.lean ====
module

public import proofs.«01_k».proof.Proof.InRef
public import proofs.«01_k».proof.Proof.AttnPre
public import proofs.«01_k».proof.Defs
public import proofs.«01_k».proof.Proof.Gen.Pre_finite_in
public import proofs.«01_k».proof.Proof.Gen.Reference4Ideal.Run
public import Idealize.ShloMosaic.Adequacy

/-! The input projection: the kernel's four arrays are the reference's -/

@[expose] public section

set_option maxRecDepth 16384

noncomputable section

namespace Cert.FiniteIn

open Idealize.ShloMosaic Idealize.ShloMosaic.TcCoe Cert.Softmax
open Cert.FiniteQk (real_of_lt)

instance : Subsingleton Cert.Pre_finite_in.S_.Idx := ⟨fun a b => funext fun i => i.elim0⟩

attribute [local instance] Cert.Pre_finite_in.Gen.facts

/-- The precondition read back: what the projected rows are made of is real. -/
theorem reals (m : (ℓ : Loc Cert.Kernel4Ideal.nD Cert.Kernel4Ideal.τ Cert.Kernel4Ideal.sig) → Buf (Elt Ideal) ℓ) (h : Cert.Pre_Kernel4Ideal_finite_in m) (c : Dev Cert.Kernel4Ideal.nD) :
    Cert.Kernel4Ideal.Inp.Reals (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) := by
  have h0 := congrFun (h c) (fun a => a.elim0)
  unfold Cert.Pre_finite_in.fn Cert.Pre_finite_in.fn_part1 at h0
  obtain ⟨h0, r4⟩ := IntOp.andi_eq_one.mp h0
  obtain ⟨h0, r3⟩ := IntOp.andi_eq_one.mp h0
  obtain ⟨h0, r2⟩ := IntOp.andi_eq_one.mp h0
  obtain ⟨r0, r1⟩ := IntOp.andi_eq_one.mp h0
  exact {
    r0 := fun i => real_of_lt _ (Host.reduce_andi_all _ _ _ _ _ r0 i)
    r1 := fun i => real_of_lt _ (Host.reduce_andi_all _ _ _ _ _ r1 i)
    r2 := fun i => real_of_lt _ (Host.reduce_andi_all _ _ _ _ _ r2 i)
    r3 := fun i => real_of_lt _ (Host.reduce_andi_all _ _ _ _ _ r3 i)
    r4 := fun i => real_of_lt _ (Host.reduce_andi_all _ _ _ _ _ r4 i) }

end Cert.FiniteIn

namespace Cert

open Idealize.ShloMosaic Idealize.SL.Sem Idealize.ShloMosaic.ValueIdx

attribute [local instance] Cert.Pre_finite_in.Gen.facts

theorem input_equal : algebraic_Kernel4Ideal_Reference4Ideal_pre_finite_in := fun m g m' g' hpre hag =>
  have hf := fun c => FiniteIn.reals m hpre c
  ⟨fun c => Kernel4Ideal.Inp.G10 m c, fun c => Kernel4Ideal.Inp.G11 m c, fun c => Kernel4Ideal.Inp.G12 m c, fun c => Kernel4Ideal.Inp.G13 m c,
    (θ_run (Kernel4Ideal.defs (F := Ideal)) _ _).mono (fun r h c => ⟨(h c).1.trans (Kernel4Ideal.Inp.arr10_eq m c (hf c)), (h c).2.1.trans (Kernel4Ideal.Inp.arr11_eq m c (hf c)), (h c).2.2.1.trans (Kernel4Ideal.Inp.arr12_eq m c), (h c).2.2.2.1.trans (Kernel4Ideal.Inp.arr13_eq m c), (h c).2.2.2.2⟩)
      (Kernel4Ideal.Value.run_blocks (F := Ideal) m g),
    (θ_run (Reference4Ideal.defs (F := Ideal)) _ _).mono (fun r h c => by
      obtain ⟨h0, h1, h2, h3, h4, h5, h6, h7, h8⟩ := hag c
      refine ⟨(h c).1.trans ?_, (h c).2.1.trans ?_, (h c).2.2.1.trans ?_, (h c).2.2.2.1.trans ?_, (h c).2.2.2.2⟩
      · refine (Reference4Ideal.Read.val_main_v106_eq (F := Ideal) m' c).trans ((Reference4Ideal.Inp.q_eq _ _ _ _ _ _ _ _).trans ?_)
        rw [h0, h1, h2, h3, h4, h5, h7, h8]
        rfl
      · refine (Reference4Ideal.Read.val_main_v108_eq (F := Ideal) m' c).trans ((Reference4Ideal.Inp.k_eq _ _ _ _ _ _ _ _).trans ?_)
        rw [h0, h1, h2, h3, h4, h6, h7, h8]
        rfl
      · refine (Reference4Ideal.Read.val_main_v110_eq (F := Ideal) _ _ _ _ _).trans ((Reference4Ideal.Inp.val_eq _ _ _ _ _).trans ?_)
        rw [h0, h1, h2, h3, h4]
        rfl
      · refine (Reference4Ideal.Read.val_main_v111_eq (F := Ideal) _ _ _ _ _).trans ((Reference4Ideal.Inp.cnv_eq _ _ _ _ _).trans ?_)
        rw [h0, h1, h2, h3, h4]
        rfl) (Reference4Ideal.Value.run (F := Ideal) m' g')⟩

end Cert

end
-- ==== Proof.lean ====
/- The claims of this certificate, assembled from the modules beside it. -/
module

public import proofs.«01_k».proof.Defs
public import proofs.«01_k».proof.Proof.AttnClaim
public import proofs.«01_k».proof.Proof.AttnFrame
public import proofs.«01_k».proof.Proof.BitAttnFrame
public import proofs.«01_k».proof.Proof.FfnRef
public import proofs.«01_k».proof.Proof.OutClaim
public import proofs.«01_k».proof.Proof.InClaim
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_mix
public import proofs.«01_k».proof.Proof.Gen.Pre_finite_in
public import proofs.«01_k».proof.Proof.Gen.ReferenceIdeal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init
public import Idealize.ShloMosaic.Lib.Quiescent

@[expose] public section

noncomputable section

namespace Cert.Proof

open Idealize.ShloMosaic Idealize.SL.Sem

theorem attention_runs : Cert.quiescent_ReferenceIdeal := fun m g _ =>
  (θ_run (Cert.ReferenceIdeal.defs (F := Ideal)) _ _).mono (fun r h => And.intro (fun c => (h c).2) (sem_eq_zero_of_no_sems (by decide) r.2)) (Cert.ReferenceIdeal.Value.run (F := Ideal) m g)

theorem ffn_runs : Cert.quiescent_Reference2Ideal := fun m g _ =>
  (θ_run (Cert.Reference2Ideal.defs (F := Ideal)) _ _).mono (fun r h => And.intro (fun c => (h c).2) (sem_eq_zero_of_no_sems (by decide) r.2)) (Cert.Reference2Ideal.Value.run (F := Ideal) m g)

/-- The feed-forward's array, as the one function of the operands both programs compute. -/
theorem ffn_array (m : (ℓ : Loc Cert.Kernel2Ideal.nD Cert.Kernel2Ideal.τ Cert.Kernel2Ideal.sig) → Buf (Elt Ideal) ℓ) (c : Dev Cert.Kernel2Ideal.nD) :
    Cert.Kernel2Ideal.Value.G4 m c = Cert.Reference2Ideal.Read.val_main_v14 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) :=
  (Cert.Kernel2Ideal.Ffn.array_eq m c).trans (Cert.Reference2Ideal.Ffn.result_eq _ _ _ _).symm

theorem ffn_equal : Cert.algebraic_Kernel2Ideal_Reference2Ideal := fun m g m' g' _ hag =>
  ⟨fun c => Cert.Kernel2Ideal.Value.G4 m c, Cert.Kernel2Ideal.Value.run m g,
    (θ_run (Cert.Reference2Ideal.defs (F := Ideal)) _ _).mono (fun r h c => ⟨(h c).1.trans (by
      obtain ⟨h0, h1, h2, h3⟩ := hag c
      refine (Cert.Reference2Ideal.Read.val_main_v14_eq (F := Ideal) _ _ _ _).trans (Eq.trans ?_ (ffn_array m c).symm)
      rw [h0, h1, h2, h3]), (h c).2⟩) (Cert.Reference2Ideal.Value.run (F := Ideal) m' g')⟩

theorem projection_runs : Cert.quiescent_Reference3Ideal := fun m g _ =>
  (θ_run (Cert.Reference3Ideal.defs (F := Ideal)) _ _).mono (fun r h => And.intro (fun c => (h c).2.2.2) (sem_eq_zero_of_no_sems (by decide) r.2)) (Cert.Reference3Ideal.Value.run (F := Ideal) m g)

theorem input_runs : Cert.quiescent_Reference4Ideal := fun m g _ =>
  (θ_run (Cert.Reference4Ideal.defs (F := Ideal)) _ _).mono (fun r h => And.intro (fun c => (h c).2.2.2.2) (sem_eq_zero_of_no_sems (by decide) r.2)) (Cert.Reference4Ideal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.FiniteQk.facts, Cert.Pre_finite_mix.Gen.facts, Cert.Pre_finite_in.Gen.facts,
  fun m g _ => Cert.Kernel.Attn.frame m g,
  fun m g _ => Cert.KernelIdeal.Attn.frame m g,
  fun m g _ => Cert.KernelIdeal.Attn.frame m g,
  attention_runs,
  fun m g _ => attention_runs m g trivial,
  fun m g _ => Cert.Kernel2.Gen.frame m g,
  fun m g _ => Cert.Kernel2Ideal.Gen.frame m g,
  ffn_runs,
  fun m g _ => Cert.Kernel3.Gen.frame m g,
  fun m g _ => Cert.Kernel3Ideal.Gen.frame m g,
  fun m g _ => Cert.Kernel3Ideal.Gen.frame m g,
  projection_runs,
  fun m g _ => projection_runs m g trivial,
  fun m g _ => Cert.Kernel4.Gen.frame m g,
  fun m g _ => Cert.Kernel4Ideal.Gen.frame m g,
  fun m g _ => Cert.Kernel4Ideal.Gen.frame m g,
  input_runs,
  fun m g _ => input_runs m g trivial,
  trivial,
  Cert.attention_equal,
  trivial,
  ffn_equal,
  trivial,
  Cert.projection_equal,
  trivial,
  Cert.input_equal⟩

end Cert.Proof

end
